-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstReferenceIdeal (m : (ℓ : Loc Cert.FfnFirstReferenceIdeal.nD Cert.FfnFirstReferenceIdeal.τ Cert.FfnFirstReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_projection [hPre_finite_projection : Cert.Pre_finite_projection.Facts] (m : (ℓ : Loc Cert.PrepIdeal.nD Cert.PrepIdeal.τ Cert.PrepIdeal.sig) → Buf (Elt Ideal) ℓ) : Prop :=
  ∀ c : Dev Cert.PrepIdeal.nD,
    (Cert.Pre_finite_projection.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_finite_projection [hPre_finite_projection : Cert.Pre_finite_projection.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_finite_projection.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5)) (m ((c.tc : Thread Cert.PrepReferenceIdeal.nD Cert.PrepReferenceIdeal.τ).loc Cert.PrepReferenceIdeal.main_arg6))) = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvReferenceIdeal (m : (ℓ : Loc Cert.ConvReferenceIdeal.nD Cert.ConvReferenceIdeal.τ Cert.ConvReferenceIdeal.sig) → Buf (Elt Ideal) ℓ) : Prop :=
  True

def Pre_Taps (m : (ℓ : Loc Cert.Taps.nD Cert.Taps.τ Cert.Taps.sig) → Buf (Elt Bits) ℓ) : Prop :=
  True

def Pre_TapsIdeal (m : (ℓ : Loc Cert.TapsIdeal.nD Cert.TapsIdeal.τ Cert.TapsIdeal.sig) → Buf (Elt Ideal) ℓ) : Prop :=
  True

def Pre_TapsReferenceIdeal (m : (ℓ : Loc Cert.TapsReferenceIdeal.nD Cert.TapsReferenceIdeal.τ Cert.TapsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4)
      ∧ r.2.mem ((c.tc : Thread Cert.FfnFirst.nD Cert.FfnFirst.τ).loc Cert.FfnFirst.main_arg5) = m ((c.tc : Thread Cert.FfnFirst.nD Cert.FfnFirst.τ).loc Cert.FfnFirst.main_arg5)
      ∧ r.2.mem ((c.tc : Thread Cert.FfnFirst.nD Cert.FfnFirst.τ).loc Cert.FfnFirst.main_arg6) = m ((c.tc : Thread Cert.FfnFirst.nD Cert.FfnFirst.τ).loc Cert.FfnFirst.main_arg6)
      ∧ r.2.mem ((c.tc : Thread Cert.FfnFirst.nD Cert.FfnFirst.τ).loc Cert.FfnFirst.main_arg7) = m ((c.tc : Thread Cert.FfnFirst.nD Cert.FfnFirst.τ).loc Cert.FfnFirst.main_arg7))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
      ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
      ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
      ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7))
      ∧ r.2.sem = fun _ => 0)

def quiescent_FfnFirstReferenceIdeal [hFfnFirstReferenceIdeal : Cert.FfnFirstReferenceIdeal.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3)
      ∧ r.2.mem ((c.tc : Thread Cert.FfnFirstReferenceIdeal.nD Cert.FfnFirstReferenceIdeal.τ).loc Cert.FfnFirstReferenceIdeal.main_arg4) = m ((c.tc : Thread Cert.FfnFirstReferenceIdeal.nD Cert.FfnFirstReferenceIdeal.τ).loc Cert.FfnFirstReferenceIdeal.main_arg4)
      ∧ r.2.mem ((c.tc : Thread Cert.FfnFirstReferenceIdeal.nD Cert.FfnFirstReferenceIdeal.τ).loc Cert.FfnFirstReferenceIdeal.main_arg5) = m ((c.tc : Thread Cert.FfnFirstReferenceIdeal.nD Cert.FfnFirstReferenceIdeal.τ).loc Cert.FfnFirstReferenceIdeal.main_arg5)
      ∧ r.2.mem ((c.tc : Thread Cert.FfnFirstReferenceIdeal.nD Cert.FfnFirstReferenceIdeal.τ).loc Cert.FfnFirstReferenceIdeal.main_arg6) = m ((c.tc : Thread Cert.FfnFirstReferenceIdeal.nD Cert.FfnFirstReferenceIdeal.τ).loc Cert.FfnFirstReferenceIdeal.main_arg6)
      ∧ r.2.mem ((c.tc : Thread Cert.FfnFirstReferenceIdeal.nD Cert.FfnFirstReferenceIdeal.τ).loc Cert.FfnFirstReferenceIdeal.main_arg7) = m ((c.tc : Thread Cert.FfnFirstReferenceIdeal.nD Cert.FfnFirstReferenceIdeal.τ).loc Cert.FfnFirstReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepIdeal_pre_finite_projection [hPrepIdeal : Cert.PrepIdeal.Facts] [hPre_finite_projection : Cert.Pre_finite_projection.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_projection m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6))
      ∧ r.2.sem = fun _ => 0)

def quiescent_PrepReferenceIdeal_pre_finite_projection [hPrepReferenceIdeal : Cert.PrepReferenceIdeal.Facts] [hPre_finite_projection : Cert.Pre_finite_projection.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_finite_projection m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5)
      ∧ r.2.mem ((c.tc : Thread Cert.PrepReferenceIdeal.nD Cert.PrepReferenceIdeal.τ).loc Cert.PrepReferenceIdeal.main_arg6) = m ((c.tc : Thread Cert.PrepReferenceIdeal.nD Cert.PrepReferenceIdeal.τ).loc Cert.PrepReferenceIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2))
      ∧ r.2.sem = fun _ => 0)

def quiescent_Taps [hTaps : Cert.Taps.Facts] : Prop :=
  ∀ (m : (ℓ : Loc Cert.Taps.nD Cert.Taps.τ Cert.Taps.sig) → Buf (Elt Bits) ℓ) (g : Dev Cert.Taps.nD → PrngReg), Pre_Taps m →
    θ_run (Cert.Taps.defs (F := Bits)) (onTc (τ := Cert.Taps.τ) (Cert.Taps.main (F := Bits))) ⟨m, fun _ => 0, g⟩ (fun r => (∀ c : Dev Cert.Taps.nD,
      r.2.mem ((c.tc : Thread Cert.Taps.nD Cert.Taps.τ).loc Cert.Taps.main_arg0) = m ((c.tc : Thread Cert.Taps.nD Cert.Taps.τ).loc Cert.Taps.main_arg0)
      ∧ r.2.mem ((c.tc : Thread Cert.Taps.nD Cert.Taps.τ).loc Cert.Taps.main_arg1) = m ((c.tc : Thread Cert.Taps.nD Cert.Taps.τ).loc Cert.Taps.main_arg1)
      ∧ r.2.mem ((c.tc : Thread Cert.Taps.nD Cert.Taps.τ).loc Cert.Taps.main_arg2) = m ((c.tc : Thread Cert.Taps.nD Cert.Taps.τ).loc Cert.Taps.main_arg2)
      ∧ r.2.mem ((c.tc : Thread Cert.Taps.nD Cert.Taps.τ).loc Cert.Taps.main_arg3) = m ((c.tc : Thread Cert.Taps.nD Cert.Taps.τ).loc Cert.Taps.main_arg3)
      ∧ r.2.mem ((c.tc : Thread Cert.Taps.nD Cert.Taps.τ).loc Cert.Taps.main_arg4) = m ((c.tc : Thread Cert.Taps.nD Cert.Taps.τ).loc Cert.Taps.main_arg4)
      ∧ r.2.mem ((c.tc : Thread Cert.Taps.nD Cert.Taps.τ).loc Cert.Taps.main_arg5) = m ((c.tc : Thread Cert.Taps.nD Cert.Taps.τ).loc Cert.Taps.main_arg5)
      ∧ r.2.mem ((c.tc : Thread Cert.Taps.nD Cert.Taps.τ).loc Cert.Taps.main_arg6) = m ((c.tc : Thread Cert.Taps.nD Cert.Taps.τ).loc Cert.Taps.main_arg6)
      ∧ r.2.mem ((c.tc : Thread Cert.Taps.nD Cert.Taps.τ).loc Cert.Taps.main_arg7) = m ((c.tc : Thread Cert.Taps.nD Cert.Taps.τ).loc Cert.Taps.main_arg7)
      ∧ r.2.mem ((c.tc : Thread Cert.Taps.nD Cert.Taps.τ).loc Cert.Taps.main_arg8) = m ((c.tc : Thread Cert.Taps.nD Cert.Taps.τ).loc Cert.Taps.main_arg8))
      ∧ r.2.sem = fun _ => 0)

def quiescent_TapsIdeal [hTapsIdeal : Cert.TapsIdeal.Facts] : Prop :=
  ∀ (m : (ℓ : Loc Cert.TapsIdeal.nD Cert.TapsIdeal.τ Cert.TapsIdeal.sig) → Buf (Elt Ideal) ℓ) (g : Dev Cert.TapsIdeal.nD → PrngReg), Pre_TapsIdeal m →
    θ_run (Cert.TapsIdeal.defs (F := Ideal)) (onTc (τ := Cert.TapsIdeal.τ) (Cert.TapsIdeal.main (F := Ideal))) ⟨m, fun _ => 0, g⟩ (fun r => (∀ c : Dev Cert.TapsIdeal.nD,
      r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
      ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
      ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2)
      ∧ r.2.mem ((c.tc : Thread Cert.TapsIdeal.nD Cert.TapsIdeal.τ).loc Cert.TapsIdeal.main_arg3) = m ((c.tc : Thread Cert.TapsIdeal.nD Cert.TapsIdeal.τ).loc Cert.TapsIdeal.main_arg3)
      ∧ r.2.mem ((c.tc : Thread Cert.TapsIdeal.nD Cert.TapsIdeal.τ).loc Cert.TapsIdeal.main_arg4) = m ((c.tc : Thread Cert.TapsIdeal.nD Cert.TapsIdeal.τ).loc Cert.TapsIdeal.main_arg4)
      ∧ r.2.mem ((c.tc : Thread Cert.TapsIdeal.nD Cert.TapsIdeal.τ).loc Cert.TapsIdeal.main_arg5) = m ((c.tc : Thread Cert.TapsIdeal.nD Cert.TapsIdeal.τ).loc Cert.TapsIdeal.main_arg5)
      ∧ r.2.mem ((c.tc : Thread Cert.TapsIdeal.nD Cert.TapsIdeal.τ).loc Cert.TapsIdeal.main_arg6) = m ((c.tc : Thread Cert.TapsIdeal.nD Cert.TapsIdeal.τ).loc Cert.TapsIdeal.main_arg6)
      ∧ r.2.mem ((c.tc : Thread Cert.TapsIdeal.nD Cert.TapsIdeal.τ).loc Cert.TapsIdeal.main_arg7) = m ((c.tc : Thread Cert.TapsIdeal.nD Cert.TapsIdeal.τ).loc Cert.TapsIdeal.main_arg7)
      ∧ r.2.mem ((c.tc : Thread Cert.TapsIdeal.nD Cert.TapsIdeal.τ).loc Cert.TapsIdeal.main_arg8) = m ((c.tc : Thread Cert.TapsIdeal.nD Cert.TapsIdeal.τ).loc Cert.TapsIdeal.main_arg8))
      ∧ r.2.sem = fun _ => 0)

def quiescent_TapsReferenceIdeal [hTapsReferenceIdeal : Cert.TapsReferenceIdeal.Facts] : Prop :=
  ∀ (m : (ℓ : Loc Cert.TapsReferenceIdeal.nD Cert.TapsReferenceIdeal.τ Cert.TapsReferenceIdeal.sig) → Buf (Elt Ideal) ℓ) (g : Dev Cert.TapsReferenceIdeal.nD → PrngReg), Pre_TapsReferenceIdeal m →
    θ_run (Cert.TapsReferenceIdeal.defs (F := Ideal)) (onTc (τ := Cert.TapsReferenceIdeal.τ) (Cert.TapsReferenceIdeal.main (F := Ideal))) ⟨m, fun _ => 0, g⟩ (fun r => (∀ c : Dev Cert.TapsReferenceIdeal.nD,
      r.2.mem ((c.tc : Thread Cert.TapsReferenceIdeal.nD Cert.TapsReferenceIdeal.τ).loc Cert.TapsReferenceIdeal.main_arg0) = m ((c.tc : Thread Cert.TapsReferenceIdeal.nD Cert.TapsReferenceIdeal.τ).loc Cert.TapsReferenceIdeal.main_arg0)
      ∧ r.2.mem ((c.tc : Thread Cert.TapsReferenceIdeal.nD Cert.TapsReferenceIdeal.τ).loc Cert.TapsReferenceIdeal.main_arg1) = m ((c.tc : Thread Cert.TapsReferenceIdeal.nD Cert.TapsReferenceIdeal.τ).loc Cert.TapsReferenceIdeal.main_arg1)
      ∧ r.2.mem ((c.tc : Thread Cert.TapsReferenceIdeal.nD Cert.TapsReferenceIdeal.τ).loc Cert.TapsReferenceIdeal.main_arg2) = m ((c.tc : Thread Cert.TapsReferenceIdeal.nD Cert.TapsReferenceIdeal.τ).loc Cert.TapsReferenceIdeal.main_arg2)
      ∧ r.2.mem ((c.tc : Thread Cert.TapsReferenceIdeal.nD Cert.TapsReferenceIdeal.τ).loc Cert.TapsReferenceIdeal.main_arg3) = m ((c.tc : Thread Cert.TapsReferenceIdeal.nD Cert.TapsReferenceIdeal.τ).loc Cert.TapsReferenceIdeal.main_arg3)
      ∧ r.2.mem ((c.tc : Thread Cert.TapsReferenceIdeal.nD Cert.TapsReferenceIdeal.τ).loc Cert.TapsReferenceIdeal.main_arg4) = m ((c.tc : Thread Cert.TapsReferenceIdeal.nD Cert.TapsReferenceIdeal.τ).loc Cert.TapsReferenceIdeal.main_arg4)
      ∧ r.2.mem ((c.tc : Thread Cert.TapsReferenceIdeal.nD Cert.TapsReferenceIdeal.τ).loc Cert.TapsReferenceIdeal.main_arg5) = m ((c.tc : Thread Cert.TapsReferenceIdeal.nD Cert.TapsReferenceIdeal.τ).loc Cert.TapsReferenceIdeal.main_arg5)
      ∧ r.2.mem ((c.tc : Thread Cert.TapsReferenceIdeal.nD Cert.TapsReferenceIdeal.τ).loc Cert.TapsReferenceIdeal.main_arg6) = m ((c.tc : Thread Cert.TapsReferenceIdeal.nD Cert.TapsReferenceIdeal.τ).loc Cert.TapsReferenceIdeal.main_arg6)
      ∧ r.2.mem ((c.tc : Thread Cert.TapsReferenceIdeal.nD Cert.TapsReferenceIdeal.τ).loc Cert.TapsReferenceIdeal.main_arg7) = m ((c.tc : Thread Cert.TapsReferenceIdeal.nD Cert.TapsReferenceIdeal.τ).loc Cert.TapsReferenceIdeal.main_arg7)
      ∧ r.2.mem ((c.tc : Thread Cert.TapsReferenceIdeal.nD Cert.TapsReferenceIdeal.τ).loc Cert.TapsReferenceIdeal.main_arg8) = m ((c.tc : Thread Cert.TapsReferenceIdeal.nD Cert.TapsReferenceIdeal.τ).loc Cert.TapsReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v40) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_FfnFirst_FfnFirstIdeal : Prop :=
  True

def algebraic_FfnFirstIdeal_FfnFirstReferenceIdeal [hFfnFirstIdeal : Cert.FfnFirstIdeal.Facts] [hFfnFirstReferenceIdeal : Cert.FfnFirstReferenceIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstReferenceIdeal.nD Cert.FfnFirstReferenceIdeal.τ Cert.FfnFirstReferenceIdeal.sig) → Buf (Elt Ideal) ℓ) (g' : Dev Cert.FfnFirstReferenceIdeal.nD → PrngReg), Pre_FfnFirstIdeal m →
    (∀ c : Dev Cert.FfnFirstIdeal.nD,
      m' ((c.tc : Thread Cert.FfnFirstReferenceIdeal.nD Cert.FfnFirstReferenceIdeal.τ).loc Cert.FfnFirstReferenceIdeal.main_arg0) = m ((c.tc : Thread Cert.FfnFirstIdeal.nD Cert.FfnFirstIdeal.τ).loc Cert.FfnFirstIdeal.main_arg0)
      ∧ m' ((c.tc : Thread Cert.FfnFirstReferenceIdeal.nD Cert.FfnFirstReferenceIdeal.τ).loc Cert.FfnFirstReferenceIdeal.main_arg1) = m ((c.tc : Thread Cert.FfnFirstIdeal.nD Cert.FfnFirstIdeal.τ).loc Cert.FfnFirstIdeal.main_arg1)
      ∧ m' ((c.tc : Thread Cert.FfnFirstReferenceIdeal.nD Cert.FfnFirstReferenceIdeal.τ).loc Cert.FfnFirstReferenceIdeal.main_arg2) = m ((c.tc : Thread Cert.FfnFirstIdeal.nD Cert.FfnFirstIdeal.τ).loc Cert.FfnFirstIdeal.main_arg2)
      ∧ m' ((c.tc : Thread Cert.FfnFirstReferenceIdeal.nD Cert.FfnFirstReferenceIdeal.τ).loc Cert.FfnFirstReferenceIdeal.main_arg3) = m ((c.tc : Thread Cert.FfnFirstIdeal.nD Cert.FfnFirstIdeal.τ).loc Cert.FfnFirstIdeal.main_arg3)
      ∧ m' ((c.tc : Thread Cert.FfnFirstReferenceIdeal.nD Cert.FfnFirstReferenceIdeal.τ).loc Cert.FfnFirstReferenceIdeal.main_arg4) = m ((c.tc : Thread Cert.FfnFirstIdeal.nD Cert.FfnFirstIdeal.τ).loc Cert.FfnFirstIdeal.main_arg4)
      ∧ m' ((c.tc : Thread Cert.FfnFirstReferenceIdeal.nD Cert.FfnFirstReferenceIdeal.τ).loc Cert.FfnFirstReferenceIdeal.main_arg5) = m ((c.tc : Thread Cert.FfnFirstIdeal.nD Cert.FfnFirstIdeal.τ).loc Cert.FfnFirstIdeal.main_arg5)
      ∧ m' ((c.tc : Thread Cert.FfnFirstReferenceIdeal.nD Cert.FfnFirstReferenceIdeal.τ).loc Cert.FfnFirstReferenceIdeal.main_arg6) = m ((c.tc : Thread Cert.FfnFirstIdeal.nD Cert.FfnFirstIdeal.τ).loc Cert.FfnFirstIdeal.main_arg6)
      ∧ m' ((c.tc : Thread Cert.FfnFirstReferenceIdeal.nD Cert.FfnFirstReferenceIdeal.τ).loc Cert.FfnFirstReferenceIdeal.main_arg7) = m ((c.tc : Thread Cert.FfnFirstIdeal.nD Cert.FfnFirstIdeal.τ).loc Cert.FfnFirstIdeal.main_arg7)) →
    ∃ (v0 : (c : Dev Cert.FfnFirstIdeal.nD) → Buf (Elt Ideal) ((c.tc : Thread Cert.FfnFirstIdeal.nD Cert.FfnFirstIdeal.τ).loc Cert.FfnFirstIdeal.main_v4)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v4) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4)
          ∧ r.2.mem ((c.tc : Thread Cert.FfnFirstIdeal.nD Cert.FfnFirstIdeal.τ).loc Cert.FfnFirstIdeal.main_arg5) = m ((c.tc : Thread Cert.FfnFirstIdeal.nD Cert.FfnFirstIdeal.τ).loc Cert.FfnFirstIdeal.main_arg5)
          ∧ r.2.mem ((c.tc : Thread Cert.FfnFirstIdeal.nD Cert.FfnFirstIdeal.τ).loc Cert.FfnFirstIdeal.main_arg6) = m ((c.tc : Thread Cert.FfnFirstIdeal.nD Cert.FfnFirstIdeal.τ).loc Cert.FfnFirstIdeal.main_arg6)
          ∧ r.2.mem ((c.tc : Thread Cert.FfnFirstIdeal.nD Cert.FfnFirstIdeal.τ).loc Cert.FfnFirstIdeal.main_arg7) = m ((c.tc : Thread Cert.FfnFirstIdeal.nD Cert.FfnFirstIdeal.τ).loc Cert.FfnFirstIdeal.main_arg7))
      ∧ θ_run (Cert.FfnFirstReferenceIdeal.defs (F := Ideal)) (onTc (τ := Cert.FfnFirstReferenceIdeal.τ) (Cert.FfnFirstReferenceIdeal.main (F := Ideal))) ⟨m', fun _ => 0, g'⟩ (fun r => ∀ c : Dev Cert.FfnFirstReferenceIdeal.nD,
          r.2.mem ((c.tc : Thread Cert.FfnFirstReferenceIdeal.nD Cert.FfnFirstReferenceIdeal.τ).loc Cert.FfnFirstReferenceIdeal.main_v27) = v0 c
          ∧ r.2.mem ((c.tc : Thread Cert.FfnFirstReferenceIdeal.nD Cert.FfnFirstReferenceIdeal.τ).loc Cert.FfnFirstReferenceIdeal.main_arg0) = m' ((c.tc : Thread Cert.FfnFirstReferenceIdeal.nD Cert.FfnFirstReferenceIdeal.τ).loc Cert.FfnFirstReferenceIdeal.main_arg0)
          ∧ r.2.mem ((c.tc : Thread Cert.FfnFirstReferenceIdeal.nD Cert.FfnFirstReferenceIdeal.τ).loc Cert.FfnFirstReferenceIdeal.main_arg1) = m' ((c.tc : Thread Cert.FfnFirstReferenceIdeal.nD Cert.FfnFirstReferenceIdeal.τ).loc Cert.FfnFirstReferenceIdeal.main_arg1)
          ∧ r.2.mem ((c.tc : Thread Cert.FfnFirstReferenceIdeal.nD Cert.FfnFirstReferenceIdeal.τ).loc Cert.FfnFirstReferenceIdeal.main_arg2) = m' ((c.tc : Thread Cert.FfnFirstReferenceIdeal.nD Cert.FfnFirstReferenceIdeal.τ).loc Cert.FfnFirstReferenceIdeal.main_arg2)
          ∧ r.2.mem ((c.tc : Thread Cert.FfnFirstReferenceIdeal.nD Cert.FfnFirstReferenceIdeal.τ).loc Cert.FfnFirstReferenceIdeal.main_arg3) = m' ((c.tc : Thread Cert.FfnFirstReferenceIdeal.nD Cert.FfnFirstReferenceIdeal.τ).loc Cert.FfnFirstReferenceIdeal.main_arg3)
          ∧ r.2.mem ((c.tc : Thread Cert.FfnFirstReferenceIdeal.nD Cert.FfnFirstReferenceIdeal.τ).loc Cert.FfnFirstReferenceIdeal.main_arg4) = m' ((c.tc : Thread Cert.FfnFirstReferenceIdeal.nD Cert.FfnFirstReferenceIdeal.τ).loc Cert.FfnFirstReferenceIdeal.main_arg4)
          ∧ r.2.mem ((c.tc : Thread Cert.FfnFirstReferenceIdeal.nD Cert.FfnFirstReferenceIdeal.τ).loc Cert.FfnFirstReferenceIdeal.main_arg5) = m' ((c.tc : Thread Cert.FfnFirstReferenceIdeal.nD Cert.FfnFirstReferenceIdeal.τ).loc Cert.FfnFirstReferenceIdeal.main_arg5)
          ∧ r.2.mem ((c.tc : Thread Cert.FfnFirstReferenceIdeal.nD Cert.FfnFirstReferenceIdeal.τ).loc Cert.FfnFirstReferenceIdeal.main_arg6) = m' ((c.tc : Thread Cert.FfnFirstReferenceIdeal.nD Cert.FfnFirstReferenceIdeal.τ).loc Cert.FfnFirstReferenceIdeal.main_arg6)
          ∧ r.2.mem ((c.tc : Thread Cert.FfnFirstReferenceIdeal.nD Cert.FfnFirstReferenceIdeal.τ).loc Cert.FfnFirstReferenceIdeal.main_arg7) = m' ((c.tc : Thread Cert.FfnFirstReferenceIdeal.nD Cert.FfnFirstReferenceIdeal.τ).loc Cert.FfnFirstReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v12_0)) (v1 : (c : Dev Cert.ProjIdeal.nD) → Buf (Elt Ideal) ((c.tc : Thread Cert.ProjIdeal.nD Cert.ProjIdeal.τ).loc Cert.ProjIdeal.main_v12_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v12_0) = v0 c
          ∧ r.2.mem ((c.tc : Thread Cert.ProjIdeal.nD Cert.ProjIdeal.τ).loc Cert.ProjIdeal.main_v12_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v33) = v0 c
          ∧ r.2.mem ((c.tc : Thread Cert.ProjReferenceIdeal.nD Cert.ProjReferenceIdeal.τ).loc Cert.ProjReferenceIdeal.main_v23) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)) →
    ∃ (v0 : (c : Dev Cert.MixIdeal.nD) → Buf (Elt Ideal) ((c.tc : Thread Cert.MixIdeal.nD Cert.MixIdeal.τ).loc Cert.MixIdeal.main_v4)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v4) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v55) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10))

def preserves_Prep_PrepIdeal : Prop :=
  True

def algebraic_PrepIdeal_PrepReferenceIdeal_pre_finite_projection [hPrepIdeal : Cert.PrepIdeal.Facts] [hPrepReferenceIdeal : Cert.PrepReferenceIdeal.Facts] [hPre_finite_projection : Cert.Pre_finite_projection.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_finite_projection m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)
      ∧ m' ((c.tc : Thread Cert.PrepReferenceIdeal.nD Cert.PrepReferenceIdeal.τ).loc Cert.PrepReferenceIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v27_0)) (v1 : (c : Dev Cert.PrepIdeal.nD) → Buf (Elt Ideal) ((c.tc : Thread Cert.PrepIdeal.nD Cert.PrepIdeal.τ).loc Cert.PrepIdeal.main_v27_1)) (v2 : (c : Dev Cert.PrepIdeal.nD) → Buf (Elt Ideal) ((c.tc : Thread Cert.PrepIdeal.nD Cert.PrepIdeal.τ).loc Cert.PrepIdeal.main_v27_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v27_0) = v0 c
          ∧ r.2.mem ((c.tc : Thread Cert.PrepIdeal.nD Cert.PrepIdeal.τ).loc Cert.PrepIdeal.main_v27_1) = v1 c
          ∧ r.2.mem ((c.tc : Thread Cert.PrepIdeal.nD Cert.PrepIdeal.τ).loc Cert.PrepIdeal.main_v27_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v122) = v0 c
          ∧ r.2.mem ((c.tc : Thread Cert.PrepReferenceIdeal.nD Cert.PrepReferenceIdeal.τ).loc Cert.PrepReferenceIdeal.main_v124) = v1 c
          ∧ r.2.mem ((c.tc : Thread Cert.PrepReferenceIdeal.nD Cert.PrepReferenceIdeal.τ).loc Cert.PrepReferenceIdeal.main_v127) = v2 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5)
          ∧ r.2.mem ((c.tc : Thread Cert.PrepReferenceIdeal.nD Cert.PrepReferenceIdeal.τ).loc Cert.PrepReferenceIdeal.main_arg6) = m' ((c.tc : Thread Cert.PrepReferenceIdeal.nD Cert.PrepReferenceIdeal.τ).loc Cert.PrepReferenceIdeal.main_arg6))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v4)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v4) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v7) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def preserves_Conv_ConvIdeal : Prop :=
  True

def algebraic_ConvIdeal_ConvReferenceIdeal [hConvIdeal : Cert.ConvIdeal.Facts] [hConvReferenceIdeal : Cert.ConvReferenceIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvIdeal m →
    (∀ c : Dev Cert.ConvIdeal.nD,
      m' ((c.tc : Thread Cert.ConvReferenceIdeal.nD Cert.ConvReferenceIdeal.τ).loc Cert.ConvReferenceIdeal.main_arg0) = m ((c.tc : Thread Cert.ConvIdeal.nD Cert.ConvIdeal.τ).loc Cert.ConvIdeal.main_arg0)
      ∧ m' ((c.tc : Thread Cert.ConvReferenceIdeal.nD Cert.ConvReferenceIdeal.τ).loc Cert.ConvReferenceIdeal.main_arg1) = m ((c.tc : Thread Cert.ConvIdeal.nD Cert.ConvIdeal.τ).loc Cert.ConvIdeal.main_arg1)
      ∧ m' ((c.tc : Thread Cert.ConvReferenceIdeal.nD Cert.ConvReferenceIdeal.τ).loc Cert.ConvReferenceIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v34) = v0 c
          ∧ r.2.mem ((c.tc : Thread Cert.ConvReferenceIdeal.nD Cert.ConvReferenceIdeal.τ).loc Cert.ConvReferenceIdeal.main_v38) = v1 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2))

def preserves_Taps_TapsIdeal : Prop :=
  True

def algebraic_TapsIdeal_TapsReferenceIdeal [hTapsIdeal : Cert.TapsIdeal.Facts] [hTapsReferenceIdeal : Cert.TapsReferenceIdeal.Facts] : Prop :=
  ∀ (m : (ℓ : Loc Cert.TapsIdeal.nD Cert.TapsIdeal.τ Cert.TapsIdeal.sig) → Buf (Elt Ideal) ℓ) (g : Dev Cert.TapsIdeal.nD → PrngReg)
    (m' : (ℓ : Loc Cert.TapsReferenceIdeal.nD Cert.TapsReferenceIdeal.τ Cert.TapsReferenceIdeal.sig) → Buf (Elt Ideal) ℓ) (g' : Dev Cert.TapsReferenceIdeal.nD → PrngReg), Pre_TapsIdeal m →
    (∀ c : Dev Cert.TapsIdeal.nD,
      m' ((c.tc : Thread Cert.TapsReferenceIdeal.nD Cert.TapsReferenceIdeal.τ).loc Cert.TapsReferenceIdeal.main_arg0) = m ((c.tc : Thread Cert.TapsIdeal.nD Cert.TapsIdeal.τ).loc Cert.TapsIdeal.main_arg0)
      ∧ m' ((c.tc : Thread Cert.TapsReferenceIdeal.nD Cert.TapsReferenceIdeal.τ).loc Cert.TapsReferenceIdeal.main_arg1) = m ((c.tc : Thread Cert.TapsIdeal.nD Cert.TapsIdeal.τ).loc Cert.TapsIdeal.main_arg1)
      ∧ m' ((c.tc : Thread Cert.TapsReferenceIdeal.nD Cert.TapsReferenceIdeal.τ).loc Cert.TapsReferenceIdeal.main_arg2) = m ((c.tc : Thread Cert.TapsIdeal.nD Cert.TapsIdeal.τ).loc Cert.TapsIdeal.main_arg2)
      ∧ m' ((c.tc : Thread Cert.TapsReferenceIdeal.nD Cert.TapsReferenceIdeal.τ).loc Cert.TapsReferenceIdeal.main_arg3) = m ((c.tc : Thread Cert.TapsIdeal.nD Cert.TapsIdeal.τ).loc Cert.TapsIdeal.main_arg3)
      ∧ m' ((c.tc : Thread Cert.TapsReferenceIdeal.nD Cert.TapsReferenceIdeal.τ).loc Cert.TapsReferenceIdeal.main_arg4) = m ((c.tc : Thread Cert.TapsIdeal.nD Cert.TapsIdeal.τ).loc Cert.TapsIdeal.main_arg4)
      ∧ m' ((c.tc : Thread Cert.TapsReferenceIdeal.nD Cert.TapsReferenceIdeal.τ).loc Cert.TapsReferenceIdeal.main_arg5) = m ((c.tc : Thread Cert.TapsIdeal.nD Cert.TapsIdeal.τ).loc Cert.TapsIdeal.main_arg5)
      ∧ m' ((c.tc : Thread Cert.TapsReferenceIdeal.nD Cert.TapsReferenceIdeal.τ).loc Cert.TapsReferenceIdeal.main_arg6) = m ((c.tc : Thread Cert.TapsIdeal.nD Cert.TapsIdeal.τ).loc Cert.TapsIdeal.main_arg6)
      ∧ m' ((c.tc : Thread Cert.TapsReferenceIdeal.nD Cert.TapsReferenceIdeal.τ).loc Cert.TapsReferenceIdeal.main_arg7) = m ((c.tc : Thread Cert.TapsIdeal.nD Cert.TapsIdeal.τ).loc Cert.TapsIdeal.main_arg7)
      ∧ m' ((c.tc : Thread Cert.TapsReferenceIdeal.nD Cert.TapsReferenceIdeal.τ).loc Cert.TapsReferenceIdeal.main_arg8) = m ((c.tc : Thread Cert.TapsIdeal.nD Cert.TapsIdeal.τ).loc Cert.TapsIdeal.main_arg8)) →
    ∃ (v0 : (c : Dev Cert.TapsIdeal.nD) → Buf (Elt Ideal) ((c.tc : Thread Cert.TapsIdeal.nD Cert.TapsIdeal.τ).loc Cert.TapsIdeal.main_v10)),
      θ_run (Cert.TapsIdeal.defs (F := Ideal)) (onTc (τ := Cert.TapsIdeal.τ) (Cert.TapsIdeal.main (F := Ideal))) ⟨m, fun _ => 0, g⟩ (fun r => ∀ c : Dev Cert.TapsIdeal.nD,
          r.2.mem ((c.tc : Thread Cert.TapsIdeal.nD Cert.TapsIdeal.τ).loc Cert.TapsIdeal.main_v10) = v0 c
          ∧ r.2.mem ((c.tc : Thread Cert.TapsIdeal.nD Cert.TapsIdeal.τ).loc Cert.TapsIdeal.main_arg0) = m ((c.tc : Thread Cert.TapsIdeal.nD Cert.TapsIdeal.τ).loc Cert.TapsIdeal.main_arg0)
          ∧ r.2.mem ((c.tc : Thread Cert.TapsIdeal.nD Cert.TapsIdeal.τ).loc Cert.TapsIdeal.main_arg1) = m ((c.tc : Thread Cert.TapsIdeal.nD Cert.TapsIdeal.τ).loc Cert.TapsIdeal.main_arg1)
          ∧ r.2.mem ((c.tc : Thread Cert.TapsIdeal.nD Cert.TapsIdeal.τ).loc Cert.TapsIdeal.main_arg2) = m ((c.tc : Thread Cert.TapsIdeal.nD Cert.TapsIdeal.τ).loc Cert.TapsIdeal.main_arg2)
          ∧ r.2.mem ((c.tc : Thread Cert.TapsIdeal.nD Cert.TapsIdeal.τ).loc Cert.TapsIdeal.main_arg3) = m ((c.tc : Thread Cert.TapsIdeal.nD Cert.TapsIdeal.τ).loc Cert.TapsIdeal.main_arg3)
          ∧ r.2.mem ((c.tc : Thread Cert.TapsIdeal.nD Cert.TapsIdeal.τ).loc Cert.TapsIdeal.main_arg4) = m ((c.tc : Thread Cert.TapsIdeal.nD Cert.TapsIdeal.τ).loc Cert.TapsIdeal.main_arg4)
          ∧ r.2.mem ((c.tc : Thread Cert.TapsIdeal.nD Cert.TapsIdeal.τ).loc Cert.TapsIdeal.main_arg5) = m ((c.tc : Thread Cert.TapsIdeal.nD Cert.TapsIdeal.τ).loc Cert.TapsIdeal.main_arg5)
          ∧ r.2.mem ((c.tc : Thread Cert.TapsIdeal.nD Cert.TapsIdeal.τ).loc Cert.TapsIdeal.main_arg6) = m ((c.tc : Thread Cert.TapsIdeal.nD Cert.TapsIdeal.τ).loc Cert.TapsIdeal.main_arg6)
          ∧ r.2.mem ((c.tc : Thread Cert.TapsIdeal.nD Cert.TapsIdeal.τ).loc Cert.TapsIdeal.main_arg7) = m ((c.tc : Thread Cert.TapsIdeal.nD Cert.TapsIdeal.τ).loc Cert.TapsIdeal.main_arg7)
          ∧ r.2.mem ((c.tc : Thread Cert.TapsIdeal.nD Cert.TapsIdeal.τ).loc Cert.TapsIdeal.main_arg8) = m ((c.tc : Thread Cert.TapsIdeal.nD Cert.TapsIdeal.τ).loc Cert.TapsIdeal.main_arg8))
      ∧ θ_run (Cert.TapsReferenceIdeal.defs (F := Ideal)) (onTc (τ := Cert.TapsReferenceIdeal.τ) (Cert.TapsReferenceIdeal.main (F := Ideal))) ⟨m', fun _ => 0, g'⟩ (fun r => ∀ c : Dev Cert.TapsReferenceIdeal.nD,
          r.2.mem ((c.tc : Thread Cert.TapsReferenceIdeal.nD Cert.TapsReferenceIdeal.τ).loc Cert.TapsReferenceIdeal.main_v38) = v0 c
          ∧ r.2.mem ((c.tc : Thread Cert.TapsReferenceIdeal.nD Cert.TapsReferenceIdeal.τ).loc Cert.TapsReferenceIdeal.main_arg0) = m' ((c.tc : Thread Cert.TapsReferenceIdeal.nD Cert.TapsReferenceIdeal.τ).loc Cert.TapsReferenceIdeal.main_arg0)
          ∧ r.2.mem ((c.tc : Thread Cert.TapsReferenceIdeal.nD Cert.TapsReferenceIdeal.τ).loc Cert.TapsReferenceIdeal.main_arg1) = m' ((c.tc : Thread Cert.TapsReferenceIdeal.nD Cert.TapsReferenceIdeal.τ).loc Cert.TapsReferenceIdeal.main_arg1)
          ∧ r.2.mem ((c.tc : Thread Cert.TapsReferenceIdeal.nD Cert.TapsReferenceIdeal.τ).loc Cert.TapsReferenceIdeal.main_arg2) = m' ((c.tc : Thread Cert.TapsReferenceIdeal.nD Cert.TapsReferenceIdeal.τ).loc Cert.TapsReferenceIdeal.main_arg2)
          ∧ r.2.mem ((c.tc : Thread Cert.TapsReferenceIdeal.nD Cert.TapsReferenceIdeal.τ).loc Cert.TapsReferenceIdeal.main_arg3) = m' ((c.tc : Thread Cert.TapsReferenceIdeal.nD Cert.TapsReferenceIdeal.τ).loc Cert.TapsReferenceIdeal.main_arg3)
          ∧ r.2.mem ((c.tc : Thread Cert.TapsReferenceIdeal.nD Cert.TapsReferenceIdeal.τ).loc Cert.TapsReferenceIdeal.main_arg4) = m' ((c.tc : Thread Cert.TapsReferenceIdeal.nD Cert.TapsReferenceIdeal.τ).loc Cert.TapsReferenceIdeal.main_arg4)
          ∧ r.2.mem ((c.tc : Thread Cert.TapsReferenceIdeal.nD Cert.TapsReferenceIdeal.τ).loc Cert.TapsReferenceIdeal.main_arg5) = m' ((c.tc : Thread Cert.TapsReferenceIdeal.nD Cert.TapsReferenceIdeal.τ).loc Cert.TapsReferenceIdeal.main_arg5)
          ∧ r.2.mem ((c.tc : Thread Cert.TapsReferenceIdeal.nD Cert.TapsReferenceIdeal.τ).loc Cert.TapsReferenceIdeal.main_arg6) = m' ((c.tc : Thread Cert.TapsReferenceIdeal.nD Cert.TapsReferenceIdeal.τ).loc Cert.TapsReferenceIdeal.main_arg6)
          ∧ r.2.mem ((c.tc : Thread Cert.TapsReferenceIdeal.nD Cert.TapsReferenceIdeal.τ).loc Cert.TapsReferenceIdeal.main_arg7) = m' ((c.tc : Thread Cert.TapsReferenceIdeal.nD Cert.TapsReferenceIdeal.τ).loc Cert.TapsReferenceIdeal.main_arg7)
          ∧ r.2.mem ((c.tc : Thread Cert.TapsReferenceIdeal.nD Cert.TapsReferenceIdeal.τ).loc Cert.TapsReferenceIdeal.main_arg8) = m' ((c.tc : Thread Cert.TapsReferenceIdeal.nD Cert.TapsReferenceIdeal.τ).loc Cert.TapsReferenceIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnFirst : Cert.FfnFirst.Facts) (hFfnFirstIdeal : Cert.FfnFirstIdeal.Facts) (hFfnFirstReferenceIdeal : Cert.FfnFirstReferenceIdeal.Facts) (hProj : Cert.Proj.Facts) (hProjIdeal : Cert.ProjIdeal.Facts) (hProjReferenceIdeal : Cert.ProjReferenceIdeal.Facts) (hMix : Cert.Mix.Facts) (hMixIdeal : Cert.MixIdeal.Facts) (hMixReferenceIdeal : Cert.MixReferenceIdeal.Facts) (hPrep : Cert.Prep.Facts) (hPrepIdeal : Cert.PrepIdeal.Facts) (hPrepReferenceIdeal : Cert.PrepReferenceIdeal.Facts) (hMod : Cert.Mod.Facts) (hModIdeal : Cert.ModIdeal.Facts) (hModReferenceIdeal : Cert.ModReferenceIdeal.Facts) (hConv : Cert.Conv.Facts) (hConvIdeal : Cert.ConvIdeal.Facts) (hConvReferenceIdeal : Cert.ConvReferenceIdeal.Facts) (hTaps : Cert.Taps.Facts) (hTapsIdeal : Cert.TapsIdeal.Facts) (hTapsReferenceIdeal : Cert.TapsReferenceIdeal.Facts) (hPre_finite : Cert.Pre_finite.Facts) (hPre_finite_projection : Cert.Pre_finite_projection.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnFirst (hFfnFirst := hFfnFirst)
    ∧ quiescent_FfnFirstIdeal (hFfnFirstIdeal := hFfnFirstIdeal)
    ∧ quiescent_FfnFirstReferenceIdeal (hFfnFirstReferenceIdeal := hFfnFirstReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Mix (hMix := hMix)
    ∧ quiescent_MixIdeal (hMixIdeal := hMixIdeal)
    ∧ quiescent_MixReferenceIdeal (hMixReferenceIdeal := hMixReferenceIdeal)
    ∧ quiescent_Prep (hPrep := hPrep)
    ∧ quiescent_PrepIdeal (hPrepIdeal := hPrepIdeal)
    ∧ quiescent_PrepIdeal_pre_finite_projection (hPrepIdeal := hPrepIdeal) (hPre_finite_projection := hPre_finite_projection)
    ∧ quiescent_PrepReferenceIdeal (hPrepReferenceIdeal := hPrepReferenceIdeal)
    ∧ quiescent_PrepReferenceIdeal_pre_finite_projection (hPrepReferenceIdeal := hPrepReferenceIdeal) (hPre_finite_projection := hPre_finite_projection)
    ∧ quiescent_Mod (hMod := hMod)
    ∧ quiescent_ModIdeal (hModIdeal := hModIdeal)
    ∧ quiescent_ModReferenceIdeal (hModReferenceIdeal := hModReferenceIdeal)
    ∧ quiescent_Conv (hConv := hConv)
    ∧ quiescent_ConvIdeal (hConvIdeal := hConvIdeal)
    ∧ quiescent_ConvReferenceIdeal (hConvReferenceIdeal := hConvReferenceIdeal)
    ∧ quiescent_Taps (hTaps := hTaps)
    ∧ quiescent_TapsIdeal (hTapsIdeal := hTapsIdeal)
    ∧ quiescent_TapsReferenceIdeal (hTapsReferenceIdeal := hTapsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_FfnFirst_FfnFirstIdeal
    ∧ algebraic_FfnFirstIdeal_FfnFirstReferenceIdeal (hFfnFirstIdeal := hFfnFirstIdeal) (hFfnFirstReferenceIdeal := hFfnFirstReferenceIdeal)
    ∧ preserves_Proj_ProjIdeal
    ∧ algebraic_ProjIdeal_ProjReferenceIdeal (hProjIdeal := hProjIdeal) (hProjReferenceIdeal := hProjReferenceIdeal)
    ∧ preserves_Mix_MixIdeal
    ∧ algebraic_MixIdeal_MixReferenceIdeal (hMixIdeal := hMixIdeal) (hMixReferenceIdeal := hMixReferenceIdeal)
    ∧ preserves_Prep_PrepIdeal
    ∧ algebraic_PrepIdeal_PrepReferenceIdeal_pre_finite_projection (hPrepIdeal := hPrepIdeal) (hPrepReferenceIdeal := hPrepReferenceIdeal) (hPre_finite_projection := hPre_finite_projection)
    ∧ preserves_Mod_ModIdeal
    ∧ algebraic_ModIdeal_ModReferenceIdeal (hModIdeal := hModIdeal) (hModReferenceIdeal := hModReferenceIdeal)
    ∧ preserves_Conv_ConvIdeal
    ∧ algebraic_ConvIdeal_ConvReferenceIdeal (hConvIdeal := hConvIdeal) (hConvReferenceIdeal := hConvReferenceIdeal)
    ∧ preserves_Taps_TapsIdeal
    ∧ algebraic_TapsIdeal_TapsReferenceIdeal (hTapsIdeal := hTapsIdeal) (hTapsReferenceIdeal := hTapsReferenceIdeal)
-- ==== Pre_finite.lean ====
abbrev S2x8x64x8192 : Shape := ⟨4, ![2, 8, 64, 8192]⟩
abbrev S2x2x8448x64 : Shape := ⟨4, ![2, 2, 8448, 64]⟩
abbrev S2x2x64x8448 : Shape := ⟨4, ![2, 2, 64, 8448]⟩
abbrev S_ : Shape := ⟨0, ![]⟩

class Facts : Prop where
  bitsLt_bf16_f32 : FTy.bits .bf16 < FTy.bits .f32
  bcast_S_S2x8x64x8192 : S_.BroadcastsInDim S2x8x64x8192 (![] : Fin 0 → Fin S2x8x64x8192.rank)
  reducesTo_S2x8x64x8192_S_d0_1_2_3 : S2x8x64x8192.ReducesTo [0, 1, 2, 3] S_
  h_S_ : 0 < S_.numel
  bcast_S_S2x2x8448x64 : S_.BroadcastsInDim S2x2x8448x64 (![] : Fin 0 → Fin S2x2x8448x64.rank)
  reducesTo_S2x2x8448x64_S_d0_1_2_3 : S2x2x8448x64.ReducesTo [0, 1, 2, 3] S_

variable [Facts]

def fn {F : FTy → Type} [FloatOps F] (main_arg0 : FVec F S2x8x64x8192 .bf16) (main_arg1 : FVec F S2x2x8448x64 .bf16) (main_arg2 : FVec F S2x2x64x8448 .bf16) : IVec S_ 1 :=
  let main_v0 : FVec F S2x8x64x8192 .f32 := (extf .f32 · bitsLt_bf16_f32) main_arg0
  let main_v1 : FVec F S2x8x64x8192 .f32 := Host.absf main_v0
  let main_cst : FVec F S_ .f32 := constant S_ .f32 0x7F800000#32
  let main_v2 : FVec F S2x8x64x8192 .f32 := broadcastInDim S2x8x64x8192 ![] bcast_S_S2x8x64x8192 main_cst
  let main_v3 : IVec S2x8x64x8192 1 := cmpf .olt main_v1 main_v2
  let main_c : IVec S_ 1 := constantI S_ 1 1#1
  let main_v4 : IVec S_ 1 := (fun x v => Host.reduce IntOp.andi x v reducesTo_S2x8x64x8192_S_d0_1_2_3 h_S_) main_v3 main_c
  let main_v5 : FVec F S2x2x8448x64 .f32 := (extf .f32 · bitsLt_bf16_f32) main_arg1
  let main_v6 : FVec F S2x2x8448x64 .f32 := Host.absf main_v5
  let main_cst_0 : FVec F S_ .f32 := constant S_ .f32 0x7F800000#32
  let main_v7 : FVec F S2x2x8448x64 .f32 := broadcastInDim S2x2x8448x64 ![] bcast_S_S2x2x8448x64 main_cst_0
  let main_v8 : IVec S2x2x8448x64 1 := cmpf .olt main_v6 main_v7
  let main_c_1 : IVec S_ 1 := constantI S_ 1 1#1
  let main_v9 : IVec S_ 1 := (fun x v => Host.reduce IntOp.andi x v reducesTo_S2x2x8448x64_S_d0_1_2_3 h_S_) main_v8 main_c_1
  let main_v10 : IVec S_ 1 := andi main_v4 main_v9
  main_v10
-- ==== Pre_finite_projection.lean ====
abbrev S2x8192x4096 : Shape := ⟨3, ![2, 8192, 4096]⟩
abbrev S8192x16 : Shape := ⟨2, ![8192, 16]⟩
abbrev S64 : Shape := ⟨1, ![64]⟩
abbrev S2x8192x512 : Shape := ⟨3, ![2, 8192, 512]⟩
abbrev S_ : Shape := ⟨0, ![]⟩
abbrev S2x8192x128 : Shape := ⟨3, ![2, 8192, 128]⟩

class Facts : Prop where
  slices_S2x8192x4096_S2x8192x512_0_0_1536 : S2x8192x4096.Slices ![0, 0, 1536] S2x8192x512
  bitsLt_bf16_f32 : FTy.bits .bf16 < FTy.bits .f32
  bcast_S_S2x8192x512 : S_.BroadcastsInDim S2x8192x512 (![] : Fin 0 → Fin S2x8192x512.rank)
  reducesTo_S2x8192x512_S_d0_1_2 : S2x8192x512.ReducesTo [0, 1, 2] S_
  h_S_ : 0 < S_.numel
  slices_S2x8192x4096_S2x8192x128_0_0_3584 : S2x8192x4096.Slices ![0, 0, 3584] S2x8192x128
  bcast_S_S2x8192x128 : S_.BroadcastsInDim S2x8192x128 (![] : Fin 0 → Fin S2x8192x128.rank)
  reducesTo_S2x8192x128_S_d0_1_2 : S2x8192x128.ReducesTo [0, 1, 2] S_

variable [Facts]

def fn {F : FTy → Type} [FloatOps F] (main_arg0 : FVec F S2x8192x4096 .bf16) (main_arg1 : FVec F S8192x16 .f32) (main_arg2 : FVec F S8192x16 .f32) (main_arg3 : FVec F S8192x16 .f32) (main_arg4 : FVec F S8192x16 .f32) (main_arg5 : FVec F S64 .f32) (main_arg6 : FVec F S64 .f32) : IVec S_ 1 :=
  let main_v0 : FVec F S2x8192x512 .bf16 := (extractStridedSlice S2x8192x512 ![0, 0, 1536] · slices_S2x8192x4096_S2x8192x512_0_0_1536) main_arg0
  let main_v1 : FVec F S2x8192x512 .f32 := (extf .f32 · bitsLt_bf16_f32) main_v0
  let main_v2 : FVec F S2x8192x512 .f32 := Host.absf main_v1
  let main_cst : FVec F S_ .f32 := constant S_ .f32 0x7F800000#32
  let main_v3 : FVec F S2x8192x512 .f32 := broadcastInDim S2x8192x512 ![] bcast_S_S2x8192x512 main_cst
  let main_v4 : IVec S2x8192x512 1 := cmpf .olt main_v2 main_v3
  let main_c : IVec S_ 1 := constantI S_ 1 1#1
  let main_v5 : IVec S_ 1 := (fun x v => Host.reduce IntOp.andi x v reducesTo_S2x8192x512_S_d0_1_2 h_S_) main_v4 main_c
  let main_v6 : FVec F S2x8192x128 .bf16 := (extractStridedSlice S2x8192x128 ![0, 0, 3584] · slices_S2x8192x4096_S2x8192x128_0_0_3584) main_arg0
  let main_v7 : FVec F S2x8192x128 .f32 := (extf .f32 · bitsLt_bf16_f32) main_v6
  let main_v8 : FVec F S2x8192x128 .f32 := Host.absf main_v7
  let main_cst_0 : FVec F S_ .f32 := constant S_ .f32 0x7F800000#32
  let main_v9 : FVec F S2x8192x128 .f32 := broadcastInDim S2x8192x128 ![] bcast_S_S2x8192x128 main_cst_0
  let main_v10 : IVec S2x8192x128 1 := cmpf .olt main_v8 main_v9
  let main_c_1 : IVec S_ 1 := constantI S_ 1 1#1
  let main_v11 : IVec S_ 1 := (fun x v => Host.reduce IntOp.andi x v reducesTo_S2x8192x128_S_d0_1_2 h_S_) main_v10 main_c_1
  let main_v12 : IVec S_ 1 := andi main_v5 main_v11
  main_v12
-- ==== Kernel.lean ====
abbrev S2x8x64x8192 : Shape := ⟨4, ![2, 8, 64, 8192]⟩
abbrev S2x2x8448x64 : Shape := ⟨4, ![2, 2, 8448, 64]⟩
abbrev S2x2x64x8448 : Shape := ⟨4, ![2, 2, 64, 8448]⟩
abbrev S2x2x16x8448 : Shape := ⟨4, ![2, 2, 16, 8448]⟩
abbrev S_ : Shape := ⟨0, ![]⟩
abbrev S2x2x80x8448 : Shape := ⟨4, ![2, 2, 80, 8448]⟩
abbrev S2x8192x512 : Shape := ⟨3, ![2, 8192, 512]⟩
abbrev S1x4x64x1024 : Shape := ⟨4, ![1, 4, 64, 1024]⟩
abbrev S1x1x8448x64 : Shape := ⟨4, ![1, 1, 8448, 64]⟩
abbrev S1x1x80x8448 : Shape := ⟨4, ![1, 1, 80, 8448]⟩
abbrev S1x1024x256 : Shape := ⟨3, ![1, 1024, 256]⟩
abbrev S2x384x1024 : Shape := ⟨3, ![2, 384, 1024]⟩
abbrev S4x1x1024 : Shape := ⟨3, ![4, 1, 1024]⟩
abbrev S4x80x1024 : Shape := ⟨3, ![4, 80, 1024]⟩
abbrev S1x1x384x64 : Shape := ⟨4, ![1, 1, 384, 64]⟩
abbrev S384x64 : Shape := ⟨2, ![384, 64]⟩
abbrev S1x1x64x1024 : Shape := ⟨4, ![1, 1, 64, 1024]⟩
abbrev S64x1024 : Shape := ⟨2, ![64, 1024]⟩
abbrev S384x1024 : Shape := ⟨2, ![384, 1024]⟩
abbrev S1x384x1024 : Shape := ⟨3, ![1, 384, 1024]⟩
abbrev S1x1x80x384 : Shape := ⟨4, ![1, 1, 80, 384]⟩
abbrev S80x384 : Shape := ⟨2, ![80, 384]⟩
abbrev S1x1x1024 : Shape := ⟨3, ![1, 1, 1024]⟩
abbrev S1x1024 : Shape := ⟨2, ![1, 1024]⟩
abbrev S1024 : Shape := ⟨1, ![1024]⟩
abbrev S1x80x1024 : Shape := ⟨3, ![1, 80, 1024]⟩
abbrev S80x1024 : Shape := ⟨2, ![80, 1024]⟩
abbrev S1024x64 : Shape := ⟨2, ![1024, 64]⟩
abbrev S1024x256 : Shape := ⟨2, ![1024, 256]⟩

abbrev nBuf : Space → Nat
  | .hbm => 15
  | .vmem => 11
  | .smem => 0
  | _ => 0

abbrev bufTy : (tb : Table) → Fin (tcTables nBuf tb) → BufTy
  | .hbm, ⟨0, _⟩ => ⟨S2x8x64x8192, .bf16⟩
  | .hbm, ⟨1, _⟩ => ⟨S2x2x8448x64, .bf16⟩
  | .hbm, ⟨2, _⟩ => ⟨S2x2x64x8448, .bf16⟩
  | .hbm, ⟨3, _⟩ => ⟨S2x2x16x8448, .i32⟩
  | .hbm, ⟨4, _⟩ => ⟨S_, .i32⟩
  | .hbm, ⟨5, _⟩ => ⟨S2x2x16x8448, .i32⟩
  | .hbm, ⟨6, _⟩ => ⟨S2x2x16x8448, .i1⟩
  | .hbm, ⟨7, _⟩ => ⟨S_, .f32⟩
  | .hbm, ⟨8, _⟩ => ⟨S_, .f32⟩
  | .hbm, ⟨9, _⟩ => ⟨S2x2x16x8448, .f32⟩
  | .hbm, ⟨10, _⟩ => ⟨S2x2x16x8448, .f32⟩
  | .hbm, ⟨11, _⟩ => ⟨S2x2x16x8448, .f32⟩
  | .hbm, ⟨12, _⟩ => ⟨S2x2x16x8448, .bf16⟩
  | .hbm, ⟨13, _⟩ => ⟨S2x2x80x8448, .bf16⟩
  | .hbm, ⟨14, _⟩ => ⟨S2x8192x512, .bf16⟩
  | .local _ .vmem, ⟨0, _⟩ => ⟨S1x4x64x1024, .bf16⟩
  | .local _ .vmem, ⟨1, _⟩ => ⟨S1x4x64x1024, .bf16⟩
  | .local _ .vmem, ⟨2, _⟩ => ⟨S1x1x8448x64, .bf16⟩
  | .local _ .vmem, ⟨3, _⟩ => ⟨S1x1x8448x64, .bf16⟩
  | .local _ .vmem, ⟨4, _⟩ => ⟨S1x1x80x8448, .bf16⟩
  | .local _ .vmem, ⟨5, _⟩ => ⟨S1x1x80x8448, .bf16⟩
  | .local _ .vmem, ⟨6, _⟩ => ⟨S1x1024x256, .bf16⟩
  | .local _ .vmem, ⟨7, _⟩ => ⟨S1x1024x256, .bf16⟩
  | .local _ .vmem, ⟨8, _⟩ => ⟨S2x384x1024, .f32⟩
  | .local _ .vmem, ⟨9, _⟩ => ⟨S4x1x1024, .f32⟩
  | .local _ .vmem, ⟨10, _⟩ => ⟨S4x80x1024, .f32⟩
  | _, _ => ⟨S2x8x64x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 8], ![false, false, false]⟩

def k0_mult1 : BitVec 32 :=
  let c0_i32 : BitVec 32 := 0#32
  c0_i32
@[reducible] def k0_t1_loop : Scf.Loop 32 :=
  let c0_i32_17 : BitVec 32 := 0#32
  let c22_i32 : BitVec 32 := 22#32
  let v18 : BitVec 32 := Scalar.addi c0_i32_17 c22_i32
  let c1_i32 : BitVec 32 := 1#32
  ⟨c0_i32_17, v18, c1_i32⟩
def k0_mult2 (k0_t1 : Fin k0_t1_loop.trips) : BitVec 32 :=
  let c0_i32_17 : BitVec 32 := 0#32
  let c1_i32 : BitVec 32 := 1#32
  let arg10 : BitVec 32 := Scf.iv c0_i32_17 c1_i32 k0_t1
  let c384_i32 : BitVec 32 := 384#32
  let v60 : BitVec 32 := Scalar.muli arg10 c384_i32
  v60
def k0_off1 (k0_t1 : Fin k0_t1_loop.trips) : Fin 4 → Nat :=
  let c0_35 : Index := 0#32
  let c0_36 : Index := 0#32
  let c0_37 : Index := 0#32
  let c0_i32_17 : BitVec 32 := 0#32
  let c1_i32 : BitVec 32 := 1#32
  let arg10 : BitVec 32 := Scf.iv c0_i32_17 c1_i32 k0_t1
  let c384_i32 : BitVec 32 := 384#32
  let v60 : BitVec 32 := Scalar.muli arg10 c384_i32
  let v61 : BitVec 32 := v60
  let v62 : Index := Scalar.indexCast v61
  ![0, 0, 0, v62.toNat]
def k0_mult3 (k0_t1 : Fin k0_t1_loop.trips) : BitVec 32 :=
  let c0_i32_17 : BitVec 32 := 0#32
  let c1_i32 : BitVec 32 := 1#32
  let arg10 : BitVec 32 := Scf.iv c0_i32_17 c1_i32 k0_t1
  let c384_i32_39 : BitVec 32 := 384#32
  let v67 : BitVec 32 := Scalar.muli arg10 c384_i32_39
  v67
def k0_off2 (k0_t1 : Fin k0_t1_loop.trips) : Fin 4 → Nat :=
  let c0_40 : Index := 0#32
  let c0_41 : Index := 0#32
  let c0_i32_17 : BitVec 32 := 0#32
  let c1_i32 : BitVec 32 := 1#32
  let arg10 : BitVec 32 := Scf.iv c0_i32_17 c1_i32 k0_t1
  let c384_i32_39 : BitVec 32 := 384#32
  let v67 : BitVec 32 := Scalar.muli arg10 c384_i32_39
  let v68 : BitVec 32 := v67
  let v69 : Index := Scalar.indexCast v68
  let c0_42 : Index := 0#32
  ![0, 0, v69.toNat, 0]
def k0_mult4 (k0_t1 : Fin k0_t1_loop.trips) : BitVec 32 :=
  let c0_i32_17 : BitVec 32 := 0#32
  let c1_i32 : BitVec 32 := 1#32
  let arg10 : BitVec 32 := Scf.iv c0_i32_17 c1_i32 k0_t1
  let c384_i32_68 : BitVec 32 := 384#32
  let v103 : BitVec 32 := Scalar.muli arg10 c384_i32_68
  v103
def k0_mult5 (k0_t1 : Fin k0_t1_loop.trips) : BitVec 32 :=
  let c0_i32_17 : BitVec 32 := 0#32
  let c1_i32 : BitVec 32 := 1#32
  let arg10 : BitVec 32 := Scf.iv c0_i32_17 c1_i32 k0_t1
  let c384_i32_97 : BitVec 32 := 384#32
  let v139 : BitVec 32 := Scalar.muli arg10 c384_i32_97
  v139
def k0_mult6 (k0_t1 : Fin k0_t1_loop.trips) : BitVec 32 :=
  let c0_i32_17 : BitVec 32 := 0#32
  let c1_i32 : BitVec 32 := 1#32
  let arg10 : BitVec 32 := Scf.iv c0_i32_17 c1_i32 k0_t1
  let c1_i32_38 : BitVec 32 := 1#32
  let v65 : BitVec 32 := Scalar.addi arg10 c1_i32_38
  let c21_i32 : BitVec 32 := 21#32
  let v66 : BitVec 32 := Scalar.minsi v65 c21_i32
  let c384_i32_126 : BitVec 32 := 384#32
  let v175 : BitVec 32 := Scalar.muli v66 c384_i32_126
  v175
def k0_off3 (k0_t1 : Fin k0_t1_loop.trips) : Fin 4 → Nat :=
  let c0_127 : Index := 0#32
  let c0_128 : Index := 0#32
  let c0_i32_17 : BitVec 32 := 0#32
  let c1_i32 : BitVec 32 := 1#32
  let arg10 : BitVec 32 := Scf.iv c0_i32_17 c1_i32 k0_t1
  let c1_i32_38 : BitVec 32 := 1#32
  let v65 : BitVec 32 := Scalar.addi arg10 c1_i32_38
  let c21_i32 : BitVec 32 := 21#32
  let v66 : BitVec 32 := Scalar.minsi v65 c21_i32
  let c384_i32_126 : BitVec 32 := 384#32
  let v175 : BitVec 32 := Scalar.muli v66 c384_i32_126
  let v176 : BitVec 32 := v175
  let v177 : Index := Scalar.indexCast v176
  let c0_129 : Index := 0#32
  ![0, 0, v177.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8448x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x80x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x64x8192 : Shape := ⟨4, ![2, 8, 64, 8192]⟩
abbrev S2x2x8448x64 : Shape := ⟨4, ![2, 2, 8448, 64]⟩
abbrev S2x2x64x8448 : Shape := ⟨4, ![2, 2, 64, 8448]⟩
abbrev S_ : Shape := ⟨0, ![]⟩
abbrev S2x2x4x64x8192 : Shape := ⟨5, ![2, 2, 4, 64, 8192]⟩
abbrev S2x2x4x8192x8448 : Shape := ⟨5, ![2, 2, 4, 8192, 8448]⟩
abbrev S2x2x4x8192 : Shape := ⟨4, ![2, 2, 4, 8192]⟩
abbrev S2x2x4x8192x1 : Shape := ⟨5, ![2, 2, 4, 8192, 1]⟩
abbrev S2x2x64x4x8192 : Shape := ⟨5, ![2, 2, 64, 4, 8192]⟩
abbrev S2x8192x2x4x64 : Shape := ⟨5, ![2, 8192, 2, 4, 64]⟩
abbrev S2x8192x512 : Shape := ⟨3, ![2, 8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S2x8x64x8192, .bf16⟩
  | .hbm, ⟨1, _⟩ => ⟨S2x2x8448x64, .bf16⟩
  | .hbm, ⟨2, _⟩ => ⟨S2x2x64x8448, .bf16⟩
  | .hbm, ⟨3, _⟩ => ⟨S2x8x64x8192, .f32⟩
  | .hbm, ⟨4, _⟩ => ⟨S_, .f32⟩
  | .hbm, ⟨5, _⟩ => ⟨S_, .f32⟩
  | .hbm, ⟨6, _⟩ => ⟨S2x8x64x8192, .f32⟩
  | .hbm, ⟨7, _⟩ => ⟨S2x8x64x8192, .f32⟩
  | .hbm, ⟨8, _⟩ => ⟨S2x2x4x64x8192, .f32⟩
  | .hbm, ⟨9, _⟩ => ⟨S2x2x8448x64, .f32⟩
  | .hbm, ⟨10, _⟩ => ⟨S2x2x4x8192x8448, .f32⟩
  | .hbm, ⟨11, _⟩ => ⟨S_, .f32⟩
  | .hbm, ⟨12, _⟩ => ⟨S2x2x4x8192, .f32⟩
  | .hbm, ⟨13, _⟩ => ⟨S_, .f32⟩
  | .hbm, ⟨14, _⟩ => ⟨S2x2x4x8192, .f32⟩
  | .hbm, ⟨15, _⟩ => ⟨S2x2x4x8192, .f32⟩
  | .hbm, ⟨16, _⟩ => ⟨S2x2x4x8192x1, .f32⟩
  | .hbm, ⟨17, _⟩ => ⟨S2x2x4x8192x8448, .f32⟩
  | .hbm, ⟨18, _⟩ => ⟨S2x2x4x8192x8448, .f32⟩
  | .hbm, ⟨19, _⟩ => ⟨S2x2x4x8192x8448, .f32⟩
  | .hbm, ⟨20, _⟩ => ⟨S_, .f32⟩
  | .hbm, ⟨21, _⟩ => ⟨S2x2x4x8192, .f32⟩
  | .hbm, ⟨22, _⟩ => ⟨S2x2x4x8192x1, .f32⟩
  | .hbm, ⟨23, _⟩ => ⟨S2x2x4x8192x8448, .f32⟩
  | .hbm, ⟨24, _⟩ => ⟨S2x2x4x8192x8448, .f32⟩
  | .hbm, ⟨25, _⟩ => ⟨S2x2x64x8448, .f32⟩
  | .hbm, ⟨26, _⟩ => ⟨S2x2x64x4x8192, .f32⟩
  | .hbm, ⟨27, _⟩ => ⟨S2x8192x2x4x64, .f32⟩
  | .hbm, ⟨28, _⟩ => ⟨S2x8192x512, .f32⟩
  | .hbm, ⟨29, _⟩ => ⟨S2x8192x512, .bf16⟩
  | _, _ => ⟨S2x8x64x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Ffn.lean ====
abbrev S2x8192x1024 : Shape := ⟨3, ![2, 8192, 1024]⟩
abbrev S2x1x1024 : Shape := ⟨3, ![2, 1, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S256x1024 : Shape := ⟨2, ![256, 1024]⟩
abbrev S1024x1024 : Shape := ⟨2, ![1024, 1024]⟩
abbrev S1024x1 : Shape := ⟨2, ![1024, 1]⟩

abbrev nBuf : Space → Nat
  | .hbm => 13
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 8, 11], ![false, false, false]⟩

def k0_cond2 (i : grid0.Coords) : BitVec 1 :=
  let arg2 : BitVec 32 := BitVec.ofNat 32 (i 2).val
  let c10_i32 : BitVec 32 := 10#32
  let v28 : BitVec 1 := Scalar.cmpi .eq arg2 c10_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== FfnReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 64
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x5632, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x8192, .f32⟩
  | .hbm, ⟨51, _⟩ => ⟨S2x8192x1, .f32⟩
  | .hbm, ⟨52, _⟩ => ⟨S_, .f32⟩
  | .hbm, ⟨53, _⟩ => ⟨S2x8192x1, .f32⟩
  | .hbm, ⟨54, _⟩ => ⟨S2x8192x1, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x1024, .f32⟩
  | .hbm, ⟨60, _⟩ => ⟨S2x8192x1024, .f32⟩
  | .hbm, ⟨61, _⟩ => ⟨S1x1x1024, .f32⟩
  | .hbm, ⟨62, _⟩ => ⟨S2x8192x1024, .f32⟩
  | .hbm, ⟨63, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== FfnFirst.lean ====
abbrev S2x8192x1024 : Shape := ⟨3, ![2, 8192, 1024]⟩
abbrev S2x1x1024 : Shape := ⟨3, ![2, 1, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x256 : Shape := ⟨2, ![1024, 256]⟩
abbrev S256x1024 : Shape := ⟨2, ![256, 1024]⟩
abbrev S1024x1024 : Shape := ⟨2, ![1024, 1024]⟩
abbrev S1024x1 : Shape := ⟨2, ![1024, 1]⟩

abbrev nBuf : Space → Nat
  | .hbm => 13
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | .local _ .vmem, ⟨18, _⟩ => ⟨S1024x1024, .bf16⟩
  | .local _ .vmem, ⟨19, _⟩ => ⟨S1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 8, 11], ![false, false, false]⟩

def k0_cond2 (i : grid0.Coords) : BitVec 1 :=
  let arg2 : BitVec 32 := BitVec.ofNat 32 (i 2).val
  let c10_i32 : BitVec 32 := 10#32
  let v28 : BitVec 1 := Scalar.cmpi .eq arg2 c10_i32
  let v29 : BitVec 32 := Scalar.extui v28
  let c0_i32_17 : BitVec 32 := 0#32
  let v30 : BitVec 1 := Scalar.cmpi .ne v29 c0_i32_17
  v30

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== FfnFirstReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S2x8192x5632, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S_, .f32⟩
  | .hbm, ⟨37, _⟩ => ⟨S2x8192x2816, .f32⟩
  | .hbm, ⟨38, _⟩ => ⟨S2x8192x2816, .f32⟩
  | .hbm, ⟨39, _⟩ => ⟨S_, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x2816, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Proj.lean ====
abbrev S2x8192x1024 : Shape := ⟨3, ![2, 8192, 1024]⟩
abbrev S2x1x1024 : Shape := ⟨3, ![2, 1, 1024]⟩
abbrev S1024 : Shape := ⟨1, ![1024]⟩
abbrev S1024x3856 : Shape := ⟨2, ![1024, 3856]⟩
abbrev S1x1024 : Shape := ⟨2, ![1, 1024]⟩
abbrev S1024x1536 : Shape := ⟨2, ![1024, 1536]⟩
abbrev S1024x512 : Shape := ⟨2, ![1024, 512]⟩
abbrev S1024x768 : Shape := ⟨2, ![1024, 768]⟩
abbrev S1024x256 : Shape := ⟨2, ![1024, 256]⟩
abbrev S1024x128 : Shape := ⟨2, ![1024, 128]⟩
abbrev S1024x16 : Shape := ⟨2, ![1024, 16]⟩
abbrev S_ : Shape := ⟨0, ![]⟩
abbrev S1024x4096 : Shape := ⟨2, ![1024, 4096]⟩
abbrev S2x8192x4096 : Shape := ⟨3, ![2, 8192, 4096]⟩
abbrev S2x8192x128 : Shape := ⟨3, ![2, 8192, 128]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024x128 : Shape := ⟨3, ![1, 1024, 128]⟩
abbrev S1024x1 : Shape := ⟨2, ![1024, 1]⟩

abbrev nBuf : Space → Nat
  | .hbm => 21
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3856, .f32⟩
  | .hbm, ⟨5, _⟩ => ⟨S1x1024, .f32⟩
  | .hbm, ⟨6, _⟩ => ⟨S1024x1536, .f32⟩
  | .hbm, ⟨7, _⟩ => ⟨S1024x512, .f32⟩
  | .hbm, ⟨8, _⟩ => ⟨S1024x768, .f32⟩
  | .hbm, ⟨9, _⟩ => ⟨S1024x256, .f32⟩
  | .hbm, ⟨10, _⟩ => ⟨S1024x512, .f32⟩
  | .hbm, ⟨11, _⟩ => ⟨S1024x128, .f32⟩
  | .hbm, ⟨12, _⟩ => ⟨S1024x128, .f32⟩
  | .hbm, ⟨13, _⟩ => ⟨S1024x16, .f32⟩
  | .hbm, ⟨14, _⟩ => ⟨S1024x3856, .f32⟩
  | .hbm, ⟨15, _⟩ => ⟨S_, .i32⟩
  | .hbm, ⟨16, _⟩ => ⟨S_, .f32⟩
  | .hbm, ⟨17, _⟩ => ⟨S1024x4096, .f32⟩
  | .hbm, ⟨18, _⟩ => ⟨S1024x4096, .bf16⟩
  | .hbm, ⟨19, _⟩ => ⟨S2x8192x4096, .bf16⟩
  | .hbm, ⟨20, _⟩ => ⟨S2x8192x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x128, .f32⟩
  | .local _ .vmem, ⟨12, _⟩ => ⟨S1x1024x128, .f32⟩
  | .local _ .vmem, ⟨13, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ProjReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x3856 : Shape := ⟨2, ![1024, 3856]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3856 : Shape := ⟨3, ![2, 8192, 3856]⟩
abbrev S2x8192x240 : Shape := ⟨3, ![2, 8192, 240]⟩
abbrev S2x8192x16 : Shape := ⟨3, ![2, 8192, 16]⟩
abbrev S2x8192x112 : Shape := ⟨3, ![2, 8192, 112]⟩
abbrev S2x8192x128 : Shape := ⟨3, ![2, 8192, 128]⟩
abbrev S2x8192x1536 : Shape := ⟨3, ![2, 8192, 1536]⟩
abbrev S2x8192x512 : Shape := ⟨3, ![2, 8192, 512]⟩
abbrev S2x8192x768 : Shape := ⟨3, ![2, 8192, 768]⟩
abbrev S2x8192x256 : Shape := ⟨3, ![2, 8192, 256]⟩
abbrev S2x8192x4096 : Shape := ⟨3, ![2, 8192, 4096]⟩

abbrev nBuf : Space → Nat
  | .hbm => 44
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x3856, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x3856, .f32⟩
  | .hbm, ⟨29, _⟩ => ⟨S_, .f32⟩
  | .hbm, ⟨30, _⟩ => ⟨S2x8192x240, .f32⟩
  | .hbm, ⟨31, _⟩ => ⟨S2x8192x16, .f32⟩
  | .hbm, ⟨32, _⟩ => ⟨S2x8192x112, .f32⟩
  | .hbm, ⟨33, _⟩ => ⟨S2x8192x128, .f32⟩
  | .hbm, ⟨34, _⟩ => ⟨S2x8192x1536, .f32⟩
  | .hbm, ⟨35, _⟩ => ⟨S2x8192x512, .f32⟩
  | .hbm, ⟨36, _⟩ => ⟨S2x8192x768, .f32⟩
  | .hbm, ⟨37, _⟩ => ⟨S2x8192x256, .f32⟩
  | .hbm, ⟨38, _⟩ => ⟨S2x8192x512, .f32⟩
  | .hbm, ⟨39, _⟩ => ⟨S2x8192x128, .f32⟩
  | .hbm, ⟨40, _⟩ => ⟨S2x8192x128, .f32⟩
  | .hbm, ⟨41, _⟩ => ⟨S2x8192x16, .f32⟩
  | .hbm, ⟨42, _⟩ => ⟨S2x8192x4096, .f32⟩
  | .hbm, ⟨43, _⟩ => ⟨S2x8192x4096, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Mix.lean ====
abbrev S2x8192x1024 : Shape := ⟨3, ![2, 8192, 1024]⟩
abbrev S2x8192x512 : Shape := ⟨3, ![2, 8192, 512]⟩
abbrev S2x8192x4096 : Shape := ⟨3, ![2, 8192, 4096]⟩
abbrev S2x16x32x16x512 : Shape := ⟨5, ![2, 16, 32, 16, 512]⟩
abbrev S2x1x1024 : Shape := ⟨3, ![2, 1, 1024]⟩
abbrev S512 : Shape := ⟨1, ![512]⟩
abbrev S1536x1024 : Shape := ⟨2, ![1536, 1024]⟩
abbrev S1x512 : Shape := ⟨2, ![1, 512]⟩
abbrev S1x512x1024 : Shape := ⟨3, ![1, 512, 1024]⟩
abbrev S1x512x512 : Shape := ⟨3, ![1, 512, 512]⟩
abbrev S1x16x2x16x512 : Shape := ⟨5, ![1, 16, 2, 16, 512]⟩
abbrev S1x1x1024 : Shape := ⟨3, ![1, 1, 1024]⟩
abbrev S512x512 : Shape := ⟨2, ![512, 512]⟩
abbrev S512x1 : Shape := ⟨2, ![512, 1]⟩
abbrev S16x2x16x512 : Shape := ⟨4, ![16, 2, 16, 512]⟩
abbrev S16x4x8x512 : Shape := ⟨4, ![16, 4, 8, 512]⟩
abbrev S4x16x8x512 : Shape := ⟨4, ![4, 16, 8, 512]⟩
abbrev S512x1024 : Shape := ⟨2, ![512, 1024]⟩
abbrev S1x1024 : Shape := ⟨2, ![1, 1024]⟩

abbrev nBuf : Space → Nat
  | .hbm => 16
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x8192x4096, .bf16⟩
  | .hbm, ⟨4, _⟩ => ⟨S2x8192x512, .bf16⟩
  | .hbm, ⟨5, _⟩ => ⟨S2x16x32x16x512, .bf16⟩
  | .hbm, ⟨6, _⟩ => ⟨S2x1x1024, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1536x1024, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1536x1024, .bf16⟩
  | .hbm, ⟨15, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x16x2x16x512, .bf16⟩
  | .local _ .vmem, ⟨11, _⟩ => ⟨S1x16x2x16x512, .bf16⟩
  | .local _ .vmem, ⟨12, _⟩ => ⟨S1x1x1024, .f32⟩
  | .local _ .vmem, ⟨13, _⟩ => ⟨S1x1x1024, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1536x1024, .bf16⟩
  | .local _ .vmem, ⟨18, _⟩ => ⟨S1x512x1024, .f32⟩
  | .local _ .vmem, ⟨19, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x2x16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1536x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixReferenceIdeal.lean ====
abbrev S2x8192x1024 : Shape := ⟨3, ![2, 8192, 1024]⟩
abbrev S2x8192x512 : Shape := ⟨3, ![2, 8192, 512]⟩
abbrev S2x8192x4096 : Shape := ⟨3, ![2, 8192, 4096]⟩
abbrev S2x16x32x16x512 : Shape := ⟨5, ![2, 16, 32, 16, 512]⟩
abbrev S2x1x1024 : Shape := ⟨3, ![2, 1, 1024]⟩
abbrev S512 : Shape := ⟨1, ![512]⟩
abbrev S1536x1024 : Shape := ⟨2, ![1536, 1024]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S2x16x64x8x512 : Shape := ⟨5, ![2, 16, 64, 8, 512]⟩
abbrev S2x64x16x8x512 : Shape := ⟨5, ![2, 64, 16, 8, 512]⟩
abbrev S2x8192x1536 : Shape := ⟨3, ![2, 8192, 1536]⟩

abbrev nBuf : Space → Nat
  | .hbm => 84
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x8192x4096, .bf16⟩
  | .hbm, ⟨4, _⟩ => ⟨S2x8192x512, .bf16⟩
  | .hbm, ⟨5, _⟩ => ⟨S2x16x32x16x512, .bf16⟩
  | .hbm, ⟨6, _⟩ => ⟨S2x1x1024, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1536x1024, .f32⟩
  | .hbm, ⟨11, _⟩ => ⟨S2x8192x512, .f32⟩
  | .hbm, ⟨12, _⟩ => ⟨S2x8192x512, .f32⟩
  | .hbm, ⟨13, _⟩ => ⟨S2x8192x512, .f32⟩
  | .hbm, ⟨14, _⟩ => ⟨S2x8192x512, .bf16⟩
  | .hbm, ⟨15, _⟩ => ⟨S2x8192x512, .f32⟩
  | .hbm, ⟨16, _⟩ => ⟨S2x8192x512, .f32⟩
  | .hbm, ⟨17, _⟩ => ⟨S2x8192x512, .f32⟩
  | .hbm, ⟨18, _⟩ => ⟨S_, .f32⟩
  | .hbm, ⟨19, _⟩ => ⟨S2x8192x512, .f32⟩
  | .hbm, ⟨20, _⟩ => ⟨S2x8192x512, .f32⟩
  | .hbm, ⟨21, _⟩ => ⟨S_, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S2x8192x1, .f32⟩
  | .hbm, ⟨37, _⟩ => ⟨S2x8192x512, .f32⟩
  | .hbm, ⟨38, _⟩ => ⟨S2x8192x512, .f32⟩
  | .hbm, ⟨39, _⟩ => ⟨S1x1x512, .f32⟩
  | .hbm, ⟨40, _⟩ => ⟨S2x8192x512, .f32⟩
  | .hbm, ⟨41, _⟩ => ⟨S2x8192x512, .f32⟩
  | .hbm, ⟨42, _⟩ => ⟨S2x8192x512, .f32⟩
  | .hbm, ⟨43, _⟩ => ⟨S2x8192x512, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x512, .f32⟩
  | .hbm, ⟨55, _⟩ => ⟨S2x8192x512, .f32⟩
  | .hbm, ⟨56, _⟩ => ⟨S1x1x512, .f32⟩
  | .hbm, ⟨57, _⟩ => ⟨S2x8192x512, .f32⟩
  | .hbm, ⟨58, _⟩ => ⟨S2x8192x512, .f32⟩
  | .hbm, ⟨59, _⟩ => ⟨S2x16x32x16x512, .f32⟩
  | .hbm, ⟨60, _⟩ => ⟨S2x16x64x8x512, .f32⟩
  | .hbm, ⟨61, _⟩ => ⟨S2x64x16x8x512, .f32⟩
  | .hbm, ⟨62, _⟩ => ⟨S2x8192x512, .f32⟩
  | .hbm, ⟨63, _⟩ => ⟨S2x8192x512, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x512, .f32⟩
  | .hbm, ⟨75, _⟩ => ⟨S2x8192x512, .f32⟩
  | .hbm, ⟨76, _⟩ => ⟨S1x1x512, .f32⟩
  | .hbm, ⟨77, _⟩ => ⟨S2x8192x512, .f32⟩
  | .hbm, ⟨78, _⟩ => ⟨S2x8192x512, .f32⟩
  | .hbm, ⟨79, _⟩ => ⟨S2x8192x1536, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_cst_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_2 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_cst_7 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Prep.lean ====
abbrev S2x8192x4096 : Shape := ⟨3, ![2, 8192, 4096]⟩
abbrev S8192x16 : Shape := ⟨2, ![8192, 16]⟩
abbrev S64 : Shape := ⟨1, ![64]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S128x128 : Shape := ⟨2, ![128, 128]⟩
abbrev S_ : Shape := ⟨0, ![]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S2x8x64x8192 : Shape := ⟨4, ![2, 8, 64, 8192]⟩
abbrev S2x2x8192x64 : Shape := ⟨4, ![2, 2, 8192, 64]⟩
abbrev S2x2x80x8192 : Shape := ⟨4, ![2, 2, 80, 8192]⟩
abbrev S1x1024x512 : Shape := ⟨3, ![1, 1024, 512]⟩
abbrev S1x1024x128 : Shape := ⟨3, ![1, 1024, 128]⟩
abbrev S1024x128 : Shape := ⟨2, ![1024, 128]⟩
abbrev S1x8x64x1024 : Shape := ⟨4, ![1, 8, 64, 1024]⟩
abbrev S1x2x1024x64 : Shape := ⟨4, ![1, 2, 1024, 64]⟩
abbrev S1x2x80x1024 : Shape := ⟨4, ![1, 2, 80, 1024]⟩
abbrev S2048x128 : Shape := ⟨2, ![2048, 128]⟩
abbrev S128x1024 : Shape := ⟨2, ![128, 1024]⟩
abbrev S64x1024 : Shape := ⟨2, ![64, 1024]⟩
abbrev S1x1x64x1024 : Shape := ⟨4, ![1, 1, 64, 1024]⟩
abbrev S1024x64 : Shape := ⟨2, ![1024, 64]⟩
abbrev S1x1x1024x64 : Shape := ⟨4, ![1, 1, 1024, 64]⟩
abbrev S16x1024 : Shape := ⟨2, ![16, 1024]⟩
abbrev S1x1x16x1024 : Shape := ⟨4, ![1, 1, 16, 1024]⟩

abbrev nBuf : Space → Nat
  | .hbm => 43
  | .vmem => 19
  | .smem => 0
  | _ => 0

abbrev bufTy : (tb : Table) → Fin (tcTables nBuf tb) → BufTy
  | .hbm, ⟨0, _⟩ => ⟨S2x8192x4096, .bf16⟩
  | .hbm, ⟨1, _⟩ => ⟨S8192x16, .f32⟩
  | .hbm, ⟨2, _⟩ => ⟨S8192x16, .f32⟩
  | .hbm, ⟨3, _⟩ => ⟨S8192x16, .f32⟩
  | .hbm, ⟨4, _⟩ => ⟨S8192x16, .f32⟩
  | .hbm, ⟨5, _⟩ => ⟨S64, .f32⟩
  | .hbm, ⟨6, _⟩ => ⟨S64, .f32⟩
  | .hbm, ⟨7, _⟩ => ⟨S8192x64, .f32⟩
  | .hbm, ⟨8, _⟩ => ⟨S1x8192x1x64, .f32⟩
  | .hbm, ⟨9, _⟩ => ⟨S1x8192x2x64, .f32⟩
  | .hbm, ⟨10, _⟩ => ⟨S8192x128, .f32⟩
  | .hbm, ⟨11, _⟩ => ⟨S8192x16, .f32⟩
  | .hbm, ⟨12, _⟩ => ⟨S8192x16, .f32⟩
  | .hbm, ⟨13, _⟩ => ⟨S8192x64, .f32⟩
  | .hbm, ⟨14, _⟩ => ⟨S1x8192x1x64, .f32⟩
  | .hbm, ⟨15, _⟩ => ⟨S1x8192x2x64, .f32⟩
  | .hbm, ⟨16, _⟩ => ⟨S8192x128, .f32⟩
  | .hbm, ⟨17, _⟩ => ⟨S128x128, .i32⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S_, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S_, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x128, .bf16⟩
  | .hbm, ⟨32, _⟩ => ⟨S1x64, .f32⟩
  | .hbm, ⟨33, _⟩ => ⟨S2x64, .f32⟩
  | .hbm, ⟨34, _⟩ => ⟨S128, .f32⟩
  | .hbm, ⟨35, _⟩ => ⟨S1x128, .f32⟩
  | .hbm, ⟨36, _⟩ => ⟨S1x64, .f32⟩
  | .hbm, ⟨37, _⟩ => ⟨S2x64, .f32⟩
  | .hbm, ⟨38, _⟩ => ⟨S128, .f32⟩
  | .hbm, ⟨39, _⟩ => ⟨S1x128, .f32⟩
  | .hbm, ⟨40, _⟩ => ⟨S2x8x64x8192, .bf16⟩
  | .hbm, ⟨41, _⟩ => ⟨S2x2x8192x64, .bf16⟩
  | .hbm, ⟨42, _⟩ => ⟨S2x2x80x8192, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1x128, .f32⟩
  | .local _ .vmem, ⟨12, _⟩ => ⟨S128x128, .bf16⟩
  | .local _ .vmem, ⟨13, _⟩ => ⟨S1x8x64x1024, .bf16⟩
  | .local _ .vmem, ⟨14, _⟩ => ⟨S1x8x64x1024, .bf16⟩
  | .local _ .vmem, ⟨15, _⟩ => ⟨S1x2x1024x64, .bf16⟩
  | .local _ .vmem, ⟨16, _⟩ => ⟨S1x2x1024x64, .bf16⟩
  | .local _ .vmem, ⟨17, _⟩ => ⟨S1x2x80x1024, .bf16⟩
  | .local _ .vmem, ⟨18, _⟩ => ⟨S1x2x80x1024, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_cst_1 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27_0 : Ref sig .tc := ⟨.hbm, 40, rfl⟩
abbrev main_v27_1 : Ref sig .tc := ⟨.hbm, 41, rfl⟩
abbrev main_v27_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c28_i32 : BitVec 32 := 28#32
  let c0_i32 : BitVec 32 := 0#32
  ![arg0.toNat, arg1.toNat, c28_i32.toNat]

def cc0_transform_2 (i : grid0.Coords) : Fin 3 → Nat :=
  let arg0 : BitVec 32 := BitVec.ofNat 32 (i 0).val
  let arg1 : BitVec 32 := BitVec.ofNat 32 (i 1).val
  let c29_i32 : BitVec 32 := 29#32
  let c0_i32 : BitVec 32 := 0#32
  ![arg0.toNat, arg1.toNat, c29_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x1024x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x80x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PrepReferenceIdeal.lean ====
abbrev S2x8192x4096 : Shape := ⟨3, ![2, 8192, 4096]⟩
abbrev S8192x16 : Shape := ⟨2, ![8192, 16]⟩
abbrev S64 : Shape := ⟨1, ![64]⟩
abbrev S2x8192x512 : Shape := ⟨3, ![2, 8192, 512]⟩
abbrev S2x8192x8x64 : Shape := ⟨4, ![2, 8192, 8, 64]⟩
abbrev S_ : Shape := ⟨0, ![]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S2x8192x128 : Shape := ⟨3, ![2, 8192, 128]⟩
abbrev S2x8192x2x64 : Shape := ⟨4, ![2, 8192, 2, 64]⟩
abbrev S2x8192x2 : Shape := ⟨3, ![2, 8192, 2]⟩
abbrev S2x8192x2x1 : Shape := ⟨4, ![2, 8192, 2, 1]⟩
abbrev S2x8192x8x32 : Shape := ⟨4, ![2, 8192, 8, 32]⟩
abbrev S8192x1x16 : Shape := ⟨3, ![8192, 1, 16]⟩
abbrev S2x8192x8x16 : Shape := ⟨4, ![2, 8192, 8, 16]⟩
abbrev S1x8192x1x16 : Shape := ⟨4, ![1, 8192, 1, 16]⟩
abbrev S2x8192x2x32 : Shape := ⟨4, ![2, 8192, 2, 32]⟩
abbrev S2x8192x2x16 : Shape := ⟨4, ![2, 8192, 2, 16]⟩
abbrev S2x2x1x8192 : Shape := ⟨4, ![2, 2, 1, 8192]⟩
abbrev S2x2x15x8192 : Shape := ⟨4, ![2, 2, 15, 8192]⟩
abbrev S2x8x64x8192 : Shape := ⟨4, ![2, 8, 64, 8192]⟩
abbrev S2x2x8192x64 : Shape := ⟨4, ![2, 2, 8192, 64]⟩
abbrev S2x2x64x8192 : Shape := ⟨4, ![2, 2, 64, 8192]⟩
abbrev S2x2x80x8192 : Shape := ⟨4, ![2, 2, 80, 8192]⟩

abbrev nBuf : Space → Nat
  | .hbm => 145
  | .vmem => 0
  | .smem => 0
  | _ => 0

abbrev hbmTy0_0 (i : Nat) : BufTy := match i % 128 with
  | 0 => ⟨S2x8192x4096, .bf16⟩
  | 1 => ⟨S8192x16, .f32⟩
  | 2 => ⟨S8192x16, .f32⟩
  | 3 => ⟨S8192x16, .f32⟩
  | 4 => ⟨S8192x16, .f32⟩
  | 5 => ⟨S64, .f32⟩
  | 6 => ⟨S64, .f32⟩
  | 7 => ⟨S2x8192x4096, .f32⟩
  | 8 => ⟨S2x8192x512, .f32⟩
  | 9 => ⟨S2x8192x8x64, .f32⟩
  | 10 => ⟨S2x8192x8x64, .f32⟩
  | 11 => ⟨S_, .f32⟩
  | 12 => ⟨S2x8192x8, .f32⟩
  | 13 => ⟨S2x8192x8x1, .f32⟩
  | 14 => ⟨S_, .f32⟩
  | 15 => ⟨S2x8192x8x1, .f32⟩
  | 16 => ⟨S2x8192x8x1, .f32⟩
  | 17 => ⟨S_, .f32⟩
  | 18 => ⟨S2x8192x8x1, .f32⟩
  | 19 => ⟨S2x8192x8x1, .f32⟩
  | 20 => ⟨S2x8192x8x1, .f32⟩
  | 21 => ⟨S2x8192x8x64, .f32⟩
  | 22 => ⟨S2x8192x8x64, .f32⟩
  | 23 => ⟨S1x1x1x64, .f32⟩
  | 24 => ⟨S2x8192x8x64, .f32⟩
  | 25 => ⟨S2x8192x8x64, .f32⟩
  | 26 => ⟨S2x8192x128, .f32⟩
  | 27 => ⟨S2x8192x2x64, .f32⟩
  | 28 => ⟨S2x8192x2x64, .f32⟩
  | 29 => ⟨S_, .f32⟩
  | 30 => ⟨S2x8192x2, .f32⟩
  | 31 => ⟨S2x8192x2x1, .f32⟩
  | 32 => ⟨S_, .f32⟩
  | 33 => ⟨S2x8192x2x1, .f32⟩
  | 34 => ⟨S2x8192x2x1, .f32⟩
  | 35 => ⟨S_, .f32⟩
  | 36 => ⟨S2x8192x2x1, .f32⟩
  | 37 => ⟨S2x8192x2x1, .f32⟩
  | 38 => ⟨S2x8192x2x1, .f32⟩
  | 39 => ⟨S2x8192x2x64, .f32⟩
  | 40 => ⟨S2x8192x2x64, .f32⟩
  | 41 => ⟨S1x1x1x64, .f32⟩
  | 42 => ⟨S2x8192x2x64, .f32⟩
  | 43 => ⟨S2x8192x2x64, .f32⟩
  | 44 => ⟨S2x8192x8x32, .f32⟩
  | 45 => ⟨S2x8192x8x32, .f32⟩
  | 46 => ⟨S8192x1x16, .f32⟩
  | 47 => ⟨S8192x1x16, .f32⟩
  | 48 => ⟨S2x8192x8x16, .f32⟩
  | 49 => ⟨S2x8192x8x16, .f32⟩
  | 50 => ⟨S1x8192x1x16, .f32⟩
  | 51 => ⟨S2x8192x8x16, .f32⟩
  | 52 => ⟨S2x8192x8x16, .f32⟩
  | 53 => ⟨S1x8192x1x16, .f32⟩
  | 54 => ⟨S2x8192x8x16, .f32⟩
  | 55 => ⟨S2x8192x8x16, .f32⟩
  | 56 => ⟨S2x8192x8x16, .f32⟩
  | 57 => ⟨S1x8192x1x16, .f32⟩
  | 58 => ⟨S2x8192x8x16, .f32⟩
  | 59 => ⟨S2x8192x8x16, .f32⟩
  | 60 => ⟨S1x8192x1x16, .f32⟩
  | 61 => ⟨S2x8192x8x16, .f32⟩
  | 62 => ⟨S2x8192x8x16, .f32⟩
  | 63 => ⟨S2x8192x8x16, .f32⟩
  | 64 => ⟨S2x8192x8x32, .f32⟩
  | 65 => ⟨S8192x1x16, .f32⟩
  | 66 => ⟨S8192x1x16, .f32⟩
  | 67 => ⟨S2x8192x8x16, .f32⟩
  | 68 => ⟨S2x8192x8x16, .f32⟩
  | 69 => ⟨S1x8192x1x16, .f32⟩
  | 70 => ⟨S2x8192x8x16, .f32⟩
  | 71 => ⟨S2x8192x8x16, .f32⟩
  | 72 => ⟨S1x8192x1x16, .f32⟩
  | 73 => ⟨S2x8192x8x16, .f32⟩
  | 74 => ⟨S2x8192x8x16, .f32⟩
  | 75 => ⟨S2x8192x8x16, .f32⟩
  | 76 => ⟨S1x8192x1x16, .f32⟩
  | 77 => ⟨S2x8192x8x16, .f32⟩
  | 78 => ⟨S2x8192x8x16, .f32⟩
  | 79 => ⟨S1x8192x1x16, .f32⟩
  | 80 => ⟨S2x8192x8x16, .f32⟩
  | 81 => ⟨S2x8192x8x16, .f32⟩
  | 82 => ⟨S2x8192x8x16, .f32⟩
  | 83 => ⟨S2x8192x8x32, .f32⟩
  | 84 => ⟨S2x8192x8x64, .f32⟩
  | 85 => ⟨S_, .f32⟩
  | 86 => ⟨S2x8192x8x64, .f32⟩
  | 87 => ⟨S2x8192x8x64, .f32⟩
  | 88 => ⟨S_, .f32⟩
  | 89 => ⟨S2x8192x8x64, .f32⟩
  | 90 => ⟨S2x8192x8x64, .f32⟩
  | 91 => ⟨S2x8192x2x32, .f32⟩
  | 92 => ⟨S2x8192x2x32, .f32⟩
  | 93 => ⟨S8192x1x16, .f32⟩
  | 94 => ⟨S8192x1x16, .f32⟩
  | 95 => ⟨S2x8192x2x16, .f32⟩
  | 96 => ⟨S2x8192x2x16, .f32⟩
  | 97 => ⟨S1x8192x1x16, .f32⟩
  | 98 => ⟨S2x8192x2x16, .f32⟩
  | 99 => ⟨S2x8192x2x16, .f32⟩
  | 100 => ⟨S1x8192x1x16, .f32⟩
  | 101 => ⟨S2x8192x2x16, .f32⟩
  | 102 => ⟨S2x8192x2x16, .f32⟩
  | 103 => ⟨S2x8192x2x16, .f32⟩
  | 104 => ⟨S1x8192x1x16, .f32⟩
  | 105 => ⟨S2x8192x2x16, .f32⟩
  | 106 => ⟨S2x8192x2x16, .f32⟩
  | 107 => ⟨S1x8192x1x16, .f32⟩
  | 108 => ⟨S2x8192x2x16, .f32⟩
  | 109 => ⟨S2x8192x2x16, .f32⟩
  | 110 => ⟨S2x8192x2x16, .f32⟩
  | 111 => ⟨S2x8192x2x32, .f32⟩
  | 112 => ⟨S8192x1x16, .f32⟩
  | 113 => ⟨S8192x1x16, .f32⟩
  | 114 => ⟨S2x8192x2x16, .f32⟩
  | 115 => ⟨S2x8192x2x16, .f32⟩
  | 116 => ⟨S1x8192x1x16, .f32⟩
  | 117 => ⟨S2x8192x2x16, .f32⟩
  | 118 => ⟨S2x8192x2x16, .f32⟩
  | 119 => ⟨S1x8192x1x16, .f32⟩
  | 120 => ⟨S2x8192x2x16, .f32⟩
  | 121 => ⟨S2x8192x2x16, .f32⟩
  | 122 => ⟨S2x8192x2x16, .f32⟩
  | 123 => ⟨S1x8192x1x16, .f32⟩
  | 124 => ⟨S2x8192x2x16, .f32⟩
  | 125 => ⟨S2x8192x2x16, .f32⟩
  | 126 => ⟨S1x8192x1x16, .f32⟩
  | 127 => ⟨S2x8192x2x16, .f32⟩
  | _ => ⟨S2x8192x4096, .bf16⟩

abbrev hbmTy0_1 (i : Nat) : BufTy := match i % 128 with
  | 0 => ⟨S2x8192x2x16, .f32⟩
  | 1 => ⟨S2x8192x2x16, .f32⟩
  | 2 => ⟨S2x8192x2x32, .f32⟩
  | 3 => ⟨S2x8192x2x64, .f32⟩
  | 4 => ⟨S2x8192x128, .f32⟩
  | 5 => ⟨S2x8192x2x64, .f32⟩
  | 6 => ⟨S_, .f32⟩
  | 7 => ⟨S2x2x1x8192, .f32⟩
  | 8 => ⟨S_, .f32⟩
  | 9 => ⟨S2x2x15x8192, .f32⟩
  | 10 => ⟨S2x8x64x8192, .f32⟩
  | 11 => ⟨S2x8x64x8192, .bf16⟩
  | 12 => ⟨S2x2x8192x64, .f32⟩
  | 13 => ⟨S2x2x8192x64, .bf16⟩
  | 14 => ⟨S2x2x64x8192, .f32⟩
  | 15 => ⟨S2x2x80x8192, .f32⟩
  | 16 => ⟨S2x2x80x8192, .bf16⟩
  | _ => ⟨S2x8192x4096, .bf16⟩

abbrev hbmTy (i : Nat) : BufTy := match i / 128 with
  | 0 => hbmTy0_0 i
  | 1 => hbmTy0_1 i
  | _ => ⟨S2x8192x4096, .bf16⟩

abbrev bufTy : (tb : Table) → Fin (tcTables nBuf tb) → BufTy
  | .hbm, ⟨i, _⟩ => hbmTy i
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_5 : Ref sig .tc := ⟨.hbm, 85, rfl⟩
abbrev main_v72 : Ref sig .tc := ⟨.hbm, 86, rfl⟩
abbrev main_v73 : Ref sig .tc := ⟨.hbm, 87, rfl⟩
abbrev main_cst_6 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_cst_7 : Ref sig .tc := ⟨.hbm, 134, rfl⟩
abbrev main_v119 : Ref sig .tc := ⟨.hbm, 135, rfl⟩
abbrev main_cst_8 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩

abbrev nD : Nat := 1
abbrev τ : Topo := Topo.v7x

variable {F : FTy → Type} [FloatOps F]
-- ==== Mod.lean ====
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S1x6144 : Shape := ⟨2, ![1, 6144]⟩
abbrev S8x6144 : Shape := ⟨2, ![8, 6144]⟩
abbrev S1024x1024 : Shape := ⟨2, ![1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S1x6144, .f32⟩
  | .hbm, ⟨9, _⟩ => ⟨S8x6144, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModReferenceIdeal.lean ====
abbrev S2x1024 : Shape := ⟨2, ![2, 1024]⟩
abbrev S1024 : Shape := ⟨1, ![1024]⟩
abbrev S1024x6144 : Shape := ⟨2, ![1024, 6144]⟩
abbrev S6144 : Shape := ⟨1, ![6144]⟩
abbrev S1x1024 : Shape := ⟨2, ![1, 1024]⟩
abbrev S_ : Shape := ⟨0, ![]⟩
abbrev S5x1024 : Shape := ⟨2, ![5, 1024]⟩
abbrev S8x1024 : Shape := ⟨2, ![8, 1024]⟩
abbrev S8x6144 : Shape := ⟨2, ![8, 6144]⟩
abbrev S1x6144 : Shape := ⟨2, ![1, 6144]⟩

abbrev nBuf : Space → Nat
  | .hbm => 21
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1x1024, .f32⟩
  | .hbm, ⟨5, _⟩ => ⟨S_, .f32⟩
  | .hbm, ⟨6, _⟩ => ⟨S5x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x6144, .f32⟩
  | .hbm, ⟨18, _⟩ => ⟨S1x6144, .f32⟩
  | .hbm, ⟨19, _⟩ => ⟨S8x6144, .f32⟩
  | .hbm, ⟨20, _⟩ => ⟨S8x6144, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Conv.lean ====
abbrev S2x8192x4096 : Shape := ⟨3, ![2, 8192, 4096]⟩
abbrev S3x1536 : Shape := ⟨2, ![3, 1536]⟩
abbrev S1536 : Shape := ⟨1, ![1536]⟩
abbrev S_ : Shape := ⟨0, ![]⟩
abbrev S8x1536 : Shape := ⟨2, ![8, 1536]⟩
abbrev S1x1536 : Shape := ⟨2, ![1, 1536]⟩
abbrev S2x16x32x16x512 : Shape := ⟨5, ![2, 16, 32, 16, 512]⟩
abbrev S1x1024x512 : Shape := ⟨3, ![1, 1024, 512]⟩
abbrev S1x16x512 : Shape := ⟨3, ![1, 16, 512]⟩
abbrev S8x512 : Shape := ⟨2, ![8, 512]⟩
abbrev S1x512 : Shape := ⟨2, ![1, 512]⟩
abbrev S1x16x4x16x512 : Shape := ⟨5, ![1, 16, 4, 16, 512]⟩
abbrev S16x512 : Shape := ⟨2, ![16, 512]⟩
abbrev S1024x512 : Shape := ⟨2, ![1024, 512]⟩
abbrev S8x16x8x512 : Shape := ⟨4, ![8, 16, 8, 512]⟩
abbrev S16x8x8x512 : Shape := ⟨4, ![16, 8, 8, 512]⟩
abbrev S16x4x16x512 : Shape := ⟨4, ![16, 4, 16, 512]⟩

abbrev nBuf : Space → Nat
  | .hbm => 9
  | .vmem => 28
  | .smem => 0
  | _ => 0

abbrev bufTy : (tb : Table) → Fin (tcTables nBuf tb) → BufTy
  | .hbm, ⟨0, _⟩ => ⟨S2x8192x4096, .bf16⟩
  | .hbm, ⟨1, _⟩ => ⟨S3x1536, .f32⟩
  | .hbm, ⟨2, _⟩ => ⟨S1536, .f32⟩
  | .hbm, ⟨3, _⟩ => ⟨S_, .i32⟩
  | .hbm, ⟨4, _⟩ => ⟨S_, .f32⟩
  | .hbm, ⟨5, _⟩ => ⟨S8x1536, .f32⟩
  | .hbm, ⟨6, _⟩ => ⟨S1x1536, .f32⟩
  | .hbm, ⟨7, _⟩ => ⟨S2x16x32x16x512, .bf16⟩
  | .hbm, ⟨8, _⟩ => ⟨S2x16x32x16x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x16x512, .bf16⟩
  | .local _ .vmem, ⟨3, _⟩ => ⟨S1x16x512, .bf16⟩
  | .local _ .vmem, ⟨4, _⟩ => ⟨S1x16x512, .bf16⟩
  | .local _ .vmem, ⟨5, _⟩ => ⟨S1x16x512, .bf16⟩
  | .local _ .vmem, ⟨6, _⟩ => ⟨S8x512, .f32⟩
  | .local _ .vmem, ⟨7, _⟩ => ⟨S1x512, .f32⟩
  | .local _ .vmem, ⟨8, _⟩ => ⟨S1x1024x512, .bf16⟩
  | .local _ .vmem, ⟨9, _⟩ => ⟨S1x1024x512, .bf16⟩
  | .local _ .vmem, ⟨10, _⟩ => ⟨S1x16x512, .bf16⟩
  | .local _ .vmem, ⟨11, _⟩ => ⟨S1x16x512, .bf16⟩
  | .local _ .vmem, ⟨12, _⟩ => ⟨S1x16x512, .bf16⟩
  | .local _ .vmem, ⟨13, _⟩ => ⟨S1x16x512, .bf16⟩
  | .local _ .vmem, ⟨14, _⟩ => ⟨S8x512, .f32⟩
  | .local _ .vmem, ⟨15, _⟩ => ⟨S1x512, .f32⟩
  | .local _ .vmem, ⟨16, _⟩ => ⟨S1x1024x512, .bf16⟩
  | .local _ .vmem, ⟨17, _⟩ => ⟨S1x1024x512, .bf16⟩
  | .local _ .vmem, ⟨18, _⟩ => ⟨S1x16x512, .bf16⟩
  | .local _ .vmem, ⟨19, _⟩ => ⟨S1x16x512, .bf16⟩
  | .local _ .vmem, ⟨20, _⟩ => ⟨S1x16x512, .bf16⟩
  | .local _ .vmem, ⟨21, _⟩ => ⟨S1x16x512, .bf16⟩
  | .local _ .vmem, ⟨22, _⟩ => ⟨S8x512, .f32⟩
  | .local _ .vmem, ⟨23, _⟩ => ⟨S1x512, .f32⟩
  | .local _ .vmem, ⟨24, _⟩ => ⟨S1x16x4x16x512, .bf16⟩
  | .local _ .vmem, ⟨25, _⟩ => ⟨S1x16x4x16x512, .bf16⟩
  | .local _ .vmem, ⟨26, _⟩ => ⟨S1x16x4x16x512, .bf16⟩
  | .local _ .vmem, ⟨27, _⟩ => ⟨S1x16x4x16x512, .bf16⟩
  | _, _ => ⟨S2x8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_6 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c1_i32_0 : BitVec 32 := 1#32
  let c0_i32 : BitVec 32 := 0#32
  ![arg0.toNat, v2.toNat, c1_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_10 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_11 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c2_i32 : BitVec 32 := 2#32
  let c0_i32 : BitVec 32 := 0#32
  ![arg0.toNat, v2.toNat, c2_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S8x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x16x4x16x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x4x16x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ConvReferenceIdeal.lean ====
abbrev S2x8192x4096 : Shape := ⟨3, ![2, 8192, 4096]⟩
abbrev S3x1536 : Shape := ⟨2, ![3, 1536]⟩
abbrev S1536 : Shape := ⟨1, ![1536]⟩
abbrev S2x8192x1536 : Shape := ⟨3, ![2, 8192, 1536]⟩
abbrev S_ : Shape := ⟨0, ![]⟩
abbrev S2x1x1536 : Shape := ⟨3, ![2, 1, 1536]⟩
abbrev S2x8191x1536 : Shape := ⟨3, ![2, 8191, 1536]⟩
abbrev S1x1536 : Shape := ⟨2, ![1, 1536]⟩
abbrev S1x1x1536 : Shape := ⟨3, ![1, 1, 1536]⟩
abbrev S2x8192x512 : Shape := ⟨3, ![2, 8192, 512]⟩
abbrev S2x64x16x8x512 : Shape := ⟨5, ![2, 64, 16, 8, 512]⟩
abbrev S2x16x64x8x512 : Shape := ⟨5, ![2, 16, 64, 8, 512]⟩
abbrev S2x16x32x16x512 : Shape := ⟨5, ![2, 16, 32, 16, 512]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x4096, .bf16⟩
  | .hbm, ⟨1, _⟩ => ⟨S3x1536, .f32⟩
  | .hbm, ⟨2, _⟩ => ⟨S1536, .f32⟩
  | .hbm, ⟨3, _⟩ => ⟨S2x8192x1536, .bf16⟩
  | .hbm, ⟨4, _⟩ => ⟨S2x8192x1536, .f32⟩
  | .hbm, ⟨5, _⟩ => ⟨S_, .f32⟩
  | .hbm, ⟨6, _⟩ => ⟨S2x1x1536, .f32⟩
  | .hbm, ⟨7, _⟩ => ⟨S2x8191x1536, .f32⟩
  | .hbm, ⟨8, _⟩ => ⟨S2x8192x1536, .f32⟩
  | .hbm, ⟨9, _⟩ => ⟨S2x8191x1536, .f32⟩
  | .hbm, ⟨10, _⟩ => ⟨S2x8192x1536, .f32⟩
  | .hbm, ⟨11, _⟩ => ⟨S1x1536, .f32⟩
  | .hbm, ⟨12, _⟩ => ⟨S1536, .f32⟩
  | .hbm, ⟨13, _⟩ => ⟨S1x1x1536, .f32⟩
  | .hbm, ⟨14, _⟩ => ⟨S2x8192x1536, .f32⟩
  | .hbm, ⟨15, _⟩ => ⟨S2x8192x1536, .f32⟩
  | .hbm, ⟨16, _⟩ => ⟨S1x1536, .f32⟩
  | .hbm, ⟨17, _⟩ => ⟨S1536, .f32⟩
  | .hbm, ⟨18, _⟩ => ⟨S1x1x1536, .f32⟩
  | .hbm, ⟨19, _⟩ => ⟨S2x8192x1536, .f32⟩
  | .hbm, ⟨20, _⟩ => ⟨S2x8192x1536, .f32⟩
  | .hbm, ⟨21, _⟩ => ⟨S2x8192x1536, .f32⟩
  | .hbm, ⟨22, _⟩ => ⟨S1x1536, .f32⟩
  | .hbm, ⟨23, _⟩ => ⟨S1536, .f32⟩
  | .hbm, ⟨24, _⟩ => ⟨S1x1x1536, .f32⟩
  | .hbm, ⟨25, _⟩ => ⟨S2x8192x1536, .f32⟩
  | .hbm, ⟨26, _⟩ => ⟨S2x8192x1536, .f32⟩
  | .hbm, ⟨27, _⟩ => ⟨S2x8192x1536, .f32⟩
  | .hbm, ⟨28, _⟩ => ⟨S1x1x1536, .f32⟩
  | .hbm, ⟨29, _⟩ => ⟨S2x8192x1536, .f32⟩
  | .hbm, ⟨30, _⟩ => ⟨S2x8192x1536, .f32⟩
  | .hbm, ⟨31, _⟩ => ⟨S2x8192x512, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S2x64x16x8x512, .f32⟩
  | .hbm, ⟨36, _⟩ => ⟨S2x16x64x8x512, .f32⟩
  | .hbm, ⟨37, _⟩ => ⟨S2x16x32x16x512, .f32⟩
  | .hbm, ⟨38, _⟩ => ⟨S2x16x32x16x512, .bf16⟩
  | .hbm, ⟨39, _⟩ => ⟨S2x64x16x8x512, .f32⟩
  | .hbm, ⟨40, _⟩ => ⟨S2x16x64x8x512, .f32⟩
  | .hbm, ⟨41, _⟩ => ⟨S2x16x32x16x512, .f32⟩
  | .hbm, ⟨42, _⟩ => ⟨S2x16x32x16x512, .bf16⟩
  | _, _ => ⟨S2x8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩

abbrev nD : Nat := 1
abbrev τ : Topo := Topo.v7x

variable {F : FTy → Type} [FloatOps F]
-- ==== Taps.lean ====
abbrev S8192x33 : Shape := ⟨2, ![8192, 33]⟩
abbrev S8192x1 : Shape := ⟨2, ![8192, 1]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S512 : Shape := ⟨1, ![512]⟩
abbrev S_ : Shape := ⟨0, ![]⟩
abbrev S128x64 : Shape := ⟨2, ![128, 64]⟩
abbrev S8192x128 : Shape := ⟨2, ![8192, 128]⟩
abbrev S128x8192 : Shape := ⟨2, ![128, 8192]⟩
abbrev S1x512 : Shape := ⟨2, ![1, 512]⟩
abbrev S64x128 : Shape := ⟨2, ![64, 128]⟩
abbrev S64x1 : Shape := ⟨2, ![64, 1]⟩
abbrev S2x16x64x8x512 : Shape := ⟨5, ![2, 16, 64, 8, 512]⟩
abbrev S128x1024 : Shape := ⟨2, ![128, 1024]⟩
abbrev S1024x1 : Shape := ⟨2, ![1024, 1]⟩
abbrev S2x16x8x8x512 : Shape := ⟨5, ![2, 16, 8, 8, 512]⟩
abbrev S1024x64 : Shape := ⟨2, ![1024, 64]⟩
abbrev S1024x1024 : Shape := ⟨2, ![1024, 1024]⟩
abbrev S1024x512 : Shape := ⟨2, ![1024, 512]⟩
abbrev S8x16x8x512 : Shape := ⟨4, ![8, 16, 8, 512]⟩
abbrev S16x8x8x512 : Shape := ⟨4, ![16, 8, 8, 512]⟩
abbrev S1x16x8x8x512 : Shape := ⟨5, ![1, 16, 8, 8, 512]⟩

abbrev nBuf : Space → Nat
  | .hbm => 24
  | .vmem => 13
  | .smem => 0
  | _ => 0

abbrev bufTy : (tb : Table) → Fin (tcTables nBuf tb) → BufTy
  | .hbm, ⟨0, _⟩ => ⟨S8192x33, .f32⟩
  | .hbm, ⟨1, _⟩ => ⟨S8192x1, .f32⟩
  | .hbm, ⟨2, _⟩ => ⟨S33x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1024, .f32⟩
  | .hbm, ⟨8, _⟩ => ⟨S512, .f32⟩
  | .hbm, ⟨9, _⟩ => ⟨S_, .i32⟩
  | .hbm, ⟨10, _⟩ => ⟨S_, .f32⟩
  | .hbm, ⟨11, _⟩ => ⟨S128x64, .f32⟩
  | .hbm, ⟨12, _⟩ => ⟨S_, .i32⟩
  | .hbm, ⟨13, _⟩ => ⟨S_, .f32⟩
  | .hbm, ⟨14, _⟩ => ⟨S8192x128, .f32⟩
  | .hbm, ⟨15, _⟩ => ⟨S128x8192, .f32⟩
  | .hbm, ⟨16, _⟩ => ⟨S512, .f32⟩
  | .hbm, ⟨17, _⟩ => ⟨S1x512, .f32⟩
  | .hbm, ⟨18, _⟩ => ⟨S64x128, .f32⟩
  | .hbm, ⟨19, _⟩ => ⟨S64x1, .f32⟩
  | .hbm, ⟨20, _⟩ => ⟨S64x1, .f32⟩
  | .hbm, ⟨21, _⟩ => ⟨S64x64, .f32⟩
  | .hbm, ⟨22, _⟩ => ⟨S64x1, .f32⟩
  | .hbm, ⟨23, _⟩ => ⟨S2x16x64x8x512, .f32⟩
  | .local _ .vmem, ⟨0, _⟩ => ⟨S128x1024, .f32⟩
  | .local _ .vmem, ⟨1, _⟩ => ⟨S128x1024, .f32⟩
  | .local _ .vmem, ⟨2, _⟩ => ⟨S1024x1, .f32⟩
  | .local _ .vmem, ⟨3, _⟩ => ⟨S1024x1, .f32⟩
  | .local _ .vmem, ⟨4, _⟩ => ⟨S64x128, .f32⟩
  | .local _ .vmem, ⟨5, _⟩ => ⟨S64x1, .f32⟩
  | .local _ .vmem, ⟨6, _⟩ => ⟨S64x1, .f32⟩
  | .local _ .vmem, ⟨7, _⟩ => ⟨S64x64, .f32⟩
  | .local _ .vmem, ⟨8, _⟩ => ⟨S64x1, .f32⟩
  | .local _ .vmem, ⟨9, _⟩ => ⟨S64x1024, .f32⟩
  | .local _ .vmem, ⟨10, _⟩ => ⟨S1x512, .f32⟩
  | .local _ .vmem, ⟨11, _⟩ => ⟨S2x16x8x8x512, .f32⟩
  | .local _ .vmem, ⟨12, _⟩ => ⟨S2x16x8x8x512, .f32⟩
  | _, _ => ⟨S8192x33, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_c_0 : Ref sig .tc := ⟨.hbm, 12, rfl⟩
abbrev main_call1_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x16x8x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== TapsReferenceIdeal.lean ====
abbrev S8192x33 : Shape := ⟨2, ![8192, 33]⟩
abbrev S8192x1 : Shape := ⟨2, ![8192, 1]⟩
abbrev S33x64 : Shape := ⟨2, ![33, 64]⟩
abbrev S64 : Shape := ⟨1, ![64]⟩
abbrev S64x64 : Shape := ⟨2, ![64, 64]⟩
abbrev S64x1024 : Shape := ⟨2, ![64, 1024]⟩
abbrev S512 : Shape := ⟨1, ![512]⟩
abbrev S8192x64 : Shape := ⟨2, ![8192, 64]⟩
abbrev S1x64 : Shape := ⟨2, ![1, 64]⟩
abbrev S1x512 : Shape := ⟨2, ![1, 512]⟩
abbrev S8192x512 : Shape := ⟨2, ![8192, 512]⟩
abbrev S8192x1024 : Shape := ⟨2, ![8192, 1024]⟩
abbrev S8192x2x512 : Shape := ⟨3, ![8192, 2, 512]⟩
abbrev S8192x1x512 : Shape := ⟨3, ![8192, 1, 512]⟩
abbrev S_ : Shape := ⟨0, ![]⟩
abbrev S8191x1x512 : Shape := ⟨3, ![8191, 1, 512]⟩
abbrev S8191x512 : Shape := ⟨2, ![8191, 512]⟩
abbrev S1x8192x512 : Shape := ⟨3, ![1, 8192, 512]⟩
abbrev S2x8192x512 : Shape := ⟨3, ![2, 8192, 512]⟩
abbrev S2x64x16x8x512 : Shape := ⟨5, ![2, 64, 16, 8, 512]⟩
abbrev S2x16x64x8x512 : Shape := ⟨5, ![2, 16, 64, 8, 512]⟩

abbrev nBuf : Space → Nat
  | .hbm => 49
  | .vmem => 0
  | .smem => 0
  | _ => 0

abbrev bufTy : (tb : Table) → Fin (tcTables nBuf tb) → BufTy
  | .hbm, ⟨0, _⟩ => ⟨S8192x33, .f32⟩
  | .hbm, ⟨1, _⟩ => ⟨S8192x1, .f32⟩
  | .hbm, ⟨2, _⟩ => ⟨S33x64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x1024, .f32⟩
  | .hbm, ⟨8, _⟩ => ⟨S512, .f32⟩
  | .hbm, ⟨9, _⟩ => ⟨S8192x64, .f32⟩
  | .hbm, ⟨10, _⟩ => ⟨S1x64, .f32⟩
  | .hbm, ⟨11, _⟩ => ⟨S8192x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S1x64, .f32⟩
  | .hbm, ⟨19, _⟩ => ⟨S8192x64, .f32⟩
  | .hbm, ⟨20, _⟩ => ⟨S8192x64, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x1, .f32⟩
  | .hbm, ⟨26, _⟩ => ⟨S512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x1024, .f32⟩
  | .hbm, ⟨33, _⟩ => ⟨S8192x2x512, .f32⟩
  | .hbm, ⟨34, _⟩ => ⟨S8192x1x512, .f32⟩
  | .hbm, ⟨35, _⟩ => ⟨S8192x2x512, .f32⟩
  | .hbm, ⟨36, _⟩ => ⟨S8192x2x512, .f32⟩
  | .hbm, ⟨37, _⟩ => ⟨S_, .f32⟩
  | .hbm, ⟨38, _⟩ => ⟨S1x512, .f32⟩
  | .hbm, ⟨39, _⟩ => ⟨S8191x1x512, .f32⟩
  | .hbm, ⟨40, _⟩ => ⟨S8191x512, .f32⟩
  | .hbm, ⟨41, _⟩ => ⟨S8192x512, .f32⟩
  | .hbm, ⟨42, _⟩ => ⟨S8192x1x512, .f32⟩
  | .hbm, ⟨43, _⟩ => ⟨S8192x512, .f32⟩
  | .hbm, ⟨44, _⟩ => ⟨S1x8192x512, .f32⟩
  | .hbm, ⟨45, _⟩ => ⟨S1x8192x512, .f32⟩
  | .hbm, ⟨46, _⟩ => ⟨S2x8192x512, .f32⟩
  | .hbm, ⟨47, _⟩ => ⟨S2x64x16x8x512, .f32⟩
  | .hbm, ⟨48, _⟩ => ⟨S2x16x64x8x512, .f32⟩
  | _, _ => ⟨S8192x33, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Proof.FlashLoads.lean ====
/-
  Loads after a list of stores, one store at a time: a load of the box that the newest store wrote, a load of a box apart
  from it, and a load of a part of a buffer that one store has filled.
-/
module

public import Idealize.ShloMosaic.Lib.Pipeline.Value
public import Idealize.ShloMosaic.Lib.VecWindow

@[expose] public section

noncomputable section

namespace Cert.FlashLoads

open Idealize.ShloMosaic

variable {sig : RefSig} {κ : Kind} {sp : Space} {s : Shape} {e : EltTy} {Val : EltTy → Type}

/-- A load of the box just stored reads what was stored. -/
theorem load_hit (v : View sig κ sp s e) (f : v.ty.Contents Val) (off size : Fin s.rank → ℕ)
    (inb inb' : ∀ a, off a + size a ≤ s.size a) (w : (Rect.unit off size inb).shape.Idx → Val e) (L : List (View.Piece Val s e)) :
    v.readAt Val (Rect.unit off size inb').toLoadRect (v.writes Val f ((⟨Rect.unit off size inb, w⟩ : View.Piece Val s e) :: L)) = w :=
  funext fun x => View.read_writes_cons_emb v f (Rect.unit off size inb) w L x

/-- A load of a box apart from the box just stored, on some axis, reads what was there before. -/
theorem load_miss (v : View sig κ sp s e) (f : v.ty.Contents Val) (off size off' size' : Fin s.rank → ℕ)
    (inb : ∀ a, off a + size a ≤ s.size a) (inb' : ∀ a, off' a + size' a ≤ s.size a)
    (w : (Rect.unit off size inb).shape.Idx → Val e) (L : List (View.Piece Val s e)) (a : Fin s.rank)
    (h : off' a + size' a ≤ off a ∨ off a + size a ≤ off' a) :
    v.readAt Val (Rect.unit off' size' inb').toLoadRect (v.writes Val f ((⟨Rect.unit off size inb, w⟩ : View.Piece Val s e) :: L))
      = v.readAt Val (Rect.unit off' size' inb').toLoadRect (v.writes Val f L) :=
  funext fun x => View.read_writes_cons_unit_of_not_mem v f inb w L _ rfl a (by
    have hx : (x a).val < size' a := (x a).isLt
    show off' a + 1 * (x a).val < off a ∨ off a + size a ≤ off' a + 1 * (x a).val
    omega)

/-- A load of a box out of a buffer that one store has filled reads that part of what was stored. -/
theorem load_part (v : View sig κ sp s e) (f : v.ty.Contents Val) (off off' size' : Fin s.rank → ℕ) (hz : off = fun _ => 0)
    (inb : ∀ a, off a + s.size a ≤ s.size a) (inb' : ∀ a, off' a + size' a ≤ s.size a)
    (w : (Rect.unit off s.size inb).shape.Idx → Val e) (L : List (View.Piece Val s e)) :
    v.readAt Val (Rect.unit off' size' inb').toLoadRect (v.writes Val f ((⟨Rect.unit off s.size inb, w⟩ : View.Piece Val s e) :: L))
      = View.ld (S := s) w (Rect.unit off' size' inb') := by
  subst hz
  funext x
  refine View.read_writes_cons_unit_of_mem v f inb w L _ ((Rect.unit off' size' inb').emb x) rfl fun a => ?_
  show off' a + 1 * (x a).val = 0 + (off' a + 1 * (x a).val)
  omega

/-- What is read after stores that leave a load's box alone. -/
theorem load_none (v : View sig κ sp s e) (f : v.ty.Contents Val) (B : LoadRect s) :
    v.readAt Val B (v.writes Val f []) = v.readAt Val B f := rfl

end Cert.FlashLoads

end
-- ==== Proof.FlashBlocks.lean ====
/-
  The attention call's input blocks read at one element: at grid point `t` the queries of batch `t / 16`, group `t / 8 % 2` and
  positions `1024 * (t % 8) …`, and all keys and values of that batch and group, the values followed by a row of ones.
-/
module

public import proofs.«01_k».proof.Proof.Gen.KernelIdeal.Frame
public import Idealize.ShloMosaic.Lib.Claim
public import Idealize.ShloMosaic.Lib.Pointwise

@[expose] public section

set_option maxRecDepth 16384

noncomputable section

namespace Cert.KernelIdeal.Flash

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The values with the row of ones and the padding rows below them. -/
def padded (v : Vec Ideal S2x2x64x8448 .bf16) : Vec Ideal S2x2x80x8448 .bf16 :=
  concatenate S2x2x80x8448 2 [⟨S2x2x64x8448, v⟩, ⟨S2x2x16x8448, truncf (F := Ideal) .bf16
    (select (cmpi .eq (iotaInDim S2x2x16x8448 32 2) (broadcastInDim S2x2x16x8448 ![] bcast_S_S2x2x16x8448 (constantI S_ 32 0#32)))
      (broadcastInDim S2x2x16x8448 ![] bcast_S_S2x2x16x8448 (constant (F := Ideal) S_ .f32 0x3F800000#32))
      (broadcastInDim S2x2x16x8448 ![] bcast_S_S2x2x16x8448 (constant (F := Ideal) S_ .f32 0x00000000#32))) bitsLt_bf16_f32⟩]
    concatenates_S2x2x64x8448_S2x2x16x8448_S2x2x80x8448_d2

theorem V_v5 : V m c main_v5 = padded (m ((c : Thread nD τ).loc main_arg2)) := by
  show StableHlo.after (hostOps0 ++ (hostOps0_1 ++ (hostOps0_2 ++ []))) _ _ = _
  simp only [hostOps0, hostOps0_1, hostOps0_2, List.cons_append, List.nil_append, List.append_nil]
  after_results
  rfl

theorem padded_value (v : Vec Ideal S2x2x64x8448 .bf16) (b g : Fin 2) (d : Fin 64) (k : Fin 8448) :
    padded v (ix4 b g ⟨d.val, by omega⟩ k) = v (ix4 b g d k) := by
  unfold padded
  generalize truncf (F := Ideal) .bf16 _ _ = z
  rw [concatenate_pair_apply]
  refine (dif_pos (show d.val < 64 from d.isLt)).trans (congrArg v (funext fun a => Fin.ext ?_))
  match a with | ⟨0, _⟩ => rfl | ⟨1, _⟩ => rfl | ⟨2, _⟩ => rfl | ⟨3, _⟩ => rfl

theorem padded_one (v : Vec Ideal S2x2x64x8448 .bf16) (b g : Fin 2) (k : Fin 8448) :
    padded v (ix4 b g 64 k) = (1 : EReal) := by
  pointwise [padded]

theorem index_facts : ∀ t : Fin cfg0.N,
    (win0_0.index t (0 : Fin 4) = t.val / 16 ∧ win0_0.index t (1 : Fin 4) = t.val / 8 % 2 ∧ win0_0.index t (2 : Fin 4) = 0 ∧ win0_0.index t (3 : Fin 4) = t.val % 8)
    ∧ (win0_1.index t (0 : Fin 4) = t.val / 16 ∧ win0_1.index t (1 : Fin 4) = t.val / 8 % 2 ∧ win0_1.index t (2 : Fin 4) = 0 ∧ win0_1.index t (3 : Fin 4) = 0)
    ∧ (win0_2.index t (0 : Fin 4) = t.val / 16 ∧ win0_2.index t (1 : Fin 4) = t.val / 8 % 2 ∧ win0_2.index t (2 : Fin 4) = 0 ∧ win0_2.index t (3 : Fin 4) = 0)
    ∧ (win0_3.index t (0 : Fin 3) = t.val / 16 ∧ win0_3.index t (1 : Fin 3) = t.val % 8 ∧ win0_3.index t (2 : Fin 3) = t.val / 8 % 2)
    ∧ (cfg0.win 3).flush t = true :=
  (by decide +kernel : ∀ t : Fin grid0.N, _)

theorem lt_N (t : Fin cfg0.N) : t.val < 32 := lt_of_lt_of_eq t.isLt (show cfg0.N = 32 from N_0)

/-- The batch of grid point `t`. -/
def bOf (t : Fin cfg0.N) : Fin 2 := ⟨t.val / 16, by have := lt_N t; omega⟩
/-- The key group of grid point `t`. -/
def gOf (t : Fin cfg0.N) : Fin 2 := ⟨t.val / 8 % 2, by omega⟩
/-- The position of query `r` of grid point `t`'s block. -/
def sOf (t : Fin cfg0.N) (r : Fin 1024) : Fin 8192 := ⟨1024 * (t.val % 8) + r.val, by omega⟩

theorem blk0 (t : Fin cfg0.N) (h : Fin 4) (e : Fin 64) (r : Fin 1024) :
    (iblk m c 0 t : Vec Ideal S1x4x64x1024 .bf16) (ix4 0 h e r)
      = m ((c : Thread nD τ).loc main_arg0) (ix4 (bOf t) ⟨(gOf t).val * 4 + h.val, by omega⟩ e (sOf t r)) := by
  obtain ⟨⟨e0, e1, e2, e3⟩, -⟩ := index_facts t
  refine (congrFun (V_main_arg0 m c) _).trans (congrArg (m ((c : Thread nD τ).loc main_arg0)) (funext fun a => Fin.ext ?_))
  match a with
  | ⟨0, _⟩ => show win0_0.index t (0 : Fin 4) * 1 + 1 * 0 = t.val / 16; omega
  | ⟨1, _⟩ => show win0_0.index t (1 : Fin 4) * 4 + 1 * h.val = t.val / 8 % 2 * 4 + h.val; omega
  | ⟨2, _⟩ => show win0_0.index t (2 : Fin 4) * 64 + 1 * e.val = e.val; omega
  | ⟨3, _⟩ => show win0_0.index t (3 : Fin 4) * 1024 + 1 * r.val = 1024 * (t.val % 8) + r.val; omega

theorem blk1 (t : Fin cfg0.N) (k : Fin 8448) (e : Fin 64) :
    (iblk m c 1 t : Vec Ideal S1x1x8448x64 .bf16) (ix4 0 0 k e) = m ((c : Thread nD τ).loc main_arg1) (ix4 (bOf t) (gOf t) k e) := by
  obtain ⟨-, ⟨e0, e1, e2, e3⟩, -⟩ := index_facts t
  refine (congrFun (V_main_arg1 m c) _).trans (congrArg (m ((c : Thread nD τ).loc main_arg1)) (funext fun a => Fin.ext ?_))
  match a with
  | ⟨0, _⟩ => show win0_1.index t (0 : Fin 4) * 1 + 1 * 0 = t.val / 16; omega
  | ⟨1, _⟩ => show win0_1.index t (1 : Fin 4) * 1 + 1 * 0 = t.val / 8 % 2; omega
  | ⟨2, _⟩ => show win0_1.index t (2 : Fin 4) * 8448 + 1 * k.val = k.val; omega
  | ⟨3, _⟩ => show win0_1.index t (3 : Fin 4) * 64 + 1 * e.val = e.val; omega

theorem blk2 (t : Fin cfg0.N) (d : Fin 80) (k : Fin 8448) :
    (iblk m c 2 t : Vec Ideal S1x1x80x8448 .bf16) (ix4 0 0 d k) = padded (m ((c : Thread nD τ).loc main_arg2)) (ix4 (bOf t) (gOf t) d k) := by
  obtain ⟨-, -, ⟨e0, e1, e2, e3⟩, -⟩ := index_facts t
  refine (congrFun (V_v5 m c) _).trans (congrArg (padded (m ((c : Thread nD τ).loc main_arg2))) (funext fun a => Fin.ext ?_))
  match a with
  | ⟨0, _⟩ => show win0_2.index t (0 : Fin 4) * 1 + 1 * 0 = t.val / 16; omega
  | ⟨1, _⟩ => show win0_2.index t (1 : Fin 4) * 1 + 1 * 0 = t.val / 8 % 2; omega
  | ⟨2, _⟩ => show win0_2.index t (2 : Fin 4) * 80 + 1 * d.val = d.val; omega
  | ⟨3, _⟩ => show win0_2.index t (3 : Fin 4) * 8448 + 1 * k.val = k.val; omega

theorem blk2_value (t : Fin cfg0.N) (d : Fin 64) (k : Fin 8448) :
    (iblk m c 2 t : Vec Ideal S1x1x80x8448 .bf16) (ix4 0 0 ⟨d.val, by omega⟩ k) = m ((c : Thread nD τ).loc main_arg2) (ix4 (bOf t) (gOf t) d k) :=
  (blk2 m c t _ k).trans (padded_value _ _ _ d k)

theorem blk2_one (t : Fin cfg0.N) (k : Fin 8448) :
    (iblk m c 2 t : Vec Ideal S1x1x80x8448 .bf16) (ix4 0 0 64 k) = (1 : EReal) :=
  (blk2 m c t 64 k).trans (padded_one _ _ _ k)

end Cert.KernelIdeal.Flash
end
end
-- ==== Proof.FlashStateIdeal.lean ====
/-
  One grid point of the attention call as a state machine. Between two trips of the loop over the blocks of keys the scratch
  holds, for the four query heads of the group, the running maximum and the accumulator (numerator rows and the denominator
  row), and in its first score slot the scores of head zero at the block to come. A trip is `step`, twenty-two trips are
  `run`, and `out` is what the last store writes. What the scratch held before the first store does not matter.
-/
module

public import proofs.«01_k».proof.Proof.Gen.KernelIdeal.Loops
public import proofs.«01_k».proof.Proof.FlashLoads

@[expose] public section

set_option maxRecDepth 16384

noncomputable section

namespace Cert.KernelIdeal.Flash

open Idealize.ShloMosaic Idealize.ShloMosaic.TcCoe Idealize.ShloMosaic.Tactic
open Cert.KernelIdeal.Gen Cert.FlashLoads

variable {F : FTy → Type} [FloatOps F]

/-- What the scratch holds between two trips: scores of head zero, maxima, accumulators. -/
structure St (F : FTy → Type) where
  s : Vec F S1x384x1024 .f32
  m0 : Vec F S1x1x1024 .f32
  m1 : Vec F S1x1x1024 .f32
  m2 : Vec F S1x1x1024 .f32
  m3 : Vec F S1x1x1024 .f32
  a0 : Vec F S1x80x1024 .f32
  a1 : Vec F S1x80x1024 .f32
  a2 : Vec F S1x80x1024 .f32
  a3 : Vec F S1x80x1024 .f32

section Step

variable (x3 : Vec F S1x4x64x1024 .bf16) (x4 : Vec F S1x1x8448x64 .bf16) (x5 : Vec F S1x1x80x8448 .bf16)

/-- The four heads' queries. -/
abbrev q0 : Vec F S1x1x64x1024 .bf16 := View.ld x3 (Rect.unit (s := S1x4x64x1024) ![0, 0, 0, 0] S1x1x64x1024.size inb_S1x4x64x1024_S1x1x64x1024_0_0_0_0)
abbrev q1 : Vec F S1x1x64x1024 .bf16 := View.ld x3 (Rect.unit (s := S1x4x64x1024) ![0, 1, 0, 0] S1x1x64x1024.size inb_S1x4x64x1024_S1x1x64x1024_0_1_0_0)
abbrev q2 : Vec F S1x1x64x1024 .bf16 := View.ld x3 (Rect.unit (s := S1x4x64x1024) ![0, 2, 0, 0] S1x1x64x1024.size inb_S1x4x64x1024_S1x1x64x1024_0_2_0_0)
abbrev q3 : Vec F S1x1x64x1024 .bf16 := View.ld x3 (Rect.unit (s := S1x4x64x1024) ![0, 3, 0, 0] S1x1x64x1024.size inb_S1x4x64x1024_S1x1x64x1024_0_3_0_0)

/-- The first block of keys, a trip's block of keys, the next block of keys, and a trip's block of values. -/
abbrev kFirst : Vec F S1x1x384x64 .bf16 := View.ld x4 (Rect.unit (s := S1x1x8448x64) ![0, 0, 0, 0] S1x1x384x64.size inb_S1x1x8448x64_S1x1x384x64_0_0_0_0)
abbrev kCur (k : Fin k0_t1_loop.trips) : Vec F S1x1x384x64 .bf16 := View.ld x4 (Rect.unit (s := S1x1x8448x64) (k0_off2 k) S1x1x384x64.size (k0_off2_inb k))
abbrev kNext (k : Fin k0_t1_loop.trips) : Vec F S1x1x384x64 .bf16 := View.ld x4 (Rect.unit (s := S1x1x8448x64) (k0_off3 k) S1x1x384x64.size (k0_off3_inb k))
abbrev vCur (k : Fin k0_t1_loop.trips) : Vec F S1x1x80x384 .bf16 := View.ld x5 (Rect.unit (s := S1x1x80x8448) (k0_off1 k) S1x1x80x384.size (k0_off1_inb k))

/-- What is stored before the loop. -/
def init : St F where
  s := k0_pay26 (kFirst x4) (q0 x3)
  m0 := View.ld (S := S4x1x1024) k0_pay24 (Rect.unit (s := S4x1x1024) ![0, 0, 0] S1x1x1024.size inb_S4x1x1024_S1x1x1024_0_0_0)
  m1 := View.ld (S := S4x1x1024) k0_pay24 (Rect.unit (s := S4x1x1024) ![1, 0, 0] S1x1x1024.size inb_S4x1x1024_S1x1x1024_1_0_0)
  m2 := View.ld (S := S4x1x1024) k0_pay24 (Rect.unit (s := S4x1x1024) ![2, 0, 0] S1x1x1024.size inb_S4x1x1024_S1x1x1024_2_0_0)
  m3 := View.ld (S := S4x1x1024) k0_pay24 (Rect.unit (s := S4x1x1024) ![3, 0, 0] S1x1x1024.size inb_S4x1x1024_S1x1x1024_3_0_0)
  a0 := View.ld (S := S4x80x1024) k0_pay25 (Rect.unit (s := S4x80x1024) ![0, 0, 0] S1x80x1024.size inb_S4x80x1024_S1x80x1024_0_0_0)
  a1 := View.ld (S := S4x80x1024) k0_pay25 (Rect.unit (s := S4x80x1024) ![1, 0, 0] S1x80x1024.size inb_S4x80x1024_S1x80x1024_1_0_0)
  a2 := View.ld (S := S4x80x1024) k0_pay25 (Rect.unit (s := S4x80x1024) ![2, 0, 0] S1x80x1024.size inb_S4x80x1024_S1x80x1024_2_0_0)
  a3 := View.ld (S := S4x80x1024) k0_pay25 (Rect.unit (s := S4x80x1024) ![3, 0, 0] S1x80x1024.size inb_S4x80x1024_S1x80x1024_3_0_0)

/-- One trip. -/
def step (k : Fin k0_t1_loop.trips) (σ : St F) : St F where
  s := k0_pay27 (k0_pay23 (kNext x4 k) (q0 x3))
  m0 := k0_pay9 (k0_pay6 σ.s σ.m0)
  m1 := k0_pay15 (k0_pay14 (k0_pay3 (kCur x4 k) (q1 x3)) σ.m1)
  m2 := k0_pay21 (k0_pay18 (k0_pay11 (kCur x4 k) (q2 x3))) σ.m2
  m3 := k0_pay31 (k0_pay17 (kCur x4 k) (q3 x3)) σ.m3
  a0 := k0_pay10 (k0_pay2 (vCur x5 k)) (k0_pay7 σ.s σ.m0) (k0_pay8 σ.s σ.m0) σ.a0
  a1 := k0_pay16 (k0_pay2 (vCur x5 k)) (k0_pay12 (k0_pay3 (kCur x4 k) (q1 x3))) (k0_pay13 σ.m1) (k0_pay14 (k0_pay3 (kCur x4 k) (q1 x3)) σ.m1) σ.a1
  a2 := k0_pay22 (k0_pay2 (vCur x5 k)) (k0_pay18 (k0_pay11 (kCur x4 k) (q2 x3))) σ.m2 σ.a2
  a3 := k0_pay32 (k0_pay2 (vCur x5 k)) (k0_pay17 (kCur x4 k) (q3 x3)) σ.m3 σ.a3

/-- The first `n` trips. -/
def run : ℕ → St F
  | 0 => init x3 x4
  | n + 1 => if h : n < k0_t1_loop.trips then step x3 x4 x5 ⟨n, h⟩ (run n) else run n

theorem run_succ (k : Fin k0_t1_loop.trips) : run x3 x4 x5 (k.val + 1) = step x3 x4 x5 k (run x3 x4 x5 k.val) :=
  dif_pos k.isLt

/-- What the last store writes. -/
def out : Vec F S1x1024x256 .bf16 :=
  k0_pay1 (k0_pay34 (run x3 x4 x5 k0_t1_loop.trips).a0) (k0_pay35 (run x3 x4 x5 k0_t1_loop.trips).a0)
    (run x3 x4 x5 k0_t1_loop.trips).a1 (run x3 x4 x5 k0_t1_loop.trips).a2 (run x3 x4 x5 k0_t1_loop.trips).a3

end Step

section Trip

variable (𝒱 : Variants) (c : Dev nD) (bd : Option 𝒱.V) (i : grid0.Coords) (arg3 : Memref sig .tc .vmem S1x4x64x1024 .bf16) (harg3 : arg3.IsWhole) (arg4 : Memref sig .tc .vmem S1x1x8448x64 .bf16) (harg4 : arg4.IsWhole) (arg5 : Memref sig .tc .vmem S1x1x80x8448 .bf16) (harg5 : arg5.IsWhole) (arg6 : Memref sig .tc .vmem S1x1024x256 .bf16) (harg6 : arg6.IsWhole) (arg7 : Memref sig .tc .vmem S2x384x1024 .f32) (harg7 : arg7.IsWhole) (arg8 : Memref sig .tc .vmem S4x1x1024 .f32) (harg8 : arg8.IsWhole) (arg9 : Memref sig .tc .vmem S4x80x1024 .f32) (harg9 : arg9.IsWhole)
  (X3 : BufTy.Contents (Elt F) arg3.view.ty) (X4 : BufTy.Contents (Elt F) arg4.view.ty) (X5 : BufTy.Contents (Elt F) arg5.view.ty)

/-- The scratch's contents are those of a state. -/
structure Holds (f7 : BufTy.Contents (Elt F) arg7.view.ty) (f8 : BufTy.Contents (Elt F) arg8.view.ty) (f9 : BufTy.Contents (Elt F) arg9.view.ty) (σ : St F) : Prop where
  s : arg7.view.readAt (Elt F) (Rect.unit (s := S2x384x1024) ![0, 0, 0] S1x384x1024.size inb_S2x384x1024_S1x384x1024_0_0_0).toLoadRect f7 = σ.s
  m0 : arg8.view.readAt (Elt F) (Rect.unit (s := S4x1x1024) ![0, 0, 0] S1x1x1024.size inb_S4x1x1024_S1x1x1024_0_0_0).toLoadRect f8 = σ.m0
  m1 : arg8.view.readAt (Elt F) (Rect.unit (s := S4x1x1024) ![1, 0, 0] S1x1x1024.size inb_S4x1x1024_S1x1x1024_1_0_0).toLoadRect f8 = σ.m1
  m2 : arg8.view.readAt (Elt F) (Rect.unit (s := S4x1x1024) ![2, 0, 0] S1x1x1024.size inb_S4x1x1024_S1x1x1024_2_0_0).toLoadRect f8 = σ.m2
  m3 : arg8.view.readAt (Elt F) (Rect.unit (s := S4x1x1024) ![3, 0, 0] S1x1x1024.size inb_S4x1x1024_S1x1x1024_3_0_0).toLoadRect f8 = σ.m3
  a0 : arg9.view.readAt (Elt F) (Rect.unit (s := S4x80x1024) ![0, 0, 0] S1x80x1024.size inb_S4x80x1024_S1x80x1024_0_0_0).toLoadRect f9 = σ.a0
  a1 : arg9.view.readAt (Elt F) (Rect.unit (s := S4x80x1024) ![1, 0, 0] S1x80x1024.size inb_S4x80x1024_S1x80x1024_1_0_0).toLoadRect f9 = σ.a1
  a2 : arg9.view.readAt (Elt F) (Rect.unit (s := S4x80x1024) ![2, 0, 0] S1x80x1024.size inb_S4x80x1024_S1x80x1024_2_0_0).toLoadRect f9 = σ.a2
  a3 : arg9.view.readAt (Elt F) (Rect.unit (s := S4x80x1024) ![3, 0, 0] S1x80x1024.size inb_S4x80x1024_S1x80x1024_3_0_0).toLoadRect f9 = σ.a3

set_option maxHeartbeats 2000000 in
/-- A trip takes a state to its step. -/
theorem trip_holds (k : Fin k0_t1_loop.trips) (f7 : BufTy.Contents (Elt F) arg7.view.ty) (f8 : BufTy.Contents (Elt F) arg8.view.ty) (f9 : BufTy.Contents (Elt F) arg9.view.ty)
    (σ : St F) (h : Holds arg7 arg8 arg9 f7 f8 f9 σ) :
    Holds arg7 arg8 arg9
      (arg7.view.writes (Elt F) f7 ((trip_k0_t1 (F := F) 𝒱 c bd i arg3 harg3 arg4 harg4 arg5 harg5 arg6 harg6 arg7 harg7 arg8 harg8 arg9 harg9 X3 X4 X5 k).1 f7 f8 f9))
      (arg8.view.writes (Elt F) f8 ((trip_k0_t1 (F := F) 𝒱 c bd i arg3 harg3 arg4 harg4 arg5 harg5 arg6 harg6 arg7 harg7 arg8 harg8 arg9 harg9 X3 X4 X5 k).2.1 f7 f8 f9))
      (arg9.view.writes (Elt F) f9 ((trip_k0_t1 (F := F) 𝒱 c bd i arg3 harg3 arg4 harg4 arg5 harg5 arg6 harg6 arg7 harg7 arg8 harg8 arg9 harg9 X3 X4 X5 k).2.2.1 f7 f8 f9))
      (step (arg3.view.read (Elt F) X3) (arg4.view.read (Elt F) X4) (arg5.view.read (Elt F) X5) k σ) := by
  obtain ⟨hs, hm0, hm1, hm2, hm3, ha0, ha1, ha2, ha3⟩ := h
  unfold trip_k0_t1
  dsimp only
  sl_unfold_words
  simp only [View.readCov]
  constructor
  · rw [load_hit]; rfl
  · iterate 3 rw [load_miss _ _ _ _ _ _ _ _ _ _ (0 : Fin 3) (by decide)]
    rw [load_hit, hs, hm0]; rfl
  · iterate 2 rw [load_miss _ _ _ _ _ _ _ _ _ _ (0 : Fin 3) (by decide)]
    rw [load_hit, load_miss _ _ _ _ _ _ _ _ _ _ (0 : Fin 3) (by decide), load_hit, hm1]; rfl
  · rw [load_miss _ _ _ _ _ _ _ _ _ _ (0 : Fin 3) (by decide), load_hit, load_miss _ _ _ _ _ _ _ _ _ _ (0 : Fin 3) (by decide), load_hit, hm2]; rfl
  · rw [load_hit, load_miss _ _ _ _ _ _ _ _ _ _ (0 : Fin 3) (by decide), load_hit, hm3]; rfl
  · iterate 3 rw [load_miss _ _ _ _ _ _ _ _ _ _ (0 : Fin 3) (by decide)]
    rw [load_hit, hs, hm0, ha0]; rfl
  · iterate 2 rw [load_miss _ _ _ _ _ _ _ _ _ _ (0 : Fin 3) (by decide)]
    rw [load_hit, load_miss _ _ _ _ _ _ _ _ _ _ (0 : Fin 3) (by decide), load_hit, hm1, ha1]; rfl
  · rw [load_miss _ _ _ _ _ _ _ _ _ _ (0 : Fin 3) (by decide), load_hit, load_miss _ _ _ _ _ _ _ _ _ _ (0 : Fin 3) (by decide), load_hit, hm2, ha2]; rfl
  · rw [load_hit, load_miss _ _ _ _ _ _ _ _ _ _ (0 : Fin 3) (by decide), load_hit, hm3, ha3]; rfl

/-- The scratch after the first `n` trips, from contents that hold the initial state. -/
theorem run_holds (G7 : BufTy.Contents (Elt F) arg7.view.ty) (G8 : BufTy.Contents (Elt F) arg8.view.ty) (G9 : BufTy.Contents (Elt F) arg9.view.ty)
    (h : Holds arg7 arg8 arg9 G7 G8 G9 (init (arg3.view.read (Elt F) X3) (arg4.view.read (Elt F) X4))) (n : ℕ) (hn : n ≤ k0_t1_loop.trips) :
    Holds arg7 arg8 arg9
      (arg7.view.writes (Elt F) G7 (pb_k0_t1 (F := F) 𝒱 c bd i arg3 harg3 arg4 harg4 arg5 harg5 arg6 harg6 arg7 harg7 arg8 harg8 arg9 harg9 X3 X4 X5 G7 G8 G9 n).1)
      (arg8.view.writes (Elt F) G8 (pb_k0_t1 (F := F) 𝒱 c bd i arg3 harg3 arg4 harg4 arg5 harg5 arg6 harg6 arg7 harg7 arg8 harg8 arg9 harg9 X3 X4 X5 G7 G8 G9 n).2.1)
      (arg9.view.writes (Elt F) G9 (pb_k0_t1 (F := F) 𝒱 c bd i arg3 harg3 arg4 harg4 arg5 harg5 arg6 harg6 arg7 harg7 arg8 harg8 arg9 harg9 X3 X4 X5 G7 G8 G9 n).2.2)
      (run (arg3.view.read (Elt F) X3) (arg4.view.read (Elt F) X4) (arg5.view.read (Elt F) X5) n) := by
  induction n with
  | zero => exact h
  | succ n ih =>
    have hk : n < k0_t1_loop.trips := hn
    have e := pb_k0_t1_succ (F := F) 𝒱 c bd i arg3 harg3 arg4 harg4 arg5 harg5 arg6 harg6 arg7 harg7 arg8 harg8 arg9 harg9 X3 X4 X5 G7 G8 G9 ⟨n, hk⟩
    have er := run_succ (arg3.view.read (Elt F) X3) (arg4.view.read (Elt F) X4) (arg5.view.read (Elt F) X5) ⟨n, hk⟩
    dsimp only at e er
    rw [e, er]
    dsimp only
    rw [View.writes_append, View.writes_append, View.writes_append]
    exact trip_holds 𝒱 c bd i arg3 harg3 arg4 harg4 arg5 harg5 arg6 harg6 arg7 harg7 arg8 harg8 arg9 harg9 X3 X4 X5 ⟨n, hk⟩ _ _ _ _ (ih hk.le)

/-- What the stores before the loop leave holds the initial state, whatever was there. -/
theorem init_holds (f7 : BufTy.Contents (Elt F) arg7.view.ty) (f8 : BufTy.Contents (Elt F) arg8.view.ty) (f9 : BufTy.Contents (Elt F) arg9.view.ty) :
    Holds arg7 arg8 arg9
      (arg7.view.writes (Elt F) f7 [⟨Rect.unit (s := S2x384x1024) ![0, 0, 0] S1x384x1024.size inb_S2x384x1024_S1x384x1024_0_0_0,
        k0_pay26 (arg4.view.readAt (Elt F) (Rect.unit (s := S1x1x8448x64) ![0, 0, 0, 0] S1x1x384x64.size inb_S1x1x8448x64_S1x1x384x64_0_0_0_0).toLoadRect X4)
          (arg3.view.readAt (Elt F) (Rect.unit (s := S1x4x64x1024) ![0, 0, 0, 0] S1x1x64x1024.size inb_S1x4x64x1024_S1x1x64x1024_0_0_0_0).toLoadRect X3)⟩])
      (arg8.view.writes (Elt F) f8 [⟨Rect.unit (s := S4x1x1024) ![0, 0, 0] S4x1x1024.size inb_S4x1x1024_S4x1x1024_0_0_0, k0_pay24⟩])
      (arg9.view.writes (Elt F) f9 [⟨Rect.unit (s := S4x80x1024) ![0, 0, 0] S4x80x1024.size inb_S4x80x1024_S4x80x1024_0_0_0, k0_pay25⟩])
      (init (arg3.view.read (Elt F) X3) (arg4.view.read (Elt F) X4)) := by
  have hz : (![0, 0, 0] : Fin 3 → ℕ) = fun _ => 0 := by decide
  constructor
  · rw [load_hit]; rfl
  all_goals exact load_part _ _ _ _ _ hz _ _ _ _

end Trip

end Cert.KernelIdeal.Flash

end
-- ==== Proof.FlashPay.lean ====
/-
  The attention call's stored expressions read at one element, for one query column: a score, the new running maximum, the
  new accumulator entry, and a result entry.
-/
module

public import proofs.«01_k».proof.Proof.FlashStateIdeal
public import Idealize.ShloMosaic.Lib.Pointwise

@[expose] public section

set_option maxRecDepth 16384

noncomputable section

namespace Cert.KernelIdeal.Flash

open Idealize.ShloMosaic Idealize.ShloMosaic.TcCoe
open Cert.KernelIdeal.Gen

/-- The running maximum after a block of scores. -/
def newMax (m : EReal) (s : Fin 384 → EReal) : EReal := max m (Finset.univ.fold max (Ideal.ofBits .f32 0xFF800000#32) s)

/-- An accumulator entry after a block of scores and values. -/
def newAcc (m : EReal) (s v : Fin 384 → EReal) (a : EReal) : EReal :=
  Ideal.exp2 (m - newMax m s) * a + ∑ j : Fin 384, v j * Ideal.exp2 (s j - newMax m s)

/-- A score. -/
def score (k q : Fin 64 → EReal) : EReal := ∑ e : Fin 64, k e * q e

theorem score26 (k : Vec Ideal S1x1x384x64 .bf16) (q : Vec Ideal S1x1x64x1024 .bf16) (u : Fin 1) (j : Fin 384) (r : Fin 1024) :
    k0_pay26 (F := Ideal) k q (ix3 u j r) = score (fun e => k (ix4 0 0 j e)) (fun e => q (ix4 0 0 e r)) := by
  pointwise [k0_pay26, score]
theorem score27 (k : Vec Ideal S1x1x384x64 .bf16) (q : Vec Ideal S1x1x64x1024 .bf16) (u : Fin 1) (j : Fin 384) (r : Fin 1024) :
    k0_pay27 (F := Ideal) (k0_pay23 k q) (ix3 u j r) = score (fun e => k (ix4 0 0 j e)) (fun e => q (ix4 0 0 e r)) := by
  pointwise [k0_pay27, k0_pay23, score]
theorem score3 (k : Vec Ideal S1x1x384x64 .bf16) (q : Vec Ideal S1x1x64x1024 .bf16) (u : Fin 1) (j : Fin 384) (r : Fin 1024) :
    k0_pay3 (F := Ideal) k q (ix3 u j r) = score (fun e => k (ix4 0 0 j e)) (fun e => q (ix4 0 0 e r)) := by
  pointwise [k0_pay3, score]
theorem score11 (k : Vec Ideal S1x1x384x64 .bf16) (q : Vec Ideal S1x1x64x1024 .bf16) (u : Fin 1) (j : Fin 384) (r : Fin 1024) :
    k0_pay11 (F := Ideal) k q (ix3 u j r) = score (fun e => k (ix4 0 0 j e)) (fun e => q (ix4 0 0 e r)) := by
  pointwise [k0_pay11, score]
theorem score17 (k : Vec Ideal S1x1x384x64 .bf16) (q : Vec Ideal S1x1x64x1024 .bf16) (u : Fin 1) (j : Fin 384) (r : Fin 1024) :
    k0_pay17 (F := Ideal) k q (ix3 u j r) = score (fun e => k (ix4 0 0 j e)) (fun e => q (ix4 0 0 e r)) := by
  pointwise [k0_pay17, score]

section
variable (s : Vec Ideal S1x384x1024 .f32) (m : Vec Ideal S1x1x1024 .f32) (a : Vec Ideal S1x80x1024 .f32) (v : Vec Ideal S1x1x80x384 .bf16)
  (u u' : Fin 1) (r : Fin 1024) (d : Fin 80)

theorem max0 : k0_pay9 (F := Ideal) (k0_pay6 s m) (ix3 u u' r) = newMax (m (ix3 0 0 r)) (fun j => s (ix3 0 j r)) := by
  pointwise [k0_pay9, k0_pay6, k0_pay5, k0_pay4, newMax]
theorem max1 : k0_pay15 (F := Ideal) (k0_pay14 s m) (ix3 u u' r) = newMax (m (ix3 0 0 r)) (fun j => s (ix3 0 j r)) := by
  pointwise [k0_pay15, k0_pay14, k0_pay13, k0_pay12, newMax]
theorem max2 : k0_pay21 (F := Ideal) (k0_pay18 s) m (ix3 u u' r) = newMax (m (ix3 0 0 r)) (fun j => s (ix3 0 j r)) := by
  pointwise [k0_pay21, k0_pay20, k0_pay19, k0_pay18, newMax]
theorem max3 : k0_pay31 (F := Ideal) s m (ix3 u u' r) = newMax (m (ix3 0 0 r)) (fun j => s (ix3 0 j r)) := by
  pointwise [k0_pay31, k0_pay30, k0_pay29, k0_pay28, newMax]

theorem acc0 : k0_pay10 (F := Ideal) (k0_pay2 v) (k0_pay7 s m) (k0_pay8 s m) a (ix3 u d r)
    = newAcc (m (ix3 0 0 r)) (fun j => s (ix3 0 j r)) (fun j => v (ix4 0 0 d j)) (a (ix3 0 d r)) := by
  pointwise [k0_pay10, k0_pay2, k0_pay7, k0_pay8, k0_pay6, k0_pay5, k0_pay4, newAcc, newMax]
  rfl
theorem acc1 : k0_pay16 (F := Ideal) (k0_pay2 v) (k0_pay12 s) (k0_pay13 m) (k0_pay14 s m) a (ix3 u d r)
    = newAcc (m (ix3 0 0 r)) (fun j => s (ix3 0 j r)) (fun j => v (ix4 0 0 d j)) (a (ix3 0 d r)) := by
  pointwise [k0_pay16, k0_pay2, k0_pay12, k0_pay13, k0_pay14, newAcc, newMax]
  rfl
theorem acc2 : k0_pay22 (F := Ideal) (k0_pay2 v) (k0_pay18 s) m a (ix3 u d r)
    = newAcc (m (ix3 0 0 r)) (fun j => s (ix3 0 j r)) (fun j => v (ix4 0 0 d j)) (a (ix3 0 d r)) := by
  pointwise [k0_pay22, k0_pay2, k0_pay18, k0_pay19, k0_pay20, newAcc, newMax]
  rfl
theorem acc3 : k0_pay32 (F := Ideal) (k0_pay2 v) s m a (ix3 u d r)
    = newAcc (m (ix3 0 0 r)) (fun j => s (ix3 0 j r)) (fun j => v (ix4 0 0 d j)) (a (ix3 0 d r)) := by
  pointwise [k0_pay32, k0_pay2, k0_pay28, k0_pay29, k0_pay30, newAcc, newMax]
  rfl

end

theorem start_max (i : S4x1x1024.Idx) : k0_pay24 (F := Ideal) i = Ideal.ofBits .f32 0xF149F2CA#32 := by
  obtain ⟨a, b, c, rfl⟩ : ∃ a b c, i = ix3 a b c := ⟨i 0, i 1, i 2, by funext x; match x with | ⟨0, _⟩ => rfl | ⟨1, _⟩ => rfl | ⟨2, _⟩ => rfl⟩
  pointwise [k0_pay24]
theorem start_acc (i : S4x80x1024.Idx) : k0_pay25 (F := Ideal) i = 0 := by
  obtain ⟨a, b, c, rfl⟩ : ∃ a b c, i = ix3 a b c := ⟨i 0, i 1, i 2, by funext x; match x with | ⟨0, _⟩ => rfl | ⟨1, _⟩ => rfl | ⟨2, _⟩ => rfl⟩
  pointwise [k0_pay25]

/-- A result entry of a head: its accumulator entry times the inverse of the denominator row's. -/
def ratio (a : Vec Ideal S1x80x1024 .f32) (r : Fin 1024) (d : Fin 64) : EReal :=
  a (ix3 0 ⟨d.val, by omega⟩ r) * Ideal.div 1 (a (ix3 0 64 r))

/-- The accumulator of one of four heads. -/
def pick {α : Type} (x0 x1 x2 x3 : α) (h : Fin 4) : α := match h with | 0 => x0 | 1 => x1 | 2 => x2 | 3 => x3

theorem result_apply (a0 a1 a2 a3 : Vec Ideal S1x80x1024 .f32) (u : Fin 1) (r : Fin 1024) (h : Fin 4) (d : Fin 64) :
    k0_pay1 (F := Ideal) (k0_pay34 a0) (k0_pay35 a0) a1 a2 a3 (ix3 u r ⟨64 * h.val + d.val, by omega⟩) = ratio (pick a0 a1 a2 a3 h) r d := by
  match h with
  | 0 => pointwise [k0_pay1, k0_pay33, k0_pay34, k0_pay35, ratio, pick]
  | 1 => pointwise [k0_pay1, k0_pay33, k0_pay34, k0_pay35, ratio, pick]
  | 2 =>
    pointwise [k0_pay1, k0_pay33, k0_pay34, k0_pay35, ratio, pick]
    rw [dif_neg (by omega), dif_neg (by omega), dif_pos (by omega)]
    simp only [show 128 + d.val - 64 - 64 = d.val by omega]
  | 3 =>
    pointwise [k0_pay1, k0_pay33, k0_pay34, k0_pay35, ratio, pick]
    rw [dif_neg (by omega), dif_neg (by omega), dif_neg (by omega)]
    simp only [show 192 + d.val - 64 - 64 - 64 = d.val by omega]

end Cert.KernelIdeal.Flash
end
end
-- ==== Proof.FlashMath.lean ====
/-
  The algebra of the attention call, for one query: the running maximum and the rescaled accumulator over blocks of keys
  come, whatever maximum was in force, to sums weighted by the softmax of the scores. Scores are real, values are any.
-/
module

public import Idealize.ShloMosaic.PureOps.Ideal
public import Idealize.ShloMosaic.PureOps.Ideal.Laws

@[expose] public section

noncomputable section

namespace Cert.FlashMath

open Idealize.ShloMosaic

theorem bottom : Ideal.ofBits .f32 0xFF800000#32 = (⊥ : EReal) := by simp [Ideal.ofBits, Ideal.ieee]

theorem mask_real : ∃ r : ℝ, Ideal.ofBits .f32 0xF149F2CA#32 = (r : EReal) := by
  simp [Ideal.ofBits, Ideal.ieee]
  exact ⟨-(13234890 * 2 ^ 76), by rw [EReal.coe_neg, EReal.coe_mul, EReal.coe_pow]⟩

theorem top_bits : Ideal.ofBits .f32 0x7F800000#32 = (⊤ : EReal) := by simp [Ideal.ofBits, Ideal.ieee]

theorem two_bits : Ideal.ofBits .f32 0x40000000#32 = ((2 : ℝ) : EReal) := by
  simp [Ideal.ofBits, Ideal.ieee]
  rw [← EReal.coe_mul]
  norm_num

/-- A sum of reals is the real sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A real factor that is not negative moves into a sum of extended reals. -/
theorem coe_mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih]
    exact EReal.left_distrib_of_nonneg_of_ne_top (by exact_mod_cast hr) (EReal.coe_ne_top r) _ _

/-- The maximum of finitely many reals, from a start that is real or bottom. -/
theorem fold_max_real {n : ℕ} (f : Fin (n + 1) → ℝ) :
    ∃ r : ℝ, Finset.univ.fold max (⊥ : EReal) (fun j => (f j : EReal)) = (r : EReal) := by
  have key : ∀ s : Finset (Fin (n + 1)), s.Nonempty → ∃ r : ℝ, s.fold max (⊥ : EReal) (fun j => (f j : EReal)) = (r : EReal) := by
    intro s hs
    induction hs using Finset.Nonempty.cons_induction with
    | singleton a => exact ⟨f a, by simp⟩
    | cons a s ha hs ih =>
      obtain ⟨r, hr⟩ := ih
      refine ⟨max (f a) r, ?_⟩
      rw [Finset.fold_cons, hr]
      exact (EReal.coe_strictMono.monotone.map_max).symm
  exact key _ Finset.univ_nonempty

theorem exp2_coe (r : ℝ) : Ideal.exp2 (r : EReal) = ((2 : ℝ) ^ r : ℝ) := rfl
theorem exp_coe (r : ℝ) : Ideal.exp (r : EReal) = (Real.exp r : ℝ) := rfl

theorem div_coe (x : EReal) (r : ℝ) (hr : 0 < r) : Ideal.div x (r : EReal) = x * ((r⁻¹ : ℝ) : EReal) := by
  unfold Ideal.div
  rw [if_neg (by exact_mod_cast hr.ne'), EReal.coe_inv]

section Blocks

variable (M A : ℕ → EReal) (s : ℕ → Fin 384 → ℝ) (v : ℕ → Fin 384 → EReal)

/-- After `n` blocks the maximum is real and the accumulator is the sum over the blocks at that maximum. -/
theorem blocks (N : ℕ) (h0 : ∃ r : ℝ, M 0 = (r : EReal)) (hA0 : A 0 = 0)
    (hM : ∀ n < N, M (n + 1) = max (M n) (Finset.univ.fold max (Ideal.ofBits .f32 0xFF800000#32) (fun j => (s n j : EReal))))
    (hA : ∀ n < N, A (n + 1) = Ideal.exp2 (M n - M (n + 1)) * A n + ∑ j, v n j * Ideal.exp2 ((s n j : EReal) - M (n + 1))) :
    ∀ n ≤ N, ∃ μ : ℝ, M n = (μ : EReal) ∧ A n = ∑ i ∈ Finset.range n, ∑ j, v i j * (((2 : ℝ) ^ (s i j - μ) : ℝ) : EReal) := by
  intro n
  induction n with
  | zero => intro _; obtain ⟨r, hr⟩ := h0; exact ⟨r, hr, by simpa using hA0⟩
  | succ n ih =>
    intro hn
    obtain ⟨μ, hμ, hs⟩ := ih (by omega)
    obtain ⟨ρ, hρ⟩ := fold_max_real (s n)
    have hm : M (n + 1) = ((max μ ρ : ℝ) : EReal) := by
      rw [hM n (by omega), hμ, bottom, hρ]; exact (EReal.coe_strictMono.monotone.map_max).symm
    refine ⟨max μ ρ, hm, ?_⟩
    rw [hA n (by omega), hm, hμ, ← EReal.coe_sub, exp2_coe, hs, coe_mul_sum _ _ (Real.rpow_nonneg (by norm_num) _), Finset.sum_range_succ]
    congr 1
    refine Finset.sum_congr rfl fun i _ => ?_
    rw [coe_mul_sum _ _ (Real.rpow_nonneg (by norm_num) _)]
    refine Finset.sum_congr rfl fun j _ => ?_
    rw [mul_left_comm, ← EReal.coe_mul, ← Real.rpow_add (by norm_num)]
    congr 3
    ring

end Blocks

/-- The softmax weight of key `j` at scores `σ` that have been multiplied by the logarithm of two. -/
def weight {n : ℕ} (σ : Fin n → ℝ) (j : Fin n) : ℝ := Real.exp (Real.log 2 * σ j) / ∑ i, Real.exp (Real.log 2 * σ i)

theorem total_pos {n : ℕ} (f : Fin (n + 1) → ℝ) : 0 < ∑ i, Real.exp (f i) :=
  Finset.sum_pos (fun i _ => Real.exp_pos _) Finset.univ_nonempty

/-- Powers of two at any offset, normalised. -/
theorem weight_two {n : ℕ} (σ : Fin (n + 1) → ℝ) (μ : ℝ) (j : Fin (n + 1)) :
    (2 : ℝ) ^ (σ j - μ) * (∑ i, (2 : ℝ) ^ (σ i - μ))⁻¹ = weight σ j := by
  have e : ∀ i, (2 : ℝ) ^ (σ i - μ) = Real.exp (Real.log 2 * σ i) * Real.exp (-(Real.log 2 * μ)) := fun i => by
    rw [Real.rpow_def_of_pos (by norm_num), ← Real.exp_add]; congr 1; ring
  simp only [e]
  rw [← Finset.sum_mul, weight]
  have h1 := (total_pos fun i => Real.log 2 * σ i).ne'
  have h2 := (Real.exp_pos (-(Real.log 2 * μ))).ne'
  field_simp

/-- Exponentials at any offset, normalised. -/
theorem weight_exp {n : ℕ} (σ : Fin (n + 1) → ℝ) (ρ : ℝ) (j : Fin (n + 1)) :
    Real.exp (Real.log 2 * σ j - ρ) * (∑ i, Real.exp (Real.log 2 * σ i - ρ))⁻¹ = weight σ j := by
  have e : ∀ i, Real.exp (Real.log 2 * σ i - ρ) = Real.exp (Real.log 2 * σ i) * Real.exp (-ρ) := fun i => by
    rw [← Real.exp_add]; congr 1
  simp only [e]
  rw [← Finset.sum_mul, weight]
  have h1 := (total_pos fun i => Real.log 2 * σ i).ne'
  have h2 := (Real.exp_pos (-ρ)).ne'
  field_simp

/-- Blocks of 384 keys, one after the other. -/
theorem sum_blocks {α : Type} [AddCommMonoid α] (g : ℕ → α) (n : ℕ) :
    ∑ i ∈ Finset.range n, ∑ j : Fin 384, g (384 * i + j.val) = ∑ k ∈ Finset.range (384 * n), g k := by
  induction n with
  | zero => rfl
  | succ n ih => rw [Finset.sum_range_succ, ih, Nat.mul_succ, Finset.sum_range_add, Finset.sum_range (fun j => g (384 * n + j))]

/-- What the recurrence over 22 blocks of keys ends with, for a value row and for the row of ones: their quotient is the
values weighted by the softmax. -/
theorem attend (M A D : ℕ → EReal) (σ : Fin 8448 → ℝ) (v : Fin 8448 → EReal)
    (s : ℕ → Fin 384 → ℝ) (w o : ℕ → Fin 384 → EReal)
    (hs : ∀ i < 22, ∀ j : Fin 384, ∀ h : 384 * i + j.val < 8448, s i j = σ ⟨384 * i + j.val, h⟩)
    (hw : ∀ i < 22, ∀ j : Fin 384, ∀ h : 384 * i + j.val < 8448, w i j = v ⟨384 * i + j.val, h⟩)
    (ho : ∀ i < 22, ∀ j : Fin 384, o i j = 1)
    (h0 : ∃ r : ℝ, M 0 = (r : EReal)) (hA0 : A 0 = 0) (hD0 : D 0 = 0)
    (hM : ∀ n < 22, M (n + 1) = max (M n) (Finset.univ.fold max (Ideal.ofBits .f32 0xFF800000#32) (fun j => (s n j : EReal))))
    (hA : ∀ n < 22, A (n + 1) = Ideal.exp2 (M n - M (n + 1)) * A n + ∑ j, w n j * Ideal.exp2 ((s n j : EReal) - M (n + 1)))
    (hD : ∀ n < 22, D (n + 1) = Ideal.exp2 (M n - M (n + 1)) * D n + ∑ j, o n j * Ideal.exp2 ((s n j : EReal) - M (n + 1))) :
    A 22 * Ideal.div 1 (D 22) = ∑ k, v k * ((weight σ k : ℝ) : EReal) := by
  obtain ⟨μ, hμ, eA⟩ := blocks M A s w 22 h0 hA0 hM hA 22 le_rfl
  obtain ⟨μ', hμ', eD⟩ := blocks M D s o 22 h0 hD0 hM hD 22 le_rfl
  obtain rfl : μ = μ' := EReal.coe_injective (hμ.symm.trans hμ')
  have tA : A 22 = ∑ k : Fin 8448, v k * (((2 : ℝ) ^ (σ k - μ) : ℝ) : EReal) := by
    have := sum_blocks (fun n => if h : n < 8448 then v ⟨n, h⟩ * (((2 : ℝ) ^ (σ ⟨n, h⟩ - μ) : ℝ) : EReal) else 0) 22
    rw [Finset.sum_range (n := 384 * 22)] at this
    rw [eA]
    refine Eq.trans (Finset.sum_congr rfl fun i hi => Finset.sum_congr rfl fun j _ => ?_) (this.trans (Finset.sum_congr rfl fun k _ => dif_pos k.isLt))
    have hi := Finset.mem_range.mp hi
    have hk : 384 * i + j.val < 8448 := by omega
    rw [dif_pos hk, hw i hi j hk, hs i hi j hk]
  have tD : D 22 = ((∑ k : Fin 8448, (2 : ℝ) ^ (σ k - μ) : ℝ) : EReal) := by
    have := sum_blocks (fun n => if h : n < 8448 then ((2 : ℝ) ^ (σ ⟨n, h⟩ - μ) : ℝ) else 0) 22
    rw [Finset.sum_range (n := 384 * 22)] at this
    rw [eD]
    have h2 : (∑ k : Fin 8448, (2 : ℝ) ^ (σ k - μ)) = ∑ i ∈ Finset.range 22, ∑ j : Fin 384, (2 : ℝ) ^ (s i j - μ) := by
      refine Eq.trans (Eq.trans (Finset.sum_congr rfl fun k _ => (show (if h : k.val < 8448 then (2 : ℝ) ^ (σ ⟨k.val, h⟩ - μ) else 0) = _ from dif_pos k.isLt).symm) this.symm) (Finset.sum_congr rfl fun i hi => Finset.sum_congr rfl fun j _ => ?_)
      have hi := Finset.mem_range.mp hi
      have hk : 384 * i + j.val < 8448 := by omega
      rw [dif_pos hk, hs i hi j hk]
    rw [h2, ← coe_sum]
    refine Finset.sum_congr rfl fun i hi => ?_
    rw [← coe_sum]
    refine Finset.sum_congr rfl fun j _ => ?_
    rw [ho i (Finset.mem_range.mp hi) j, one_mul]
  have pos : (0 : ℝ) < ∑ k : Fin 8448, (2 : ℝ) ^ (σ k - μ) :=
    Finset.sum_pos (fun i _ => Real.rpow_pos_of_pos (by norm_num) _) Finset.univ_nonempty
  rw [tA, tD, div_coe _ _ pos, one_mul, mul_comm, coe_mul_sum _ _ (inv_nonneg.mpr pos.le)]
  refine Finset.sum_congr rfl fun k _ => ?_
  rw [mul_left_comm, ← EReal.coe_mul, mul_comm (_⁻¹ : ℝ), weight_two]

/-- The softmax at the scores' own maximum, as the layer states it. -/
theorem softmax (σ : Fin 8448 → ℝ) (v : Fin 8448 → EReal) (X : Fin 8448 → EReal)
    (hX : ∀ k, X k = ((Real.log 2 * σ k : ℝ) : EReal)) :
    ∑ k, v k * Ideal.div (Ideal.exp (X k - max ⊥ (Finset.univ.fold max ⊥ X))) (∑ i, Ideal.exp (X i - max ⊥ (Finset.univ.fold max ⊥ X)))
      = ∑ k, v k * ((weight σ k : ℝ) : EReal) := by
  obtain rfl : X = fun k => ((Real.log 2 * σ k : ℝ) : EReal) := funext hX
  obtain ⟨ρ, hρ⟩ := fold_max_real (n := 8447) (fun k => Real.log 2 * σ k)
  have pos := total_pos (n := 8447) (fun k => Real.log 2 * σ k - ρ)
  simp only [hρ, max_eq_right bot_le, ← EReal.coe_sub, exp_coe, coe_sum]
  refine Finset.sum_congr rfl fun k _ => ?_
  rw [div_coe _ _ pos, ← EReal.coe_mul]
  exact congrArg (fun z : ℝ => v k * (z : EReal)) (weight_exp (n := 8447) σ ρ k)

end Cert.FlashMath
end
end
-- ==== Proof.FlashLoop.lean ====
/-
  What one grid point of the attention call writes: for each of its four heads and each query, the values weighted by the
  softmax of the scores over all 8448 keys.
-/
module

public import proofs.«01_k».proof.Proof.FlashPay
public import proofs.«01_k».proof.Proof.FlashMath

@[expose] public section

set_option maxRecDepth 16384

noncomputable section

namespace Cert.KernelIdeal.Flash

open Idealize.ShloMosaic Idealize.ShloMosaic.TcCoe
open Cert.KernelIdeal.Gen Cert.FlashMath

theorem trips_eq : k0_t1_loop.trips = 22 := by decide +kernel

theorem off1_eq : ∀ k : Fin k0_t1_loop.trips, k0_off1 k 0 = 0 ∧ k0_off1 k 1 = 0 ∧ k0_off1 k 2 = 0 ∧ k0_off1 k 3 = 384 * k.val := by
  decide +kernel
theorem off2_eq : ∀ k : Fin k0_t1_loop.trips, k0_off2 k 0 = 0 ∧ k0_off2 k 1 = 0 ∧ k0_off2 k 2 = 384 * k.val ∧ k0_off2 k 3 = 0 := by
  decide +kernel
theorem off3_eq : ∀ k : Fin k0_t1_loop.trips, k0_off3 k 0 = 0 ∧ k0_off3 k 1 = 0 ∧ k0_off3 k 2 = 384 * min (k.val + 1) 21 ∧ k0_off3 k 3 = 0 := by
  decide +kernel

section

variable (x3 : Vec Ideal S1x4x64x1024 .bf16) (x4 : Vec Ideal S1x1x8448x64 .bf16) (x5 : Vec Ideal S1x1x80x8448 .bf16)

theorem kCur_apply (k : Fin k0_t1_loop.trips) (j : Fin 384) (e : Fin 64) (h : 384 * k.val + j.val < 8448) :
    kCur x4 k (ix4 0 0 j e) = x4 (ix4 0 0 ⟨384 * k.val + j.val, h⟩ e) := by
  obtain ⟨e0, e1, e2, e3⟩ := off2_eq k
  refine congrArg x4 (funext fun a => Fin.ext ?_)
  match a with
  | ⟨0, _⟩ => show k0_off2 k 0 + 1 * 0 = 0; omega
  | ⟨1, _⟩ => show k0_off2 k 1 + 1 * 0 = 0; omega
  | ⟨2, _⟩ => show k0_off2 k 2 + 1 * j.val = 384 * k.val + j.val; omega
  | ⟨3, _⟩ => show k0_off2 k 3 + 1 * e.val = e.val; omega

theorem kNext_apply (k : Fin k0_t1_loop.trips) (j : Fin 384) (e : Fin 64) (hk : k.val + 1 < 22) (h : 384 * (k.val + 1) + j.val < 8448) :
    kNext x4 k (ix4 0 0 j e) = x4 (ix4 0 0 ⟨384 * (k.val + 1) + j.val, h⟩ e) := by
  obtain ⟨e0, e1, e2, e3⟩ := off3_eq k
  refine congrArg x4 (funext fun a => Fin.ext ?_)
  match a with
  | ⟨0, _⟩ => show k0_off3 k 0 + 1 * 0 = 0; omega
  | ⟨1, _⟩ => show k0_off3 k 1 + 1 * 0 = 0; omega
  | ⟨2, _⟩ => show k0_off3 k 2 + 1 * j.val = 384 * (k.val + 1) + j.val; omega
  | ⟨3, _⟩ => show k0_off3 k 3 + 1 * e.val = e.val; omega

theorem kFirst_apply (j : Fin 384) (e : Fin 64) (h : 384 * 0 + j.val < 8448) :
    kFirst x4 (ix4 0 0 j e) = x4 (ix4 0 0 ⟨384 * 0 + j.val, h⟩ e) := by
  refine congrArg x4 (funext fun a => Fin.ext ?_)
  match a with
  | ⟨0, _⟩ => rfl
  | ⟨1, _⟩ => rfl
  | ⟨2, _⟩ => show 0 + 1 * j.val = 384 * 0 + j.val; omega
  | ⟨3, _⟩ => show 0 + 1 * e.val = e.val; omega

theorem vCur_apply (k : Fin k0_t1_loop.trips) (d : Fin 80) (j : Fin 384) (h : 384 * k.val + j.val < 8448) :
    vCur x5 k (ix4 0 0 d j) = x5 (ix4 0 0 d ⟨384 * k.val + j.val, h⟩) := by
  obtain ⟨e0, e1, e2, e3⟩ := off1_eq k
  refine congrArg x5 (funext fun a => Fin.ext ?_)
  match a with
  | ⟨0, _⟩ => show k0_off1 k 0 + 1 * 0 = 0; omega
  | ⟨1, _⟩ => show k0_off1 k 1 + 1 * 0 = 0; omega
  | ⟨2, _⟩ => show k0_off1 k 2 + 1 * d.val = d.val; omega
  | ⟨3, _⟩ => show k0_off1 k 3 + 1 * j.val = 384 * k.val + j.val; omega

/-- A head's queries. -/
def qOf (h : Fin 4) : Vec Ideal S1x1x64x1024 .bf16 := pick (q0 x3) (q1 x3) (q2 x3) (q3 x3) h

theorem qOf_apply (h : Fin 4) (e : Fin 64) (r : Fin 1024) : qOf x3 h (ix4 0 0 e r) = x3 (ix4 0 h e r) := by
  match h with
  | 0 | 1 | 2 | 3 =>
    refine congrArg x3 (funext fun a => Fin.ext ?_)
    match a with
    | ⟨0, _⟩ => rfl
    | ⟨1, _⟩ => rfl
    | ⟨2, _⟩ => show 0 + 1 * e.val = e.val; omega
    | ⟨3, _⟩ => show 0 + 1 * r.val = r.val; omega

/-- A head's maxima and accumulator. -/
def maxOf (σ : St Ideal) (h : Fin 4) : Vec Ideal S1x1x1024 .f32 := pick σ.m0 σ.m1 σ.m2 σ.m3 h
def accOf (σ : St Ideal) (h : Fin 4) : Vec Ideal S1x80x1024 .f32 := pick σ.a0 σ.a1 σ.a2 σ.a3 h

/-- The score of key `k` for query `r` of head `h`. -/
def sc (h : Fin 4) (r : Fin 1024) (k : Fin 8448) : EReal := score (fun e => x4 (ix4 0 0 k e)) (fun e => x3 (ix4 0 h e r))

theorem slot_apply (n : ℕ) (hn : n < 22) (j : Fin 384) (r : Fin 1024) (h : 384 * n + j.val < 8448) :
    (run x3 x4 x5 n).s (ix3 0 j r) = sc x3 x4 0 r ⟨384 * n + j.val, h⟩ := by
  match n, hn, h with
  | 0, hn, h =>
    refine (score26 (kFirst x4) (q0 x3) 0 j r).trans (congrArg₂ score (funext fun e => kFirst_apply x4 j e h) (funext fun e => qOf_apply x3 0 e r))
  | n + 1, hn, h =>
    have hk : n < k0_t1_loop.trips := by rw [trips_eq]; omega
    rw [run_succ x3 x4 x5 ⟨n, hk⟩]
    exact (score27 (kNext x4 ⟨n, hk⟩) (q0 x3) 0 j r).trans
      (congrArg₂ score (funext fun e => kNext_apply x4 ⟨n, hk⟩ j e hn h) (funext fun e => qOf_apply x3 0 e r))

/-- The scores a trip uses for a head. -/
def scoresOf (k : Fin k0_t1_loop.trips) (σ : St Ideal) (h : Fin 4) : Vec Ideal S1x384x1024 .f32 :=
  pick σ.s (k0_pay3 (kCur x4 k) (q1 x3)) (k0_pay11 (kCur x4 k) (q2 x3)) (k0_pay17 (kCur x4 k) (q3 x3)) h

theorem scores_apply (k : Fin k0_t1_loop.trips) (h : Fin 4) (j : Fin 384) (r : Fin 1024) (hj : 384 * k.val + j.val < 8448) :
    scoresOf x3 x4 k (run x3 x4 x5 k.val) h (ix3 0 j r) = sc x3 x4 h r ⟨384 * k.val + j.val, hj⟩ := by
  have hk : k.val < 22 := lt_of_lt_of_eq k.isLt trips_eq
  match h with
  | 0 => exact slot_apply x3 x4 x5 k.val hk j r hj
  | 1 => exact (score3 (kCur x4 k) (q1 x3) 0 j r).trans (congrArg₂ score (funext fun e => kCur_apply x4 k j e hj) (funext fun e => qOf_apply x3 1 e r))
  | 2 => exact (score11 (kCur x4 k) (q2 x3) 0 j r).trans (congrArg₂ score (funext fun e => kCur_apply x4 k j e hj) (funext fun e => qOf_apply x3 2 e r))
  | 3 => exact (score17 (kCur x4 k) (q3 x3) 0 j r).trans (congrArg₂ score (funext fun e => kCur_apply x4 k j e hj) (funext fun e => qOf_apply x3 3 e r))

theorem max_step (k : Fin k0_t1_loop.trips) (σ : St Ideal) (h : Fin 4) (r : Fin 1024) :
    maxOf (step x3 x4 x5 k σ) h (ix3 0 0 r) = newMax (maxOf σ h (ix3 0 0 r)) (fun j => scoresOf x3 x4 k σ h (ix3 0 j r)) := by
  match h with
  | 0 => exact max0 _ _ 0 0 r
  | 1 => exact max1 _ _ 0 0 r
  | 2 => exact max2 _ _ 0 0 r
  | 3 => exact max3 _ _ 0 0 r

theorem acc_step (k : Fin k0_t1_loop.trips) (σ : St Ideal) (h : Fin 4) (d : Fin 80) (r : Fin 1024) :
    accOf (step x3 x4 x5 k σ) h (ix3 0 d r)
      = newAcc (maxOf σ h (ix3 0 0 r)) (fun j => scoresOf x3 x4 k σ h (ix3 0 j r)) (fun j => vCur x5 k (ix4 0 0 d j)) (accOf σ h (ix3 0 d r)) := by
  match h with
  | 0 => exact acc0 _ _ _ _ 0 r d
  | 1 => exact acc1 _ _ _ _ 0 r d
  | 2 => exact acc2 _ _ _ _ 0 r d
  | 3 => exact acc3 _ _ _ _ 0 r d

theorem max_start (h : Fin 4) (r : Fin 1024) : maxOf (run x3 x4 x5 0) h (ix3 0 0 r) = Ideal.ofBits .f32 0xF149F2CA#32 := by
  match h with
  | 0 | 1 | 2 | 3 => exact start_max (ix3 0 0 0)

theorem acc_start (h : Fin 4) (d : Fin 80) (r : Fin 1024) : accOf (run x3 x4 x5 0) h (ix3 0 d r) = 0 := by
  have e : k0_pay25 (F := Ideal) = fun _ => (0 : EReal) := funext start_acc
  match h with
  | 0 => show (init x3 x4).a0 _ = (0 : EReal); unfold init; rw [e]
  | 1 => show (init x3 x4).a1 _ = (0 : EReal); unfold init; rw [e]
  | 2 => show (init x3 x4).a2 _ = (0 : EReal); unfold init; rw [e]
  | 3 => show (init x3 x4).a3 _ = (0 : EReal); unfold init; rw [e]

/-- A real score. -/
def rsc (K : Fin 8448 → Fin 64 → ℝ) (Q : Fin 4 → Fin 64 → Fin 1024 → ℝ) (h : Fin 4) (r : Fin 1024) (k : Fin 8448) : ℝ :=
  ∑ e : Fin 64, K k e * Q h e r

/-- What a grid point writes, for real queries and keys and values whose row 64 is one. -/
theorem out_apply (K : Fin 8448 → Fin 64 → ℝ) (Q : Fin 4 → Fin 64 → Fin 1024 → ℝ)
    (hK : ∀ k e, x4 (ix4 0 0 k e) = (K k e : EReal)) (hQ : ∀ h e r, x3 (ix4 0 h e r) = (Q h e r : EReal))
    (hone : ∀ k, x5 (ix4 0 0 64 k) = (1 : EReal)) (u : Fin 1) (r : Fin 1024) (h : Fin 4) (d : Fin 64) :
    out x3 x4 x5 (ix3 u r ⟨64 * h.val + d.val, by omega⟩)
      = ∑ k : Fin 8448, x5 (ix4 0 0 ⟨d.val, by omega⟩ k) * ((weight (rsc K Q h r) k : ℝ) : EReal) := by
  have hsc : ∀ k, sc x3 x4 h r k = ((rsc K Q h r k : ℝ) : EReal) := fun k => by
    unfold sc score rsc
    rw [← coe_sum]
    refine Finset.sum_congr rfl fun e _ => ?_
    show x4 (ix4 0 0 k e) * x3 (ix4 0 h e r) = _
    rw [hK, hQ, ← EReal.coe_mul]
  have hs : ∀ n < 22, ∀ j : Fin 384, ∀ hk : n < k0_t1_loop.trips,
      scoresOf x3 x4 ⟨n, hk⟩ (run x3 x4 x5 n) h (ix3 0 j r) = ((if hj : 384 * n + j.val < 8448 then rsc K Q h r ⟨384 * n + j.val, hj⟩ else 0 : ℝ) : EReal) := by
    intro n hn j hk
    have hj : 384 * n + j.val < 8448 := by omega
    rw [dif_pos hj, ← hsc]
    exact scores_apply x3 x4 x5 ⟨n, hk⟩ h j r hj
  have hM : ∀ n < 22, maxOf (run x3 x4 x5 (n + 1)) h (ix3 0 0 r) = newMax (maxOf (run x3 x4 x5 n) h (ix3 0 0 r))
      (fun j => ((if hj : 384 * n + j.val < 8448 then rsc K Q h r ⟨384 * n + j.val, hj⟩ else 0 : ℝ) : EReal)) := by
    intro n hn
    have hk : n < k0_t1_loop.trips := by rw [trips_eq]; omega
    rw [run_succ x3 x4 x5 ⟨n, hk⟩, max_step]
    exact congrArg _ (funext fun j => hs n hn j hk)
  have hA : ∀ d : Fin 80, ∀ n < 22, accOf (run x3 x4 x5 (n + 1)) h (ix3 0 d r) = newAcc (maxOf (run x3 x4 x5 n) h (ix3 0 0 r))
      (fun j => ((if hj : 384 * n + j.val < 8448 then rsc K Q h r ⟨384 * n + j.val, hj⟩ else 0 : ℝ) : EReal))
      (fun j => if hj : 384 * n + j.val < 8448 then x5 (ix4 0 0 d ⟨384 * n + j.val, hj⟩) else 1) (accOf (run x3 x4 x5 n) h (ix3 0 d r)) := by
    intro d n hn
    have hk : n < k0_t1_loop.trips := by rw [trips_eq]; omega
    rw [run_succ x3 x4 x5 ⟨n, hk⟩, acc_step]
    refine congrArg₂ (fun a b => newAcc _ a b _) (funext fun j => hs n hn j hk) (funext fun j => ?_)
    have hj : 384 * n + j.val < 8448 := by omega
    rw [dif_pos hj]
    exact vCur_apply x5 ⟨n, hk⟩ d j hj
  unfold out
  rw [result_apply, trips_eq]
  show accOf (run x3 x4 x5 22) h (ix3 0 _ r) * Ideal.div 1 (accOf (run x3 x4 x5 22) h (ix3 0 64 r)) = _
  refine attend (fun n => maxOf (run x3 x4 x5 n) h (ix3 0 0 r)) (fun n => accOf (run x3 x4 x5 n) h (ix3 0 ⟨d.val, by omega⟩ r))
    (fun n => accOf (run x3 x4 x5 n) h (ix3 0 64 r)) (rsc K Q h r) _
    (fun n j => if hj : 384 * n + j.val < 8448 then rsc K Q h r ⟨384 * n + j.val, hj⟩ else 0)
    (fun n j => if hj : 384 * n + j.val < 8448 then x5 (ix4 0 0 ⟨d.val, by omega⟩ ⟨384 * n + j.val, hj⟩) else 1)
    (fun n j => if hj : 384 * n + j.val < 8448 then x5 (ix4 0 0 64 ⟨384 * n + j.val, hj⟩) else 1)
    (fun i hi j hj => dif_pos hj) (fun i hi j hj => dif_pos hj) (fun i hi j => ?_)
    ?_ (acc_start x3 x4 x5 h _ r) (acc_start x3 x4 x5 h _ r) hM ?_ ?_
  · show (if hj : 384 * i + j.val < 8448 then x5 (ix4 0 0 64 ⟨384 * i + j.val, hj⟩) else 1) = (1 : EReal)
    split
    · exact hone _
    · rfl
  · obtain ⟨μ, hμ⟩ := mask_real
    exact ⟨μ, (max_start x3 x4 x5 h r).trans hμ⟩
  · intro n hn
    refine (hA _ n hn).trans ?_
    unfold newAcc
    rw [← hM n hn]
  · intro n hn
    refine (hA _ n hn).trans ?_
    unfold newAcc
    rw [← hM n hn]

end

end Cert.KernelIdeal.Flash
end
end
-- ==== Proof.FlashRef.lean ====
/-
  The attention reference's result read at one element: for real queries and keys, the values weighted by the softmax.
-/
module

public import proofs.«01_k».proof.Proof.FlashMath
public import proofs.«01_k».proof.Proof.Gen.ReferenceIdeal.Read
public import Idealize.ShloMosaic.Lib.Pointwise

@[expose] public section

set_option maxRecDepth 16384

noncomputable section

namespace Cert.FlashRef

open Cert.ReferenceIdeal Cert.ReferenceIdeal.Gen Cert.ReferenceIdeal.Read Idealize.ShloMosaic Idealize.ShloMosaic.TcCoe Cert.FlashMath

variable (x0 : (⟨S2x8x64x8192, .bf16⟩ : BufTy).Contents (Elt Ideal)) (x1 : (⟨S2x2x8448x64, .bf16⟩ : BufTy).Contents (Elt Ideal))
  (x2 : (⟨S2x2x64x8448, .bf16⟩ : BufTy).Contents (Elt Ideal))

/-- The reference's score. -/
def rscore (b g : Fin 2) (h : Fin 4) (t : Fin 8192) (k : Fin 8448) : EReal :=
  ∑ e : Fin 64, (x0 (ix4 b ⟨g.val * 4 + h.val, by omega⟩ e t) * Ideal.log (Ideal.ofBits .f32 0x40000000#32)) * x1 (ix4 b g k e)

theorem v6_apply (b g : Fin 2) (h : Fin 4) (t : Fin 8192) (k : Fin 8448) :
    val_main_v6 (F := Ideal) x0 x1 (ix5 b g h t k) = rscore x0 x1 b g h t k := by
  pointwise [val_main_v6, val_main_v5, val_main_v4, val_main_v3, val_main_v2, val_main_v1, val_main_cst, val_main_v0, rscore]

/-- The reference's row maximum. -/
def rmax (b g : Fin 2) (h : Fin 4) (t : Fin 8192) : EReal := max ⊥ (Finset.univ.fold max ⊥ (rscore x0 x1 b g h t))

theorem lift_apply (H : S2x2x4x8192x8448.Reduces [4] S2x2x4x8192) (b g : Fin 2) (h : Fin 4) (t : Fin 8192) (k : Fin 8448) :
    H.lift (ix4 b g h t) k = ix5 b g h t k :=
  funext fun a => Fin.ext (by match a with | ⟨0, _⟩ => rfl | ⟨1, _⟩ => rfl | ⟨2, _⟩ => rfl | ⟨3, _⟩ => rfl | ⟨4, _⟩ => rfl)

theorem v7_apply (b g : Fin 2) (h : Fin 4) (t : Fin 8192) :
    val_main_v7 (F := Ideal) x0 x1 (ix4 b g h t) = Finset.univ.fold max ⊥ (rscore x0 x1 b g h t) := by
  have h6 := v6_apply x0 x1 b g h t
  unfold val_main_v7
  generalize val_main_v6 (F := Ideal) x0 x1 = y at h6 ⊢
  have H : S2x2x4x8192x8448.Reduces [4] S2x2x4x8192 := by decide
  refine (Host.reduce_eq_fold_single (FloatOps.maximumf (F := Ideal) (φ := .f32)) y _ reducesTo_S2x2x4x8192x8448_S2x2x4x8192_d4 H h_S_ (ix4 b g h t)).trans ?_
  have e : (y ∘ H.lift (ix4 b g h t) : Fin 8448 → EReal) = rscore x0 x1 b g h t :=
    funext fun k => (congrArg y (lift_apply H b g h t k)).trans (h6 k)
  rw [val_main_cst_0_apply]
  show Finset.univ.fold max (Ideal.ofBits .f32 0xFF800000#32) (y ∘ H.lift (ix4 b g h t) : Fin 8448 → EReal) = _
  rw [e, bottom]

theorem v9_apply (b g : Fin 2) (h : Fin 4) (t : Fin 8192) :
    val_main_v9 (F := Ideal) x0 x1 (ix4 b g h t) = rmax x0 x1 b g h t := by
  rw [val_main_v9_apply, v7_apply, val_main_v8_apply, val_main_cst_1_apply]
  show max (Ideal.ofBits .f32 0xFF800000#32) _ = _
  rw [bottom, rmax]

theorem v11_apply (b g : Fin 2) (h : Fin 4) (t : Fin 8192) (k : Fin 8448) :
    val_main_v11 (F := Ideal) x0 x1 (ix5 b g h t k) = rmax x0 x1 b g h t := by
  rw [val_main_v11_apply, val_main_v10_apply]
  refine (congrArg (val_main_v9 (F := Ideal) x0 x1) (funext fun a => Fin.ext ?_)).trans (v9_apply x0 x1 b g h t)
  match a with | ⟨0, _⟩ => rfl | ⟨1, _⟩ => rfl | ⟨2, _⟩ => rfl | ⟨3, _⟩ => rfl

theorem v13_apply (b g : Fin 2) (h : Fin 4) (t : Fin 8192) (k : Fin 8448) :
    val_main_v13 (F := Ideal) x0 x1 (ix5 b g h t k) = Ideal.exp (rscore x0 x1 b g h t k - rmax x0 x1 b g h t) := by
  rw [val_main_v13_apply, val_main_v12_apply, v6_apply, v11_apply]
  rfl

theorem v14_apply (b g : Fin 2) (h : Fin 4) (t : Fin 8192) :
    val_main_v14 (F := Ideal) x0 x1 (ix4 b g h t) = ∑ i : Fin 8448, Ideal.exp (rscore x0 x1 b g h t i - rmax x0 x1 b g h t) := by
  rw [val_main_v14_apply, val_main_cst_2_apply]
  refine (congrArg (· + _) Ideal.ofBits_zero_f32).trans ((zero_add _).trans (Finset.sum_congr rfl fun k _ => ?_))
  refine (congrArg (val_main_v13 (F := Ideal) x0 x1) (funext fun a => Fin.ext ?_)).trans (v13_apply x0 x1 b g h t k)
  match a with | ⟨0, _⟩ => rfl | ⟨1, _⟩ => rfl | ⟨2, _⟩ => rfl | ⟨3, _⟩ => rfl | ⟨4, _⟩ => rfl

theorem v16_apply (b g : Fin 2) (h : Fin 4) (t : Fin 8192) (k : Fin 8448) :
    val_main_v16 (F := Ideal) x0 x1 (ix5 b g h t k) = ∑ i : Fin 8448, Ideal.exp (rscore x0 x1 b g h t i - rmax x0 x1 b g h t) := by
  rw [val_main_v16_apply, val_main_v15_apply]
  refine (congrArg (val_main_v14 (F := Ideal) x0 x1) (funext fun a => Fin.ext ?_)).trans (v14_apply x0 x1 b g h t)
  match a with | ⟨0, _⟩ => rfl | ⟨1, _⟩ => rfl | ⟨2, _⟩ => rfl | ⟨3, _⟩ => rfl

theorem v17_apply (b g : Fin 2) (h : Fin 4) (t : Fin 8192) (k : Fin 8448) :
    val_main_v17 (F := Ideal) x0 x1 (ix5 b g h t k)
      = Ideal.div (Ideal.exp (rscore x0 x1 b g h t k - rmax x0 x1 b g h t)) (∑ i : Fin 8448, Ideal.exp (rscore x0 x1 b g h t i - rmax x0 x1 b g h t)) := by
  rw [val_main_v17_apply, v13_apply, v16_apply]
  rfl

theorem v19_apply (b g : Fin 2) (d : Fin 64) (h : Fin 4) (t : Fin 8192) :
    val_main_v19 (F := Ideal) x0 x1 x2 (ix5 b g d h t)
      = ∑ k : Fin 8448, x2 (ix4 b g d k) * Ideal.div (Ideal.exp (rscore x0 x1 b g h t k - rmax x0 x1 b g h t)) (∑ i : Fin 8448, Ideal.exp (rscore x0 x1 b g h t i - rmax x0 x1 b g h t)) := by
  rw [val_main_v19_apply]
  refine Finset.sum_congr rfl fun k _ => congrArg₂ (· * ·) ?_ ?_
  · rw [val_main_v18_apply]
    refine congrArg x2 (funext fun a => Fin.ext ?_)
    match a with | ⟨0, _⟩ => rfl | ⟨1, _⟩ => rfl | ⟨2, _⟩ => rfl | ⟨3, _⟩ => rfl
  · refine (congrArg (val_main_v17 (F := Ideal) x0 x1) (funext fun a => Fin.ext ?_)).trans (v17_apply x0 x1 b g h t k)
    match a with | ⟨0, _⟩ => rfl | ⟨1, _⟩ => rfl | ⟨2, _⟩ => rfl | ⟨3, _⟩ => rfl | ⟨4, _⟩ => rfl

theorem v22_apply (b g : Fin 2) (d : Fin 64) (h : Fin 4) (t : Fin 8192) :
    val_main_v22 (F := Ideal) x0 x1 x2 (ix3 b t ⟨g.val * 256 + h.val * 64 + d.val, by omega⟩) = val_main_v19 (F := Ideal) x0 x1 x2 (ix5 b g d h t) := by
  rw [val_main_v22_apply, val_main_v21_apply, val_main_v20_apply]
  refine congrArg (val_main_v19 (F := Ideal) x0 x1 x2) (funext fun a => Fin.ext ?_)
  match a with
  | ⟨0, _⟩ => show ((b.val * 8192 + t.val) * 512 + (g.val * 256 + h.val * 64 + d.val)) / 4194304 = b.val; omega
  | ⟨1, _⟩ => show ((b.val * 8192 + t.val) * 512 + (g.val * 256 + h.val * 64 + d.val)) / 256 % 2 = g.val; omega
  | ⟨2, _⟩ => show ((b.val * 8192 + t.val) * 512 + (g.val * 256 + h.val * 64 + d.val)) % 64 = d.val; omega
  | ⟨3, _⟩ => show ((b.val * 8192 + t.val) * 512 + (g.val * 256 + h.val * 64 + d.val)) / 64 % 4 = h.val; omega
  | ⟨4, _⟩ => show ((b.val * 8192 + t.val) * 512 + (g.val * 256 + h.val * 64 + d.val)) / 512 % 8192 = t.val; omega

/-- With real queries and keys the score is `log 2` times the product of query and key. -/
theorem rscore_real (K : Fin 8448 → Fin 64 → ℝ) (Q : Fin 64 → ℝ) (b g : Fin 2) (h : Fin 4) (t : Fin 8192)
    (hK : ∀ k e, x1 (ix4 b g k e) = ((K k e : ℝ) : EReal)) (hQ : ∀ e, x0 (ix4 b ⟨g.val * 4 + h.val, by omega⟩ e t) = ((Q e : ℝ) : EReal))
    (k : Fin 8448) : rscore x0 x1 b g h t k = ((Real.log 2 * ∑ e, K k e * Q e : ℝ) : EReal) := by
  have hl : Ideal.log ((2 : ℝ) : EReal) = ((Real.log 2 : ℝ) : EReal) := by
    show (if (2 : ℝ) ≤ 0 then (⊥ : EReal) else ((Real.log 2 : ℝ) : EReal)) = _
    rw [if_neg (by norm_num)]
  simp only [rscore, two_bits, hl, hK, hQ, ← EReal.coe_mul, coe_sum, Finset.mul_sum]
  exact congrArg _ (Finset.sum_congr rfl fun e _ => by ring)

/-- The result of the reference. -/
theorem result_apply (K : Fin 8448 → Fin 64 → ℝ) (Q : Fin 64 → ℝ) (b g : Fin 2) (d : Fin 64) (h : Fin 4) (t : Fin 8192)
    (hK : ∀ k e, x1 (ix4 b g k e) = ((K k e : ℝ) : EReal)) (hQ : ∀ e, x0 (ix4 b ⟨g.val * 4 + h.val, by omega⟩ e t) = ((Q e : ℝ) : EReal)) :
    val_main_v22 (F := Ideal) x0 x1 x2 (ix3 b t ⟨g.val * 256 + h.val * 64 + d.val, by omega⟩)
      = ∑ k : Fin 8448, x2 (ix4 b g d k) * ((weight (fun j => ∑ e, K j e * Q e) k : ℝ) : EReal) := by
  rw [v22_apply, v19_apply]
  exact softmax (fun j => ∑ e, K j e * Q e) (fun k => x2 (ix4 b g d k)) (rscore x0 x1 b g h t) (rscore_real x0 x1 K Q b g h t hK hQ)

end Cert.FlashRef
end
end
-- ==== Proof.FlashFrameIdeal.lean ====
/-
  The attention call's body at one grid point, and from it the frame of the whole program: its arguments keep their contents,
  the result window of a point holds `out` of the point's blocks.
-/
module

public import proofs.«01_k».proof.Proof.FlashStateIdeal
public import proofs.«01_k».proof.Proof.Gen.KernelIdeal.Frame
public import Idealize.ShloMosaic.Lib.Claim

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.FlashLoads

variable {F : FTy → Type} [FloatOps F]

/-- The resource algebra of the runs. -/
local notation "𝕄" => MT nD τ sig Unit (Elt F) ℕ (UR sig nD τ) ℕ

set_option maxHeartbeats 4000000 in
/-- The body from the four windows' buffers and the scratch at any contents: the inputs are kept, the result window holds `out`. -/
theorem body_run (c : Dev nD) (i : grid0.Coords) (arg3 : Memref sig .tc .vmem S1x4x64x1024 .bf16) (harg3 : arg3.IsWhole) (arg4 : Memref sig .tc .vmem S1x1x8448x64 .bf16) (harg4 : arg4.IsWhole) (arg5 : Memref sig .tc .vmem S1x1x80x8448 .bf16) (harg5 : arg5.IsWhole) (arg6 : Memref sig .tc .vmem S1x1024x256 .bf16) (harg6 : arg6.IsWhole) (arg7 : Memref sig .tc .vmem S2x384x1024 .f32) (harg7 : arg7.IsWhole) (arg8 : Memref sig .tc .vmem S4x1x1024 .f32) (harg8 : arg8.IsWhole) (arg9 : Memref sig .tc .vmem S4x80x1024 .f32) (harg9 : arg9.IsWhole)
    (x3 : Vec F S1x4x64x1024 .bf16) (x4 : Vec F S1x1x8448x64 .bf16) (x5 : Vec F S1x1x80x8448 .bf16) (y6 : Vec F S1x1024x256 .bf16)
    (y7 : Vec F S2x384x1024 .f32) (y8 : Vec F S4x1x1024 .f32) (y9 : Vec F S4x80x1024 .f32) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare y6
        ∗ owns (c : Thread nD τ) arg7 fullShare y7 ∗ owns (c : Thread nD τ) arg8 fullShare y8 ∗ owns (c : Thread nD τ) arg9 fullShare y9
        ∗ (iprop(owns (c : Thread nD τ) arg3 fullShare x3 ∗ owns (c : Thread nD τ) arg4 fullShare x4 ∗ owns (c : Thread nD τ) arg5 fullShare x5 ∗ owns (c : Thread nD τ) arg6 fullShare (out x3 x4 x5)
            ∗ (∃ y, owns (c : Thread nD τ) arg7 fullShare y) ∗ (∃ y, owns (c : Thread nD τ) arg8 fullShare y) ∗ (∃ y, owns (c : Thread nD τ) arg9 fullShare y)) -∗ K ⟨⟩))
      ⊢ wp frame (wpE (defs₀ (F := F)) Variants.none c none) E (cc0_flash_gqa i arg3 harg3 arg4 harg4 arg5 harg5 arg6 harg6 arg7 harg7 arg8 harg8 arg9 harg9) K := by
  simp only [cc0_flash_gqa_eq_skeleton]; unfold cc0_flash_gqa_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg3.eq_unread hf3; obtain rfl := harg4.eq_unread hf4; obtain rfl := harg5.eq_unread hf5
  sl_exec
  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap
    · iexact H6
    ipureintro
    sl_unfold_words
    have h := run_holds (F := F) Variants.none c none i arg3 harg3 arg4 harg4 arg5 harg5 arg6 harg6 arg7 harg7 arg8 harg8 arg9 harg9
      (harg3.unread x3) (harg4.unread x4) (harg5.unread x5) _ _ _ (init_holds arg3 arg4 arg7 arg8 arg9 (harg3.unread x3) (harg4.unread x4) f7 arg8.view.junk arg9.view.junk)
      (Scf.trips k0_t1_loop.lb k0_t1_loop.ub k0_t1_loop.st) le_rfl
    simp only [View.readCov, View.writes_append]
    have h0 := h.a0
    have h1 := h.a1
    have h2 := h.a2
    have h3 := h.a3
    rw [h0, h1, h2, h3, hf3, hf4, hf5]
    exact View.read_writes_full _ _ _ _ _
  isplitl [H7]
  · iexists _; iexists _; isplitr
    swap; · iexact H7
    ipureintro; rfl
  isplitl [H8]
  · iexists _; iexists _; isplitr
    swap; · iexact H8
    ipureintro; rfl
  iexists _; iexists _; isplitr
  swap; · iexact H9
  ipureintro; rfl

section Point

variable (m : (ℓ : Loc nD τ sig) → Buf (Elt F) ℓ) (ρ : Dev nD → PrngReg)

/-- What the pipeline's proof is about: the windows' arrays as they are on entry, the input windows' blocks kept, the result
window's block at `out`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out (iblk m c 0 t) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := rfl
theorem dats_in0 (c : Dev nD) (t : Fin cfg0.N) : (dats m 0 c).after 0 t = iblk m c 0 t := rfl
theorem dats_in1 (c : Dev nD) (t : Fin cfg0.N) : (dats m 0 c).after 1 t = iblk m c 1 t := rfl
theorem dats_in2 (c : Dev nD) (t : Fin cfg0.N) : (dats m 0 c).after 2 t = iblk m c 2 t := rfl
theorem dats_out (c : Dev nD) (t : Fin cfg0.N) : (dats m 0 c).after 3 t = out (iblk m c 0 t) (iblk m c 1 t) (iblk m c 2 t) := rfl

/-- What the pipeline keeps between points: the three scratch buffers at some contents, and the generator's register. -/
theorem kept_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- A window's buffer at a point as the pipeline holds it before and after the body. -/
abbrev buf0 (t : Fin cfg0.N) : Memref sig .tc .vmem S1x4x64x1024 .bf16 := win0_0.stage (cfg0.slots t 0)
abbrev buf1 (t : Fin cfg0.N) : Memref sig .tc .vmem S1x1x8448x64 .bf16 := win0_1.stage (cfg0.slots t 1)
abbrev buf2 (t : Fin cfg0.N) : Memref sig .tc .vmem S1x1x80x8448 .bf16 := win0_2.stage (cfg0.slots t 2)
abbrev buf3 (t : Fin cfg0.N) : Memref sig .tc .vmem S1x1024x256 .bf16 := win0_3.stage (cfg0.slots t 3)

/-- What the body finds at point `t`. -/
def found (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d)))

/-- What the body leaves at point `t`. -/
def left (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem point_run (c : Dev nD) (t : Fin cfg0.N) :
    found m c t ⊢ wp frame (wpE (defs₀ (F := F)) Variants.none c none) Set.univ (bodyAt0 t) (fun _ => left m c t) := by
  unfold found left bodyAt0
  simp only [before0_0_of m (dats m 0 c) (dats_A m c 0) (dats_in0 m c), before0_1_of m (dats m 0 c) (dats_A m c 1) (dats_in1 m c),
    before0_2_of m (dats m 0 c) (dats_A m c 2) (dats_in2 m c)]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, kept_eq,
    show (dats m 0 c).leavesExact 0 t = owns (c : Thread nD τ) (buf0 t) fullShare (iblk m c 0 t) from rfl,
    show (dats m 0 c).leavesExact 1 t = owns (c : Thread nD τ) (buf1 t) fullShare (iblk m c 1 t) from rfl,
    show (dats m 0 c).leavesExact 2 t = owns (c : Thread nD τ) (buf2 t) fullShare (iblk m c 2 t) from rfl,
    show (dats m 0 c).leavesExact 3 t = owns (c : Thread nD τ) (buf3 t) fullShare (out (iblk m c 0 t) (iblk m c 1 t) (iblk m c 2 t)) from rfl]
  iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩⟩
  iapply (body_run c (grid0.coords t) _ _ _ _ _ _ _ _ _ _ _ _ _ _ (iblk m c 0 t) (iblk m c 1 t) (iblk m c 2 t) _ _ _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

/-- The pipeline calls the body of the program on the windows' buffers. -/
theorem row (t : Fin cfg0.N) : (defs₀ (F := F)) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (point_run m c t) rfl .rfl fun _ => .rfl

set_option backward.isDefEq.respectTransparency.types false in
/-- The whole run: every array of the pipeline at what the points leave, and no counter above zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c w => by unfold Dat.share; split <;> rfl) (howed := fun _ _ => rfl) (V := V m) (hmain := hmain m Variants.none) (hA := dats_A m) (hin := fun _ => .rfl) (hout := fun _ => .rfl)

theorem run_final : θ_run defs (onTc (τ := τ) (main (F := F))) (s₀ m ρ) (Pipeline.FramePost cfgs (dats m) 0 (V m)) :=
  (θ_run defs _ _).mono (fun _ h => h.1) (run_all m ρ)

/-- The arguments are as they were once the program has ended, and no counter is above zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (frame_of m ρ (dats m) (dats_A m) (run_final m ρ)) ((θ_run defs _ _).mono (fun _ h => h.2) (run_all m ρ))

end Point

end Cert.KernelIdeal.Flash

end
-- ==== Proof.FlashValue.lean ====
/-
  The attention kernel's result array: for real queries and keys it is the reference's.
-/
module

public import proofs.«01_k».proof.Proof.FlashBlocks
public import proofs.«01_k».proof.Proof.FlashLoop
public import proofs.«01_k».proof.Proof.FlashRef
public import proofs.«01_k».proof.Proof.FlashFrameIdeal
public import Idealize.ShloMosaic.Lib.Pipeline.Value

@[expose] public section

set_option maxRecDepth 16384

noncomputable section

namespace Cert.KernelIdeal.Flash

open Cert.KernelIdeal Cert.KernelIdeal.Gen Idealize.ShloMosaic Idealize.ShloMosaic.TcCoe Idealize.SL.Sem Idealize.ShloMosaic.StableHlo Idealize.ShloMosaic.Pipeline
open Cert.FlashMath

variable (m : (ℓ : Loc nD τ sig) → Buf (Elt Ideal) ℓ) (c : Dev nD)

/-- The reference's result on the kernel's arguments. -/
def want : Vec Ideal S2x8192x512 .bf16 :=
  Cert.ReferenceIdeal.Read.val_main_v22 (F := Ideal) (m ((c : Thread nD τ).loc main_arg0)) (m ((c : Thread nD τ).loc main_arg1)) (m ((c : Thread nD τ).loc main_arg2))

/-- The queries and keys of the arguments are real numbers. -/
def RealArgs : Prop :=
  (∀ i, ∃ z : ℝ, (m ((c : Thread nD τ).loc main_arg0) : Vec Ideal S2x8x64x8192 .bf16) i = ((z : ℝ) : EReal))
    ∧ ∀ i, ∃ z : ℝ, (m ((c : Thread nD τ).loc main_arg1) : Vec Ideal S2x2x8448x64 .bf16) i = ((z : ℝ) : EReal)

/-- What a grid point writes is the reference's result there. -/
theorem point_apply (H : RealArgs m c) (t : Fin cfg0.N) (u : Fin 1) (r : Fin 1024) (h : Fin 4) (d : Fin 64) :
    out (F := Ideal) (iblk m c 0 t) (iblk m c 1 t) (iblk m c 2 t) (ix3 u r ⟨64 * h.val + d.val, by omega⟩)
      = want m c (ix3 (bOf t) (sOf t r) ⟨(gOf t).val * 256 + h.val * 64 + d.val, by omega⟩) := by
  obtain ⟨hq, hk⟩ := H
  choose Q hQ using hq
  choose K hK using hk
  refine (out_apply _ _ _ (fun k e => K (ix4 (bOf t) (gOf t) k e)) (fun h e r => Q (ix4 (bOf t) ⟨(gOf t).val * 4 + h.val, by omega⟩ e (sOf t r)))
    (fun k e => (blk1 m c t k e).trans (hK _)) (fun h e r => (blk0 m c t h e r).trans (hQ _)) (fun k => blk2_one m c t k) u r h d).trans ?_
  refine Eq.trans (Finset.sum_congr rfl fun k _ => ?_) (Cert.FlashRef.result_apply _ _ _ (fun k e => K (ix4 (bOf t) (gOf t) k e))
    (fun e => Q (ix4 (bOf t) ⟨(gOf t).val * 4 + h.val, by omega⟩ e (sOf t r))) (bOf t) (gOf t) d h (sOf t r) (fun k e => hK _) (fun e => hQ _)).symm
  exact congrArg (· * _) (blk2_value m c t d k)

theorem flushed_eq (H : RealArgs m c) (t : Fin cfg0.N) :
    (dats m 0 c).flushed 3 t = ((cfg0.win 3).blk t).view.read (Elt Ideal) (want m c) := by
  show (cfg0.win 3).cut (grid0.coords t) ((dats m 0 c).after 3 t) = _
  rw [dats_out]
  obtain ⟨-, -, -, ⟨e0, e1, e2⟩, -⟩ := index_facts t
  funext y
  have y0 : (y 0).val < 1 := (y 0).isLt
  have y1 : (y 1).val < 1024 := (y 1).isLt
  have y2 : (y 2).val < 256 := (y 2).isLt
  have key := point_apply m c H t ⟨(y 0).val, y0⟩ ⟨(y 1).val, y1⟩ ⟨(y 2).val / 64, by omega⟩ ⟨(y 2).val % 64, by omega⟩
  refine Eq.trans ?_ (key.trans ?_)
  · refine congrArg (out (F := Ideal) (iblk m c 0 t) (iblk m c 1 t) (iblk m c 2 t)) (funext fun a => Fin.ext ?_)
    match a with
    | ⟨0, _⟩ => rfl
    | ⟨1, _⟩ => rfl
    | ⟨2, _⟩ => show (y 2).val = 64 * ((y 2).val / 64) + (y 2).val % 64; omega
  · refine congrArg (want m c) (funext fun a => Fin.ext ?_)
    match a with
    | ⟨0, _⟩ => show t.val / 16 = win0_3.index t (0 : Fin 3) * 1 + 1 * (y 0).val; omega
    | ⟨1, _⟩ => show 1024 * (t.val % 8) + (y 1).val = win0_3.index t (1 : Fin 3) * 1024 + 1 * (y 1).val; omega
    | ⟨2, _⟩ => show t.val / 8 % 2 * 256 + (y 2).val / 64 * 64 + (y 2).val % 64 = win0_3.index t (2 : Fin 3) * 256 + 1 * (y 2).val; omega

theorem mem_out (t : Fin cfg0.N) (i : S2x8192x512.Idx) :
    i ∈ ((cfg0.win 3).blk t).view.set ↔ ∀ a : Fin 3, win0_3.index t a * S1x1024x256.size a ≤ (i a).val ∧ (i a).val < win0_3.index t a * S1x1024x256.size a + S1x1024x256.size a := by
  show i ∈ ((View.whole main_v6).slice (win0_3.rect t)).set ↔ _
  rw [View.set_slice_whole, Rect.mem_set_unit]
  exact Iff.rfl

theorem covered (i : S2x8192x512.Idx) : ∃ t : Fin cfg0.N, (cfg0.win 3).flush t = true ∧ i ∈ ((cfg0.win 3).blk t).view.set := by
  have i0 : (i 0).val < 2 := (i 0).isLt
  have i1 : (i 1).val < 8192 := (i 1).isLt
  have i2 : (i 2).val < 512 := (i 2).isLt
  let t : Fin cfg0.N := ⟨16 * (i 0).val + 8 * ((i 2).val / 256) + (i 1).val / 1024, lt_of_lt_of_eq (by omega) N_0.symm⟩
  obtain ⟨-, -, -, ⟨e0, e1, e2⟩, hf⟩ := index_facts t
  have ht : t.val = 16 * (i 0).val + 8 * ((i 2).val / 256) + (i 1).val / 1024 := rfl
  refine ⟨t, hf, ?_⟩
  rw [mem_out]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 256 ≤ (i 2).val ∧ (i 2).val < win0_3.index t (2 : Fin 3) * 256 + 256; omega

theorem final_eq (H : RealArgs m c) : (dats m 0 c).arrAt 3 cfg0.N = want m c :=
  (dats m 0 c).arrAt_eq_of_cover 3 _ (fun t _ => flushed_eq m c H t) covered

end Cert.KernelIdeal.Flash
end
end
-- ==== Proof.FlashClaim.lean ====
/-
  The claims about the attention call: the three programs run and leave their arguments alone, the idealization rewrites
  nothing, and kernel and reference return the same array when the queries and keys are finite.
-/
module

public import proofs.«01_k».proof.Defs
public import proofs.«01_k».proof.Proof.FlashFrame
public import proofs.«01_k».proof.Proof.FlashValue
public import proofs.«01_k».proof.Proof.Gen.ReferenceIdeal.Run
public import Idealize.ShloMosaic.Lib.ReduceAll

@[expose] public section

noncomputable section

namespace Cert.FlashClaim

open Idealize.ShloMosaic Idealize.ShloMosaic.TcCoe Idealize.SL.Sem

/-- The shape relations of the precondition's operations. -/
theorem facts : Cert.Pre_finite.Facts where
  bitsLt_bf16_f32 := by decide
  bcast_S_S2x8x64x8192 := by decide
  reducesTo_S2x8x64x8192_S_d0_1_2_3 := by decide
  h_S_ := by decide
  bcast_S_S2x2x8448x64 := by decide
  reducesTo_S2x2x8448x64_S_d0_1_2_3 := by decide

instance : Subsingleton Cert.Pre_finite.S_.Idx := ⟨fun a b => funext fun x => x.elim0⟩

/-- A value whose absolute value is below infinity is a real number. -/
theorem real_of_lt (x : EReal) (h : Ideal.cmp .olt (max x (-x)) (Ideal.ofBits .f32 0x7F800000#32) = 1#1) : ∃ z : ℝ, x = (z : EReal) := by
  rw [Cert.FlashMath.top_bits] at h
  induction x using EReal.rec with
  | bot => simp [Ideal.cmp] at h
  | top => simp [Ideal.cmp] at h
  | coe z => exact ⟨z, rfl⟩

theorem finite_real [Cert.Pre_finite.Facts] (x0 : FVec Ideal Cert.Pre_finite.S2x8x64x8192 .bf16) (x1 : FVec Ideal Cert.Pre_finite.S2x2x8448x64 .bf16)
    (x2 : FVec Ideal Cert.Pre_finite.S2x2x64x8448 .bf16) (h : Cert.Pre_finite.fn (F := Ideal) x0 x1 x2 = fun _ => 1#1) :
    (∀ i, ∃ z : ℝ, (x0 i : EReal) = (z : EReal)) ∧ ∀ i, ∃ z : ℝ, (x1 i : EReal) = (z : EReal) := by
  have e := congrFun h (fun a => a.elim0)
  unfold Cert.Pre_finite.fn at e
  obtain ⟨e0, e1⟩ := IntOp.andi_eq_one.1 e
  exact ⟨fun i => real_of_lt _ (Host.reduce_andi_all _ _ _ _ _ e0 i), fun i => real_of_lt _ (Host.reduce_andi_all _ _ _ _ _ e1 i)⟩

theorem frame_kernel : Cert.quiescent_Kernel := fun m ρ _ => Cert.Kernel.Flash.frame m ρ

theorem frame_ideal : Cert.quiescent_KernelIdeal := fun m ρ _ => Cert.KernelIdeal.Flash.frame m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ideal_finite [Cert.Pre_finite.Facts] : Cert.quiescent_KernelIdeal_pre_finite := fun m ρ _ => Cert.KernelIdeal.Flash.frame m ρ

theorem frame_reference_finite [Cert.Pre_finite.Facts] : Cert.quiescent_ReferenceIdeal_pre_finite := fun m ρ _ => frame_reference m ρ trivial

theorem preserves : Cert.preserves_Kernel_KernelIdeal := trivial

/-- The kernel's run: its result array is the reference's result, its arguments are unchanged. -/
theorem kernel_run [Cert.Pre_finite.Facts] (m : (ℓ : Loc Cert.KernelIdeal.nD Cert.KernelIdeal.τ Cert.KernelIdeal.sig) → Buf (Elt Ideal) ℓ)
    (g : Dev Cert.KernelIdeal.nD → PrngReg) (hpre : Cert.Pre_KernelIdeal_finite m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v6) = Cert.KernelIdeal.Flash.want m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono
    (fun r h c => ⟨((h.1 c).1 3).trans (Cert.KernelIdeal.Flash.final_eq m c (finite_real _ _ _ (hpre c))), h.2.1 c⟩)
    (θ_run_and (Cert.KernelIdeal.Flash.run_final m g) (Cert.KernelIdeal.Flash.frame m g))

/-- Kernel and reference, started on the same arguments with finite queries and keys, return the same array. -/
theorem algebraic [Cert.Pre_finite.Facts] : Cert.algebraic_KernelIdeal_ReferenceIdeal_pre_finite := fun m g m' g' hpre hagree => by
  refine ⟨fun c => Cert.KernelIdeal.Flash.want m c, kernel_run m g hpre, ?_⟩
  refine (θ_run Cert.ReferenceIdeal.defs _ _).mono (fun r h c => ⟨(h c).1.trans ?_, (h c).2⟩)
    (Cert.ReferenceIdeal.Value.run (F := Ideal) m' g')
  obtain ⟨h0, h1, h2⟩ := hagree c
  rw [Cert.ReferenceIdeal.Read.val_main_v22_eq, h0, h1, h2]
  rfl

end Cert.FlashClaim
end
end
-- ==== Proof.FfnCases.lean ====
/-
  The feed-forward call's body, case by case: what a grid point's stores leave in the carried scratch and in the
  block of the result, as the body's own expressions of the blocks it reads.
-/
module

public import proofs.«01_k».proof.Proof.Gen.FfnIdeal.Value
public import Idealize.ShloMosaic.Lib.Pipeline.Value
public import Idealize.ShloMosaic.Lib.Tactic

@[expose] public section

set_option maxRecDepth 16384

noncomputable section

namespace Cert.FfnIdeal.Cases

open Cert.FfnIdeal Cert.FfnIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- At a first point the normalised and modulated rows are stored. -/
theorem sout0_A_0_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (hc0 : cond0_0 i) (hc1 : ¬cond0_1 i)
    (x0 : Vec F S1x1024x1024 .f32) (x1 : Vec F S1x1x1024 .f32) (x2 : Vec F S1x1x1024 .f32) (x3 : Vec F S1x1x1024 .f32) (x4 : Vec F S1x1024 .f32) (x5 : Vec F S1024x256 .bf16) (x6 : Vec F S1024x256 .bf16) (x7 : Vec F S256x1024 .bf16) (x8 : Vec F S1x1024 .f32) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 x0 x4 x2 x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1024x1024) hz3, View.ld_unit_zero (S := S1x1x1024) hz3, View.ld_unit_zero (S := S1x1024) hz2,
    View.ld_unit_zero (S := S1024x256) hz2, View.ld_unit_zero (S := S256x1024) hz2, View.ld_unit_zero (S := S1024x1024) hz2]

/-- At a first point the accumulator is zero plus the first product. -/
theorem sout0_A_1_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (hc0 : cond0_0 i) (hc1 : ¬cond0_1 i)
    (x0 : Vec F S1x1024x1024 .f32) (x1 : Vec F S1x1x1024 .f32) (x2 : Vec F S1x1x1024 .f32) (x3 : Vec F S1x1x1024 .f32) (x4 : Vec F S1x1024 .f32) (x5 : Vec F S1024x256 .bf16) (x6 : Vec F S1024x256 .bf16) (x7 : Vec F S256x1024 .bf16) (x8 : Vec F S1x1024 .f32) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay3 (k0_pay1 x0 x4 x2 x1) x5 x6 (k0_pay2 (F := F)) x7 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S1024x1024) hz2, View.readCov_unit_zero (S := S1024x1024) _ hz2, View.readCov_unit_zero (S := S1024x1024) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1024x1024) hz3, View.ld_unit_zero (S := S1x1x1024) hz3, View.ld_unit_zero (S := S1x1024) hz2,
    View.ld_unit_zero (S := S1024x256) hz2, View.ld_unit_zero (S := S256x1024) hz2, View.ld_unit_zero (S := S1024x1024) hz2]

/-- At an inner point the accumulator gains one product. -/
theorem sout0_B_1_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (hc0 : ¬cond0_0 i) (hc1 : ¬cond0_1 i)
    (x0 : Vec F S1x1024x1024 .f32) (x1 : Vec F S1x1x1024 .f32) (x2 : Vec F S1x1x1024 .f32) (x3 : Vec F S1x1x1024 .f32) (x4 : Vec F S1x1024 .f32) (x5 : Vec F S1024x256 .bf16) (x6 : Vec F S1024x256 .bf16) (x7 : Vec F S256x1024 .bf16) (x8 : Vec F S1x1024 .f32) (xs0 : Vec F S1024x1024 .bf16) (xs1 : Vec F S1024x1024 .f32) :
    sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay3 xs0 x5 x6 xs1 x7 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1024x1024) hz3, View.ld_unit_zero (S := S1x1x1024) hz3, View.ld_unit_zero (S := S1x1024) hz2,
    View.ld_unit_zero (S := S1024x256) hz2, View.ld_unit_zero (S := S256x1024) hz2, View.ld_unit_zero (S := S1024x1024) hz2]

/-- At a last point the accumulator gains one product. -/
theorem sout0_C_1_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (hc0 : ¬cond0_0 i) (hc1 : cond0_1 i)
    (x0 : Vec F S1x1024x1024 .f32) (x1 : Vec F S1x1x1024 .f32) (x2 : Vec F S1x1x1024 .f32) (x3 : Vec F S1x1x1024 .f32) (x4 : Vec F S1x1024 .f32) (x5 : Vec F S1024x256 .bf16) (x6 : Vec F S1024x256 .bf16) (x7 : Vec F S256x1024 .bf16) (x8 : Vec F S1x1024 .f32) (xs0 : Vec F S1024x1024 .bf16) (xs1 : Vec F S1024x1024 .f32) :
    sout0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay3 xs0 x5 x6 xs1 x7 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1024x1024) hz3, View.ld_unit_zero (S := S1x1x1024) hz3, View.ld_unit_zero (S := S1x1024) hz2,
    View.ld_unit_zero (S := S1024x256) hz2, View.ld_unit_zero (S := S256x1024) hz2, View.ld_unit_zero (S := S1024x1024) hz2]

/-- At a last point the block of the result is computed from the accumulator. -/
theorem out0_C_9_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (hc0 : ¬cond0_0 i) (hc1 : cond0_1 i)
    (x0 : Vec F S1x1024x1024 .f32) (x1 : Vec F S1x1x1024 .f32) (x2 : Vec F S1x1x1024 .f32) (x3 : Vec F S1x1x1024 .f32) (x4 : Vec F S1x1024 .f32) (x5 : Vec F S1024x256 .bf16) (x6 : Vec F S1024x256 .bf16) (x7 : Vec F S256x1024 .bf16) (x8 : Vec F S1x1024 .f32) (xs0 : Vec F S1024x1024 .bf16) (xs1 : Vec F S1024x1024 .f32) :
    out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay4 x0 x3 (k0_pay3 xs0 x5 x6 xs1 x7) x8 := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_unit_zero hz3, View.readCov_unit_zero (S := S1024x1024) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1024x1024) hz3, View.ld_unit_zero (S := S1x1x1024) hz3, View.ld_unit_zero (S := S1x1024) hz2,
    View.ld_unit_zero (S := S1024x256) hz2, View.ld_unit_zero (S := S256x1024) hz2, View.ld_unit_zero (S := S1024x1024) hz2]

end Cert.FfnIdeal.Cases

end
-- ==== Proof.FfnPay.lean ====
/-
  The feed-forward call's stored expressions read at one element, as functions of one row: the normalised and modulated
  row, one hidden unit, a slice's contribution to the down projection, and the normalised residual row.
-/
module

public import proofs.«01_k».proof.Proof.FfnCases
public import Idealize.ShloMosaic.Lib.Pointwise

@[expose] public section

set_option maxRecDepth 16384

noncomputable section

namespace Cert.FfnValue

open Cert.FfnIdeal Cert.FfnIdeal.Gen Idealize.ShloMosaic Idealize.ShloMosaic.TcCoe Idealize.SL.Sem

/-- A row divided by its root mean square. -/
def rms (x : Fin 1024 → EReal) (d : Fin 1024) : EReal :=
  x d * Ideal.rsqrt (Ideal.div (∑ k : Fin 1024, x k * x k) (Ideal.ofBits .f32 0x44800000#32) + Ideal.ofBits .f32 0x358637BD#32)

/-- The normalised row, scaled by the gain and modulated. -/
def modRow (x g sc sh : Fin 1024 → EReal) (d : Fin 1024) : EReal :=
  rms x d * g d * (Ideal.ofBits .f32 0x3F800000#32 + sc d) + sh d

/-- The gate's nonlinearity. -/
def silu (z : EReal) : EReal :=
  z * Ideal.div (Ideal.ofBits .f32 0x3F800000#32) (Ideal.ofBits .f32 0x3F800000#32 + Ideal.exp (-z))

/-- One hidden unit of one row. -/
def hid (h : Fin 1024 → EReal) (wg wu : Fin 1024 → EReal) : EReal :=
  silu (∑ e : Fin 1024, h e * wg e) * ∑ e : Fin 1024, h e * wu e

theorem pay1_apply (x : Vec Ideal S1x1024x1024 .f32) (g : Vec Ideal S1x1024 .f32) (sc sh : Vec Ideal S1x1x1024 .f32)
    (r d : Fin 1024) :
    k0_pay1 (F := Ideal) x g sc sh (ix2 r d)
      = modRow (fun k => x (ix3 0 r k)) (fun k => g (ix2 0 k)) (fun k => sc (ix3 0 0 k)) (fun k => sh (ix3 0 0 k)) d := by
  pointwise [k0_pay1, modRow, rms]

theorem pay2_apply (r d : Fin 1024) : k0_pay2 (F := Ideal) (ix2 r d) = 0 := by
  pointwise [k0_pay2]

theorem pay3_apply (h : Vec Ideal S1024x1024 .bf16) (wg wu : Vec Ideal S1024x256 .bf16) (acc : Vec Ideal S1024x1024 .f32)
    (wd : Vec Ideal S256x1024 .bf16) (r d : Fin 1024) :
    k0_pay3 (F := Ideal) h wg wu acc wd (ix2 r d)
      = acc (ix2 r d) + ∑ k : Fin 256, hid (fun e => h (ix2 r e)) (fun e => wg (ix2 e k)) (fun e => wu (ix2 e k)) * wd (ix2 k d) := by
  pointwise [k0_pay3, hid, silu]
  simp only [zero_sub]

theorem pay4_apply (x : Vec Ideal S1x1024x1024 .f32) (g2 : Vec Ideal S1x1x1024 .f32) (acc : Vec Ideal S1024x1024 .f32)
    (fg : Vec Ideal S1x1024 .f32) (u : Fin 1) (r d : Fin 1024) :
    k0_pay4 (F := Ideal) x g2 acc fg (ix3 u r d)
      = rms (fun k => x (ix3 0 r k) + g2 (ix3 0 0 k) * acc (ix2 r k)) d * fg (ix2 0 d) := by
  pointwise [k0_pay4, rms]

end Cert.FfnValue
end
end
-- ==== Proof.FfnBlocks.lean ====
/-
  The feed-forward call's input blocks read at one element: at grid point `t` the rows of batch `t / 88`, positions
  `1024 * (t / 11 % 8) …`, and the weights of hidden slice `t % 11`.
-/
module

public import proofs.«01_k».proof.Proof.FfnPay
public import Idealize.ShloMosaic.Lib.Claim

@[expose] public section

set_option maxRecDepth 16384

noncomputable section

namespace Cert.FfnValue

open Cert.FfnIdeal Cert.FfnIdeal.Gen Idealize.ShloMosaic Idealize.ShloMosaic.TcCoe Idealize.SL.Sem Idealize.ShloMosaic.StableHlo

variable (m : (ℓ : Loc nD τ sig) → Buf (Elt Ideal) ℓ) (c : Dev nD)

theorem V_v0 : V m c main_v0 = broadcastInDim S1x1024 ![1] bcast_S1024_S1x1024_1 (m ((c : Thread nD τ).loc main_arg4)) := by
  unfold V
  after_results
theorem V_v1 : V m c main_v1 = truncf (F := Ideal) .bf16 (m ((c : Thread nD τ).loc main_arg5) : FVec Ideal S1024x5632 .f32) bitsLt_bf16_f32 := by
  unfold V
  after_results
theorem V_v2 : V m c main_v2 = truncf (F := Ideal) .bf16 (m ((c : Thread nD τ).loc main_arg6) : FVec Ideal S2816x1024 .f32) bitsLt_bf16_f32 := by
  unfold V
  after_results
theorem V_v3 : V m c main_v3 = broadcastInDim S1x1024 ![1] bcast_S1024_S1x1024_1 (m ((c : Thread nD τ).loc main_arg7)) := by
  unfold V
  after_results

theorem index_facts : ∀ t : Fin cfg0.N,
    (win0_0.index t (0 : Fin 3) = t.val / 88 ∧ win0_0.index t (1 : Fin 3) = t.val / 11 % 8 ∧ win0_0.index t (2 : Fin 3) = 0)
    ∧ (win0_1.index t (0 : Fin 3) = t.val / 88 ∧ win0_1.index t (1 : Fin 3) = 0 ∧ win0_1.index t (2 : Fin 3) = 0)
    ∧ (win0_2.index t (0 : Fin 3) = t.val / 88 ∧ win0_2.index t (1 : Fin 3) = 0 ∧ win0_2.index t (2 : Fin 3) = 0)
    ∧ (win0_3.index t (0 : Fin 3) = t.val / 88 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = t.val % 11)
    ∧ (win0_6.index t (0 : Fin 2) = 0 ∧ win0_6.index t (1 : Fin 2) = 11 + t.val % 11)
    ∧ (win0_7.index t (0 : Fin 2) = t.val % 11 ∧ win0_7.index t (1 : Fin 2) = 0)
    ∧ (win0_8.index t (0 : Fin 2) = 0 ∧ win0_8.index t (1 : Fin 2) = 0) :=
  (by decide +kernel : ∀ t : Fin grid0.N, _)

theorem lt_N (t : Fin cfg0.N) : t.val < 176 := lt_of_lt_of_eq t.isLt (show cfg0.N = 176 from N_0)

/-- The batch of grid point `t`. -/
def bOf (t : Fin cfg0.N) : Fin 2 := ⟨t.val / 88, by have := lt_N t; omega⟩
/-- The position of row `r` of grid point `t`'s block. -/
def sOf (t : Fin cfg0.N) (r : Fin 1024) : Fin 8192 := ⟨1024 * (t.val / 11 % 8) + r.val, by omega⟩
/-- The hidden unit at place `k` of grid point `t`'s slice. -/
def fOf (t : Fin cfg0.N) (k : Fin 256) : Fin 2816 := ⟨256 * (t.val % 11) + k.val, by omega⟩

theorem blk0 (t : Fin cfg0.N) (r d : Fin 1024) :
    (iblk m c 0 t : Vec Ideal S1x1024x1024 .f32) (ix3 0 r d) = m ((c : Thread nD τ).loc main_arg0) (ix3 (bOf t) (sOf t r) d) := by
  obtain ⟨⟨e0, e1, e2⟩, -⟩ := index_facts t
  refine (congrFun (V_main_arg0 m c) _).trans (congrArg (m ((c : Thread nD τ).loc main_arg0)) (funext fun a => Fin.ext ?_))
  match a with
  | ⟨0, _⟩ => show win0_0.index t (0 : Fin 3) * 1 + 1 * 0 = t.val / 88; omega
  | ⟨1, _⟩ => show win0_0.index t (1 : Fin 3) * 1024 + 1 * r.val = 1024 * (t.val / 11 % 8) + r.val; omega
  | ⟨2, _⟩ => show win0_0.index t (2 : Fin 3) * 1024 + 1 * d.val = d.val; omega

theorem blk1 (t : Fin cfg0.N) (d : Fin 1024) :
    (iblk m c 1 t : Vec Ideal S1x1x1024 .f32) (ix3 0 0 d) = m ((c : Thread nD τ).loc main_arg1) (ix3 (bOf t) 0 d) := by
  obtain ⟨-, ⟨e0, e1, e2⟩, -⟩ := index_facts t
  refine (congrFun (V_main_arg1 m c) _).trans (congrArg (m ((c : Thread nD τ).loc main_arg1)) (funext fun a => Fin.ext ?_))
  match a with
  | ⟨0, _⟩ => show win0_1.index t (0 : Fin 3) * 1 + 1 * 0 = t.val / 88; omega
  | ⟨1, _⟩ => show win0_1.index t (1 : Fin 3) * 1 + 1 * 0 = 0; omega
  | ⟨2, _⟩ => show win0_1.index t (2 : Fin 3) * 1024 + 1 * d.val = d.val; omega

theorem blk2 (t : Fin cfg0.N) (d : Fin 1024) :
    (iblk m c 2 t : Vec Ideal S1x1x1024 .f32) (ix3 0 0 d) = m ((c : Thread nD τ).loc main_arg2) (ix3 (bOf t) 0 d) := by
  obtain ⟨-, -, ⟨e0, e1, e2⟩, -⟩ := index_facts t
  refine (congrFun (V_main_arg2 m c) _).trans (congrArg (m ((c : Thread nD τ).loc main_arg2)) (funext fun a => Fin.ext ?_))
  match a with
  | ⟨0, _⟩ => show win0_2.index t (0 : Fin 3) * 1 + 1 * 0 = t.val / 88; omega
  | ⟨1, _⟩ => show win0_2.index t (1 : Fin 3) * 1 + 1 * 0 = 0; omega
  | ⟨2, _⟩ => show win0_2.index t (2 : Fin 3) * 1024 + 1 * d.val = d.val; omega

theorem blk3 (t : Fin cfg0.N) (d : Fin 1024) :
    (iblk m c 3 t : Vec Ideal S1x1x1024 .f32) (ix3 0 0 d) = m ((c : Thread nD τ).loc main_arg3) (ix3 (bOf t) 0 d) := by
  obtain ⟨-, -, -, ⟨e0, e1, e2⟩, -⟩ := index_facts t
  refine (congrFun (V_main_arg3 m c) _).trans (congrArg (m ((c : Thread nD τ).loc main_arg3)) (funext fun a => Fin.ext ?_))
  match a with
  | ⟨0, _⟩ => show win0_3.index t (0 : Fin 3) * 1 + 1 * 0 = t.val / 88; omega
  | ⟨1, _⟩ => show win0_3.index t (1 : Fin 3) * 1 + 1 * 0 = 0; omega
  | ⟨2, _⟩ => show win0_3.index t (2 : Fin 3) * 1024 + 1 * d.val = d.val; omega

/-- A gain row, broadcast to one row by the host, at column `d`. -/
theorem gain_row (x : Vec Ideal S1024 .f32) (d : Fin 1024) :
    broadcastInDim S1x1024 ![1] bcast_S1024_S1x1024_1 x (ix2 0 d) = x (ix1 d) := by
  pointwise []

theorem blk4 (t : Fin cfg0.N) (d : Fin 1024) :
    (iblk m c 4 t : Vec Ideal S1x1024 .f32) (ix2 0 d) = m ((c : Thread nD τ).loc main_arg4) (ix1 d) := by
  obtain ⟨-, -, -, -, ⟨e0, e1⟩, -⟩ := index_facts t
  refine (congrFun (V_v0 m c) _).trans (Eq.trans (congrArg (broadcastInDim S1x1024 ![1] bcast_S1024_S1x1024_1 (m ((c : Thread nD τ).loc main_arg4))) (funext fun a => Fin.ext ?_)) (gain_row _ d))
  match a with
  | ⟨0, _⟩ => show win0_4.index t (0 : Fin 2) * 1 + 1 * 0 = 0; omega
  | ⟨1, _⟩ => show win0_4.index t (1 : Fin 2) * 1024 + 1 * d.val = d.val; omega

theorem blk8 (t : Fin cfg0.N) (d : Fin 1024) :
    (iblk m c 8 t : Vec Ideal S1x1024 .f32) (ix2 0 d) = m ((c : Thread nD τ).loc main_arg7) (ix1 d) := by
  obtain ⟨-, -, -, -, -, -, -, -, ⟨e0, e1⟩⟩ := index_facts t
  refine (congrFun (V_v3 m c) _).trans (Eq.trans (congrArg (broadcastInDim S1x1024 ![1] bcast_S1024_S1x1024_1 (m ((c : Thread nD τ).loc main_arg7))) (funext fun a => Fin.ext ?_)) (gain_row _ d))
  match a with
  | ⟨0, _⟩ => show win0_8.index t (0 : Fin 2) * 1 + 1 * 0 = 0; omega
  | ⟨1, _⟩ => show win0_8.index t (1 : Fin 2) * 1024 + 1 * d.val = d.val; omega

theorem blk5 (t : Fin cfg0.N) (e : Fin 1024) (k : Fin 256) :
    (iblk m c 5 t : Vec Ideal S1024x256 .bf16) (ix2 e k)
      = (m ((c : Thread nD τ).loc main_arg5) : Vec Ideal S1024x5632 .f32) (ix2 e ⟨(fOf t k).val, by omega⟩) := by
  obtain ⟨-, -, -, -, -, ⟨e0, e1⟩, -⟩ := index_facts t
  refine (congrFun (V_v1 m c) _).trans (congrArg (m ((c : Thread nD τ).loc main_arg5) : Vec Ideal S1024x5632 .f32) (funext fun a => Fin.ext ?_))
  match a with
  | ⟨0, _⟩ => show win0_5.index t (0 : Fin 2) * 1024 + 1 * e.val = e.val; omega
  | ⟨1, _⟩ => show win0_5.index t (1 : Fin 2) * 256 + 1 * k.val = 256 * (t.val % 11) + k.val; omega

theorem blk6 (t : Fin cfg0.N) (e : Fin 1024) (k : Fin 256) :
    (iblk m c 6 t : Vec Ideal S1024x256 .bf16) (ix2 e k)
      = (m ((c : Thread nD τ).loc main_arg5) : Vec Ideal S1024x5632 .f32) (ix2 e ⟨2816 + (fOf t k).val, by omega⟩) := by
  obtain ⟨-, -, -, -, -, -, ⟨e0, e1⟩, -⟩ := index_facts t
  refine (congrFun (V_v1 m c) _).trans (congrArg (m ((c : Thread nD τ).loc main_arg5) : Vec Ideal S1024x5632 .f32) (funext fun a => Fin.ext ?_))
  match a with
  | ⟨0, _⟩ => show win0_6.index t (0 : Fin 2) * 1024 + 1 * e.val = e.val; omega
  | ⟨1, _⟩ => show win0_6.index t (1 : Fin 2) * 256 + 1 * k.val = 2816 + (256 * (t.val % 11) + k.val); omega

theorem blk7 (t : Fin cfg0.N) (k : Fin 256) (d : Fin 1024) :
    (iblk m c 7 t : Vec Ideal S256x1024 .bf16) (ix2 k d)
      = (m ((c : Thread nD τ).loc main_arg6) : Vec Ideal S2816x1024 .f32) (ix2 (fOf t k) d) := by
  obtain ⟨-, -, -, -, -, -, -, ⟨e0, e1⟩, -⟩ := index_facts t
  refine (congrFun (V_v2 m c) _).trans (congrArg (m ((c : Thread nD τ).loc main_arg6) : Vec Ideal S2816x1024 .f32) (funext fun a => Fin.ext ?_))
  match a with
  | ⟨0, _⟩ => show win0_7.index t (0 : Fin 2) * 256 + 1 * k.val = 256 * (t.val % 11) + k.val; omega
  | ⟨1, _⟩ => show win0_7.index t (1 : Fin 2) * 1024 + 1 * d.val = d.val; omega

end Cert.FfnValue
end
end
-- ==== Proof.FfnRef.lean ====
/-
  The feed-forward reference's result read at one element, as the same functions of one row.
-/
module

public import proofs.«01_k».proof.Proof.FfnPay
public import proofs.«01_k».proof.Proof.Gen.FfnReferenceIdeal.Read

@[expose] public section

set_option maxRecDepth 16384

noncomputable section

namespace Cert.FfnValue

open Cert.FfnReferenceIdeal Cert.FfnReferenceIdeal.Gen Cert.FfnReferenceIdeal.Read Idealize.ShloMosaic Idealize.ShloMosaic.TcCoe Idealize.SL.Sem

variable (x0 : (⟨S2x8192x1024, .f32⟩ : BufTy).Contents (Elt Ideal)) (x1 x2 x3 : (⟨S2x1x1024, .f32⟩ : BufTy).Contents (Elt Ideal))
  (x4 : (⟨S1024, .f32⟩ : BufTy).Contents (Elt Ideal)) (x5 : (⟨S1024x5632, .f32⟩ : BufTy).Contents (Elt Ideal))
  (x6 : (⟨S2816x1024, .f32⟩ : BufTy).Contents (Elt Ideal)) (x7 : (⟨S1024, .f32⟩ : BufTy).Contents (Elt Ideal))

/-- The modulated row of batch `b`, position `s`. -/
def hrow (b : Fin 2) (s : Fin 8192) : Fin 1024 → EReal :=
  modRow (fun k => x0 (ix3 b s k)) (fun k => x4 (ix1 k)) (fun k => x2 (ix3 b 0 k)) (fun k => x1 (ix3 b 0 k))

/-- Hidden unit `f` of batch `b`, position `s`. -/
def unit (b : Fin 2) (s : Fin 8192) (f : Fin 2816) : EReal :=
  hid (hrow x0 x1 x2 x4 b s) (fun e => x5 (ix2 e ⟨f.val, by omega⟩)) (fun e => x5 (ix2 e ⟨2816 + f.val, by omega⟩))

/-- The down projection of batch `b`, position `s`. -/
def down (b : Fin 2) (s : Fin 8192) (d : Fin 1024) : EReal :=
  ∑ f : Fin 2816, unit x0 x1 x2 x4 x5 b s f * x6 (ix2 f d)

theorem v18_apply (b : Fin 2) (s : Fin 8192) (d : Fin 1024) :
    val_main_v18 (F := Ideal) x0 x1 x2 x4 (ix3 b s d) = hrow x0 x1 x2 x4 b s d := by
  pointwise [hrow, modRow, rms, val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]

theorem v23_apply (b : Fin 2) (s : Fin 8192) (f : Fin 2816) :
    val_main_v23 (F := Ideal) x0 x1 x2 x4 x5 (ix3 b s f) = unit x0 x1 x2 x4 x5 b s f := by
  unfold val_main_v23 val_main_v22 val_main_call0_v5 val_main_call0_v4 val_main_call0_v3 val_main_call0_v2 val_main_call0_v1 val_main_call0_v0 val_main_v21 val_main_v20 val_main_v19 val_main_call0_cst val_main_call0_cst_0
  have h18 := v18_apply x0 x1 x2 x4
  generalize val_main_v18 (F := Ideal) x0 x1 x2 x4 = y at h18 ⊢
  pointwise [unit, hid, silu]
  simp only [h18]

theorem v24_apply (b : Fin 2) (s : Fin 8192) (d : Fin 1024) :
    val_main_v24 (F := Ideal) x0 x1 x2 x4 x5 x6 (ix3 b s d) = down x0 x1 x2 x4 x5 x6 b s d := by
  unfold val_main_v24
  have h := v23_apply x0 x1 x2 x4 x5
  generalize val_main_v23 (F := Ideal) x0 x1 x2 x4 x5 = y at h ⊢
  pointwise [down]
  simp only [h]

theorem v40_apply (b : Fin 2) (s : Fin 8192) (d : Fin 1024) :
    val_main_v40 (F := Ideal) x0 x1 x2 x3 x4 x5 x6 x7 (ix3 b s d)
      = rms (fun k => x0 (ix3 b s k) + x3 (ix3 b 0 k) * down x0 x1 x2 x4 x5 x6 b s k) d * x7 (ix1 d) := by
  unfold val_main_v40 val_main_v39 val_main_v38 val_main_v37 val_main_v36 val_main_v35 val_main_v34 val_main_v33 val_main_cst_5 val_main_v32 val_main_v31 val_main_cst_4 val_main_v30 val_main_v29 val_main_cst_3 val_main_v28 val_main_v27 val_main_v26 val_main_v25
  have h := v24_apply x0 x1 x2 x4 x5 x6
  generalize val_main_v24 (F := Ideal) x0 x1 x2 x4 x5 x6 = y at h ⊢
  pointwise [rms]
  simp only [h]

end Cert.FfnValue
end
end
-- ==== Proof.FfnValue.lean ====
/-
  The feed-forward call's result. Along the eleven points of a run the carried scratch holds the run's modulated rows and
  the down projection of the hidden slices met so far; the last point's result is the reference's.
-/
module

public import proofs.«01_k».proof.Proof.FfnBlocks
public import proofs.«01_k».proof.Proof.FfnRef

@[expose] public section

set_option maxRecDepth 16384

noncomputable section

namespace Cert.FfnValue

open Cert.FfnIdeal Cert.FfnIdeal.Gen Cert.FfnIdeal.Cases Idealize.ShloMosaic Idealize.ShloMosaic.TcCoe Idealize.SL.Sem Idealize.ShloMosaic.StableHlo

variable (m : (ℓ : Loc nD τ sig) → Buf (Elt Ideal) ℓ) (c : Dev nD)

/-- The launch's arguments, as the arrays of numbers that they are. -/
abbrev a0 : Vec Ideal S2x8192x1024 .f32 := m ((c : Thread nD τ).loc main_arg0)
abbrev a1 : Vec Ideal S2x1x1024 .f32 := m ((c : Thread nD τ).loc main_arg1)
abbrev a2 : Vec Ideal S2x1x1024 .f32 := m ((c : Thread nD τ).loc main_arg2)
abbrev a3 : Vec Ideal S2x1x1024 .f32 := m ((c : Thread nD τ).loc main_arg3)
abbrev a4 : Vec Ideal S1024 .f32 := m ((c : Thread nD τ).loc main_arg4)
abbrev a5 : Vec Ideal S1024x5632 .f32 := m ((c : Thread nD τ).loc main_arg5)
abbrev a6 : Vec Ideal S2816x1024 .f32 := m ((c : Thread nD τ).loc main_arg6)
abbrev a7 : Vec Ideal S1024 .f32 := m ((c : Thread nD τ).loc main_arg7)

/-- One hidden unit's term of the down projection, zero past the last unit. -/
def term (b : Fin 2) (s : Fin 8192) (d : Fin 1024) (f : ℕ) : EReal :=
  if h : f < 2816 then unit (a0 m c) (a1 m c) (a2 m c) (a4 m c) (a5 m c) b s ⟨f, h⟩ * a6 m c (ix2 ⟨f, h⟩ d) else 0

/-- The rows a first point stores are the reference's modulated rows. -/
theorem rows_eq (t : Fin cfg0.N) (r d : Fin 1024) :
    k0_pay1 (F := Ideal) (iblk m c 0 t) (iblk m c 4 t) (iblk m c 2 t) (iblk m c 1 t) (ix2 r d)
      = hrow (a0 m c) (a1 m c) (a2 m c) (a4 m c) (bOf t) (sOf t r) d := by
  rw [pay1_apply]
  simp only [blk0 m c t, blk1 m c t, blk2 m c t, blk4 m c t]
  rfl

/-- A point's contribution to the down projection. -/
theorem slice_eq (t : Fin cfg0.N) (h : Vec Ideal S1024x1024 .bf16) (acc : Vec Ideal S1024x1024 .f32) (r d : Fin 1024)
    (hh : ∀ e, h (ix2 r e) = hrow (a0 m c) (a1 m c) (a2 m c) (a4 m c) (bOf t) (sOf t r) e) :
    k0_pay3 (F := Ideal) h (iblk m c 5 t) (iblk m c 6 t) acc (iblk m c 7 t) (ix2 r d)
      = acc (ix2 r d) + ∑ k ∈ Finset.range 256, term m c (bOf t) (sOf t r) d (256 * (t.val % 11) + k) := by
  rw [pay3_apply, Finset.sum_range]
  refine congrArg (_ + ·) (Finset.sum_congr rfl fun k _ => ?_)
  simp only [blk5 m c t, blk6 m c t, blk7 m c t, hh]
  unfold term
  rw [dif_pos (show 256 * (t.val % 11) + k.val < 2816 from (fOf t k).isLt)]
  rfl

/-- What the two carried scratch buffers hold after point `n`. -/
theorem carried (n : ℕ) : ∀ hn : n < cfg0.N,
    (∀ r d : Fin 1024, (outsAt0 m c n hn).2.1 (ix2 r d) = hrow (a0 m c) (a1 m c) (a2 m c) (a4 m c) (bOf ⟨n, hn⟩) (sOf ⟨n, hn⟩ r) d)
    ∧ ∀ r d : Fin 1024, (outsAt0 m c n hn).2.2 (ix2 r d)
        = ∑ f ∈ Finset.range (256 * (n % 11) + 256), term m c (bOf ⟨n, hn⟩) (sOf ⟨n, hn⟩ r) d f := by
  induction n with
  | zero =>
    intro hn
    have e := outsAt0_A m c ⟨0, hn⟩ rfl (by show ¬0 % 11 = 10; decide)
    dsimp only at e
    rw [e]
    dsimp only
    rw [sout0_A_0_eq, sout0_A_1_eq]
    refine ⟨fun r d => rows_eq m c ⟨0, hn⟩ r d, fun r d => ?_⟩
    rw [slice_eq m c ⟨0, hn⟩ _ _ r d fun e => rows_eq m c ⟨0, hn⟩ r e, pay2_apply, zero_add]
    simp
  | succ n ih =>
    intro hn
    by_cases h0 : (n + 1) % 11 = 0
    · have e := outsAt0_A m c ⟨n + 1, hn⟩ h0 (by show ¬(n + 1) % 11 = 10; omega)
      dsimp only at e
      rw [e]
      dsimp only
      rw [sout0_A_0_eq, sout0_A_1_eq]
      refine ⟨fun r d => rows_eq m c ⟨n + 1, hn⟩ r d, fun r d => ?_⟩
      rw [slice_eq m c ⟨n + 1, hn⟩ _ _ r d fun e => rows_eq m c ⟨n + 1, hn⟩ r e, pay2_apply, zero_add]
      simp only [h0]
      simp
    · obtain ⟨i1, i2⟩ := ih (Nat.lt_of_succ_lt hn)
      have hb : bOf ⟨n, Nat.lt_of_succ_lt hn⟩ = bOf ⟨n + 1, hn⟩ := Fin.ext (by show n / 88 = (n + 1) / 88; omega)
      have hs : ∀ r, sOf ⟨n, Nat.lt_of_succ_lt hn⟩ r = sOf ⟨n + 1, hn⟩ r := fun r =>
        Fin.ext (by show 1024 * (n / 11 % 8) + r.val = 1024 * ((n + 1) / 11 % 8) + r.val; omega)
      have hm : (n + 1) % 11 = n % 11 + 1 := by omega
      simp only [hb, hs] at i1 i2
      have key : ∀ r d : Fin 1024,
          k0_pay3 (F := Ideal) (outsAt0 m c n (Nat.lt_of_succ_lt hn)).2.1 (iblk m c 5 ⟨n + 1, hn⟩) (iblk m c 6 ⟨n + 1, hn⟩)
            (outsAt0 m c n (Nat.lt_of_succ_lt hn)).2.2 (iblk m c 7 ⟨n + 1, hn⟩) (ix2 r d)
          = ∑ f ∈ Finset.range (256 * ((n + 1) % 11) + 256), term m c (bOf ⟨n + 1, hn⟩) (sOf ⟨n + 1, hn⟩ r) d f := fun r d => by
        rw [slice_eq m c ⟨n + 1, hn⟩ _ _ r d fun e => i1 r e, i2 r d, Finset.sum_range_add _ (256 * ((n + 1) % 11))]
        rw [show 256 * (n % 11) + 256 = 256 * ((n + 1) % 11) from by omega]
      by_cases h1 : (n + 1) % 11 = 10
      · have e := outsAt0_C m c ⟨n + 1, hn⟩ h0 h1
        dsimp only [Nat.add_sub_cancel] at e
        rw [e]
        dsimp only
        rw [sout0_C_1_eq]
        exact ⟨fun r d => i1 r d, fun r d => key r d⟩
      · have e := outsAt0_B m c ⟨n + 1, hn⟩ h0 h1
        dsimp only [Nat.add_sub_cancel] at e
        rw [e]
        dsimp only
        rw [sout0_B_1_eq]
        exact ⟨fun r d => i1 r d, fun r d => key r d⟩

/-- The whole down projection, as the sum over every hidden unit. -/
theorem terms_eq (b : Fin 2) (s : Fin 8192) (d : Fin 1024) :
    ∑ f ∈ Finset.range 2816, term m c b s d f = down (a0 m c) (a1 m c) (a2 m c) (a4 m c) (a5 m c) (a6 m c) b s d := by
  rw [Finset.sum_range]
  unfold down
  refine Finset.sum_congr rfl fun f _ => ?_
  unfold term
  rw [dif_pos f.isLt]

/-- What a run's last point writes back. -/
theorem last (n : ℕ) (hn : n < cfg0.N) (hl : n % 11 = 10) (u : Fin 1) (r d : Fin 1024) :
    (outsAt0 m c n hn).1 (ix3 u r d)
      = Cert.FfnReferenceIdeal.Read.val_main_v40 (F := Ideal) (a0 m c) (a1 m c) (a2 m c) (a3 m c) (a4 m c) (a5 m c) (a6 m c) (a7 m c)
          (ix3 (bOf ⟨n, hn⟩) (sOf ⟨n, hn⟩ r) d) := by
  rw [v40_apply]
  obtain ⟨-, i2⟩ := carried m c n hn
  have e := outsAt0_C m c ⟨n, hn⟩ (by show ¬n % 11 = 0; omega) hl
  dsimp only at e
  rw [e] at i2 ⊢
  dsimp only at i2 ⊢
  rw [sout0_C_1_eq] at i2
  rw [out0_C_9_eq, pay4_apply]
  simp only [blk0 m c ⟨n, hn⟩, blk3 m c ⟨n, hn⟩, blk8 m c ⟨n, hn⟩, i2, hl]
  simp only [show 256 * 10 + 256 = 2816 from rfl, terms_eq]

/-- The array the call leaves is the reference's result of the same arguments. -/
theorem result_eq : Value.G9 m c
    = Cert.FfnReferenceIdeal.Read.val_main_v40 (F := Ideal) (a0 m c) (a1 m c) (a2 m c) (a3 m c) (a4 m c) (a5 m c) (a6 m c) (a7 m c) := by
  funext i
  have h0 : (i 0).val < 2 := (i 0).isLt
  have h1 : (i 1).val < 8192 := (i 1).isLt
  have h2 : (i 2).val < 1024 := (i 2).isLt
  have hp : Value.pt9Of i = 88 * (i 0).val + 11 * ((i 1).val / 1024) + 10 := by
    show 11 * (8 * ((i 0).val / 1 - 0) + 1 * ((i 1).val / 1024 - 0) + 1 * ((i 2).val / 1024 - 0)) + 10 = _
    omega
  have hN : Value.pt9Of i < cfg0.N := by rw [show cfg0.N = 176 from N_0]; omega
  unfold Value.G9
  rw [dif_pos hN, ← Value.outsAt0_sweep m c (Value.pt9Of i) hN]
  have hl : Value.loc9Of i = ix3 (0 : Fin 1) ⟨(i 1).val % 1024, Nat.mod_lt _ (by decide)⟩ ⟨(i 2).val, h2⟩ := by
    funext a; apply Fin.ext
    match a with
    | ⟨0, _⟩ => show (i 0).val % 1 = 0; omega
    | ⟨1, _⟩ => rfl
    | ⟨2, _⟩ => show (i 2).val % 1024 = (i 2).val; omega
  rw [hl, last m c _ hN (by omega)]
  refine congrArg _ (funext fun a => Fin.ext ?_)
  match a with
  | ⟨0, _⟩ => show Value.pt9Of i / 88 = (i 0).val; omega
  | ⟨1, _⟩ => show 1024 * (Value.pt9Of i / 11 % 8) + (i 1).val % 1024 = (i 1).val; omega
  | ⟨2, _⟩ => rfl

end Cert.FfnValue
end
end
-- ==== Proof.FfnClaim.lean ====
/-
  The claims about the feed-forward call: the three programs run and leave their arguments alone, the idealization
  rewrites nothing, and kernel and reference return the same array.
-/
module

public import proofs.«01_k».proof.Defs
public import proofs.«01_k».proof.Proof.Gen.Ffn.Frame
public import proofs.«01_k».proof.Proof.FfnValue
public import proofs.«01_k».proof.Proof.Gen.FfnReferenceIdeal.Run

@[expose] public section

noncomputable section

namespace Cert.FfnValue

open Idealize.ShloMosaic Idealize.ShloMosaic.TcCoe Idealize.SL.Sem

theorem frame_ffn : Cert.quiescent_Ffn := fun m ρ _ => Cert.Ffn.Gen.frame m ρ

theorem frame_ffnIdeal : Cert.quiescent_FfnIdeal := fun m ρ _ => Cert.FfnIdeal.Gen.frame m ρ

theorem frame_ffnReference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

theorem preserves_ffn : Cert.preserves_Ffn_FfnIdeal := trivial

/-- Kernel and reference, started on the same arguments, return the same array. -/
theorem algebraic_ffn : Cert.algebraic_FfnIdeal_FfnReferenceIdeal := fun m g m' g' _ hagree => by
  refine ⟨fun c => Cert.FfnIdeal.Value.G9 m c, Cert.FfnIdeal.Value.run (F := Ideal) m g, ?_⟩
  refine (θ_run Cert.FfnReferenceIdeal.defs _ _).mono (fun r h c => ⟨(h c).1.trans ?_, (h c).2⟩)
    (Cert.FfnReferenceIdeal.Value.run (F := Ideal) m' g')
  obtain ⟨h0, h1, h2, h3, h4, h5, h6, h7⟩ := hagree c
  rw [Cert.FfnReferenceIdeal.Read.val_main_v40_eq, h0, h1, h2, h3, h4, h5, h6, h7]
  exact (result_eq m c).symm

end Cert.FfnValue
end
end
-- ==== Proof.FfnFirstCases.lean ====
/-
  The first layer's feed-forward call's body, case by case: what a grid point's stores leave in the carried scratch and in the
  block of the result, as the body's own expressions of the blocks it reads.
-/
module

public import proofs.«01_k».proof.Proof.Gen.FfnFirstIdeal.Value
public import Idealize.ShloMosaic.Lib.Pipeline.Value
public import Idealize.ShloMosaic.Lib.Tactic

@[expose] public section

set_option maxRecDepth 16384

noncomputable section

namespace Cert.FfnFirstIdeal.Cases

open Cert.FfnFirstIdeal Cert.FfnFirstIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- At a first point the normalised and modulated rows are stored. -/
theorem sout0_A_0_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (hc0 : cond0_0 i) (hc1 : ¬cond0_1 i)
    (x0 : Vec F S1x1024x1024 .f32) (x1 : Vec F S1x1x1024 .f32) (x2 : Vec F S1x1x1024 .f32) (x3 : Vec F S1x1x1024 .f32) (x4 : Vec F S1x1024 .f32) (x5 : Vec F S1024x256 .bf16) (x6 : Vec F S1024x256 .bf16) (x7 : Vec F S256x1024 .bf16) (x8 : Vec F S1x1024 .f32) :
    sout0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay1 x0 x4 x2 x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1024x1024) hz3, View.ld_unit_zero (S := S1x1x1024) hz3, View.ld_unit_zero (S := S1x1024) hz2,
    View.ld_unit_zero (S := S1024x256) hz2, View.ld_unit_zero (S := S256x1024) hz2, View.ld_unit_zero (S := S1024x1024) hz2]

/-- At a first point the accumulator is zero plus the first product. -/
theorem sout0_A_1_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (hc0 : cond0_0 i) (hc1 : ¬cond0_1 i)
    (x0 : Vec F S1x1024x1024 .f32) (x1 : Vec F S1x1x1024 .f32) (x2 : Vec F S1x1x1024 .f32) (x3 : Vec F S1x1x1024 .f32) (x4 : Vec F S1x1024 .f32) (x5 : Vec F S1024x256 .bf16) (x6 : Vec F S1024x256 .bf16) (x7 : Vec F S256x1024 .bf16) (x8 : Vec F S1x1024 .f32) :
    sout0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay3 (k0_pay1 x0 x4 x2 x1) x5 x6 (k0_pay2 (F := F)) x7 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8)]
  unfold kernelRun0_A
  dsimp only
  sl_unfold_words
  rw [View.canon_cons_unit_zero (S := S1024x1024) hz2, View.readCov_unit_zero (S := S1024x1024) _ hz2, View.readCov_unit_zero (S := S1024x1024) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1024x1024) hz3, View.ld_unit_zero (S := S1x1x1024) hz3, View.ld_unit_zero (S := S1x1024) hz2,
    View.ld_unit_zero (S := S1024x256) hz2, View.ld_unit_zero (S := S256x1024) hz2, View.ld_unit_zero (S := S1024x1024) hz2]

/-- At an inner point the accumulator gains one product. -/
theorem sout0_B_1_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (hc0 : ¬cond0_0 i) (hc1 : ¬cond0_1 i)
    (x0 : Vec F S1x1024x1024 .f32) (x1 : Vec F S1x1x1024 .f32) (x2 : Vec F S1x1x1024 .f32) (x3 : Vec F S1x1x1024 .f32) (x4 : Vec F S1x1024 .f32) (x5 : Vec F S1024x256 .bf16) (x6 : Vec F S1024x256 .bf16) (x7 : Vec F S256x1024 .bf16) (x8 : Vec F S1x1024 .f32) (xs0 : Vec F S1024x1024 .bf16) (xs1 : Vec F S1024x1024 .f32) :
    sout0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay3 xs0 x5 x6 xs1 x7 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1024x1024) hz3, View.ld_unit_zero (S := S1x1x1024) hz3, View.ld_unit_zero (S := S1x1024) hz2,
    View.ld_unit_zero (S := S1024x256) hz2, View.ld_unit_zero (S := S256x1024) hz2, View.ld_unit_zero (S := S1024x1024) hz2]

/-- At a last point the accumulator gains one product. -/
theorem sout0_C_1_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (hc0 : ¬cond0_0 i) (hc1 : cond0_1 i)
    (x0 : Vec F S1x1024x1024 .f32) (x1 : Vec F S1x1x1024 .f32) (x2 : Vec F S1x1x1024 .f32) (x3 : Vec F S1x1x1024 .f32) (x4 : Vec F S1x1024 .f32) (x5 : Vec F S1024x256 .bf16) (x6 : Vec F S1024x256 .bf16) (x7 : Vec F S256x1024 .bf16) (x8 : Vec F S1x1024 .f32) (xs0 : Vec F S1024x1024 .bf16) (xs1 : Vec F S1024x1024 .f32) :
    sout0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay3 xs0 x5 x6 xs1 x7 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1024x1024) hz3, View.ld_unit_zero (S := S1x1x1024) hz3, View.ld_unit_zero (S := S1x1024) hz2,
    View.ld_unit_zero (S := S1024x256) hz2, View.ld_unit_zero (S := S256x1024) hz2, View.ld_unit_zero (S := S1024x1024) hz2]

/-- At a last point the block of the result is computed from the accumulator. -/
theorem out0_C_9_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S1024x256 .bf16) (harg9 : arg9.IsWhole) (arg10 : Memref sig .tc .vmem S256x1024 .bf16) (harg10 : arg10.IsWhole) (arg11 : Memref sig .tc .vmem S1x1024 .f32) (harg11 : arg11.IsWhole) (arg12 : Memref sig .tc .vmem S1x1024x1024 .f32) (harg12 : arg12.IsWhole) (arg13 : Memref sig .tc .vmem S1024x1024 .bf16) (harg13 : arg13.IsWhole) (arg14 : Memref sig .tc .vmem S1024x1024 .f32) (harg14 : arg14.IsWhole) (hc0 : ¬cond0_0 i) (hc1 : cond0_1 i)
    (x0 : Vec F S1x1024x1024 .f32) (x1 : Vec F S1x1x1024 .f32) (x2 : Vec F S1x1x1024 .f32) (x3 : Vec F S1x1x1024 .f32) (x4 : Vec F S1x1024 .f32) (x5 : Vec F S1024x256 .bf16) (x6 : Vec F S1024x256 .bf16) (x7 : Vec F S256x1024 .bf16) (x8 : Vec F S1x1024 .f32) (xs0 : Vec F S1024x1024 .bf16) (xs1 : Vec F S1024x1024 .f32) :
    out0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 = k0_pay4 x0 x3 (k0_pay3 xs0 x5 x6 xs1 x7) := by
  unfold out0_C_9
  rw [View.read_writes_eq_canon _ _ _ (cover0_C_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1)]
  unfold kernelRun0_C
  dsimp only
  sl_unfold_words
  rw [View.canon_unit_zero hz3, View.readCov_unit_zero (S := S1024x1024) _ hz2]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S1x1024x1024) hz3, View.ld_unit_zero (S := S1x1x1024) hz3, View.ld_unit_zero (S := S1x1024) hz2,
    View.ld_unit_zero (S := S1024x256) hz2, View.ld_unit_zero (S := S256x1024) hz2, View.ld_unit_zero (S := S1024x1024) hz2]

end Cert.FfnFirstIdeal.Cases

end
-- ==== Proof.FfnFirstPay.lean ====
/-
  The first layer's feed-forward call's stored expressions read at one element, as the functions of one row that serve the
  last layer's call too; its result is the residual row itself.
-/
module

public import proofs.«01_k».proof.Proof.FfnFirstCases
public import proofs.«01_k».proof.Proof.FfnPay
public import Idealize.ShloMosaic.Lib.Pointwise

@[expose] public section

set_option maxRecDepth 16384

noncomputable section

namespace Cert.FfnFirstValue

open Cert.FfnValue (rms modRow silu hid)
open Cert.FfnFirstIdeal Cert.FfnFirstIdeal.Gen Idealize.ShloMosaic Idealize.ShloMosaic.TcCoe Idealize.SL.Sem

theorem pay1_apply (x : Vec Ideal S1x1024x1024 .f32) (g : Vec Ideal S1x1024 .f32) (sc sh : Vec Ideal S1x1x1024 .f32)
    (r d : Fin 1024) :
    k0_pay1 (F := Ideal) x g sc sh (ix2 r d)
      = modRow (fun k => x (ix3 0 r k)) (fun k => g (ix2 0 k)) (fun k => sc (ix3 0 0 k)) (fun k => sh (ix3 0 0 k)) d := by
  pointwise [k0_pay1, modRow, rms]

theorem pay2_apply (r d : Fin 1024) : k0_pay2 (F := Ideal) (ix2 r d) = 0 := by
  pointwise [k0_pay2]

theorem pay3_apply (h : Vec Ideal S1024x1024 .bf16) (wg wu : Vec Ideal S1024x256 .bf16) (acc : Vec Ideal S1024x1024 .f32)
    (wd : Vec Ideal S256x1024 .bf16) (r d : Fin 1024) :
    k0_pay3 (F := Ideal) h wg wu acc wd (ix2 r d)
      = acc (ix2 r d) + ∑ k : Fin 256, hid (fun e => h (ix2 r e)) (fun e => wg (ix2 e k)) (fun e => wu (ix2 e k)) * wd (ix2 k d) := by
  pointwise [k0_pay3, hid, silu]
  simp only [zero_sub]

theorem pay4_apply (x : Vec Ideal S1x1024x1024 .f32) (g2 : Vec Ideal S1x1x1024 .f32) (acc : Vec Ideal S1024x1024 .f32)
    (u : Fin 1) (r d : Fin 1024) :
    k0_pay4 (F := Ideal) x g2 acc (ix3 u r d) = x (ix3 0 r d) + g2 (ix3 0 0 d) * acc (ix2 r d) := by
  pointwise [k0_pay4]

end Cert.FfnFirstValue
end
end
-- ==== Proof.FfnFirstBlocks.lean ====
/-
  The first layer's feed-forward call's input blocks read at one element: at grid point `t` the rows of batch `t / 88`, positions
  `1024 * (t / 11 % 8) …`, and the weights of hidden slice `t % 11`.
-/
module

public import proofs.«01_k».proof.Proof.FfnFirstPay
public import Idealize.ShloMosaic.Lib.Claim

@[expose] public section

set_option maxRecDepth 16384

noncomputable section

namespace Cert.FfnFirstValue

open Cert.FfnFirstIdeal Cert.FfnFirstIdeal.Gen Idealize.ShloMosaic Idealize.ShloMosaic.TcCoe Idealize.SL.Sem Idealize.ShloMosaic.StableHlo

variable (m : (ℓ : Loc nD τ sig) → Buf (Elt Ideal) ℓ) (c : Dev nD)

theorem V_v0 : V m c main_v0 = broadcastInDim S1x1024 ![1] bcast_S1024_S1x1024_1 (m ((c : Thread nD τ).loc main_arg4)) := by
  unfold V
  after_results
theorem V_v1 : V m c main_v1 = truncf (F := Ideal) .bf16 (m ((c : Thread nD τ).loc main_arg5) : FVec Ideal S1024x5632 .f32) bitsLt_bf16_f32 := by
  unfold V
  after_results
theorem V_v2 : V m c main_v2 = truncf (F := Ideal) .bf16 (m ((c : Thread nD τ).loc main_arg6) : FVec Ideal S2816x1024 .f32) bitsLt_bf16_f32 := by
  unfold V
  after_results
theorem index_facts : ∀ t : Fin cfg0.N,
    (win0_0.index t (0 : Fin 3) = t.val / 88 ∧ win0_0.index t (1 : Fin 3) = t.val / 11 % 8 ∧ win0_0.index t (2 : Fin 3) = 0)
    ∧ (win0_1.index t (0 : Fin 3) = t.val / 88 ∧ win0_1.index t (1 : Fin 3) = 0 ∧ win0_1.index t (2 : Fin 3) = 0)
    ∧ (win0_2.index t (0 : Fin 3) = t.val / 88 ∧ win0_2.index t (1 : Fin 3) = 0 ∧ win0_2.index t (2 : Fin 3) = 0)
    ∧ (win0_3.index t (0 : Fin 3) = t.val / 88 ∧ win0_3.index t (1 : Fin 3) = 0 ∧ win0_3.index t (2 : Fin 3) = 0)
    ∧ (win0_4.index t (0 : Fin 2) = 0 ∧ win0_4.index t (1 : Fin 2) = 0)
    ∧ (win0_5.index t (0 : Fin 2) = 0 ∧ win0_5.index t (1 : Fin 2) = t.val % 11)
    ∧ (win0_6.index t (0 : Fin 2) = 0 ∧ win0_6.index t (1 : Fin 2) = 11 + t.val % 11)
    ∧ (win0_7.index t (0 : Fin 2) = t.val % 11 ∧ win0_7.index t (1 : Fin 2) = 0)
    ∧ (win0_8.index t (0 : Fin 2) = 0 ∧ win0_8.index t (1 : Fin 2) = 0) :=
  (by decide +kernel : ∀ t : Fin grid0.N, _)

theorem lt_N (t : Fin cfg0.N) : t.val < 176 := lt_of_lt_of_eq t.isLt (show cfg0.N = 176 from N_0)

/-- The batch of grid point `t`. -/
def bOf (t : Fin cfg0.N) : Fin 2 := ⟨t.val / 88, by have := lt_N t; omega⟩
/-- The position of row `r` of grid point `t`'s block. -/
def sOf (t : Fin cfg0.N) (r : Fin 1024) : Fin 8192 := ⟨1024 * (t.val / 11 % 8) + r.val, by omega⟩
/-- The hidden unit at place `k` of grid point `t`'s slice. -/
def fOf (t : Fin cfg0.N) (k : Fin 256) : Fin 2816 := ⟨256 * (t.val % 11) + k.val, by omega⟩

theorem blk0 (t : Fin cfg0.N) (r d : Fin 1024) :
    (iblk m c 0 t : Vec Ideal S1x1024x1024 .f32) (ix3 0 r d) = m ((c : Thread nD τ).loc main_arg0) (ix3 (bOf t) (sOf t r) d) := by
  obtain ⟨⟨e0, e1, e2⟩, -⟩ := index_facts t
  refine (congrFun (V_main_arg0 m c) _).trans (congrArg (m ((c : Thread nD τ).loc main_arg0)) (funext fun a => Fin.ext ?_))
  match a with
  | ⟨0, _⟩ => show win0_0.index t (0 : Fin 3) * 1 + 1 * 0 = t.val / 88; omega
  | ⟨1, _⟩ => show win0_0.index t (1 : Fin 3) * 1024 + 1 * r.val = 1024 * (t.val / 11 % 8) + r.val; omega
  | ⟨2, _⟩ => show win0_0.index t (2 : Fin 3) * 1024 + 1 * d.val = d.val; omega

theorem blk1 (t : Fin cfg0.N) (d : Fin 1024) :
    (iblk m c 1 t : Vec Ideal S1x1x1024 .f32) (ix3 0 0 d) = m ((c : Thread nD τ).loc main_arg1) (ix3 (bOf t) 0 d) := by
  obtain ⟨-, ⟨e0, e1, e2⟩, -⟩ := index_facts t
  refine (congrFun (V_main_arg1 m c) _).trans (congrArg (m ((c : Thread nD τ).loc main_arg1)) (funext fun a => Fin.ext ?_))
  match a with
  | ⟨0, _⟩ => show win0_1.index t (0 : Fin 3) * 1 + 1 * 0 = t.val / 88; omega
  | ⟨1, _⟩ => show win0_1.index t (1 : Fin 3) * 1 + 1 * 0 = 0; omega
  | ⟨2, _⟩ => show win0_1.index t (2 : Fin 3) * 1024 + 1 * d.val = d.val; omega

theorem blk2 (t : Fin cfg0.N) (d : Fin 1024) :
    (iblk m c 2 t : Vec Ideal S1x1x1024 .f32) (ix3 0 0 d) = m ((c : Thread nD τ).loc main_arg2) (ix3 (bOf t) 0 d) := by
  obtain ⟨-, -, ⟨e0, e1, e2⟩, -⟩ := index_facts t
  refine (congrFun (V_main_arg2 m c) _).trans (congrArg (m ((c : Thread nD τ).loc main_arg2)) (funext fun a => Fin.ext ?_))
  match a with
  | ⟨0, _⟩ => show win0_2.index t (0 : Fin 3) * 1 + 1 * 0 = t.val / 88; omega
  | ⟨1, _⟩ => show win0_2.index t (1 : Fin 3) * 1 + 1 * 0 = 0; omega
  | ⟨2, _⟩ => show win0_2.index t (2 : Fin 3) * 1024 + 1 * d.val = d.val; omega

theorem blk3 (t : Fin cfg0.N) (d : Fin 1024) :
    (iblk m c 3 t : Vec Ideal S1x1x1024 .f32) (ix3 0 0 d) = m ((c : Thread nD τ).loc main_arg3) (ix3 (bOf t) 0 d) := by
  obtain ⟨-, -, -, ⟨e0, e1, e2⟩, -⟩ := index_facts t
  refine (congrFun (V_main_arg3 m c) _).trans (congrArg (m ((c : Thread nD τ).loc main_arg3)) (funext fun a => Fin.ext ?_))
  match a with
  | ⟨0, _⟩ => show win0_3.index t (0 : Fin 3) * 1 + 1 * 0 = t.val / 88; omega
  | ⟨1, _⟩ => show win0_3.index t (1 : Fin 3) * 1 + 1 * 0 = 0; omega
  | ⟨2, _⟩ => show win0_3.index t (2 : Fin 3) * 1024 + 1 * d.val = d.val; omega

/-- A gain row, broadcast to one row by the host, at column `d`. -/
theorem gain_row (x : Vec Ideal S1024 .f32) (d : Fin 1024) :
    broadcastInDim S1x1024 ![1] bcast_S1024_S1x1024_1 x (ix2 0 d) = x (ix1 d) := by
  pointwise []

theorem blk4 (t : Fin cfg0.N) (d : Fin 1024) :
    (iblk m c 4 t : Vec Ideal S1x1024 .f32) (ix2 0 d) = m ((c : Thread nD τ).loc main_arg4) (ix1 d) := by
  obtain ⟨-, -, -, -, ⟨e0, e1⟩, -⟩ := index_facts t
  refine (congrFun (V_v0 m c) _).trans (Eq.trans (congrArg (broadcastInDim S1x1024 ![1] bcast_S1024_S1x1024_1 (m ((c : Thread nD τ).loc main_arg4))) (funext fun a => Fin.ext ?_)) (gain_row _ d))
  match a with
  | ⟨0, _⟩ => show win0_4.index t (0 : Fin 2) * 1 + 1 * 0 = 0; omega
  | ⟨1, _⟩ => show win0_4.index t (1 : Fin 2) * 1024 + 1 * d.val = d.val; omega

theorem blk5 (t : Fin cfg0.N) (e : Fin 1024) (k : Fin 256) :
    (iblk m c 5 t : Vec Ideal S1024x256 .bf16) (ix2 e k)
      = (m ((c : Thread nD τ).loc main_arg5) : Vec Ideal S1024x5632 .f32) (ix2 e ⟨(fOf t k).val, by omega⟩) := by
  obtain ⟨-, -, -, -, -, ⟨e0, e1⟩, -⟩ := index_facts t
  refine (congrFun (V_v1 m c) _).trans (congrArg (m ((c : Thread nD τ).loc main_arg5) : Vec Ideal S1024x5632 .f32) (funext fun a => Fin.ext ?_))
  match a with
  | ⟨0, _⟩ => show win0_5.index t (0 : Fin 2) * 1024 + 1 * e.val = e.val; omega
  | ⟨1, _⟩ => show win0_5.index t (1 : Fin 2) * 256 + 1 * k.val = 256 * (t.val % 11) + k.val; omega

theorem blk6 (t : Fin cfg0.N) (e : Fin 1024) (k : Fin 256) :
    (iblk m c 6 t : Vec Ideal S1024x256 .bf16) (ix2 e k)
      = (m ((c : Thread nD τ).loc main_arg5) : Vec Ideal S1024x5632 .f32) (ix2 e ⟨2816 + (fOf t k).val, by omega⟩) := by
  obtain ⟨-, -, -, -, -, -, ⟨e0, e1⟩, -⟩ := index_facts t
  refine (congrFun (V_v1 m c) _).trans (congrArg (m ((c : Thread nD τ).loc main_arg5) : Vec Ideal S1024x5632 .f32) (funext fun a => Fin.ext ?_))
  match a with
  | ⟨0, _⟩ => show win0_6.index t (0 : Fin 2) * 1024 + 1 * e.val = e.val; omega
  | ⟨1, _⟩ => show win0_6.index t (1 : Fin 2) * 256 + 1 * k.val = 2816 + (256 * (t.val % 11) + k.val); omega

theorem blk7 (t : Fin cfg0.N) (k : Fin 256) (d : Fin 1024) :
    (iblk m c 7 t : Vec Ideal S256x1024 .bf16) (ix2 k d)
      = (m ((c : Thread nD τ).loc main_arg6) : Vec Ideal S2816x1024 .f32) (ix2 (fOf t k) d) := by
  obtain ⟨-, -, -, -, -, -, -, ⟨e0, e1⟩, -⟩ := index_facts t
  refine (congrFun (V_v2 m c) _).trans (congrArg (m ((c : Thread nD τ).loc main_arg6) : Vec Ideal S2816x1024 .f32) (funext fun a => Fin.ext ?_))
  match a with
  | ⟨0, _⟩ => show win0_7.index t (0 : Fin 2) * 256 + 1 * k.val = 256 * (t.val % 11) + k.val; omega
  | ⟨1, _⟩ => show win0_7.index t (1 : Fin 2) * 1024 + 1 * d.val = d.val; omega

end Cert.FfnFirstValue
end
end
-- ==== Proof.FfnFirstRef.lean ====
/-
  The first layer's feed-forward reference's result read at one element, as the functions of one row that serve the
  last layer's reference too.
-/
module

public import proofs.«01_k».proof.Proof.FfnFirstPay
public import proofs.«01_k».proof.Proof.FfnRef
public import proofs.«01_k».proof.Proof.Gen.FfnFirstReferenceIdeal.Read

@[expose] public section

set_option maxRecDepth 16384

noncomputable section

namespace Cert.FfnFirstValue

open Cert.FfnValue (rms modRow silu hid hrow unit down)
open Cert.FfnFirstReferenceIdeal Cert.FfnFirstReferenceIdeal.Gen Cert.FfnFirstReferenceIdeal.Read Idealize.ShloMosaic Idealize.ShloMosaic.TcCoe Idealize.SL.Sem

variable (x0 : (⟨S2x8192x1024, .f32⟩ : BufTy).Contents (Elt Ideal)) (x1 x2 x3 : (⟨S2x1x1024, .f32⟩ : BufTy).Contents (Elt Ideal))
  (x4 : (⟨S1024, .f32⟩ : BufTy).Contents (Elt Ideal)) (x5 : (⟨S1024x5632, .f32⟩ : BufTy).Contents (Elt Ideal))
  (x6 : (⟨S2816x1024, .f32⟩ : BufTy).Contents (Elt Ideal))

theorem v18_apply (b : Fin 2) (s : Fin 8192) (d : Fin 1024) :
    val_main_v18 (F := Ideal) x0 x1 x2 x4 (ix3 b s d) = hrow x0 x1 x2 x4 b s d := by
  pointwise [hrow, modRow, rms, val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]

theorem v23_apply (b : Fin 2) (s : Fin 8192) (f : Fin 2816) :
    val_main_v23 (F := Ideal) x0 x1 x2 x4 x5 (ix3 b s f) = unit x0 x1 x2 x4 x5 b s f := by
  unfold val_main_v23 val_main_v22 val_main_call0_v5 val_main_call0_v4 val_main_call0_v3 val_main_call0_v2 val_main_call0_v1 val_main_call0_v0 val_main_v21 val_main_v20 val_main_v19 val_main_call0_cst val_main_call0_cst_0
  have h18 := v18_apply x0 x1 x2 x4
  generalize val_main_v18 (F := Ideal) x0 x1 x2 x4 = y at h18 ⊢
  pointwise [unit, hid, silu]
  simp only [h18]

theorem v24_apply (b : Fin 2) (s : Fin 8192) (d : Fin 1024) :
    val_main_v24 (F := Ideal) x0 x1 x2 x4 x5 x6 (ix3 b s d) = down x0 x1 x2 x4 x5 x6 b s d := by
  unfold val_main_v24
  have h := v23_apply x0 x1 x2 x4 x5
  generalize val_main_v23 (F := Ideal) x0 x1 x2 x4 x5 = y at h ⊢
  pointwise [down]
  simp only [h]

theorem v27_apply (b : Fin 2) (s : Fin 8192) (d : Fin 1024) :
    val_main_v27 (F := Ideal) x0 x1 x2 x3 x4 x5 x6 (ix3 b s d)
      = x0 (ix3 b s d) + x3 (ix3 b 0 d) * down x0 x1 x2 x4 x5 x6 b s d := by
  unfold val_main_v27 val_main_v26 val_main_v25
  have h := v24_apply x0 x1 x2 x4 x5 x6
  generalize val_main_v24 (F := Ideal) x0 x1 x2 x4 x5 x6 = y at h ⊢
  pointwise []
  simp only [h]

end Cert.FfnFirstValue
end
end
-- ==== Proof.FfnFirstValue.lean ====
/-
  The first layer's feed-forward call's result. Along the eleven points of a run the carried scratch holds the run's modulated rows and
  the down projection of the hidden slices met so far; the last point's result is the reference's.
-/
module

public import proofs.«01_k».proof.Proof.FfnFirstBlocks
public import proofs.«01_k».proof.Proof.FfnFirstRef

@[expose] public section

set_option maxRecDepth 16384

noncomputable section

namespace Cert.FfnFirstValue

open Cert.FfnValue (rms modRow silu hid hrow unit down)
open Cert.FfnFirstIdeal Cert.FfnFirstIdeal.Gen Cert.FfnFirstIdeal.Cases Idealize.ShloMosaic Idealize.ShloMosaic.TcCoe Idealize.SL.Sem Idealize.ShloMosaic.StableHlo

variable (m : (ℓ : Loc nD τ sig) → Buf (Elt Ideal) ℓ) (c : Dev nD)

/-- The launch's arguments, as the arrays of numbers that they are. -/
abbrev a0 : Vec Ideal S2x8192x1024 .f32 := m ((c : Thread nD τ).loc main_arg0)
abbrev a1 : Vec Ideal S2x1x1024 .f32 := m ((c : Thread nD τ).loc main_arg1)
abbrev a2 : Vec Ideal S2x1x1024 .f32 := m ((c : Thread nD τ).loc main_arg2)
abbrev a3 : Vec Ideal S2x1x1024 .f32 := m ((c : Thread nD τ).loc main_arg3)
abbrev a4 : Vec Ideal S1024 .f32 := m ((c : Thread nD τ).loc main_arg4)
abbrev a5 : Vec Ideal S1024x5632 .f32 := m ((c : Thread nD τ).loc main_arg5)
abbrev a6 : Vec Ideal S2816x1024 .f32 := m ((c : Thread nD τ).loc main_arg6)

/-- One hidden unit's term of the down projection, zero past the last unit. -/
def term (b : Fin 2) (s : Fin 8192) (d : Fin 1024) (f : ℕ) : EReal :=
  if h : f < 2816 then unit (a0 m c) (a1 m c) (a2 m c) (a4 m c) (a5 m c) b s ⟨f, h⟩ * a6 m c (ix2 ⟨f, h⟩ d) else 0

/-- The rows a first point stores are the reference's modulated rows. -/
theorem rows_eq (t : Fin cfg0.N) (r d : Fin 1024) :
    k0_pay1 (F := Ideal) (iblk m c 0 t) (iblk m c 4 t) (iblk m c 2 t) (iblk m c 1 t) (ix2 r d)
      = hrow (a0 m c) (a1 m c) (a2 m c) (a4 m c) (bOf t) (sOf t r) d := by
  rw [pay1_apply]
  simp only [blk0 m c t, blk1 m c t, blk2 m c t, blk4 m c t]
  rfl

/-- A point's contribution to the down projection. -/
theorem slice_eq (t : Fin cfg0.N) (h : Vec Ideal S1024x1024 .bf16) (acc : Vec Ideal S1024x1024 .f32) (r d : Fin 1024)
    (hh : ∀ e, h (ix2 r e) = hrow (a0 m c) (a1 m c) (a2 m c) (a4 m c) (bOf t) (sOf t r) e) :
    k0_pay3 (F := Ideal) h (iblk m c 5 t) (iblk m c 6 t) acc (iblk m c 7 t) (ix2 r d)
      = acc (ix2 r d) + ∑ k ∈ Finset.range 256, term m c (bOf t) (sOf t r) d (256 * (t.val % 11) + k) := by
  rw [pay3_apply, Finset.sum_range]
  refine congrArg (_ + ·) (Finset.sum_congr rfl fun k _ => ?_)
  simp only [blk5 m c t, blk6 m c t, blk7 m c t, hh]
  unfold term
  rw [dif_pos (show 256 * (t.val % 11) + k.val < 2816 from (fOf t k).isLt)]
  rfl

/-- What the two carried scratch buffers hold after point `n`. -/
theorem carried (n : ℕ) : ∀ hn : n < cfg0.N,
    (∀ r d : Fin 1024, (outsAt0 m c n hn).2.1 (ix2 r d) = hrow (a0 m c) (a1 m c) (a2 m c) (a4 m c) (bOf ⟨n, hn⟩) (sOf ⟨n, hn⟩ r) d)
    ∧ ∀ r d : Fin 1024, (outsAt0 m c n hn).2.2 (ix2 r d)
        = ∑ f ∈ Finset.range (256 * (n % 11) + 256), term m c (bOf ⟨n, hn⟩) (sOf ⟨n, hn⟩ r) d f := by
  induction n with
  | zero =>
    intro hn
    have e := outsAt0_A m c ⟨0, hn⟩ rfl (by show ¬0 % 11 = 10; decide)
    dsimp only at e
    rw [e]
    dsimp only
    rw [sout0_A_0_eq, sout0_A_1_eq]
    refine ⟨fun r d => rows_eq m c ⟨0, hn⟩ r d, fun r d => ?_⟩
    rw [slice_eq m c ⟨0, hn⟩ _ _ r d fun e => rows_eq m c ⟨0, hn⟩ r e, pay2_apply, zero_add]
    simp
  | succ n ih =>
    intro hn
    by_cases h0 : (n + 1) % 11 = 0
    · have e := outsAt0_A m c ⟨n + 1, hn⟩ h0 (by show ¬(n + 1) % 11 = 10; omega)
      dsimp only at e
      rw [e]
      dsimp only
      rw [sout0_A_0_eq, sout0_A_1_eq]
      refine ⟨fun r d => rows_eq m c ⟨n + 1, hn⟩ r d, fun r d => ?_⟩
      rw [slice_eq m c ⟨n + 1, hn⟩ _ _ r d fun e => rows_eq m c ⟨n + 1, hn⟩ r e, pay2_apply, zero_add]
      simp only [h0]
      simp
    · obtain ⟨i1, i2⟩ := ih (Nat.lt_of_succ_lt hn)
      have hb : bOf ⟨n, Nat.lt_of_succ_lt hn⟩ = bOf ⟨n + 1, hn⟩ := Fin.ext (by show n / 88 = (n + 1) / 88; omega)
      have hs : ∀ r, sOf ⟨n, Nat.lt_of_succ_lt hn⟩ r = sOf ⟨n + 1, hn⟩ r := fun r =>
        Fin.ext (by show 1024 * (n / 11 % 8) + r.val = 1024 * ((n + 1) / 11 % 8) + r.val; omega)
      have hm : (n + 1) % 11 = n % 11 + 1 := by omega
      simp only [hb, hs] at i1 i2
      have key : ∀ r d : Fin 1024,
          k0_pay3 (F := Ideal) (outsAt0 m c n (Nat.lt_of_succ_lt hn)).2.1 (iblk m c 5 ⟨n + 1, hn⟩) (iblk m c 6 ⟨n + 1, hn⟩)
            (outsAt0 m c n (Nat.lt_of_succ_lt hn)).2.2 (iblk m c 7 ⟨n + 1, hn⟩) (ix2 r d)
          = ∑ f ∈ Finset.range (256 * ((n + 1) % 11) + 256), term m c (bOf ⟨n + 1, hn⟩) (sOf ⟨n + 1, hn⟩ r) d f := fun r d => by
        rw [slice_eq m c ⟨n + 1, hn⟩ _ _ r d fun e => i1 r e, i2 r d, Finset.sum_range_add _ (256 * ((n + 1) % 11))]
        rw [show 256 * (n % 11) + 256 = 256 * ((n + 1) % 11) from by omega]
      by_cases h1 : (n + 1) % 11 = 10
      · have e := outsAt0_C m c ⟨n + 1, hn⟩ h0 h1
        dsimp only [Nat.add_sub_cancel] at e
        rw [e]
        dsimp only
        rw [sout0_C_1_eq]
        exact ⟨fun r d => i1 r d, fun r d => key r d⟩
      · have e := outsAt0_B m c ⟨n + 1, hn⟩ h0 h1
        dsimp only [Nat.add_sub_cancel] at e
        rw [e]
        dsimp only
        rw [sout0_B_1_eq]
        exact ⟨fun r d => i1 r d, fun r d => key r d⟩

/-- The whole down projection, as the sum over every hidden unit. -/
theorem terms_eq (b : Fin 2) (s : Fin 8192) (d : Fin 1024) :
    ∑ f ∈ Finset.range 2816, term m c b s d f = down (a0 m c) (a1 m c) (a2 m c) (a4 m c) (a5 m c) (a6 m c) b s d := by
  rw [Finset.sum_range]
  unfold down
  refine Finset.sum_congr rfl fun f _ => ?_
  unfold term
  rw [dif_pos f.isLt]

/-- What a run's last point writes back. -/
theorem last (n : ℕ) (hn : n < cfg0.N) (hl : n % 11 = 10) (u : Fin 1) (r d : Fin 1024) :
    (outsAt0 m c n hn).1 (ix3 u r d)
      = Cert.FfnFirstReferenceIdeal.Read.val_main_v27 (F := Ideal) (a0 m c) (a1 m c) (a2 m c) (a3 m c) (a4 m c) (a5 m c) (a6 m c)
          (ix3 (bOf ⟨n, hn⟩) (sOf ⟨n, hn⟩ r) d) := by
  rw [v27_apply]
  obtain ⟨-, i2⟩ := carried m c n hn
  have e := outsAt0_C m c ⟨n, hn⟩ (by show ¬n % 11 = 0; omega) hl
  dsimp only at e
  rw [e] at i2 ⊢
  dsimp only at i2 ⊢
  rw [sout0_C_1_eq] at i2
  rw [out0_C_9_eq, pay4_apply]
  simp only [blk0 m c ⟨n, hn⟩, blk3 m c ⟨n, hn⟩, i2, hl]
  simp only [show 256 * 10 + 256 = 2816 from rfl, terms_eq]

/-- The array the call leaves is the reference's result of the same arguments. -/
theorem result_eq : Value.G9 m c
    = Cert.FfnFirstReferenceIdeal.Read.val_main_v27 (F := Ideal) (a0 m c) (a1 m c) (a2 m c) (a3 m c) (a4 m c) (a5 m c) (a6 m c) := by
  funext i
  have h0 : (i 0).val < 2 := (i 0).isLt
  have h1 : (i 1).val < 8192 := (i 1).isLt
  have h2 : (i 2).val < 1024 := (i 2).isLt
  have hp : Value.pt9Of i = 88 * (i 0).val + 11 * ((i 1).val / 1024) + 10 := by
    show 11 * (8 * ((i 0).val / 1 - 0) + 1 * ((i 1).val / 1024 - 0) + 1 * ((i 2).val / 1024 - 0)) + 10 = _
    omega
  have hN : Value.pt9Of i < cfg0.N := by rw [show cfg0.N = 176 from N_0]; omega
  unfold Value.G9
  rw [dif_pos hN, ← Value.outsAt0_sweep m c (Value.pt9Of i) hN]
  have hl : Value.loc9Of i = ix3 (0 : Fin 1) ⟨(i 1).val % 1024, Nat.mod_lt _ (by decide)⟩ ⟨(i 2).val, h2⟩ := by
    funext a; apply Fin.ext
    match a with
    | ⟨0, _⟩ => show (i 0).val % 1 = 0; omega
    | ⟨1, _⟩ => rfl
    | ⟨2, _⟩ => show (i 2).val % 1024 = (i 2).val; omega
  rw [hl, last m c _ hN (by omega)]
  refine congrArg _ (funext fun a => Fin.ext ?_)
  match a with
  | ⟨0, _⟩ => show Value.pt9Of i / 88 = (i 0).val; omega
  | ⟨1, _⟩ => show 1024 * (Value.pt9Of i / 11 % 8) + (i 1).val % 1024 = (i 1).val; omega
  | ⟨2, _⟩ => rfl

end Cert.FfnFirstValue
end
end
-- ==== Proof.FfnFirstClaim.lean ====
/-
  The claims about the first layer's feed-forward call: the three programs run and leave their arguments alone, the idealization
  rewrites nothing, and kernel and reference return the same array.
-/
module

public import proofs.«01_k».proof.Defs
public import proofs.«01_k».proof.Proof.Gen.FfnFirst.Frame
public import proofs.«01_k».proof.Proof.FfnFirstValue
public import proofs.«01_k».proof.Proof.Gen.FfnFirstReferenceIdeal.Run

@[expose] public section

noncomputable section

namespace Cert.FfnFirstValue

open Idealize.ShloMosaic Idealize.ShloMosaic.TcCoe Idealize.SL.Sem

theorem frame_ffnFirst : Cert.quiescent_FfnFirst := fun m ρ _ => Cert.FfnFirst.Gen.frame m ρ

theorem frame_ffnFirstIdeal : Cert.quiescent_FfnFirstIdeal := fun m ρ _ => Cert.FfnFirstIdeal.Gen.frame m ρ

theorem frame_ffnFirstReference : Cert.quiescent_FfnFirstReferenceIdeal := fun m ρ _ =>
  (θ_run Cert.FfnFirstReferenceIdeal.defs _ _).mono (fun r h => ⟨fun c => (h c).2, sem_eq_zero_of_no_sems (by decide) r.2⟩)
    (Cert.FfnFirstReferenceIdeal.Value.run (F := Ideal) m ρ)

theorem preserves_ffnFirst : Cert.preserves_FfnFirst_FfnFirstIdeal := trivial

/-- Kernel and reference, started on the same arguments, return the same array. -/
theorem algebraic_ffnFirst : Cert.algebraic_FfnFirstIdeal_FfnFirstReferenceIdeal := fun m g m' g' _ hagree => by
  refine ⟨fun c => Cert.FfnFirstIdeal.Value.G9 m c, Cert.FfnFirstIdeal.Value.run (F := Ideal) m g, ?_⟩
  refine (θ_run Cert.FfnFirstReferenceIdeal.defs _ _).mono (fun r h c => ⟨(h c).1.trans ?_, (h c).2⟩)
    (Cert.FfnFirstReferenceIdeal.Value.run (F := Ideal) m' g')
  obtain ⟨h0, h1, h2, h3, h4, h5, h6, -⟩ := hagree c
  rw [Cert.FfnFirstReferenceIdeal.Read.val_main_v27_eq, h0, h1, h2, h3, h4, h5, h6]
  exact (result_eq m c).symm

end Cert.FfnFirstValue
end
end
-- ==== Proof.ProjCases.lean ====
/-
  The projection call's body, case by case: what a grid point's stores leave in the carried scratch and in the blocks of
  the two results, as the body's own expressions of the blocks it reads.
-/
module

public import proofs.«01_k».proof.Proof.Gen.ProjIdeal.Value
public import Idealize.ShloMosaic.Lib.Pipeline.Value
public import Idealize.ShloMosaic.Lib.Tactic

@[expose] public section

set_option maxRecDepth 16384

noncomputable section

namespace Cert.ProjIdeal.Cases

open Cert.ProjIdeal Cert.ProjIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl

theorem hz3 : (![0, 0, 0] : Fin 3 → Nat) = fun _ => 0 := funext fun a => by fin_cases a <;> rfl

/-- At a first point the normalised and modulated rows are stored. -/
theorem sout0_A_0_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024x1024 .bf16) (harg8 : arg8.IsWhole) (arg9 : Memref sig .tc .vmem S1x1024x128 .f32) (harg9 : arg9.IsWhole) (arg10 : Memref sig .tc .vmem S1024x1024 .bf16) (harg10 : arg10.IsWhole) (hc0 : cond0_0 i) (hc1 : ¬cond0_1 i)
    (x0 : Vec F S1x1024x1024 .f32) (x1 : Vec F S1x1x1024 .f32) (x2 : Vec F S1x1x1024 .f32) (x3 : Vec F S1x1024 .f32) (x4 : Vec F S1024x1024 .bf16) :
    sout0_A_0 c i arg3 harg3 arg4 harg4 arg5 harg5 arg6 harg6 arg7 harg7 arg8 harg8 arg9 harg9 arg10 harg10 hc0 hc1 x0 x1 x2 x3 x4 = k0_pay1 x0 x3 x2 x1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread,
    View.ld_unit_zero (S := S1x1024x1024) hz3, View.ld_unit_zero (S := S1x1x1024) hz3, View.ld_unit_zero (S := S1x1024) hz2,
    View.ld_unit_zero (S := S1024x1024) hz2]

/-- At a first point the block of the result is the product of those rows. -/
theorem out0_A_5_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024x1024 .bf16) (harg8 : arg8.IsWhole) (arg9 : Memref sig .tc .vmem S1x1024x128 .f32) (harg9 : arg9.IsWhole) (arg10 : Memref sig .tc .vmem S1024x1024 .bf16) (harg10 : arg10.IsWhole) (hc0 : cond0_0 i) (hc1 : ¬cond0_1 i)
    (x0 : Vec F S1x1024x1024 .f32) (x1 : Vec F S1x1x1024 .f32) (x2 : Vec F S1x1x1024 .f32) (x3 : Vec F S1x1024 .f32) (x4 : Vec F S1024x1024 .bf16) :
    out0_A_5 c i arg3 harg3 arg4 harg4 arg5 harg5 arg6 harg6 arg7 harg7 arg8 harg8 arg9 harg9 arg10 harg10 hc0 hc1 x0 x1 x2 x3 x4 = k0_pay3 (k0_pay1 x0 x3 x2 x1) x4 := by
  unfold out0_A_5
  rw [View.read_writes_eq_canon _ _ _ (cover0_A_5 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero hz3, View.readCov_unit_zero (S := S1024x1024) _ hz2]
  simp only [View.readAt_eq_ld, harg3.read_unread, harg4.read_unread, harg5.read_unread, harg6.read_unread, harg7.read_unread, harg8.read_unread, harg9.read_unread, harg10.read_unread,
    View.ld_unit_zero (S := S1x1024x1024) hz3, View.ld_unit_zero (S := S1x1x1024) hz3, View.ld_unit_zero (S := S1x1024) hz2,
    View.ld_unit_zero (S := S1024x1024) hz2]

/-- At an inner point the block of the result is the product of the carried rows. -/
theorem out0_B_5_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024x1024 .bf16) (harg8 : arg8.IsWhole) (arg9 : Memref sig .tc .vmem S1x1024x128 .f32) (harg9 : arg9.IsWhole) (arg10 : Memref sig .tc .vmem S1024x1024 .bf16) (harg10 : arg10.IsWhole) (hc0 : ¬cond0_0 i) (hc1 : ¬cond0_1 i)
    (x0 : Vec F S1x1024x1024 .f32) (x1 : Vec F S1x1x1024 .f32) (x2 : Vec F S1x1x1024 .f32) (x3 : Vec F S1x1024 .f32) (x4 : Vec F S1024x1024 .bf16) (xs0 : Vec F S1024x1024 .bf16) :
    out0_B_5 c i arg3 harg3 arg4 harg4 arg5 harg5 arg6 harg6 arg7 harg7 arg8 harg8 arg9 harg9 arg10 harg10 hc0 hc1 x0 x1 x2 x3 x4 xs0 = k0_pay3 xs0 x4 := by
  unfold out0_B_5
  rw [View.read_writes_eq_canon _ _ _ (cover0_B_5 c i arg3 harg3 arg4 harg4 arg5 harg5 arg6 harg6 arg7 harg7 arg8 harg8 arg9 harg9 arg10 harg10 hc0 hc1 x0 x1 x2 x3 x4 xs0)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread,
    View.ld_unit_zero (S := S1x1024x1024) hz3, View.ld_unit_zero (S := S1x1x1024) hz3, View.ld_unit_zero (S := S1x1024) hz2,
    View.ld_unit_zero (S := S1024x1024) hz2]

/-- At a last point too. -/
theorem out0_C_5_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024x1024 .bf16) (harg8 : arg8.IsWhole) (arg9 : Memref sig .tc .vmem S1x1024x128 .f32) (harg9 : arg9.IsWhole) (arg10 : Memref sig .tc .vmem S1024x1024 .bf16) (harg10 : arg10.IsWhole) (hc0 : ¬cond0_0 i) (hc1 : cond0_1 i)
    (x0 : Vec F S1x1024x1024 .f32) (x1 : Vec F S1x1x1024 .f32) (x2 : Vec F S1x1x1024 .f32) (x3 : Vec F S1x1024 .f32) (x4 : Vec F S1024x1024 .bf16) (xs0 : Vec F S1024x1024 .bf16) :
    out0_C_5 c i arg3 harg3 arg4 harg4 arg5 harg5 arg6 harg6 arg7 harg7 arg8 harg8 arg9 harg9 arg10 harg10 hc0 hc1 x0 x1 x2 x3 x4 xs0 = k0_pay3 xs0 x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread,
    View.ld_unit_zero (S := S1x1024x1024) hz3, View.ld_unit_zero (S := S1x1x1024) hz3, View.ld_unit_zero (S := S1x1024) hz2,
    View.ld_unit_zero (S := S1024x1024) hz2]

/-- At a last point the second result is a slice of that product. -/
theorem out0_C_6_eq (c : Dev nD) (i : grid0.Coords) (arg3 : Memref sig .tc .vmem S1x1024x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1x1024x1024 .bf16) (harg8 : arg8.IsWhole) (arg9 : Memref sig .tc .vmem S1x1024x128 .f32) (harg9 : arg9.IsWhole) (arg10 : Memref sig .tc .vmem S1024x1024 .bf16) (harg10 : arg10.IsWhole) (hc0 : ¬cond0_0 i) (hc1 : cond0_1 i)
    (x0 : Vec F S1x1024x1024 .f32) (x1 : Vec F S1x1x1024 .f32) (x2 : Vec F S1x1x1024 .f32) (x3 : Vec F S1x1024 .f32) (x4 : Vec F S1024x1024 .bf16) (xs0 : Vec F S1024x1024 .bf16) :
    out0_C_6 c i arg3 harg3 arg4 harg4 arg5 harg5 arg6 harg6 arg7 harg7 arg8 harg8 arg9 harg9 arg10 harg10 hc0 hc1 x0 x1 x2 x3 x4 xs0 = k0_pay4 xs0 x4 := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 xs0)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread,
    View.ld_unit_zero (S := S1x1024x1024) hz3, View.ld_unit_zero (S := S1x1x1024) hz3, View.ld_unit_zero (S := S1x1024) hz2,
    View.ld_unit_zero (S := S1024x1024) hz2]

end Cert.ProjIdeal.Cases

end
-- ==== Proof.ProjPay.lean ====
/-
  The projection call's stored expressions read at one element: the normalised and modulated row, and its product with a
  block of columns; the order in which the columns lie in the result.
-/
module

public import proofs.«01_k».proof.Proof.ProjCases
public import proofs.«01_k».proof.Proof.FfnPay
public import Idealize.ShloMosaic.Lib.Pointwise

@[expose] public section

set_option maxRecDepth 16384

noncomputable section

namespace Cert.ProjValue

open Cert.FfnValue (rms modRow)
open Cert.ProjIdeal Cert.ProjIdeal.Gen Idealize.ShloMosaic Idealize.ShloMosaic.TcCoe Idealize.SL.Sem

theorem pay1_apply (x : Vec Ideal S1x1024x1024 .f32) (g : Vec Ideal S1x1024 .f32) (sc sh : Vec Ideal S1x1x1024 .f32)
    (r d : Fin 1024) :
    k0_pay1 (F := Ideal) x g sc sh (ix2 r d)
      = modRow (fun k => x (ix3 0 r k)) (fun k => g (ix2 0 k)) (fun k => sc (ix3 0 0 k)) (fun k => sh (ix3 0 0 k)) d := by
  pointwise [k0_pay1, modRow, rms]

theorem pay3_apply (h w : Vec Ideal S1024x1024 .bf16) (u : Fin 1) (r d : Fin 1024) :
    k0_pay3 (F := Ideal) h w (ix3 u r d) = ∑ e : Fin 1024, h (ix2 r e) * w (ix2 e d) := by
  pointwise [k0_pay3, k0_pay2]

theorem pay4_apply (h w : Vec Ideal S1024x1024 .bf16) (u : Fin 1) (r : Fin 1024) (d : Fin 128) :
    k0_pay4 (F := Ideal) h w (ix3 u r d) = ∑ e : Fin 1024, h (ix2 r e) * w (ix2 e ⟨768 + d.val, by omega⟩) := by
  pointwise [k0_pay4, k0_pay2]

/-- The projection's column that lies at column `j` of the result. -/
def src (j : ℕ) : ℕ :=
  if j < 1536 then 2320 + j
  else if j < 2048 then 1296 + (j - 1536)
  else if j < 2816 then 256 + (j - 2048)
  else if j < 3072 then 1040 + (j - 2816)
  else if j < 3584 then 1808 + (j - 3072)
  else if j < 3712 then j - 3584
  else if j < 3840 then 128 + (j - 3712)
  else 1024 + (j - 3840)

theorem src_lt {j : ℕ} (h : j < 3856) : src j < 3856 := by
  unfold src
  split_ifs <;> omega

/-- A row of projection columns, laid out as in the result: zeros past the last column. -/
def lay (p : Fin 3856 → EReal) (j : Fin 4096) : EReal :=
  if h : j.val < 3856 then p ⟨src j.val, src_lt h⟩ else 0

/-- A row's product with laid out weights is the laid out product. -/
theorem sum_lay (h : Fin 1024 → EReal) (w : Fin 1024 → Fin 3856 → EReal) (j : Fin 4096) :
    ∑ e : Fin 1024, h e * lay (w e) j = lay (fun o => ∑ e : Fin 1024, h e * w e o) j := by
  unfold lay
  split
  · rfl
  · simp

end Cert.ProjValue
end
end
-- ==== Proof.ProjBlocks.lean ====
/-
  The projection call's input blocks read at one element: at grid point `t` the rows of batch `t / 32`, positions
  `1024 * (t / 4 % 8) …`, and the laid out weights' columns `1024 * (t % 4) …`.
-/
module

public import proofs.«01_k».proof.Proof.ProjPay
public import Idealize.ShloMosaic.Lib.Claim
public import Idealize.ShloMosaic.Lib.StableHlo.RunRead

@[expose] public section

set_option maxRecDepth 16384

noncomputable section

namespace Cert.ProjValue

open Cert.ProjIdeal Cert.ProjIdeal.Gen Idealize.ShloMosaic Idealize.ShloMosaic.TcCoe Idealize.SL.Sem Idealize.ShloMosaic.StableHlo

variable (m : (ℓ : Loc nD τ sig) → Buf (Elt Ideal) ℓ) (c : Dev nD)

/-- The weights' columns in the order of the result. -/
def ordered (w : Vec Ideal S1024x3856 .f32) : Vec Ideal S1024x3856 .f32 :=
  concatenate S1024x3856 1 [⟨S1024x1536, extractStridedSlice S1024x1536 ![0, 2320] w slices_S1024x3856_S1024x1536_0_2320⟩,
    ⟨S1024x512, extractStridedSlice S1024x512 ![0, 1296] w slices_S1024x3856_S1024x512_0_1296⟩,
    ⟨S1024x768, extractStridedSlice S1024x768 ![0, 256] w slices_S1024x3856_S1024x768_0_256⟩,
    ⟨S1024x256, extractStridedSlice S1024x256 ![0, 1040] w slices_S1024x3856_S1024x256_0_1040⟩,
    ⟨S1024x512, extractStridedSlice S1024x512 ![0, 1808] w slices_S1024x3856_S1024x512_0_1808⟩,
    ⟨S1024x128, extractStridedSlice S1024x128 ![0, 0] w slices_S1024x3856_S1024x128_0_0⟩,
    ⟨S1024x128, extractStridedSlice S1024x128 ![0, 128] w slices_S1024x3856_S1024x128_0_128⟩,
    ⟨S1024x16, extractStridedSlice S1024x16 ![0, 1024] w slices_S1024x3856_S1024x16_0_1024⟩]
    concatenates_S1024x1536_S1024x512_S1024x768_S1024x256_S1024x512_S1024x128_S1024x128_S1024x16_S1024x3856_d1

/-- The laid out weights: ordered, and padded by zero columns. -/
def laid (w : Vec Ideal S1024x3856 .f32) : Vec Ideal S1024x4096 .bf16 :=
  truncf (F := Ideal) .bf16 (pad S1024x4096 ![0, 0] ![0, 240] ![0, 0] (ordered w) (sitofp (F := Ideal) .f32 (constantI S_ 32 0#32))
    pads_S1024x3856_S1024x4096_000_02400 h_S_) bitsLt_bf16_f32

theorem V_v0 : V m c main_v0 = broadcastInDim S1x1024 ![1] bcast_S1024_S1x1024_1 (m ((c : Thread nD τ).loc main_arg3)) := by
  show StableHlo.after (hostOps0 ++ (hostOps0_1 ++ (hostOps0_2 ++ []))) _ _ = _
  simp only [hostOps0, hostOps0_1, hostOps0_2, List.cons_append, List.nil_append, List.append_nil]
  after_results

theorem V_v11 : V m c main_v11 = laid (m ((c : Thread nD τ).loc main_arg4)) := by
  show StableHlo.after (hostOps0 ++ (hostOps0_1 ++ (hostOps0_2 ++ []))) _ _ = _
  after_reads_simp
  rfl

/-- A piece of the ordered weights: a slice of the columns. -/
theorem cols_apply {n : ℕ} (o : ℕ) (w : Vec Ideal S1024x3856 .f32) (h : S1024x3856.Slices ![0, o] ⟨2, ![1024, n]⟩)
    (e : Fin 1024) (d : Fin n) (hd : o + d.val < 3856) :
    extractStridedSlice ⟨2, ![1024, n]⟩ ![0, o] w h (ix2 e d) = w (ix2 e ⟨o + d.val, hd⟩) := by
  pointwise []

theorem ordered_apply (w : Vec Ideal S1024x3856 .f32) (e : Fin 1024) (j : Fin 3856) :
    ordered w (ix2 e j) = w (ix2 e ⟨src j.val, src_lt j.isLt⟩) := by
  unfold ordered
  by_cases h0 : j.val < 1536
  · refine (concatenate_apply_piece 1 _ _ (ix2 e j) 0 (by show 0 < 8; decide) S1024x1536
      (extractStridedSlice S1024x1536 ![0, 2320] w slices_S1024x3856_S1024x1536_0_2320) rfl rfl 0 rfl
      (ix2 e ⟨j.val - 0, by omega⟩) (fun b hb => match b, hb with | ⟨0, _⟩, _ => rfl | ⟨1, _⟩, hb => absurd rfl hb)
      (by show 0 + (j.val - 0) = j.val; omega)).trans
      ((cols_apply 2320 w slices_S1024x3856_S1024x1536_0_2320 e _ (by show 2320 + (j.val - 0) < 3856; omega)).trans
        (congrArg w (congrArg (ix2 e) (Fin.ext ?_))))
    show 2320 + (j.val - 0) = src j.val
    unfold src
    split_ifs <;> omega
  by_cases h1 : j.val < 2048
  · refine (concatenate_apply_piece 1 _ _ (ix2 e j) 1 (by show 1 < 8; decide) S1024x512
      (extractStridedSlice S1024x512 ![0, 1296] w slices_S1024x3856_S1024x512_0_1296) rfl rfl 1536 rfl
      (ix2 e ⟨j.val - 1536, by omega⟩) (fun b hb => match b, hb with | ⟨0, _⟩, _ => rfl | ⟨1, _⟩, hb => absurd rfl hb)
      (by show 1536 + (j.val - 1536) = j.val; omega)).trans
      ((cols_apply 1296 w slices_S1024x3856_S1024x512_0_1296 e _ (by show 1296 + (j.val - 1536) < 3856; omega)).trans
        (congrArg w (congrArg (ix2 e) (Fin.ext ?_))))
    show 1296 + (j.val - 1536) = src j.val
    unfold src
    split_ifs <;> omega
  by_cases h2 : j.val < 2816
  · refine (concatenate_apply_piece 1 _ _ (ix2 e j) 2 (by show 2 < 8; decide) S1024x768
      (extractStridedSlice S1024x768 ![0, 256] w slices_S1024x3856_S1024x768_0_256) rfl rfl 2048 rfl
      (ix2 e ⟨j.val - 2048, by omega⟩) (fun b hb => match b, hb with | ⟨0, _⟩, _ => rfl | ⟨1, _⟩, hb => absurd rfl hb)
      (by show 2048 + (j.val - 2048) = j.val; omega)).trans
      ((cols_apply 256 w slices_S1024x3856_S1024x768_0_256 e _ (by show 256 + (j.val - 2048) < 3856; omega)).trans
        (congrArg w (congrArg (ix2 e) (Fin.ext ?_))))
    show 256 + (j.val - 2048) = src j.val
    unfold src
    split_ifs <;> omega
  by_cases h3 : j.val < 3072
  · refine (concatenate_apply_piece 1 _ _ (ix2 e j) 3 (by show 3 < 8; decide) S1024x256
      (extractStridedSlice S1024x256 ![0, 1040] w slices_S1024x3856_S1024x256_0_1040) rfl rfl 2816 rfl
      (ix2 e ⟨j.val - 2816, by omega⟩) (fun b hb => match b, hb with | ⟨0, _⟩, _ => rfl | ⟨1, _⟩, hb => absurd rfl hb)
      (by show 2816 + (j.val - 2816) = j.val; omega)).trans
      ((cols_apply 1040 w slices_S1024x3856_S1024x256_0_1040 e _ (by show 1040 + (j.val - 2816) < 3856; omega)).trans
        (congrArg w (congrArg (ix2 e) (Fin.ext ?_))))
    show 1040 + (j.val - 2816) = src j.val
    unfold src
    split_ifs <;> omega
  by_cases h4 : j.val < 3584
  · refine (concatenate_apply_piece 1 _ _ (ix2 e j) 4 (by show 4 < 8; decide) S1024x512
      (extractStridedSlice S1024x512 ![0, 1808] w slices_S1024x3856_S1024x512_0_1808) rfl rfl 3072 rfl
      (ix2 e ⟨j.val - 3072, by omega⟩) (fun b hb => match b, hb with | ⟨0, _⟩, _ => rfl | ⟨1, _⟩, hb => absurd rfl hb)
      (by show 3072 + (j.val - 3072) = j.val; omega)).trans
      ((cols_apply 1808 w slices_S1024x3856_S1024x512_0_1808 e _ (by show 1808 + (j.val - 3072) < 3856; omega)).trans
        (congrArg w (congrArg (ix2 e) (Fin.ext ?_))))
    show 1808 + (j.val - 3072) = src j.val
    unfold src
    split_ifs <;> omega
  by_cases h5 : j.val < 3712
  · refine (concatenate_apply_piece 1 _ _ (ix2 e j) 5 (by show 5 < 8; decide) S1024x128
      (extractStridedSlice S1024x128 ![0, 0] w slices_S1024x3856_S1024x128_0_0) rfl rfl 3584 rfl
      (ix2 e ⟨j.val - 3584, by omega⟩) (fun b hb => match b, hb with | ⟨0, _⟩, _ => rfl | ⟨1, _⟩, hb => absurd rfl hb)
      (by show 3584 + (j.val - 3584) = j.val; omega)).trans
      ((cols_apply 0 w slices_S1024x3856_S1024x128_0_0 e _ (by show 0 + (j.val - 3584) < 3856; omega)).trans
        (congrArg w (congrArg (ix2 e) (Fin.ext ?_))))
    show 0 + (j.val - 3584) = src j.val
    unfold src
    split_ifs <;> omega
  by_cases h6 : j.val < 3840
  · refine (concatenate_apply_piece 1 _ _ (ix2 e j) 6 (by show 6 < 8; decide) S1024x128
      (extractStridedSlice S1024x128 ![0, 128] w slices_S1024x3856_S1024x128_0_128) rfl rfl 3712 rfl
      (ix2 e ⟨j.val - 3712, by omega⟩) (fun b hb => match b, hb with | ⟨0, _⟩, _ => rfl | ⟨1, _⟩, hb => absurd rfl hb)
      (by show 3712 + (j.val - 3712) = j.val; omega)).trans
      ((cols_apply 128 w slices_S1024x3856_S1024x128_0_128 e _ (by show 128 + (j.val - 3712) < 3856; omega)).trans
        (congrArg w (congrArg (ix2 e) (Fin.ext ?_))))
    show 128 + (j.val - 3712) = src j.val
    unfold src
    split_ifs <;> omega
  refine (concatenate_apply_piece 1 _ _ (ix2 e j) 7 (by show 7 < 8; decide) S1024x16
    (extractStridedSlice S1024x16 ![0, 1024] w slices_S1024x3856_S1024x16_0_1024) rfl rfl 3840 rfl
    (ix2 e ⟨j.val - 3840, by omega⟩) (fun b hb => match b, hb with | ⟨0, _⟩, _ => rfl | ⟨1, _⟩, hb => absurd rfl hb)
    (by show 3840 + (j.val - 3840) = j.val; omega)).trans
    ((cols_apply 1024 w slices_S1024x3856_S1024x16_0_1024 e _ (by show 1024 + (j.val - 3840) < 3856; omega)).trans
      (congrArg w (congrArg (ix2 e) (Fin.ext ?_))))
  show 1024 + (j.val - 3840) = src j.val
  unfold src
  split_ifs <;> omega

/-- The laid out weights at one element. -/
theorem laid_apply (w : Vec Ideal S1024x3856 .f32) (e : Fin 1024) (j : Fin 4096) :
    laid w (ix2 e j) = lay (fun o => w (ix2 e o)) j := by
  unfold laid lay
  have h := ordered_apply w
  generalize ordered w = y at h ⊢
  have z : FloatOps.sitofp (F := Ideal) .f32 (0#32 : BitVec 32) = (0 : EReal) := by
    show (((0#32 : BitVec 32).toInt : ℝ) : EReal) = 0
    simp
  pointwise []
  simp only [h, z]

theorem index_facts : ∀ t : Fin cfg0.N,
    (win0_0.index t (0 : Fin 3) = t.val / 32 ∧ win0_0.index t (1 : Fin 3) = t.val / 4 % 8 ∧ win0_0.index t (2 : Fin 3) = 0)
    ∧ (win0_1.index t (0 : Fin 3) = t.val / 32 ∧ win0_1.index t (1 : Fin 3) = 0 ∧ win0_1.index t (2 : Fin 3) = 0)
    ∧ (win0_2.index t (0 : Fin 3) = t.val / 32 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = t.val % 4)
    ∧ (win0_5.index t (0 : Fin 3) = t.val / 32 ∧ win0_5.index t (1 : Fin 3) = t.val / 4 % 8 ∧ win0_5.index t (2 : Fin 3) = t.val % 4)
    ∧ (win0_6.index t (0 : Fin 3) = t.val / 32 ∧ win0_6.index t (1 : Fin 3) = t.val / 4 % 8 ∧ win0_6.index t (2 : Fin 3) = 0)
    ∧ (cfg0.win 5).flush t = true ∧ (cfg0.win 6).flush t = decide (t.val % 4 = 3) :=
  (by decide +kernel : ∀ t : Fin grid0.N, _)

theorem lt_N (t : Fin cfg0.N) : t.val < 64 := lt_of_lt_of_eq t.isLt (show cfg0.N = 64 from N_0)

/-- The batch of grid point `t`. -/
def bOf (t : Fin cfg0.N) : Fin 2 := ⟨t.val / 32, by have := lt_N t; omega⟩
/-- The position of row `r` of grid point `t`'s block. -/
def sOf (t : Fin cfg0.N) (r : Fin 1024) : Fin 8192 := ⟨1024 * (t.val / 4 % 8) + r.val, by omega⟩
/-- The column at place `d` of grid point `t`'s block. -/
def jOf (t : Fin cfg0.N) (d : Fin 1024) : Fin 4096 := ⟨1024 * (t.val % 4) + d.val, by omega⟩

theorem blk0 (t : Fin cfg0.N) (r d : Fin 1024) :
    (iblk m c 0 t : Vec Ideal S1x1024x1024 .f32) (ix3 0 r d) = m ((c : Thread nD τ).loc main_arg0) (ix3 (bOf t) (sOf t r) d) := by
  obtain ⟨⟨e0, e1, e2⟩, -⟩ := index_facts t
  refine (congrFun (V_main_arg0 m c) _).trans (congrArg (m ((c : Thread nD τ).loc main_arg0)) (funext fun a => Fin.ext ?_))
  match a with
  | ⟨0, _⟩ => show win0_0.index t (0 : Fin 3) * 1 + 1 * 0 = t.val / 32; omega
  | ⟨1, _⟩ => show win0_0.index t (1 : Fin 3) * 1024 + 1 * r.val = 1024 * (t.val / 4 % 8) + r.val; omega
  | ⟨2, _⟩ => show win0_0.index t (2 : Fin 3) * 1024 + 1 * d.val = d.val; omega

theorem blk1 (t : Fin cfg0.N) (d : Fin 1024) :
    (iblk m c 1 t : Vec Ideal S1x1x1024 .f32) (ix3 0 0 d) = m ((c : Thread nD τ).loc main_arg1) (ix3 (bOf t) 0 d) := by
  obtain ⟨-, ⟨e0, e1, e2⟩, -⟩ := index_facts t
  refine (congrFun (V_main_arg1 m c) _).trans (congrArg (m ((c : Thread nD τ).loc main_arg1)) (funext fun a => Fin.ext ?_))
  match a with
  | ⟨0, _⟩ => show win0_1.index t (0 : Fin 3) * 1 + 1 * 0 = t.val / 32; omega
  | ⟨1, _⟩ => show win0_1.index t (1 : Fin 3) * 1 + 1 * 0 = 0; omega
  | ⟨2, _⟩ => show win0_1.index t (2 : Fin 3) * 1024 + 1 * d.val = d.val; omega

theorem blk2 (t : Fin cfg0.N) (d : Fin 1024) :
    (iblk m c 2 t : Vec Ideal S1x1x1024 .f32) (ix3 0 0 d) = m ((c : Thread nD τ).loc main_arg2) (ix3 (bOf t) 0 d) := by
  obtain ⟨-, -, ⟨e0, e1, e2⟩, -⟩ := index_facts t
  refine (congrFun (V_main_arg2 m c) _).trans (congrArg (m ((c : Thread nD τ).loc main_arg2)) (funext fun a => Fin.ext ?_))
  match a with
  | ⟨0, _⟩ => show win0_2.index t (0 : Fin 3) * 1 + 1 * 0 = t.val / 32; omega
  | ⟨1, _⟩ => show win0_2.index t (1 : Fin 3) * 1 + 1 * 0 = 0; omega
  | ⟨2, _⟩ => show win0_2.index t (2 : Fin 3) * 1024 + 1 * d.val = d.val; omega

/-- The gain row, broadcast to one row by the host, at column `d`. -/
theorem gain_row (x : Vec Ideal S1024 .f32) (d : Fin 1024) :
    broadcastInDim S1x1024 ![1] bcast_S1024_S1x1024_1 x (ix2 0 d) = x (ix1 d) := by
  pointwise []

theorem blk3 (t : Fin cfg0.N) (d : Fin 1024) :
    (iblk m c 3 t : Vec Ideal S1x1024 .f32) (ix2 0 d) = m ((c : Thread nD τ).loc main_arg3) (ix1 d) := by
  obtain ⟨-, -, -, ⟨e0, e1⟩, -⟩ := index_facts t
  refine (congrFun (V_v0 m c) _).trans (Eq.trans (congrArg (broadcastInDim S1x1024 ![1] bcast_S1024_S1x1024_1 (m ((c : Thread nD τ).loc main_arg3))) (funext fun a => Fin.ext ?_)) (gain_row _ d))
  match a with
  | ⟨0, _⟩ => show win0_3.index t (0 : Fin 2) * 1 + 1 * 0 = 0; omega
  | ⟨1, _⟩ => show win0_3.index t (1 : Fin 2) * 1024 + 1 * d.val = d.val; omega

theorem blk4 (t : Fin cfg0.N) (e d : Fin 1024) :
    (iblk m c 4 t : Vec Ideal S1024x1024 .bf16) (ix2 e d)
      = lay (fun o => (m ((c : Thread nD τ).loc main_arg4) : Vec Ideal S1024x3856 .f32) (ix2 e o)) (jOf t d) := by
  obtain ⟨-, -, -, -, ⟨e0, e1⟩, -⟩ := index_facts t
  refine (congrFun (V_v11 m c) _).trans (Eq.trans (congrArg (laid (m ((c : Thread nD τ).loc main_arg4))) (funext fun a => Fin.ext ?_)) (laid_apply _ e (jOf t d)))
  match a with
  | ⟨0, _⟩ => show win0_4.index t (0 : Fin 2) * 1024 + 1 * e.val = e.val; omega
  | ⟨1, _⟩ => show win0_4.index t (1 : Fin 2) * 1024 + 1 * d.val = 1024 * (t.val % 4) + d.val; omega

end Cert.ProjValue
end
end
-- ==== Proof.ProjRef.lean ====
/-
  The projection reference's two results read at one element.
-/
module

public import proofs.«01_k».proof.Proof.ProjPay
public import Idealize.ShloMosaic.Lib.Pipeline.Value
public import proofs.«01_k».proof.Proof.Gen.ProjReferenceIdeal.Read

@[expose] public section

set_option maxRecDepth 16384

noncomputable section

namespace Cert.ProjValue

open Cert.FfnValue (rms modRow)
open Cert.ProjReferenceIdeal Cert.ProjReferenceIdeal.Gen Cert.ProjReferenceIdeal.Read Idealize.ShloMosaic Idealize.ShloMosaic.TcCoe Idealize.SL.Sem

variable (x0 : (⟨S2x8192x1024, .f32⟩ : BufTy).Contents (Elt Ideal)) (x1 x2 : (⟨S2x1x1024, .f32⟩ : BufTy).Contents (Elt Ideal))
  (x3 : (⟨S1024, .f32⟩ : BufTy).Contents (Elt Ideal)) (x4 : (⟨S1024x3856, .f32⟩ : BufTy).Contents (Elt Ideal))

/-- The modulated row of batch `b`, position `s`. -/
def hrow (b : Fin 2) (s : Fin 8192) : Fin 1024 → EReal :=
  modRow (fun k => x0 (ix3 b s k)) (fun k => x3 (ix1 k)) (fun k => x2 (ix3 b 0 k)) (fun k => x1 (ix3 b 0 k))

/-- The projection of batch `b`, position `s`. -/
def proj (b : Fin 2) (s : Fin 8192) (o : Fin 3856) : EReal :=
  ∑ e : Fin 1024, hrow x0 x1 x2 x3 b s e * x4 (ix2 e o)

theorem v18_apply (b : Fin 2) (s : Fin 8192) (d : Fin 1024) :
    val_main_v18 (F := Ideal) x0 x1 x2 x3 (ix3 b s d) = hrow x0 x1 x2 x3 b s d := by
  pointwise [hrow, modRow, rms, val_main_v18, val_main_v17, val_main_v16, val_main_v15, val_main_v14, val_main_v13, val_main_cst_2, val_main_v12, val_main_v11, val_main_v10, val_main_v9, val_main_v8, val_main_v7, val_main_v6, val_main_v5, val_main_cst_1, val_main_v4, val_main_v3, val_main_cst_0, val_main_v2, val_main_v1, val_main_cst, val_main_v0]

theorem v19_apply (b : Fin 2) (s : Fin 8192) (o : Fin 3856) :
    val_main_v19 (F := Ideal) x0 x1 x2 x3 x4 (ix3 b s o) = proj x0 x1 x2 x3 x4 b s o := by
  unfold val_main_v19
  have h := v18_apply x0 x1 x2 x3
  generalize val_main_v18 (F := Ideal) x0 x1 x2 x3 = y at h ⊢
  pointwise [proj]
  simp only [h]

/-- A piece of the result: a slice of the projection's columns. -/
theorem piece_apply {n : ℕ} (o : ℕ) (y : Vec Ideal S2x8192x3856 .f32) (h : S2x8192x3856.Slices ![0, 0, o] ⟨3, ![2, 8192, n]⟩)
    (b : Fin 2) (s : Fin 8192) (d : Fin n) (hd : o + d.val < 3856) :
    extractStridedSlice ⟨3, ![2, 8192, n]⟩ ![0, 0, o] y h (ix3 b s d) = y (ix3 b s ⟨o + d.val, hd⟩) := by
  pointwise []

theorem zeros_apply (b : Fin 2) (s : Fin 8192) (d : Fin 240) : val_main_v20 (F := Ideal) (ix3 b s d) = 0 := by
  pointwise [val_main_v20, val_main_cst_3]

/-- The reference's first result: the projection in the order of the result, zeros past it. -/
theorem v33_apply (b : Fin 2) (s : Fin 8192) (j : Fin 4096) :
    val_main_v33 (F := Ideal) x0 x1 x2 x3 x4 (ix3 b s j) = lay (proj x0 x1 x2 x3 x4 b s) j := by
  show val_main_v32 (F := Ideal) x0 x1 x2 x3 x4 (ix3 b s j) = _
  unfold val_main_v32 val_main_v24 val_main_v25 val_main_v26 val_main_v27 val_main_v28 val_main_v29 val_main_v30 val_main_v31
  have h := v19_apply x0 x1 x2 x3 x4
  generalize val_main_v19 (F := Ideal) x0 x1 x2 x3 x4 = y at h ⊢
  unfold lay
  by_cases hj : j.val < 3856
  · rw [dif_pos hj]
    by_cases h0 : j.val < 1536
    · refine (concatenate_apply_piece 2 _ _ (ix3 b s j) 0 (by show 0 < 9; decide) S2x8192x1536
        (extractStridedSlice S2x8192x1536 ![0, 0, 2320] y slices_S2x8192x3856_S2x8192x1536_0_0_2320) rfl rfl 0 rfl
        (ix3 b s ⟨j.val - 0, by omega⟩) (fun a ha => match a, ha with | ⟨0, _⟩, _ => rfl | ⟨1, _⟩, _ => rfl | ⟨2, _⟩, ha => absurd rfl ha)
        (by show 0 + (j.val - 0) = j.val; omega)).trans
        ((piece_apply 2320 y slices_S2x8192x3856_S2x8192x1536_0_0_2320 b s _ (by show 2320 + (j.val - 0) < 3856; omega)).trans
          ((h b s _).trans (congrArg (proj x0 x1 x2 x3 x4 b s) (Fin.ext ?_))))
      show 2320 + (j.val - 0) = src j.val
      unfold src
      split_ifs <;> omega
    by_cases h1 : j.val < 2048
    · refine (concatenate_apply_piece 2 _ _ (ix3 b s j) 1 (by show 1 < 9; decide) S2x8192x512
        (extractStridedSlice S2x8192x512 ![0, 0, 1296] y slices_S2x8192x3856_S2x8192x512_0_0_1296) rfl rfl 1536 rfl
        (ix3 b s ⟨j.val - 1536, by omega⟩) (fun a ha => match a, ha with | ⟨0, _⟩, _ => rfl | ⟨1, _⟩, _ => rfl | ⟨2, _⟩, ha => absurd rfl ha)
        (by show 1536 + (j.val - 1536) = j.val; omega)).trans
        ((piece_apply 1296 y slices_S2x8192x3856_S2x8192x512_0_0_1296 b s _ (by show 1296 + (j.val - 1536) < 3856; omega)).trans
          ((h b s _).trans (congrArg (proj x0 x1 x2 x3 x4 b s) (Fin.ext ?_))))
      show 1296 + (j.val - 1536) = src j.val
      unfold src
      split_ifs <;> omega
    by_cases h2 : j.val < 2816
    · refine (concatenate_apply_piece 2 _ _ (ix3 b s j) 2 (by show 2 < 9; decide) S2x8192x768
        (extractStridedSlice S2x8192x768 ![0, 0, 256] y slices_S2x8192x3856_S2x8192x768_0_0_256) rfl rfl 2048 rfl
        (ix3 b s ⟨j.val - 2048, by omega⟩) (fun a ha => match a, ha with | ⟨0, _⟩, _ => rfl | ⟨1, _⟩, _ => rfl | ⟨2, _⟩, ha => absurd rfl ha)
        (by show 2048 + (j.val - 2048) = j.val; omega)).trans
        ((piece_apply 256 y slices_S2x8192x3856_S2x8192x768_0_0_256 b s _ (by show 256 + (j.val - 2048) < 3856; omega)).trans
          ((h b s _).trans (congrArg (proj x0 x1 x2 x3 x4 b s) (Fin.ext ?_))))
      show 256 + (j.val - 2048) = src j.val
      unfold src
      split_ifs <;> omega
    by_cases h3 : j.val < 3072
    · refine (concatenate_apply_piece 2 _ _ (ix3 b s j) 3 (by show 3 < 9; decide) S2x8192x256
        (extractStridedSlice S2x8192x256 ![0, 0, 1040] y slices_S2x8192x3856_S2x8192x256_0_0_1040) rfl rfl 2816 rfl
        (ix3 b s ⟨j.val - 2816, by omega⟩) (fun a ha => match a, ha with | ⟨0, _⟩, _ => rfl | ⟨1, _⟩, _ => rfl | ⟨2, _⟩, ha => absurd rfl ha)
        (by show 2816 + (j.val - 2816) = j.val; omega)).trans
        ((piece_apply 1040 y slices_S2x8192x3856_S2x8192x256_0_0_1040 b s _ (by show 1040 + (j.val - 2816) < 3856; omega)).trans
          ((h b s _).trans (congrArg (proj x0 x1 x2 x3 x4 b s) (Fin.ext ?_))))
      show 1040 + (j.val - 2816) = src j.val
      unfold src
      split_ifs <;> omega
    by_cases h4 : j.val < 3584
    · refine (concatenate_apply_piece 2 _ _ (ix3 b s j) 4 (by show 4 < 9; decide) S2x8192x512
        (extractStridedSlice S2x8192x512 ![0, 0, 1808] y slices_S2x8192x3856_S2x8192x512_0_0_1808) rfl rfl 3072 rfl
        (ix3 b s ⟨j.val - 3072, by omega⟩) (fun a ha => match a, ha with | ⟨0, _⟩, _ => rfl | ⟨1, _⟩, _ => rfl | ⟨2, _⟩, ha => absurd rfl ha)
        (by show 3072 + (j.val - 3072) = j.val; omega)).trans
        ((piece_apply 1808 y slices_S2x8192x3856_S2x8192x512_0_0_1808 b s _ (by show 1808 + (j.val - 3072) < 3856; omega)).trans
          ((h b s _).trans (congrArg (proj x0 x1 x2 x3 x4 b s) (Fin.ext ?_))))
      show 1808 + (j.val - 3072) = src j.val
      unfold src
      split_ifs <;> omega
    by_cases h5 : j.val < 3712
    · refine (concatenate_apply_piece 2 _ _ (ix3 b s j) 5 (by show 5 < 9; decide) S2x8192x128
        (extractStridedSlice S2x8192x128 ![0, 0, 0] y slices_S2x8192x3856_S2x8192x128_0_0_0) rfl rfl 3584 rfl
        (ix3 b s ⟨j.val - 3584, by omega⟩) (fun a ha => match a, ha with | ⟨0, _⟩, _ => rfl | ⟨1, _⟩, _ => rfl | ⟨2, _⟩, ha => absurd rfl ha)
        (by show 3584 + (j.val - 3584) = j.val; omega)).trans
        ((piece_apply 0 y slices_S2x8192x3856_S2x8192x128_0_0_0 b s _ (by show 0 + (j.val - 3584) < 3856; omega)).trans
          ((h b s _).trans (congrArg (proj x0 x1 x2 x3 x4 b s) (Fin.ext ?_))))
      show 0 + (j.val - 3584) = src j.val
      unfold src
      split_ifs <;> omega
    by_cases h6 : j.val < 3840
    · refine (concatenate_apply_piece 2 _ _ (ix3 b s j) 6 (by show 6 < 9; decide) S2x8192x128
        (extractStridedSlice S2x8192x128 ![0, 0, 128] y slices_S2x8192x3856_S2x8192x128_0_0_128) rfl rfl 3712 rfl
        (ix3 b s ⟨j.val - 3712, by omega⟩) (fun a ha => match a, ha with | ⟨0, _⟩, _ => rfl | ⟨1, _⟩, _ => rfl | ⟨2, _⟩, ha => absurd rfl ha)
        (by show 3712 + (j.val - 3712) = j.val; omega)).trans
        ((piece_apply 128 y slices_S2x8192x3856_S2x8192x128_0_0_128 b s _ (by show 128 + (j.val - 3712) < 3856; omega)).trans
          ((h b s _).trans (congrArg (proj x0 x1 x2 x3 x4 b s) (Fin.ext ?_))))
      show 128 + (j.val - 3712) = src j.val
      unfold src
      split_ifs <;> omega
    refine (concatenate_apply_piece 2 _ _ (ix3 b s j) 7 (by show 7 < 9; decide) S2x8192x16
      (extractStridedSlice S2x8192x16 ![0, 0, 1024] y slices_S2x8192x3856_S2x8192x16_0_0_1024) rfl rfl 3840 rfl
      (ix3 b s ⟨j.val - 3840, by omega⟩) (fun a ha => match a, ha with | ⟨0, _⟩, _ => rfl | ⟨1, _⟩, _ => rfl | ⟨2, _⟩, ha => absurd rfl ha)
      (by show 3840 + (j.val - 3840) = j.val; omega)).trans
      ((piece_apply 1024 y slices_S2x8192x3856_S2x8192x16_0_0_1024 b s _ (by show 1024 + (j.val - 3840) < 3856; omega)).trans
        ((h b s _).trans (congrArg (proj x0 x1 x2 x3 x4 b s) (Fin.ext ?_))))
    show 1024 + (j.val - 3840) = src j.val
    unfold src
    split_ifs <;> omega
  · rw [dif_neg hj]
    exact (concatenate_apply_piece 2 _ _ (ix3 b s j) 8 (by show 8 < 9; decide) S2x8192x240
      (val_main_v20 (F := Ideal)) rfl rfl 3856 rfl
      (ix3 b s ⟨j.val - 3856, by omega⟩) (fun a ha => match a, ha with | ⟨0, _⟩, _ => rfl | ⟨1, _⟩, _ => rfl | ⟨2, _⟩, ha => absurd rfl ha)
      (by show 3856 + (j.val - 3856) = j.val; omega)).trans (zeros_apply b s _)

/-- The reference's second result: the last columns of the first, unrounded. -/
theorem v23_apply (b : Fin 2) (s : Fin 8192) (d : Fin 128) :
    val_main_v23 (F := Ideal) x0 x1 x2 x3 x4 (ix3 b s d) = lay (proj x0 x1 x2 x3 x4 b s) ⟨3840 + d.val, by omega⟩ := by
  unfold val_main_v23 val_main_v21
  have h := v19_apply x0 x1 x2 x3 x4
  generalize val_main_v19 (F := Ideal) x0 x1 x2 x3 x4 = y at h ⊢
  unfold lay
  by_cases hd : d.val < 16
  · rw [dif_pos (show 3840 + d.val < 3856 by omega)]
    refine (concatenate_apply_piece 2 _ _ (ix3 b s d) 0 (by show 0 < 2; decide) S2x8192x16
      (extractStridedSlice S2x8192x16 ![0, 0, 1024] y slices_S2x8192x3856_S2x8192x16_0_0_1024) rfl rfl 0 rfl
      (ix3 b s ⟨d.val, hd⟩) (fun a ha => match a, ha with | ⟨0, _⟩, _ => rfl | ⟨1, _⟩, _ => rfl | ⟨2, _⟩, ha => absurd rfl ha)
      (by show 0 + d.val = d.val; omega)).trans
      ((piece_apply 1024 y slices_S2x8192x3856_S2x8192x16_0_0_1024 b s _ (by show 1024 + d.val < 3856; omega)).trans
        ((h b s _).trans (congrArg (proj x0 x1 x2 x3 x4 b s) (Fin.ext ?_))))
    show 1024 + d.val = src (3840 + d.val)
    unfold src
    split_ifs <;> omega
  · rw [dif_neg (show ¬3840 + d.val < 3856 by omega)]
    refine (concatenate_apply_piece 2 _ _ (ix3 b s d) 1 (by show 1 < 2; decide) S2x8192x112
      (val_main_v22 (F := Ideal)) rfl rfl 16 rfl
      (ix3 b s ⟨d.val - 16, by omega⟩) (fun a ha => match a, ha with | ⟨0, _⟩, _ => rfl | ⟨1, _⟩, _ => rfl | ⟨2, _⟩, ha => absurd rfl ha)
      (by show 16 + (d.val - 16) = d.val; omega)).trans ?_
    pointwise [val_main_v22, val_main_v20, val_main_cst_3]

end Cert.ProjValue
end
end
-- ==== Proof.ProjValue.lean ====
/-
  The projection call's two results. The rows stored at a run's first point serve its four column blocks; each block
  written is the reference's result.
-/
module

public import proofs.«01_k».proof.Proof.ProjBlocks
public import proofs.«01_k».proof.Proof.ProjRef

@[expose] public section

set_option maxRecDepth 16384

noncomputable section

namespace Cert.ProjValue

open Cert.ProjIdeal Cert.ProjIdeal.Gen Cert.ProjIdeal.Cases Idealize.ShloMosaic Idealize.ShloMosaic.TcCoe Idealize.SL.Sem Idealize.ShloMosaic.StableHlo

variable (m : (ℓ : Loc nD τ sig) → Buf (Elt Ideal) ℓ) (c : Dev nD)

/-- The launch's arguments, as the arrays of numbers that they are. -/
abbrev a0 : Vec Ideal S2x8192x1024 .f32 := m ((c : Thread nD τ).loc main_arg0)
abbrev a1 : Vec Ideal S2x1x1024 .f32 := m ((c : Thread nD τ).loc main_arg1)
abbrev a2 : Vec Ideal S2x1x1024 .f32 := m ((c : Thread nD τ).loc main_arg2)
abbrev a3 : Vec Ideal S1024 .f32 := m ((c : Thread nD τ).loc main_arg3)
abbrev a4 : Vec Ideal S1024x3856 .f32 := m ((c : Thread nD τ).loc main_arg4)

/-- The reference's first result of the launch's arguments. -/
def want5 : Vec Ideal S2x8192x4096 .bf16 :=
  Cert.ProjReferenceIdeal.Read.val_main_v33 (F := Ideal) (a0 m c) (a1 m c) (a2 m c) (a3 m c) (a4 m c)

/-- The reference's second result of the launch's arguments. -/
def want6 : Vec Ideal S2x8192x128 .f32 :=
  Cert.ProjReferenceIdeal.Read.val_main_v23 (F := Ideal) (a0 m c) (a1 m c) (a2 m c) (a3 m c) (a4 m c)

/-- The rows of a grid point's block are the reference's modulated rows. -/
def IsRows (t : Fin cfg0.N) (h : Vec Ideal S1024x1024 .bf16) : Prop :=
  ∀ r d : Fin 1024, h (ix2 r d) = hrow (a0 m c) (a1 m c) (a2 m c) (a3 m c) (bOf t) (sOf t r) d

theorem rows_eq (t : Fin cfg0.N) : IsRows m c t (k0_pay1 (F := Ideal) (iblk m c 0 t) (iblk m c 3 t) (iblk m c 2 t) (iblk m c 1 t)) := by
  intro r d
  rw [pay1_apply]
  simp only [blk0 m c t, blk1 m c t, blk2 m c t, blk3 m c t]
  rfl

/-- The scratch carried past point `n` holds the modulated rows. -/
theorem carried (n : ℕ) : ∀ hn : n < cfg0.N, IsRows m c ⟨n, hn⟩ (outsAt0 m c n hn).2.2 := by
  induction n with
  | zero =>
    intro hn
    have e := outsAt0_A m c ⟨0, hn⟩ rfl (by show ¬0 % 4 = 3; decide)
    dsimp only at e
    rw [e]
    dsimp only
    rw [sout0_A_0_eq]
    exact rows_eq m c ⟨0, hn⟩
  | succ n ih =>
    intro hn
    by_cases h0 : (n + 1) % 4 = 0
    · have e := outsAt0_A m c ⟨n + 1, hn⟩ h0 (by show ¬(n + 1) % 4 = 3; omega)
      dsimp only at e
      rw [e]
      dsimp only
      rw [sout0_A_0_eq]
      exact rows_eq m c ⟨n + 1, hn⟩
    · have i1 := ih (Nat.lt_of_succ_lt hn)
      have hb : bOf ⟨n, Nat.lt_of_succ_lt hn⟩ = bOf ⟨n + 1, hn⟩ := Fin.ext (by show n / 32 = (n + 1) / 32; omega)
      have hs : ∀ r, sOf ⟨n, Nat.lt_of_succ_lt hn⟩ r = sOf ⟨n + 1, hn⟩ r := fun r =>
        Fin.ext (by show 1024 * (n / 4 % 8) + r.val = 1024 * ((n + 1) / 4 % 8) + r.val; omega)
      simp only [IsRows, hb, hs] at i1
      by_cases h1 : (n + 1) % 4 = 3
      · have e := outsAt0_C m c ⟨n + 1, hn⟩ h0 h1
        dsimp only [Nat.add_sub_cancel] at e
        rw [e]
        exact i1
      · have e := outsAt0_B m c ⟨n + 1, hn⟩ h0 h1
        dsimp only [Nat.add_sub_cancel] at e
        rw [e]
        exact i1

/-- What a later point reads of the scratch is what it leaves there. -/
theorem kept (t : Fin cfg0.N) (h0 : ¬t.val % 4 = 0) :
    IsRows m c t (outsAt0 m c (t.val - 1) (Nat.lt_of_le_of_lt (Nat.sub_le _ _) t.isLt)).2.2 := by
  have i1 := carried m c (t.val - 1) (Nat.lt_of_le_of_lt (Nat.sub_le _ _) t.isLt)
  intro r d
  rw [i1 r d]
  have hb : bOf ⟨t.val - 1, Nat.lt_of_le_of_lt (Nat.sub_le _ _) t.isLt⟩ = bOf t :=
    Fin.ext (by show (t.val - 1) / 32 = t.val / 32; omega)
  have hs : sOf ⟨t.val - 1, Nat.lt_of_le_of_lt (Nat.sub_le _ _) t.isLt⟩ r = sOf t r :=
    Fin.ext (by show 1024 * ((t.val - 1) / 4 % 8) + r.val = 1024 * (t.val / 4 % 8) + r.val; omega)
  rw [hb, hs]

/-- Every point's first output is the product of the modulated rows and its block of columns. -/
theorem out5 (t : Fin cfg0.N) : ∃ h, IsRows m c t h ∧ (outsAt0 m c t.val t.isLt).1 = k0_pay3 (F := Ideal) h (iblk m c 4 t) := by
  by_cases h0 : t.val % 4 = 0
  · refine ⟨_, rows_eq m c t, ?_⟩
    rw [outsAt0_A m c t h0 (by omega)]
    dsimp only
    rw [out0_A_5_eq]
  · refine ⟨_, kept m c t h0, ?_⟩
    by_cases h1 : t.val % 4 = 3
    · rw [outsAt0_C m c t h0 h1]
      dsimp only
      rw [out0_C_5_eq]
    · rw [outsAt0_B m c t h0 h1]
      dsimp only
      rw [out0_B_5_eq]

/-- A run's last point's second output is the last columns of that product. -/
theorem out6 (t : Fin cfg0.N) (h1 : t.val % 4 = 3) :
    ∃ h, IsRows m c t h ∧ (outsAt0 m c t.val t.isLt).2.1 = k0_pay4 (F := Ideal) h (iblk m c 4 t) := by
  refine ⟨_, kept m c t (by omega), ?_⟩
  rw [outsAt0_C m c t (by omega) h1]
  dsimp only
  rw [out0_C_6_eq]

theorem point5 (t : Fin cfg0.N) (u : Fin 1) (r d : Fin 1024) :
    (outsAt0 m c t.val t.isLt).1 (ix3 u r d) = want5 m c (ix3 (bOf t) (sOf t r) (jOf t d)) := by
  obtain ⟨h, hh, e⟩ := out5 m c t
  rw [e, pay3_apply]
  unfold want5
  rw [v33_apply]
  simp only [blk4 m c t, hh r]
  exact sum_lay _ _ _

theorem point6 (t : Fin cfg0.N) (h1 : t.val % 4 = 3) (u : Fin 1) (r : Fin 1024) (d : Fin 128) :
    (outsAt0 m c t.val t.isLt).2.1 (ix3 u r d) = want6 m c (ix3 (bOf t) (sOf t r) d) := by
  obtain ⟨h, hh, e⟩ := out6 m c t h1
  rw [e, pay4_apply]
  unfold want6
  rw [v23_apply]
  simp only [blk4 m c t, hh r]
  refine (sum_lay _ _ _).trans (congrArg _ (Fin.ext ?_))
  show 1024 * (t.val % 4) + (768 + d.val) = 3840 + d.val
  omega

theorem flushed5_want (t : Fin cfg0.N) :
    (dats m 0 c).flushed 5 t = ((cfg0.win 5).blk t).view.read (Elt Ideal) (want5 m c) := by
  rw [Value.flushed5]
  obtain ⟨-, -, -, -, -, ⟨e0, e1, e2⟩, -⟩ := index_facts t
  funext y
  have y0 : (y 0).val < 1 := (y 0).isLt
  have y1 : (y 1).val < 1024 := (y 1).isLt
  have y2 : (y 2).val < 1024 := (y 2).isLt
  have key := point5 m c t ⟨(y 0).val, y0⟩ ⟨(y 1).val, y1⟩ ⟨(y 2).val, y2⟩
  refine Eq.trans ?_ (key.trans ?_)
  · refine congrArg (outsAt0 m c t.val t.isLt).1 (funext fun a => Fin.ext ?_)
    match a with
    | ⟨0, _⟩ => rfl
    | ⟨1, _⟩ => rfl
    | ⟨2, _⟩ => rfl
  · refine congrArg (want5 m c) (funext fun a => Fin.ext ?_)
    match a with
    | ⟨0, _⟩ => show t.val / 32 = win0_5.index t (0 : Fin 3) * 1 + 1 * (y 0).val; omega
    | ⟨1, _⟩ => show 1024 * (t.val / 4 % 8) + (y 1).val = win0_5.index t (1 : Fin 3) * 1024 + 1 * (y 1).val; omega
    | ⟨2, _⟩ => show 1024 * (t.val % 4) + (y 2).val = win0_5.index t (2 : Fin 3) * 1024 + 1 * (y 2).val; omega

theorem flushed6_want (t : Fin cfg0.N) (hf : (cfg0.win 6).flush t = true) :
    (dats m 0 c).flushed 6 t = ((cfg0.win 6).blk t).view.read (Elt Ideal) (want6 m c) := by
  rw [Value.flushed6]
  obtain ⟨-, -, -, -, -, -, ⟨e0, e1, e2⟩, -, ef⟩ := index_facts t
  have hl : t.val % 4 = 3 := of_decide_eq_true (ef.symm.trans hf)
  funext y
  have y0 : (y 0).val < 1 := (y 0).isLt
  have y1 : (y 1).val < 1024 := (y 1).isLt
  have y2 : (y 2).val < 128 := (y 2).isLt
  have key := point6 m c t hl ⟨(y 0).val, y0⟩ ⟨(y 1).val, y1⟩ ⟨(y 2).val, y2⟩
  refine Eq.trans ?_ (key.trans ?_)
  · refine congrArg (outsAt0 m c t.val t.isLt).2.1 (funext fun a => Fin.ext ?_)
    match a with
    | ⟨0, _⟩ => rfl
    | ⟨1, _⟩ => rfl
    | ⟨2, _⟩ => rfl
  · refine congrArg (want6 m c) (funext fun a => Fin.ext ?_)
    match a with
    | ⟨0, _⟩ => show t.val / 32 = win0_6.index t (0 : Fin 3) * 1 + 1 * (y 0).val; omega
    | ⟨1, _⟩ => show 1024 * (t.val / 4 % 8) + (y 1).val = win0_6.index t (1 : Fin 3) * 1024 + 1 * (y 1).val; omega
    | ⟨2, _⟩ => show (y 2).val = win0_6.index t (2 : Fin 3) * 128 + 1 * (y 2).val; omega

theorem mem_out5 (t : Fin cfg0.N) (i : S2x8192x4096.Idx) :
    i ∈ ((cfg0.win 5).blk t).view.set ↔ ∀ a : Fin 3, win0_5.index t a * S1x1024x1024.size a ≤ (i a).val ∧ (i a).val < win0_5.index t a * S1x1024x1024.size a + S1x1024x1024.size a := by
  show i ∈ ((View.whole main_v12_0).slice (win0_5.rect t)).set ↔ _
  rw [View.set_slice_whole, Rect.mem_set_unit]
  exact Iff.rfl

theorem covered5 (i : S2x8192x4096.Idx) : ∃ t : Fin cfg0.N, (cfg0.win 5).flush t = true ∧ i ∈ ((cfg0.win 5).blk t).view.set := by
  have i0 : (i 0).val < 2 := (i 0).isLt
  have i1 : (i 1).val < 8192 := (i 1).isLt
  have i2 : (i 2).val < 4096 := (i 2).isLt
  let t : Fin cfg0.N := ⟨32 * (i 0).val + 4 * ((i 1).val / 1024) + (i 2).val / 1024, lt_of_lt_of_eq (by omega) N_0.symm⟩
  obtain ⟨-, -, -, -, -, ⟨e0, e1, e2⟩, -, hf, -⟩ := index_facts t
  have ht : t.val = 32 * (i 0).val + 4 * ((i 1).val / 1024) + (i 2).val / 1024 := rfl
  refine ⟨t, hf, ?_⟩
  rw [mem_out5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

theorem mem_out6 (t : Fin cfg0.N) (i : S2x8192x128.Idx) :
    i ∈ ((cfg0.win 6).blk t).view.set ↔ ∀ a : Fin 3, win0_6.index t a * S1x1024x128.size a ≤ (i a).val ∧ (i a).val < win0_6.index t a * S1x1024x128.size a + S1x1024x128.size a := by
  show i ∈ ((View.whole main_v12_1).slice (win0_6.rect t)).set ↔ _
  rw [View.set_slice_whole, Rect.mem_set_unit]
  exact Iff.rfl

theorem covered6 (i : S2x8192x128.Idx) : ∃ t : Fin cfg0.N, (cfg0.win 6).flush t = true ∧ i ∈ ((cfg0.win 6).blk t).view.set := by
  have i0 : (i 0).val < 2 := (i 0).isLt
  have i1 : (i 1).val < 8192 := (i 1).isLt
  have i2 : (i 2).val < 128 := (i 2).isLt
  let t : Fin cfg0.N := ⟨32 * (i 0).val + 4 * ((i 1).val / 1024) + 3, lt_of_lt_of_eq (by omega) N_0.symm⟩
  obtain ⟨-, -, -, -, -, -, ⟨e0, e1, e2⟩, -, hf⟩ := index_facts t
  have ht : t.val = 32 * (i 0).val + 4 * ((i 1).val / 1024) + 3 := rfl
  refine ⟨t, hf.trans (decide_eq_true (by omega)), ?_⟩
  rw [mem_out6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 128 ≤ (i 2).val ∧ (i 2).val < win0_6.index t (2 : Fin 3) * 128 + 128; omega

theorem final5 : (dats m 0 c).arrAt 5 cfg0.N = want5 m c :=
  (dats m 0 c).arrAt_eq_of_cover 5 _ (fun t _ => flushed5_want m c t) covered5

theorem final6 : (dats m 0 c).arrAt 6 cfg0.N = want6 m c :=
  (dats m 0 c).arrAt_eq_of_cover 6 _ (fun t hf => flushed6_want m c t hf) covered6

end Cert.ProjValue
end
end
-- ==== Proof.ProjClaim.lean ====
/-
  The claims about the projection call: the three programs run and leave their arguments alone, the idealization rewrites
  nothing, and kernel and reference return the same two arrays.
-/
module

public import proofs.«01_k».proof.Defs
public import proofs.«01_k».proof.Proof.Gen.Proj.Frame
public import proofs.«01_k».proof.Proof.Gen.ProjIdeal.Value
public import proofs.«01_k».proof.Proof.ProjValue
public import proofs.«01_k».proof.Proof.Gen.ProjReferenceIdeal.Run

@[expose] public section

noncomputable section

namespace Cert.ProjValue

open Idealize.ShloMosaic Idealize.ShloMosaic.TcCoe Idealize.SL.Sem

theorem frame_proj : Cert.quiescent_Proj := fun m ρ _ => Cert.Proj.Gen.frame m ρ

theorem frame_projIdeal : Cert.quiescent_ProjIdeal := fun m ρ _ => Cert.ProjIdeal.Gen.frame m ρ

theorem frame_projReference : Cert.quiescent_ProjReferenceIdeal := fun m ρ _ =>
  (θ_run Cert.ProjReferenceIdeal.defs _ _).mono (fun r h => ⟨fun c => (h c).2.2, sem_eq_zero_of_no_sems (by decide) r.2⟩)
    (Cert.ProjReferenceIdeal.Value.run (F := Ideal) m ρ)

theorem preserves_proj : Cert.preserves_Proj_ProjIdeal := trivial

/-- Kernel and reference, started on the same arguments, return the same two arrays. -/
theorem algebraic_proj : Cert.algebraic_ProjIdeal_ProjReferenceIdeal := fun m g m' g' _ hagree => by
  refine ⟨fun c => want5 m c, fun c => want6 m c,
    (θ_run Cert.ProjIdeal.defs _ _).mono (fun r h c => ⟨(h c).1.trans (final5 m c), (h c).2.1.trans (final6 m c), (h c).2.2⟩)
      (Cert.ProjIdeal.Value.run_blocks (F := Ideal) m g), ?_⟩
  refine (θ_run Cert.ProjReferenceIdeal.defs _ _).mono (fun r h c => ⟨(h c).1.trans ?_, (h c).2.1.trans ?_, (h c).2.2⟩)
    (Cert.ProjReferenceIdeal.Value.run (F := Ideal) m' g')
  · obtain ⟨h0, h1, h2, h3, h4⟩ := hagree c
    rw [Cert.ProjReferenceIdeal.Read.val_main_v33_eq, h0, h1, h2, h3, h4]
    rfl
  · obtain ⟨h0, h1, h2, h3, h4⟩ := hagree c
    rw [Cert.ProjReferenceIdeal.Read.val_main_v23_eq, h0, h1, h2, h3, h4]
    rfl

end Cert.ProjValue
end
end
-- ==== Proof.MixPay.lean ====
/-
  The mixing call's stored block read at one element, as functions of one token: the normalised gated scan row, the
  normalised attention row, the normalised convolution row read from its group-major layout, and the gated sum of
  their three products onto the residual stream.
-/
module

public import proofs.«01_k».proof.Proof.Gen.MixIdeal.Value
public import proofs.«01_k».proof.Proof.FfnPay
public import Idealize.ShloMosaic.Lib.Pointwise

@[expose] public section

set_option maxRecDepth 16384

noncomputable section

namespace Cert.MixValue

open Cert.MixIdeal Cert.MixIdeal.Gen Idealize.ShloMosaic Idealize.ShloMosaic.TcCoe Idealize.SL.Sem

/-- A row of one branch divided by its root mean square and scaled by the branch's gain. -/
def norm (x g : Fin 512 → EReal) (d : Fin 512) : EReal :=
  x d * Ideal.rsqrt (Ideal.div (∑ k : Fin 512, x k * x k) (Ideal.ofBits .f32 0x44000000#32) + Ideal.ofBits .f32 0x358637BD#32) * g d

/-- The two scans of a token added, and gated. -/
def gated (yf yb z : Fin 512 → EReal) (d : Fin 512) : EReal :=
  (yf d + yb d) * Cert.FfnValue.silu (z d)

theorem pay2_apply (yf yb z : Vec Ideal S1x512x512 .bf16) (g : Vec Ideal S1x512 .f32) (r d : Fin 512) :
    k0_pay2 (F := Ideal) yf yb z g (ix2 r d)
      = norm (gated (fun k => yf (ix3 0 r k)) (fun k => yb (ix3 0 r k)) (fun k => z (ix3 0 r k))) (fun k => g (ix2 0 k)) d := by
  pointwise [k0_pay2, norm, gated, Cert.FfnValue.silu]
  simp only [zero_sub]

theorem pay4_apply (x : Vec Ideal S1x512x512 .bf16) (g : Vec Ideal S1x512 .f32) (r d : Fin 512) :
    k0_pay4 (F := Ideal) (k0_pay3 x) g (ix2 r d) = norm (fun k => x (ix3 0 r k)) (fun k => g (ix2 0 k)) d := by
  pointwise [k0_pay4, k0_pay3, norm]

/-- The group-major block in token order. -/
def tokens (x : Vec Ideal S1x16x2x16x512 .bf16) : FVec Ideal S512x512 .f32 :=
  shapeCast S512x512 (transpose S4x16x8x512 [1, 0, 2, 3] (shapeCast S16x4x8x512 (extf .f32 (shapeCast S16x2x16x512 x
    shapeCasts_S1x16x2x16x512_S16x2x16x512) bitsLt_bf16_f32) shapeCasts_S16x2x16x512_S16x4x8x512)
    transposes_S16x4x8x512_p1_0_2_3_S4x16x8x512) shapeCasts_S4x16x8x512_S512x512

theorem tokens_apply (x : Vec Ideal S1x16x2x16x512 .bf16) (r d : Fin 512) :
    tokens x (ix2 r d)
      = x (ix5 0 ⟨r.val / 8 % 16, by omega⟩ ⟨r.val / 256, by omega⟩ ⟨r.val / 128 % 2 * 8 + r.val % 8, by omega⟩ d) := by
  unfold tokens
  refine (shapeCast_apply _ _ _ (ix4 (⟨r.val / 128, by omega⟩ : Fin 4) (⟨r.val / 8 % 16, by omega⟩ : Fin 16)
    (⟨r.val % 8, by omega⟩ : Fin 8) d) ?_).trans ?_
  · rw [Shape.rowMajor_val_four, Shape.rowMajor_val_two]
    show ((r.val / 128 * 16 + r.val / 8 % 16) * 8 + r.val % 8) * 512 + d.val = r.val * 512 + d.val
    omega
  refine (transpose_apply _ _ _ _ (k := ix4 (⟨r.val / 8 % 16, by omega⟩ : Fin 16) (⟨r.val / 128, by omega⟩ : Fin 4)
    (⟨r.val % 8, by omega⟩ : Fin 8) d) ?_).trans ?_
  · intro a; fin_cases a <;> rfl
  refine (shapeCast_apply _ _ _ (ix4 (⟨r.val / 8 % 16, by omega⟩ : Fin 16) (⟨r.val / 256, by omega⟩ : Fin 2)
    (⟨r.val / 128 % 2 * 8 + r.val % 8, by omega⟩ : Fin 16) d) ?_).trans ?_
  · rw [Shape.rowMajor_val_four, Shape.rowMajor_val_four]
    show ((r.val / 8 % 16 * 2 + r.val / 256) * 16 + (r.val / 128 % 2 * 8 + r.val % 8)) * 512 + d.val
      = ((r.val / 8 % 16 * 4 + r.val / 128) * 8 + r.val % 8) * 512 + d.val
    omega
  pointwise []

theorem pay5_apply (x : Vec Ideal S1x16x2x16x512 .bf16) (g : Vec Ideal S1x512 .f32) (r d : Fin 512) :
    k0_pay5 (F := Ideal) x g (ix2 r d)
      = norm (fun k => x (ix5 0 ⟨r.val / 8 % 16, by omega⟩ ⟨r.val / 256, by omega⟩ ⟨r.val / 128 % 2 * 8 + r.val % 8, by omega⟩ k))
          (fun k => g (ix2 0 k)) d := by
  have h := tokens_apply x r
  unfold k0_pay5
  unfold tokens at h
  dsimp only at h ⊢
  generalize shapeCast S512x512 (transpose S4x16x8x512 _ _ _) _ = y at h ⊢
  simp only [← h]
  pointwise [norm]

theorem pay1_apply (a h : FVec Ideal S512x512 .bf16) (s : FVec Ideal S512x1024 .f32) (wa wh : Vec Ideal S512x1024 .bf16)
    (x : Vec Ideal S1x512x1024 .f32) (g1 : Vec Ideal S1x1x1024 .f32) (u : Fin 1) (r : Fin 512) (d : Fin 1024) :
    k0_pay1 (F := Ideal) a h s (k0_pay7 wa) wh x g1 (ix3 u r d)
      = x (ix3 0 r d) + g1 (ix3 0 0 d) * ((s (ix2 r d) + ∑ k : Fin 512, a (ix2 r k) * wa (ix2 k d))
          + ∑ k : Fin 512, h (ix2 r k) * wh (ix2 k d)) := by
  pointwise [k0_pay1, k0_pay7]

theorem pay6_apply (y : FVec Ideal S512x512 .bf16) (w : Vec Ideal S512x1024 .bf16) (r : Fin 512) (d : Fin 1024) :
    k0_pay6 (F := Ideal) y w (ix2 r d) = ∑ k : Fin 512, y (ix2 r k) * w (ix2 k d) := by
  pointwise [k0_pay6]

theorem hz2 : (![0, 0] : Fin 2 → Nat) = fun _ => 0 := funext fun a => by fin_cases a <;> rfl

theorem hz3 : (![0, 0, 0] : Fin 3 → Nat) = fun _ => 0 := funext fun a => by fin_cases a <;> rfl

theorem hz5 : (![0, 0, 0, 0, 0] : Fin 5 → Nat) = fun _ => 0 := funext fun a => by fin_cases a <;> rfl

theorem ld3_apply (w : Vec Ideal S1536x1024 .bf16) (k : Fin 512) (d : Fin 1024) :
    (View.ld w r0_3 : Vec Ideal S512x1024 .bf16) (ix2 k d) = w (ix2 ⟨k.val, by omega⟩ d) := by
  refine congrArg w (funext fun a => Fin.ext ?_)
  match a with
  | ⟨0, _⟩ => show 0 + 1 * k.val = k.val; omega
  | ⟨1, _⟩ => show 0 + 1 * d.val = d.val; omega

theorem ld4_apply (w : Vec Ideal S1536x1024 .bf16) (k : Fin 512) (d : Fin 1024) :
    (View.ld w r0_4 : Vec Ideal S512x1024 .bf16) (ix2 k d) = w (ix2 ⟨512 + k.val, by omega⟩ d) := by
  refine congrArg w (funext fun a => Fin.ext ?_)
  match a with
  | ⟨0, _⟩ => show 512 + 1 * k.val = 512 + k.val; omega
  | ⟨1, _⟩ => show 0 + 1 * d.val = d.val; omega

theorem ld5_apply (w : Vec Ideal S1536x1024 .bf16) (k : Fin 512) (d : Fin 1024) :
    (View.ld w r0_5 : Vec Ideal S512x1024 .bf16) (ix2 k d) = w (ix2 ⟨1024 + k.val, by omega⟩ d) := by
  refine congrArg w (funext fun a => Fin.ext ?_)
  match a with
  | ⟨0, _⟩ => show 1024 + 1 * k.val = 1024 + k.val; omega
  | ⟨1, _⟩ => show 0 + 1 * d.val = d.val; omega

/-- One element of the call's result, from its token's rows. -/
def mixed (xe ge : EReal) (s a h : Fin 512 → EReal) (w : Fin 1536 → EReal) : EReal :=
  xe + ge * (((∑ k : Fin 512, s k * w ⟨k.val, by omega⟩) + ∑ k : Fin 512, a k * w ⟨512 + k.val, by omega⟩)
    + ∑ k : Fin 512, h k * w ⟨1024 + k.val, by omega⟩)

theorem out_apply (x0 : Vec Ideal S1x512x1024 .f32) (x1 x2 x3 x4 : Vec Ideal S1x512x512 .bf16) (x5 : Vec Ideal S1x16x2x16x512 .bf16)
    (x6 : Vec Ideal S1x1x1024 .f32) (x7 x8 x9 : Vec Ideal S1x512 .f32) (x10 : Vec Ideal S1536x1024 .bf16)
    (u : Fin 1) (r : Fin 512) (d : Fin 1024) :
    out0_11 x0 x1 x2 x3 x4 x5 x6 x7 x8 x9 x10 (ix3 u r d)
      = mixed (x0 (ix3 0 r d)) (x6 (ix3 0 0 d))
          (norm (gated (fun k => x1 (ix3 0 r k)) (fun k => x2 (ix3 0 r k)) (fun k => x3 (ix3 0 r k))) (fun k => x7 (ix2 0 k)))
          (norm (fun k => x4 (ix3 0 r k)) (fun k => x8 (ix2 0 k)))
          (norm (fun k => x5 (ix5 0 ⟨r.val / 8 % 16, by omega⟩ ⟨r.val / 256, by omega⟩ ⟨r.val / 128 % 2 * 8 + r.val % 8, by omega⟩ k))
            (fun k => x9 (ix2 0 k)))
          (fun k => x10 (ix2 k d)) := by
  unfold out0_11
  rw [View.canon_unit_zero hz3]
  have h3 := ld3_apply x10
  have h4 := ld4_apply x10
  have h5 := ld5_apply x10
  generalize (View.ld x10 r0_3 : Vec Ideal S512x1024 .bf16) = w3 at h3 ⊢
  generalize (View.ld x10 r0_4 : Vec Ideal S512x1024 .bf16) = w4 at h4 ⊢
  generalize (View.ld x10 r0_5 : Vec Ideal S512x1024 .bf16) = w5 at h5 ⊢
  rw [show View.ld x0 r0_6 = x0 from View.ld_unit_zero (S := S1x512x1024) hz3 _ _, show View.ld x6 r0_7 = x6 from View.ld_unit_zero (S := S1x1x1024) hz3 _ _,
    show View.ld x1 r0_0 = x1 from View.ld_unit_zero (S := S1x512x512) hz3 _ _, show View.ld x2 r0_0 = x2 from View.ld_unit_zero (S := S1x512x512) hz3 _ _,
    show View.ld x3 r0_0 = x3 from View.ld_unit_zero (S := S1x512x512) hz3 _ _, show View.ld x4 r0_0 = x4 from View.ld_unit_zero (S := S1x512x512) hz3 _ _,
    show View.ld x5 r0_2 = x5 from View.ld_unit_zero (S := S1x16x2x16x512) hz5 _ _, show View.ld x7 r0_1 = x7 from View.ld_unit_zero (S := S1x512) hz2 _ _,
    show View.ld x8 r0_1 = x8 from View.ld_unit_zero (S := S1x512) hz2 _ _, show View.ld x9 r0_1 = x9 from View.ld_unit_zero (S := S1x512) hz2 _ _]
  rw [pay1_apply, pay6_apply]
  simp only [pay2_apply, pay4_apply, pay5_apply, h3, h4, h5]
  rfl

end Cert.MixValue
end
end
-- ==== Proof.MixBlocks.lean ====
/-
  The mixing call's input blocks read at one element: at grid point `t` the tokens of batch `t / 16`, positions
  `512 * (t % 16) …`.
-/
module

public import proofs.«01_k».proof.Proof.MixPay
public import Idealize.ShloMosaic.Lib.Claim
public import Idealize.ShloMosaic.Lib.StableHlo.RunRead

@[expose] public section

set_option maxRecDepth 16384

noncomputable section

namespace Cert.MixValue

open Cert.MixIdeal Cert.MixIdeal.Gen Idealize.ShloMosaic Idealize.ShloMosaic.TcCoe Idealize.SL.Sem Idealize.ShloMosaic.StableHlo

variable (m : (ℓ : Loc nD τ sig) → Buf (Elt Ideal) ℓ) (c : Dev nD)

theorem V_v0 : V m c main_v0 = broadcastInDim S1x512 ![1] bcast_S512_S1x512_1 (m ((c : Thread nD τ).loc main_arg7)) := by
  unfold V
  after_results

theorem V_v1 : V m c main_v1 = broadcastInDim S1x512 ![1] bcast_S512_S1x512_1 (m ((c : Thread nD τ).loc main_arg8)) := by
  unfold V
  after_results

theorem V_v2 : V m c main_v2 = broadcastInDim S1x512 ![1] bcast_S512_S1x512_1 (m ((c : Thread nD τ).loc main_arg9)) := by
  unfold V
  after_results

theorem V_v3 : V m c main_v3 = truncf (F := Ideal) .bf16 (m ((c : Thread nD τ).loc main_arg10)) bitsLt_bf16_f32 := by
  unfold V
  after_results

theorem index_facts : ∀ t : Fin cfg0.N,
    (win0_0.index t (0 : Fin 3) = t.val / 16 ∧ win0_0.index t (1 : Fin 3) = t.val % 16 ∧ win0_0.index t (2 : Fin 3) = 0)
    ∧ (win0_1.index t (0 : Fin 3) = t.val / 16 ∧ win0_1.index t (1 : Fin 3) = t.val % 16 ∧ win0_1.index t (2 : Fin 3) = 0)
    ∧ (win0_2.index t (0 : Fin 3) = t.val / 16 ∧ win0_2.index t (1 : Fin 3) = t.val % 16 ∧ win0_2.index t (2 : Fin 3) = 0)
    ∧ (win0_3.index t (0 : Fin 3) = t.val / 16 ∧ win0_3.index t (1 : Fin 3) = t.val % 16 ∧ win0_3.index t (2 : Fin 3) = 6)
    ∧ (win0_4.index t (0 : Fin 3) = t.val / 16 ∧ win0_4.index t (1 : Fin 3) = t.val % 16 ∧ win0_4.index t (2 : Fin 3) = 0)
    ∧ (win0_5.index t (0 : Fin 5) = t.val / 16 ∧ win0_5.index t (1 : Fin 5) = 0 ∧ win0_5.index t (2 : Fin 5) = t.val % 16
        ∧ win0_5.index t (3 : Fin 5) = 0 ∧ win0_5.index t (4 : Fin 5) = 0)
    ∧ (win0_6.index t (0 : Fin 3) = t.val / 16 ∧ win0_6.index t (1 : Fin 3) = 0 ∧ win0_6.index t (2 : Fin 3) = 0)
    ∧ (win0_11.index t (0 : Fin 3) = t.val / 16 ∧ win0_11.index t (1 : Fin 3) = t.val % 16 ∧ win0_11.index t (2 : Fin 3) = 0)
    ∧ (cfg0.win 11).flush t = true :=
  (by decide +kernel : ∀ t : Fin grid0.N, _)

theorem const_facts : ∀ t : Fin cfg0.N,
    (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

theorem lt_N (t : Fin cfg0.N) : t.val < 32 := lt_of_lt_of_eq t.isLt (show cfg0.N = 32 from N_0)

/-- The batch of grid point `t`. -/
def bOf (t : Fin cfg0.N) : Fin 2 := ⟨t.val / 16, by have := lt_N t; omega⟩
/-- The position of row `r` of grid point `t`'s block. -/
def sOf (t : Fin cfg0.N) (r : Fin 512) : Fin 8192 := ⟨512 * (t.val % 16) + r.val, by omega⟩

theorem blk0 (t : Fin cfg0.N) (r : Fin 512) (d : Fin 1024) :
    (iblk m c 0 t : Vec Ideal S1x512x1024 .f32) (ix3 0 r d) = m ((c : Thread nD τ).loc main_arg0) (ix3 (bOf t) (sOf t r) d) := by
  obtain ⟨⟨e0, e1, e2⟩, -⟩ := index_facts t
  refine (congrFun (V_main_arg0 m c) _).trans (congrArg (m ((c : Thread nD τ).loc main_arg0)) (funext fun a => Fin.ext ?_))
  match a with
  | ⟨0, _⟩ => show win0_0.index t (0 : Fin 3) * 1 + 1 * 0 = t.val / 16; omega
  | ⟨1, _⟩ => show win0_0.index t (1 : Fin 3) * 512 + 1 * r.val = 512 * (t.val % 16) + r.val; omega
  | ⟨2, _⟩ => show win0_0.index t (2 : Fin 3) * 1024 + 1 * d.val = d.val; omega

theorem blk1 (t : Fin cfg0.N) (r : Fin 512) (d : Fin 512) :
    (iblk m c 1 t : Vec Ideal S1x512x512 .bf16) (ix3 0 r d) = m ((c : Thread nD τ).loc main_arg1) (ix3 (bOf t) (sOf t r) d) := by
  obtain ⟨-, ⟨e0, e1, e2⟩, -⟩ := index_facts t
  refine (congrFun (V_main_arg1 m c) _).trans (congrArg (m ((c : Thread nD τ).loc main_arg1)) (funext fun a => Fin.ext ?_))
  match a with
  | ⟨0, _⟩ => show win0_1.index t (0 : Fin 3) * 1 + 1 * 0 = t.val / 16; omega
  | ⟨1, _⟩ => show win0_1.index t (1 : Fin 3) * 512 + 1 * r.val = 512 * (t.val % 16) + r.val; omega
  | ⟨2, _⟩ => show win0_1.index t (2 : Fin 3) * 512 + 1 * d.val = d.val; omega

theorem blk2 (t : Fin cfg0.N) (r : Fin 512) (d : Fin 512) :
    (iblk m c 2 t : Vec Ideal S1x512x512 .bf16) (ix3 0 r d) = m ((c : Thread nD τ).loc main_arg2) (ix3 (bOf t) (sOf t r) d) := by
  obtain ⟨-, -, ⟨e0, e1, e2⟩, -⟩ := index_facts t
  refine (congrFun (V_main_arg2 m c) _).trans (congrArg (m ((c : Thread nD τ).loc main_arg2)) (funext fun a => Fin.ext ?_))
  match a with
  | ⟨0, _⟩ => show win0_2.index t (0 : Fin 3) * 1 + 1 * 0 = t.val / 16; omega
  | ⟨1, _⟩ => show win0_2.index t (1 : Fin 3) * 512 + 1 * r.val = 512 * (t.val % 16) + r.val; omega
  | ⟨2, _⟩ => show win0_2.index t (2 : Fin 3) * 512 + 1 * d.val = d.val; omega

theorem blk3 (t : Fin cfg0.N) (r : Fin 512) (d : Fin 512) :
    (iblk m c 3 t : Vec Ideal S1x512x512 .bf16) (ix3 0 r d) = m ((c : Thread nD τ).loc main_arg3) (ix3 (bOf t) (sOf t r) ⟨3072 + d.val, by omega⟩) := by
  obtain ⟨-, -, -, ⟨e0, e1, e2⟩, -⟩ := index_facts t
  refine (congrFun (V_main_arg3 m c) _).trans (congrArg (m ((c : Thread nD τ).loc main_arg3)) (funext fun a => Fin.ext ?_))
  match a with
  | ⟨0, _⟩ => show win0_3.index t (0 : Fin 3) * 1 + 1 * 0 = t.val / 16; omega
  | ⟨1, _⟩ => show win0_3.index t (1 : Fin 3) * 512 + 1 * r.val = 512 * (t.val % 16) + r.val; omega
  | ⟨2, _⟩ => show win0_3.index t (2 : Fin 3) * 512 + 1 * d.val = 3072 + d.val; omega

theorem blk4 (t : Fin cfg0.N) (r : Fin 512) (d : Fin 512) :
    (iblk m c 4 t : Vec Ideal S1x512x512 .bf16) (ix3 0 r d) = m ((c : Thread nD τ).loc main_arg4) (ix3 (bOf t) (sOf t r) d) := by
  obtain ⟨-, -, -, -, ⟨e0, e1, e2⟩, -⟩ := index_facts t
  refine (congrFun (V_main_arg4 m c) _).trans (congrArg (m ((c : Thread nD τ).loc main_arg4)) (funext fun a => Fin.ext ?_))
  match a with
  | ⟨0, _⟩ => show win0_4.index t (0 : Fin 3) * 1 + 1 * 0 = t.val / 16; omega
  | ⟨1, _⟩ => show win0_4.index t (1 : Fin 3) * 512 + 1 * r.val = 512 * (t.val % 16) + r.val; omega
  | ⟨2, _⟩ => show win0_4.index t (2 : Fin 3) * 512 + 1 * d.val = d.val; omega

theorem blk5 (t : Fin cfg0.N) (g : Fin 16) (p : Fin 2) (q : Fin 16) (d : Fin 512) :
    (iblk m c 5 t : Vec Ideal S1x16x2x16x512 .bf16) (ix5 0 g p q d)
      = m ((c : Thread nD τ).loc main_arg5) (ix5 (bOf t) g ⟨2 * (t.val % 16) + p.val, by omega⟩ q d) := by
  obtain ⟨-, -, -, -, -, ⟨e0, e1, e2, e3, e4⟩, -⟩ := index_facts t
  refine (congrFun (V_main_arg5 m c) _).trans (congrArg (m ((c : Thread nD τ).loc main_arg5)) (funext fun a => Fin.ext ?_))
  match a with
  | ⟨0, _⟩ => show win0_5.index t (0 : Fin 5) * 1 + 1 * 0 = t.val / 16; omega
  | ⟨1, _⟩ => show win0_5.index t (1 : Fin 5) * 16 + 1 * g.val = g.val; omega
  | ⟨2, _⟩ => show win0_5.index t (2 : Fin 5) * 2 + 1 * p.val = 2 * (t.val % 16) + p.val; omega
  | ⟨3, _⟩ => show win0_5.index t (3 : Fin 5) * 16 + 1 * q.val = q.val; omega
  | ⟨4, _⟩ => show win0_5.index t (4 : Fin 5) * 512 + 1 * d.val = d.val; omega

theorem blk6 (t : Fin cfg0.N) (d : Fin 1024) :
    (iblk m c 6 t : Vec Ideal S1x1x1024 .f32) (ix3 0 0 d) = m ((c : Thread nD τ).loc main_arg6) (ix3 (bOf t) 0 d) := by
  obtain ⟨-, -, -, -, -, -, ⟨e0, e1, e2⟩, -⟩ := index_facts t
  refine (congrFun (V_main_arg6 m c) _).trans (congrArg (m ((c : Thread nD τ).loc main_arg6)) (funext fun a => Fin.ext ?_))
  match a with
  | ⟨0, _⟩ => show win0_6.index t (0 : Fin 3) * 1 + 1 * 0 = t.val / 16; omega
  | ⟨1, _⟩ => show win0_6.index t (1 : Fin 3) * 1 + 1 * 0 = 0; omega
  | ⟨2, _⟩ => show win0_6.index t (2 : Fin 3) * 1024 + 1 * d.val = d.val; omega

/-- A gain row, broadcast to one row by the host, at column `d`. -/
theorem gain_row (x : Vec Ideal S512 .f32) (d : Fin 512) :
    broadcastInDim S1x512 ![1] bcast_S512_S1x512_1 x (ix2 0 d) = x (ix1 d) := by
  pointwise []

theorem blk7 (t : Fin cfg0.N) (d : Fin 512) :
    (iblk m c 7 t : Vec Ideal S1x512 .f32) (ix2 0 d) = m ((c : Thread nD τ).loc main_arg7) (ix1 d) := by
  obtain ⟨⟨e0, e1⟩, -⟩ := const_facts t
  refine (congrFun (V_v0 m c) _).trans (Eq.trans (congrArg (broadcastInDim S1x512 ![1] bcast_S512_S1x512_1 (m ((c : Thread nD τ).loc main_arg7))) (funext fun a => Fin.ext ?_)) (gain_row _ d))
  match a with
  | ⟨0, _⟩ => show win0_7.index t (0 : Fin 2) * 1 + 1 * 0 = 0; omega
  | ⟨1, _⟩ => show win0_7.index t (1 : Fin 2) * 512 + 1 * d.val = d.val; omega

theorem blk8 (t : Fin cfg0.N) (d : Fin 512) :
    (iblk m c 8 t : Vec Ideal S1x512 .f32) (ix2 0 d) = m ((c : Thread nD τ).loc main_arg8) (ix1 d) := by
  obtain ⟨-, ⟨e0, e1⟩, -⟩ := const_facts t
  refine (congrFun (V_v1 m c) _).trans (Eq.trans (congrArg (broadcastInDim S1x512 ![1] bcast_S512_S1x512_1 (m ((c : Thread nD τ).loc main_arg8))) (funext fun a => Fin.ext ?_)) (gain_row _ d))
  match a with
  | ⟨0, _⟩ => show win0_8.index t (0 : Fin 2) * 1 + 1 * 0 = 0; omega
  | ⟨1, _⟩ => show win0_8.index t (1 : Fin 2) * 512 + 1 * d.val = d.val; omega

theorem blk9 (t : Fin cfg0.N) (d : Fin 512) :
    (iblk m c 9 t : Vec Ideal S1x512 .f32) (ix2 0 d) = m ((c : Thread nD τ).loc main_arg9) (ix1 d) := by
  obtain ⟨-, -, ⟨e0, e1⟩, -⟩ := const_facts t
  refine (congrFun (V_v2 m c) _).trans (Eq.trans (congrArg (broadcastInDim S1x512 ![1] bcast_S512_S1x512_1 (m ((c : Thread nD τ).loc main_arg9))) (funext fun a => Fin.ext ?_)) (gain_row _ d))
  match a with
  | ⟨0, _⟩ => show win0_9.index t (0 : Fin 2) * 1 + 1 * 0 = 0; omega
  | ⟨1, _⟩ => show win0_9.index t (1 : Fin 2) * 512 + 1 * d.val = d.val; omega

theorem blk10 (t : Fin cfg0.N) (k : Fin 1536) (d : Fin 1024) :
    (iblk m c 10 t : Vec Ideal S1536x1024 .bf16) (ix2 k d) = m ((c : Thread nD τ).loc main_arg10) (ix2 k d) := by
  obtain ⟨-, -, -, ⟨e0, e1⟩⟩ := const_facts t
  refine (congrFun (V_v3 m c) _).trans (congrArg (m ((c : Thread nD τ).loc main_arg10)) (funext fun a => Fin.ext ?_))
  match a with
  | ⟨0, _⟩ => show win0_10.index t (0 : Fin 2) * 1536 + 1 * k.val = k.val; omega
  | ⟨1, _⟩ => show win0_10.index t (1 : Fin 2) * 1024 + 1 * d.val = d.val; omega

end Cert.MixValue
end
end
-- ==== Proof.MixRef.lean ====
/-
  The mixing reference's result read at one element. Its joined row is the three normalised branch rows end to end, so
  its product with the weights is the sum of the three branches' products.
-/
module

public import proofs.«01_k».proof.Proof.MixPay
public import proofs.«01_k».proof.Proof.Gen.MixReferenceIdeal.Read
public import Idealize.ShloMosaic.Lib.Pipeline.Value

@[expose] public section

set_option maxRecDepth 16384

noncomputable section

namespace Cert.MixValue

open Cert.FfnValue (silu)
open Cert.MixReferenceIdeal Cert.MixReferenceIdeal.Gen Cert.MixReferenceIdeal.Read Idealize.ShloMosaic Idealize.ShloMosaic.TcCoe Idealize.SL.Sem

variable (x0 : (⟨S2x8192x1024, .f32⟩ : BufTy).Contents (Elt Ideal)) (x1 x2 : (⟨S2x8192x512, .bf16⟩ : BufTy).Contents (Elt Ideal))
  (x3 : (⟨S2x8192x4096, .bf16⟩ : BufTy).Contents (Elt Ideal)) (x4 : (⟨S2x8192x512, .bf16⟩ : BufTy).Contents (Elt Ideal))
  (x5 : (⟨S2x16x32x16x512, .bf16⟩ : BufTy).Contents (Elt Ideal)) (x6 : (⟨S2x1x1024, .f32⟩ : BufTy).Contents (Elt Ideal))
  (x7 x8 x9 : (⟨S512, .f32⟩ : BufTy).Contents (Elt Ideal)) (x10 : (⟨S1536x1024, .f32⟩ : BufTy).Contents (Elt Ideal))

/-- The scan branch's normalised row of token `s` of batch `b`. -/
def scanRow (b : Fin 2) (s : Fin 8192) : Fin 512 → EReal :=
  norm (gated (fun k => x1 (ix3 b s k)) (fun k => x2 (ix3 b s k)) (fun k => x3 (ix3 b s ⟨3072 + k.val, by omega⟩))) (fun k => x7 (ix1 k))

/-- The attention branch's normalised row. -/
def attnRow (b : Fin 2) (s : Fin 8192) : Fin 512 → EReal :=
  norm (fun k => x4 (ix3 b s k)) (fun k => x8 (ix1 k))

/-- The convolution branch's normalised row, its token found in the group-major array. -/
def convRow (b : Fin 2) (s : Fin 8192) : Fin 512 → EReal :=
  norm (fun k => x5 (ix5 b ⟨s.val / 8 % 16, by omega⟩ ⟨s.val / 256, by omega⟩ ⟨s.val / 128 % 2 * 8 + s.val % 8, by omega⟩ k))
    (fun k => x9 (ix1 k))

theorem v6_apply (b : Fin 2) (s : Fin 8192) (k : Fin 512) :
    val_main_v6 (F := Ideal) x1 x2 x3 (ix3 b s k)
      = gated (fun k => x1 (ix3 b s k)) (fun k => x2 (ix3 b s k)) (fun k => x3 (ix3 b s ⟨3072 + k.val, by omega⟩)) k := by
  pointwise [gated, silu, val_main_v6, val_main_v5, val_main_call0_v5, val_main_call0_v4, val_main_call0_v3, val_main_call0_v2, val_main_call0_v1, val_main_call0_v0, val_main_call0_cst, val_main_call0_cst_0, val_main_v4, val_main_v3, val_main_v2, val_main_v1, val_main_v0]

theorem v19_apply (b : Fin 2) (s : Fin 8192) (k : Fin 512) :
    val_main_v19 (F := Ideal) x1 x2 x3 x7 (ix3 b s k) = scanRow x1 x2 x3 x7 b s k := by
  unfold val_main_v19 val_main_v18 val_main_v17 val_main_v16 val_main_v15 val_main_v14 val_main_v13 val_main_v12 val_main_v11 val_main_v10 val_main_v9 val_main_v8 val_main_v7 val_main_cst val_main_cst_0 val_main_cst_1 scanRow
  have h : _ = _ := funext (v6_apply x1 x2 x3 b s)
  simp only [← h]
  generalize val_main_v6 (F := Ideal) x1 x2 x3 = y
  pointwise [norm]

theorem v33_apply (b : Fin 2) (s : Fin 8192) (k : Fin 512) :
    val_main_v33 (F := Ideal) x4 x8 (ix3 b s k) = attnRow x4 x8 b s k := by
  pointwise [attnRow, norm, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4]

theorem v37_apply (b : Fin 2) (s : Fin 8192) (k : Fin 512) :
    val_main_v37 (F := Ideal) x5 (ix3 b s k)
      = x5 (ix5 b ⟨s.val / 8 % 16, by omega⟩ ⟨s.val / 256, by omega⟩ ⟨s.val / 128 % 2 * 8 + s.val % 8, by omega⟩ k) := by
  unfold val_main_v37 val_main_v36 val_main_v35 val_main_v34
  refine (shapeCast_apply _ _ _ (ix5 b (⟨s.val / 128, by omega⟩ : Fin 64) (⟨s.val / 8 % 16, by omega⟩ : Fin 16)
    (⟨s.val % 8, by omega⟩ : Fin 8) k) ?_).trans ?_
  · rw [Shape.rowMajor_val_five, Shape.rowMajor_val_three]
    show (((b.val * 64 + s.val / 128) * 16 + s.val / 8 % 16) * 8 + s.val % 8) * 512 + k.val = (b.val * 8192 + s.val) * 512 + k.val
    omega
  refine (transpose_apply _ _ _ _ (k := ix5 b (⟨s.val / 8 % 16, by omega⟩ : Fin 16) (⟨s.val / 128, by omega⟩ : Fin 64)
    (⟨s.val % 8, by omega⟩ : Fin 8) k) ?_).trans ?_
  · intro a; fin_cases a <;> rfl
  refine (shapeCast_apply _ _ _ (ix5 b (⟨s.val / 8 % 16, by omega⟩ : Fin 16) (⟨s.val / 256, by omega⟩ : Fin 32)
    (⟨s.val / 128 % 2 * 8 + s.val % 8, by omega⟩ : Fin 16) k) ?_).trans ?_
  · rw [Shape.rowMajor_val_five, Shape.rowMajor_val_five]
    show (((b.val * 16 + s.val / 8 % 16) * 32 + s.val / 256) * 16 + (s.val / 128 % 2 * 8 + s.val % 8)) * 512 + k.val
      = (((b.val * 16 + s.val / 8 % 16) * 64 + s.val / 128) * 8 + s.val % 8) * 512 + k.val
    omega
  rfl

theorem v50_apply (b : Fin 2) (s : Fin 8192) (k : Fin 512) :
    val_main_v50 (F := Ideal) x5 x9 (ix3 b s k) = convRow x5 x9 b s k := by
  unfold val_main_v50 val_main_v49 val_main_v48 val_main_v47 val_main_v46 val_main_v45 val_main_v44 val_main_v43 val_main_v42 val_main_v41 val_main_v40 val_main_v39 val_main_v38 val_main_cst_5 val_main_cst_6 val_main_cst_7 convRow
  have h : _ = _ := funext (v37_apply x5 b s)
  simp only [← h]
  generalize val_main_v37 (F := Ideal) x5 = y
  pointwise [norm]

section pieces

variable (b : Fin 2) (s : Fin 8192) (k : Fin 512)

theorem v51_scan : val_main_v51 (F := Ideal) x1 x2 x3 x4 x5 x7 x8 x9 (ix3 b s ⟨k.val, by omega⟩) = scanRow x1 x2 x3 x7 b s k := by
  unfold val_main_v51
  refine Eq.trans (concatenate_apply_piece (t := S2x8192x1536) 2 [⟨S2x8192x512, val_main_v19 (F := Ideal) x1 x2 x3 x7⟩,
    ⟨S2x8192x512, val_main_v33 (F := Ideal) x4 x8⟩, ⟨S2x8192x512, val_main_v50 (F := Ideal) x5 x9⟩]
    concatenates_S2x8192x512_S2x8192x512_S2x8192x512_S2x8192x1536_d2 (ix3 b s ⟨k.val, by omega⟩) 0 (by show 0 < 3; decide) S2x8192x512
    (val_main_v19 (F := Ideal) x1 x2 x3 x7) rfl rfl 0 rfl (ix3 b s k)
    (fun a ha => match a, ha with | ⟨0, _⟩, _ => rfl | ⟨1, _⟩, _ => rfl | ⟨2, _⟩, ha => absurd rfl ha)
    (by show 0 + k.val = k.val; omega)) (v19_apply x1 x2 x3 x7 b s k)

theorem v51_attn : val_main_v51 (F := Ideal) x1 x2 x3 x4 x5 x7 x8 x9 (ix3 b s ⟨512 + k.val, by omega⟩) = attnRow x4 x8 b s k := by
  unfold val_main_v51
  refine Eq.trans (concatenate_apply_piece (t := S2x8192x1536) 2 [⟨S2x8192x512, val_main_v19 (F := Ideal) x1 x2 x3 x7⟩,
    ⟨S2x8192x512, val_main_v33 (F := Ideal) x4 x8⟩, ⟨S2x8192x512, val_main_v50 (F := Ideal) x5 x9⟩]
    concatenates_S2x8192x512_S2x8192x512_S2x8192x512_S2x8192x1536_d2 (ix3 b s ⟨512 + k.val, by omega⟩) 1 (by show 1 < 3; decide) S2x8192x512
    (val_main_v33 (F := Ideal) x4 x8) rfl rfl 512 rfl (ix3 b s k)
    (fun a ha => match a, ha with | ⟨0, _⟩, _ => rfl | ⟨1, _⟩, _ => rfl | ⟨2, _⟩, ha => absurd rfl ha)
    rfl) (v33_apply x4 x8 b s k)

theorem v51_conv : val_main_v51 (F := Ideal) x1 x2 x3 x4 x5 x7 x8 x9 (ix3 b s ⟨1024 + k.val, by omega⟩) = convRow x5 x9 b s k := by
  unfold val_main_v51
  refine Eq.trans (concatenate_apply_piece (t := S2x8192x1536) 2 [⟨S2x8192x512, val_main_v19 (F := Ideal) x1 x2 x3 x7⟩,
    ⟨S2x8192x512, val_main_v33 (F := Ideal) x4 x8⟩, ⟨S2x8192x512, val_main_v50 (F := Ideal) x5 x9⟩]
    concatenates_S2x8192x512_S2x8192x512_S2x8192x512_S2x8192x1536_d2 (ix3 b s ⟨1024 + k.val, by omega⟩) 2 (by show 2 < 3; decide) S2x8192x512
    (val_main_v50 (F := Ideal) x5 x9) rfl rfl 1024 rfl (ix3 b s k)
    (fun a ha => match a, ha with | ⟨0, _⟩, _ => rfl | ⟨1, _⟩, _ => rfl | ⟨2, _⟩, ha => absurd rfl ha)
    rfl) (v50_apply x5 x9 b s k)

end pieces

/-- A sum over the joined row is the sum of the three branches' sums. -/
theorem sum_joined (f : Fin 1536 → EReal) :
    ∑ k : Fin 1536, f k = ((∑ k : Fin 512, f ⟨k.val, by omega⟩) + ∑ k : Fin 512, f ⟨512 + k.val, by omega⟩)
      + ∑ k : Fin 512, f ⟨1024 + k.val, by omega⟩ :=
  (Fin.sum_univ_add (a := 1024) (b := 512) f).trans
    (congrArg (· + ∑ k : Fin 512, f ⟨1024 + k.val, by omega⟩) (Fin.sum_univ_add (a := 512) (b := 512) fun k : Fin 1024 => f ⟨k.val, by omega⟩))

theorem v55_apply (b : Fin 2) (s : Fin 8192) (d : Fin 1024) :
    val_main_v55 (F := Ideal) x0 x1 x2 x3 x4 x5 x6 x7 x8 x9 x10 (ix3 b s d)
      = mixed (x0 (ix3 b s d)) (x6 (ix3 b 0 d)) (scanRow x1 x2 x3 x7 b s) (attnRow x4 x8 b s) (convRow x5 x9 b s)
          (fun k => x10 (ix2 k d)) := by
  unfold val_main_v55 val_main_v54 val_main_v53 val_main_v52
  have hs := v51_scan x1 x2 x3 x4 x5 x7 x8 x9 b s
  have ha := v51_attn x1 x2 x3 x4 x5 x7 x8 x9 b s
  have hc := v51_conv x1 x2 x3 x4 x5 x7 x8 x9 b s
  generalize val_main_v51 (F := Ideal) x1 x2 x3 x4 x5 x7 x8 x9 = y at hs ha hc ⊢
  pointwise []
  rw [sum_joined]
  simp only [hs, ha, hc]
  rfl

end Cert.MixValue
end
end
-- ==== Proof.MixValue.lean ====
/-
  The mixing call's result: each block of tokens it writes is the reference's result, and the blocks cover the array.
-/
module

public import proofs.«01_k».proof.Proof.MixBlocks
public import proofs.«01_k».proof.Proof.MixRef

@[expose] public section

set_option maxRecDepth 16384

noncomputable section

namespace Cert.MixValue

open Cert.MixIdeal Cert.MixIdeal.Gen Idealize.ShloMosaic Idealize.ShloMosaic.TcCoe Idealize.SL.Sem Idealize.ShloMosaic.StableHlo

variable (m : (ℓ : Loc nD τ sig) → Buf (Elt Ideal) ℓ) (c : Dev nD)

/-- The launch's arguments, as the arrays of numbers that they are. -/
abbrev a0 : Vec Ideal S2x8192x1024 .f32 := m ((c : Thread nD τ).loc main_arg0)
abbrev a1 : Vec Ideal S2x8192x512 .bf16 := m ((c : Thread nD τ).loc main_arg1)
abbrev a2 : Vec Ideal S2x8192x512 .bf16 := m ((c : Thread nD τ).loc main_arg2)
abbrev a3 : Vec Ideal S2x8192x4096 .bf16 := m ((c : Thread nD τ).loc main_arg3)
abbrev a4 : Vec Ideal S2x8192x512 .bf16 := m ((c : Thread nD τ).loc main_arg4)
abbrev a5 : Vec Ideal S2x16x32x16x512 .bf16 := m ((c : Thread nD τ).loc main_arg5)
abbrev a6 : Vec Ideal S2x1x1024 .f32 := m ((c : Thread nD τ).loc main_arg6)
abbrev a7 : Vec Ideal S512 .f32 := m ((c : Thread nD τ).loc main_arg7)
abbrev a8 : Vec Ideal S512 .f32 := m ((c : Thread nD τ).loc main_arg8)
abbrev a9 : Vec Ideal S512 .f32 := m ((c : Thread nD τ).loc main_arg9)
abbrev a10 : Vec Ideal S1536x1024 .f32 := m ((c : Thread nD τ).loc main_arg10)

/-- The reference's result of the launch's arguments. -/
def want : Vec Ideal S2x8192x1024 .f32 :=
  Cert.MixReferenceIdeal.Read.val_main_v55 (F := Ideal) (a0 m c) (a1 m c) (a2 m c) (a3 m c) (a4 m c) (a5 m c) (a6 m c) (a7 m c) (a8 m c) (a9 m c) (a10 m c)

/-- A row's token in the group-major array, found by the block and by the row's place in it. -/
theorem conv_idx (t : Fin cfg0.N) (r k : Fin 512) :
    (ix5 (bOf t) (⟨r.val / 8 % 16, by omega⟩ : Fin 16) (⟨2 * (t.val % 16) + r.val / 256, by omega⟩ : Fin 32)
        (⟨r.val / 128 % 2 * 8 + r.val % 8, by omega⟩ : Fin 16) k : (⟨5, ![2, 16, 32, 16, 512]⟩ : Shape).Idx)
      = ix5 (bOf t) ⟨(sOf t r).val / 8 % 16, by omega⟩ ⟨(sOf t r).val / 256, by omega⟩
          ⟨(sOf t r).val / 128 % 2 * 8 + (sOf t r).val % 8, by omega⟩ k := by
  have e : (sOf t r).val = 512 * (t.val % 16) + r.val := rfl
  have e1 : (⟨r.val / 8 % 16, by omega⟩ : Fin 16) = ⟨(sOf t r).val / 8 % 16, by omega⟩ := Fin.ext (by show r.val / 8 % 16 = (sOf t r).val / 8 % 16; omega)
  have e2 : (⟨2 * (t.val % 16) + r.val / 256, by omega⟩ : Fin 32) = ⟨(sOf t r).val / 256, by omega⟩ :=
    Fin.ext (by show 2 * (t.val % 16) + r.val / 256 = (sOf t r).val / 256; omega)
  have e3 : (⟨r.val / 128 % 2 * 8 + r.val % 8, by omega⟩ : Fin 16) = ⟨(sOf t r).val / 128 % 2 * 8 + (sOf t r).val % 8, by omega⟩ :=
    Fin.ext (by show r.val / 128 % 2 * 8 + r.val % 8 = (sOf t r).val / 128 % 2 * 8 + (sOf t r).val % 8; omega)
  rw [e1, e2, e3]

theorem point (t : Fin cfg0.N) (u : Fin 1) (r : Fin 512) (d : Fin 1024) :
    out0_11 (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ix3 u r d)
      = want m c (ix3 (bOf t) (sOf t r) d) := by
  rw [out_apply]
  unfold want
  rw [v55_apply]
  simp only [blk0 m c t, blk1 m c t, blk2 m c t, blk3 m c t, blk4 m c t, blk5 m c t, blk6 m c t, blk7 m c t, blk8 m c t, blk9 m c t,
    blk10 m c t]
  unfold convRow
  simp only [← conv_idx t r]
  rfl

theorem flushed_want (t : Fin cfg0.N) :
    (dats m 0 c).flushed 11 t = ((cfg0.win 11).blk t).view.read (Elt Ideal) (want m c) := by
  rw [Value.flushed11]
  obtain ⟨-, -, -, -, -, -, -, ⟨e0, e1, e2⟩, -⟩ := index_facts t
  funext y
  have y0 : (y 0).val < 1 := (y 0).isLt
  have y1 : (y 1).val < 512 := (y 1).isLt
  have y2 : (y 2).val < 1024 := (y 2).isLt
  have key := point m c t ⟨(y 0).val, y0⟩ ⟨(y 1).val, y1⟩ ⟨(y 2).val, y2⟩
  refine Eq.trans ?_ (key.trans ?_)
  · refine congrArg (out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t)) (funext fun a => Fin.ext ?_)
    match a with
    | ⟨0, _⟩ => rfl
    | ⟨1, _⟩ => rfl
    | ⟨2, _⟩ => rfl
  · refine congrArg (want m c) (funext fun a => Fin.ext ?_)
    match a with
    | ⟨0, _⟩ => show t.val / 16 = win0_11.index t (0 : Fin 3) * 1 + 1 * (y 0).val; omega
    | ⟨1, _⟩ => show 512 * (t.val % 16) + (y 1).val = win0_11.index t (1 : Fin 3) * 512 + 1 * (y 1).val; omega
    | ⟨2, _⟩ => show (y 2).val = win0_11.index t (2 : Fin 3) * 1024 + 1 * (y 2).val; omega

theorem mem_out (t : Fin cfg0.N) (i : S2x8192x1024.Idx) :
    i ∈ ((cfg0.win 11).blk t).view.set ↔ ∀ a : Fin 3, win0_11.index t a * S1x512x1024.size a ≤ (i a).val ∧ (i a).val < win0_11.index t a * S1x512x1024.size a + S1x512x1024.size a := by
  show i ∈ ((View.whole main_v4).slice (win0_11.rect t)).set ↔ _
  rw [View.set_slice_whole, Rect.mem_set_unit]
  exact Iff.rfl

theorem covered (i : S2x8192x1024.Idx) : ∃ t : Fin cfg0.N, (cfg0.win 11).flush t = true ∧ i ∈ ((cfg0.win 11).blk t).view.set := by
  have i0 : (i 0).val < 2 := (i 0).isLt
  have i1 : (i 1).val < 8192 := (i 1).isLt
  have i2 : (i 2).val < 1024 := (i 2).isLt
  let t : Fin cfg0.N := ⟨16 * (i 0).val + (i 1).val / 512, lt_of_lt_of_eq (by omega) N_0.symm⟩
  obtain ⟨-, -, -, -, -, -, -, ⟨e0, e1, e2⟩, hf⟩ := index_facts t
  have ht : t.val = 16 * (i 0).val + (i 1).val / 512 := rfl
  refine ⟨t, hf, ?_⟩
  rw [mem_out]
  intro a
  match a with
  | ⟨0, _⟩ => show win0_11.index t (0 : Fin 3) * 1 ≤ (i 0).val ∧ (i 0).val < win0_11.index t (0 : Fin 3) * 1 + 1; omega
  | ⟨1, _⟩ => show win0_11.index t (1 : Fin 3) * 512 ≤ (i 1).val ∧ (i 1).val < win0_11.index t (1 : Fin 3) * 512 + 512; omega
  | ⟨2, _⟩ => show win0_11.index t (2 : Fin 3) * 1024 ≤ (i 2).val ∧ (i 2).val < win0_11.index t (2 : Fin 3) * 1024 + 1024; omega

theorem final : (dats m 0 c).arrAt 11 cfg0.N = want m c :=
  (dats m 0 c).arrAt_eq_of_cover 11 _ (fun t _ => flushed_want m c t) covered

end Cert.MixValue
end
end
-- ==== Proof.MixClaim.lean ====
/-
  The claims about the mixing call: the three programs run and leave their arguments alone, the idealization rewrites
  nothing, and kernel and reference return the same array.
-/
module

public import proofs.«01_k».proof.Defs
public import proofs.«01_k».proof.Proof.Gen.Mix.Frame
public import proofs.«01_k».proof.Proof.Gen.MixIdeal.Value
public import proofs.«01_k».proof.Proof.MixValue
public import proofs.«01_k».proof.Proof.Gen.MixReferenceIdeal.Run

@[expose] public section

noncomputable section

namespace Cert.MixValue

open Idealize.ShloMosaic Idealize.ShloMosaic.TcCoe Idealize.SL.Sem

theorem frame_mix : Cert.quiescent_Mix := fun m ρ _ => Cert.Mix.Gen.frame m ρ

theorem frame_mixIdeal : Cert.quiescent_MixIdeal := fun m ρ _ => Cert.MixIdeal.Gen.frame m ρ

theorem frame_mixReference : Cert.quiescent_MixReferenceIdeal := fun m ρ _ =>
  (θ_run Cert.MixReferenceIdeal.defs _ _).mono (fun r h => ⟨fun c => (h c).2, sem_eq_zero_of_no_sems (by decide) r.2⟩)
    (Cert.MixReferenceIdeal.Value.run (F := Ideal) m ρ)

theorem preserves_mix : Cert.preserves_Mix_MixIdeal := trivial

/-- Kernel and reference, started on the same arguments, return the same array. -/
theorem algebraic_mix : Cert.algebraic_MixIdeal_MixReferenceIdeal := fun m g m' g' _ hagree => by
  refine ⟨fun c => want m c,
    (θ_run Cert.MixIdeal.defs _ _).mono (fun r h c => ⟨(h c).1.trans (final m c), (h c).2⟩)
      (Cert.MixIdeal.Value.run_blocks (F := Ideal) m g), ?_⟩
  refine (θ_run Cert.MixReferenceIdeal.defs _ _).mono (fun r h c => ⟨(h c).1.trans ?_, (h c).2⟩)
    (Cert.MixReferenceIdeal.Value.run (F := Ideal) m' g')
  obtain ⟨h0, h1, h2, h3, h4, h5, h6, h7, h8, h9, h10⟩ := hagree c
  rw [Cert.MixReferenceIdeal.Read.val_main_v55_eq, h0, h1, h2, h3, h4, h5, h6, h7, h8, h9, h10]
  rfl

end Cert.MixValue
end
end
-- ==== Proof.PrepPay.lean ====
/-
  The preparation call's body, element by element: a row of two heads normalised and rotated.
-/
module

public import proofs.«01_k».proof.Proof.Gen.PrepIdeal.Value
public import Idealize.ShloMosaic.Lib.KernelVsHost
public import Idealize.ShloMosaic.Lib.Pointwise

@[expose] public section

set_option maxRecDepth 16384

noncomputable section

namespace Cert.PrepValue

open Cert.PrepIdeal Cert.PrepIdeal.Gen Idealize.ShloMosaic Idealize.ShloMosaic.TcCoe Idealize.SL.Sem

/-- A row of two heads divided by each head's root mean square, scaled by the gain; the squares come in two parts. -/
def normed (gm : Fin 128 → Fin 128 → EReal) (x g : Fin 128 → EReal) (l : Fin 128) : EReal :=
  x l * Ideal.rsqrt ((∑ k : Fin 128, x k * x k * gm k l) + (∑ k : Fin 128, (x k * x k - x k * x k) * gm k l)
    + Ideal.ofBits .f32 0x358637BD#32) * g l

/-- The lane a lane's rotation pairs it with. -/
def partner (l : Fin 128) : Fin 128 := ⟨if l.val % 32 < 16 then (l.val + 16) % 128 else (l.val + 112) % 128, by split_ifs <;> omega⟩

/-- A row rotated by its positions' angles. -/
def roped (co si y : Fin 128 → EReal) (l : Fin 128) : EReal := y l * co l + y (partner l) * si l

theorem cat_lo (a b : FVec Ideal S1024x128 .bf16) (r : Fin 1024) (k : Fin 128) :
    concatenate S2048x128 0 [⟨S1024x128, a⟩, ⟨S1024x128, b⟩] concatenates_S1024x128_S1024x128_S2048x128_d0 (ix2 (⟨r.val, by omega⟩ : Fin 2048) k)
      = a (ix2 r k) :=
  (concatenate_apply_piece (t := S2048x128) 0 [⟨S1024x128, a⟩, ⟨S1024x128, b⟩] concatenates_S1024x128_S1024x128_S2048x128_d0
    (ix2 (⟨r.val, by omega⟩ : Fin 2048) k) 0 (by show 0 < 2; decide) S1024x128 a rfl rfl 0 rfl (ix2 r k)
    (fun b hb => match b, hb with | ⟨0, _⟩, hb => absurd rfl hb | ⟨1, _⟩, _ => rfl) (by show 0 + r.val = r.val; omega))

theorem cat_hi (a b : FVec Ideal S1024x128 .bf16) (r : Fin 1024) (k : Fin 128) :
    concatenate S2048x128 0 [⟨S1024x128, a⟩, ⟨S1024x128, b⟩] concatenates_S1024x128_S1024x128_S2048x128_d0 (ix2 (⟨1024 + r.val, by omega⟩ : Fin 2048) k)
      = b (ix2 r k) :=
  (concatenate_apply_piece (t := S2048x128) 0 [⟨S1024x128, a⟩, ⟨S1024x128, b⟩] concatenates_S1024x128_S1024x128_S2048x128_d0
    (ix2 (⟨1024 + r.val, by omega⟩ : Fin 2048) k) 1 (by show 1 < 2; decide) S1024x128 b rfl rfl 1024 rfl (ix2 r k)
    (fun b hb => match b, hb with | ⟨0, _⟩, hb => absurd rfl hb | ⟨1, _⟩, _ => rfl) (by show 1024 + r.val = 1024 + r.val; omega))

theorem pay29_apply (gm : FVec Ideal S128x128 .bf16) (x : Vec Ideal S1x1024x128 .bf16) (g : Vec Ideal S1x128 .f32) (r : Fin 1024) (l : Fin 128) :
    k0_pay29 (F := Ideal) gm x g (ix2 r l)
      = normed (fun k j => gm (ix2 k j)) (fun k => x (ix3 0 r k)) (fun k => g (ix2 0 k)) l := by
  unfold k0_pay29
  have h1 := cat_lo (truncf .bf16 (mulf (extf .f32 (shapeCast S1024x128 x shapeCasts_S1x1024x128_S1024x128) bitsLt_bf16_f32) (extf .f32 (shapeCast S1024x128 x shapeCasts_S1x1024x128_S1024x128) bitsLt_bf16_f32)) bitsLt_bf16_f32)
    (truncf .bf16 (subf (mulf (extf .f32 (shapeCast S1024x128 x shapeCasts_S1x1024x128_S1024x128) bitsLt_bf16_f32) (extf .f32 (shapeCast S1024x128 x shapeCasts_S1x1024x128_S1024x128) bitsLt_bf16_f32)) (extf .f32 (truncf .bf16 (mulf (extf .f32 (shapeCast S1024x128 x shapeCasts_S1x1024x128_S1024x128) bitsLt_bf16_f32) (extf .f32 (shapeCast S1024x128 x shapeCasts_S1x1024x128_S1024x128) bitsLt_bf16_f32)) bitsLt_bf16_f32) bitsLt_bf16_f32)) bitsLt_bf16_f32) r
  have h2 := cat_hi (truncf .bf16 (mulf (extf .f32 (shapeCast S1024x128 x shapeCasts_S1x1024x128_S1024x128) bitsLt_bf16_f32) (extf .f32 (shapeCast S1024x128 x shapeCasts_S1x1024x128_S1024x128) bitsLt_bf16_f32)) bitsLt_bf16_f32)
    (truncf .bf16 (subf (mulf (extf .f32 (shapeCast S1024x128 x shapeCasts_S1x1024x128_S1024x128) bitsLt_bf16_f32) (extf .f32 (shapeCast S1024x128 x shapeCasts_S1x1024x128_S1024x128) bitsLt_bf16_f32)) (extf .f32 (truncf .bf16 (mulf (extf .f32 (shapeCast S1024x128 x shapeCasts_S1x1024x128_S1024x128) bitsLt_bf16_f32) (extf .f32 (shapeCast S1024x128 x shapeCasts_S1x1024x128_S1024x128) bitsLt_bf16_f32)) bitsLt_bf16_f32) bitsLt_bf16_f32)) bitsLt_bf16_f32) r
  generalize concatenate S2048x128 0 _ _ = cc at h1 h2 ⊢
  have k1 : ∀ k, cc (ix2 (⟨r.val, by omega⟩ : Fin 2048) k) = x (ix3 0 r k) * x (ix3 0 r k) := fun k => by
    rw [h1 k]; pointwise []
  have k2 : ∀ k, cc (ix2 (⟨1024 + r.val, by omega⟩ : Fin 2048) k) = x (ix3 0 r k) * x (ix3 0 r k) - x (ix3 0 r k) * x (ix3 0 r k) := fun k => by
    rw [h2 k]; pointwise []
  clear h1 h2
  pointwise [normed]
  simp only [k1, k2]

theorem mask_apply (r : Fin 1024) (l : Fin 128) : k0_pay7 (ix2 r l) = if l.val % 32 < 16 then 1#1 else 0#1 := by
  have h : k0_pay7 (ix2 r l) = IntOp.cmpi .slt (IntOp.andi (BitVec.ofNat 32 l.val) 31#32) 16#32 := by
    pointwise [k0_pay7]
  rw [h]
  exact (by decide +kernel : ∀ l : Fin 128, IntOp.cmpi .slt (IntOp.andi (BitVec.ofNat 32 l.val) 31#32) 16#32 = if l.val % 32 < 16 then 1#1 else 0#1) l

theorem pay30_apply (co si y : FVec Ideal S1024x128 .f32) (r : Fin 1024) (l : Fin 128) :
    k0_pay30 (F := Ideal) co si k0_pay7 y (ix2 r l)
      = roped (fun k => co (ix2 r k)) (fun k => si (ix2 r k)) (fun k => y (ix2 r k)) l := by
  have hm := mask_apply r l
  have e1 : dynamicRotate 1 112#32 none y rotates_S1024x128_d1 (ix2 r l) = y (ix2 r ⟨(l.val + 16) % 128, by omega⟩) :=
    dynamicRotate_apply 1 112#32 y rotates_S1024x128_d1 (ix2 r l) _ fun b => by
      match b with
      | ⟨0, _⟩ => rfl
      | ⟨1, _⟩ => show (l.val + 16) % 128 = (l.val + 128 - 112 % 128) % 128; omega
  have e2 : dynamicRotate 1 16#32 none y rotates_S1024x128_d1 (ix2 r l) = y (ix2 r ⟨(l.val + 112) % 128, by omega⟩) :=
    dynamicRotate_apply 1 16#32 y rotates_S1024x128_d1 (ix2 r l) _ fun b => by
      match b with
      | ⟨0, _⟩ => rfl
      | ⟨1, _⟩ => show (l.val + 112) % 128 = (l.val + 128 - 16 % 128) % 128; omega
  unfold k0_pay30
  dsimp only
  generalize dynamicRotate 1 112#32 none y rotates_S1024x128_d1 = y1 at e1 ⊢
  generalize dynamicRotate 1 16#32 none y rotates_S1024x128_d1 = y2 at e2 ⊢
  have es : select k0_pay7 y1 y2 (ix2 r l) = y (ix2 r (partner l)) := by
    show (if k0_pay7 (ix2 r l) = 1#1 then y1 (ix2 r l) else y2 (ix2 r l)) = _
    rw [hm, e1, e2]
    unfold partner
    split_ifs <;> first | rfl | simp_all
  generalize select k0_pay7 y1 y2 = y3 at es ⊢
  pointwise [roped]
  rw [es]

/-- Two heads' rows of a block, normalised and rotated. -/
def tile (v1 v3 : FVec Ideal S1024x128 .f32) (v5 : FVec Ideal S128x128 .bf16) (x : Vec Ideal S1x1024x128 .bf16) (g : Vec Ideal S1x128 .f32) :
    FVec Ideal S1024x128 .f32 :=
  k0_pay30 (F := Ideal) v1 v3 k0_pay7 (k0_pay29 v5 x g)

theorem tile_apply (v1 v3 : FVec Ideal S1024x128 .f32) (v5 : FVec Ideal S128x128 .bf16) (x : Vec Ideal S1x1024x128 .bf16) (g : Vec Ideal S1x128 .f32)
    (r : Fin 1024) (l : Fin 128) :
    tile v1 v3 v5 x g (ix2 r l)
      = roped (fun k => v1 (ix2 r k)) (fun k => v3 (ix2 r k))
          (normed (fun k j => v5 (ix2 k j)) (fun k => x (ix3 0 r k)) (fun k => g (ix2 0 k))) l := by
  unfold tile
  rw [pay30_apply]
  simp only [pay29_apply]

theorem pay9_apply (z : FVec Ideal S1024x128 .f32) (l : Fin 128) (r : Fin 1024) :
    k0_pay9 (F := Ideal) z (ix2 l r) = z (ix2 r l) * Ideal.ofBits .f32 0x3E38AA3B#32 := by
  pointwise [k0_pay9]

theorem pay10_apply (z : FVec Ideal S1024x128 .f32) (u v : Fin 1) (d : Fin 64) (r : Fin 1024) :
    k0_pay10 (F := Ideal) z (ix4 u v d r) = z (ix2 r ⟨d.val, by omega⟩) * Ideal.ofBits .f32 0x3E38AA3B#32 := by
  rw [← pay9_apply]
  unfold k0_pay10
  generalize k0_pay9 z = y
  pointwise []

theorem pay11_apply (z : FVec Ideal S1024x128 .f32) (u v : Fin 1) (d : Fin 64) (r : Fin 1024) :
    k0_pay11 (F := Ideal) z (ix4 u v d r) = z (ix2 r ⟨64 + d.val, by omega⟩) * Ideal.ofBits .f32 0x3E38AA3B#32 := by
  rw [← pay9_apply]
  unfold k0_pay11
  generalize k0_pay9 z = y
  pointwise []

theorem pay31_apply (v1 v3 : FVec Ideal S1024x128 .f32) (v10 : IVec S1024x128 1) (y : FVec Ideal S1024x128 .f32) (u v : Fin 1) (r : Fin 1024) (d : Fin 64) :
    k0_pay31 (F := Ideal) v1 v3 v10 y (ix4 u v r d) = k0_pay30 (F := Ideal) v1 v3 v10 y (ix2 r ⟨d.val, by omega⟩) := by
  unfold k0_pay31
  generalize k0_pay30 v1 v3 v10 y = z
  pointwise []

theorem pay32_apply (v1 v3 : FVec Ideal S1024x128 .f32) (v10 : IVec S1024x128 1) (y : FVec Ideal S1024x128 .f32) (u v : Fin 1) (r : Fin 1024) (d : Fin 64) :
    k0_pay32 (F := Ideal) v1 v3 v10 y (ix4 u v r d) = k0_pay30 (F := Ideal) v1 v3 v10 y (ix2 r ⟨64 + d.val, by omega⟩) := by
  unfold k0_pay32
  generalize k0_pay30 v1 v3 v10 y = z
  pointwise []

theorem pay33_apply (x : Vec Ideal S1x1024x128 .bf16) (l : Fin 128) (r : Fin 1024) : k0_pay33 (F := Ideal) x (ix2 l r) = x (ix3 0 r l) := by
  pointwise [k0_pay33]

theorem pay35_apply (x : Vec Ideal S1x1024x128 .bf16) (u v : Fin 1) (d : Fin 64) (r : Fin 1024) :
    k0_pay35 (F := Ideal) x (ix4 u v d r) = x (ix3 0 r ⟨d.val, by omega⟩) := by
  rw [← pay33_apply x]
  unfold k0_pay35
  generalize k0_pay33 x = y
  pointwise []

theorem pay2_apply (x : Vec Ideal S1x1024x128 .bf16) (u v : Fin 1) (d : Fin 64) (r : Fin 1024) :
    k0_pay2 (F := Ideal) (k0_pay33 x) (ix4 u v d r) = x (ix3 0 r ⟨64 + d.val, by omega⟩) := by
  rw [← pay33_apply x]
  generalize k0_pay33 x = y
  pointwise [k0_pay2]

theorem pay34_apply (a : Fin 16) (r : Fin 1024) :
    k0_pay34 (F := Ideal) (ix2 a r) = if a.val = 0 then Ideal.ofBits .f32 0x3F800000#32 else Ideal.ofBits .f32 0x00000000#32 := by
  have h : k0_pay34 (F := Ideal) (ix2 a r) = if IntOp.cmpi .eq (BitVec.ofNat 32 a.val) 0#32 = 1#1 then Ideal.ofBits .f32 0x3F800000#32 else Ideal.ofBits .f32 0x00000000#32 := by
    unfold k0_pay34
    show (if IntOp.cmpi .eq (iota .tc S16x1024 32 [0] iota_S16x1024_d0_w32 (ix2 a r)) 0#32 = 1#1 then _ else _) = _
    rw [show iota .tc S16x1024 32 [0] iota_S16x1024_d0_w32 (ix2 a r) = BitVec.ofNat 32 a.val from by pointwise []]
    rfl
  rw [h]
  refine if_congr ?_ rfl rfl
  exact (by decide +kernel : ∀ a : Fin 16, IntOp.cmpi .eq (BitVec.ofNat 32 a.val) 0#32 = 1#1 ↔ a.val = 0) a

theorem pay1_apply (y : FVec Ideal S16x1024 .bf16) (u v : Fin 1) (a : Fin 16) (r : Fin 1024) :
    k0_pay1 (F := Ideal) y (ix4 u v a r) = y (ix2 a r) := by
  pointwise [k0_pay1]

theorem pay3_apply (y : FVec Ideal S16x1024 .bf16) (u v : Fin 1) (a : Fin 16) (r : Fin 1024) :
    k0_pay3 (F := Ideal) y (ix4 u v a r) = y (ix2 a r) := by
  pointwise [k0_pay3]

theorem hz2 : (![0, 0] : Fin 2 → Nat) = fun _ => 0 := funext fun a => by fin_cases a <;> rfl

theorem hz3 : (![0, 0, 0] : Fin 3 → Nat) = fun _ => 0 := funext fun a => by fin_cases a <;> rfl

theorem pay4_eq (x : Vec Ideal S1024x128 .f32) : k0_pay4 x = x := shapeCast_self _ _
theorem pay5_eq (x : Vec Ideal S1024x128 .f32) : k0_pay5 x = x := shapeCast_self _ _
theorem pay6_eq (x : Vec Ideal S128x128 .bf16) : k0_pay6 x = x := shapeCast_self _ _

/-- Two heads' columns of a block of queries. -/
def cols (x : Vec Ideal S1x1024x512 .bf16) (j : Fin 4) : Vec Ideal S1x1024x128 .bf16 :=
  fun i => x (ix3 (⟨(i 0).val, (i 0).isLt⟩ : Fin 1) (⟨(i 1).val, (i 1).isLt⟩ : Fin 1024)
    (⟨128 * j.val + (i 2).val, by have : (i 2).val < 128 := (i 2).isLt; omega⟩ : Fin 512))

theorem ld_cols (x : Vec Ideal S1x1024x512 .bf16) (j : Fin 4) (off : Fin 3 → ℕ) (h : off = ![0, 0, 128 * j.val])
    (inb : ∀ a, off a + S1x1024x128.size a ≤ S1x1024x512.size a) :
    (View.ld x (Rect.unit (s := S1x1024x512) off S1x1024x128.size inb) : Vec Ideal S1x1024x128 .bf16) = cols x j := by
  subst h
  funext i
  refine congrArg x (funext fun a => Fin.ext ?_)
  match a with
  | ⟨0, _⟩ => show 0 + 1 * (i 0).val = (i 0).val; omega
  | ⟨1, _⟩ => show 0 + 1 * (i 1).val = (i 1).val; omega
  | ⟨2, _⟩ => show 128 * j.val + 1 * (i 2).val = 128 * j.val + (i 2).val; omega

end Cert.PrepValue
end
end
-- ==== Proof.PrepCases.lean ====
/-
  The preparation call's three blocks: what a grid point's stores leave, element by element.
-/
module

public import proofs.«01_k».proof.Proof.PrepPay
public import Idealize.ShloMosaic.Lib.Pipeline.ValueKit.Tiles
public import Idealize.ShloMosaic.Lib.Tactic

@[expose] public section

set_option maxRecDepth 16384

noncomputable section

namespace Cert.PrepValue

open Cert.PrepIdeal Cert.PrepIdeal.Gen Idealize.ShloMosaic Idealize.ShloMosaic.TcCoe Idealize.SL.Sem

/-- The queries' scale: 1/8 times the base-two logarithm of e. -/
abbrev scale : EReal := Ideal.ofBits .f32 0x3E38AA3B#32

/-- One element of the values with their count rows. -/
def vrow (x : Vec Ideal S1x1024x128 .bf16) (h : Fin 2) (a : Fin 80) (r : Fin 1024) : EReal :=
  if ha : a.val < 64 then x (ix3 0 r ⟨64 * h.val + a.val, by omega⟩)
  else if a.val = 64 then Ideal.ofBits .f32 0x3F800000#32 else Ideal.ofBits .f32 0x00000000#32

theorem ix4_of {n0 n1 n2 n3 : ℕ} (x : (⟨4, ![n0, n1, n2, n3]⟩ : Shape).Idx) :
    x = ix4 (⟨(x 0).val, (x 0).isLt⟩ : Fin n0) (⟨(x 1).val, (x 1).isLt⟩ : Fin n1) (⟨(x 2).val, (x 2).isLt⟩ : Fin n2) (⟨(x 3).val, (x 3).isLt⟩ : Fin n3) := by
  funext a
  match a with
  | ⟨0, _⟩ => rfl
  | ⟨1, _⟩ => rfl
  | ⟨2, _⟩ => rfl
  | ⟨3, _⟩ => rfl

theorem q_even (Z : Fin 4 → FVec Ideal S1024x128 .f32) (h : Fin 8) (d : Fin 64) (r : Fin 1024) (j : Fin 4) (off : Fin 4 → ℕ) (ho : off = ![0, 2 * j.val, 0, 0]) :
    View.TileAt (Val := Elt Ideal) (S := S1x8x64x1024) (e := .bf16) (ix4 0 h d r) off S1x1x64x1024.size (k0_pay10 (F := Ideal) (Z j))
      (Z ⟨h.val / 2, by omega⟩ (ix2 r ⟨64 * (h.val % 2) + d.val, by omega⟩) * scale) := by
  subst ho
  intro x hx
  have e0 : (0 : ℕ) = 0 + (x 0).val := hx 0
  have e1 : h.val = 2 * j.val + (x 1).val := hx 1
  have e2 : d.val = 0 + (x 2).val := hx 2
  have e3 : r.val = 0 + (x 3).val := hx 3
  have x1 : (x 1).val < 1 := (x 1).isLt
  have hj : j = ⟨h.val / 2, by omega⟩ := Fin.ext (by show j.val = h.val / 2; omega)
  refine Eq.trans (congrArg (k0_pay10 (F := Ideal) (Z j)) (ix4_of x)) ((pay10_apply (Z j) _ _ _ _).trans ?_)
  rw [← hj]
  refine congrArg (fun i => Z j i * scale) ?_
  funext a
  match a with
  | ⟨0, _⟩ => exact Fin.ext (by show (x 3).val = r.val; omega)
  | ⟨1, _⟩ => exact Fin.ext (by show (x 2).val = 64 * (h.val % 2) + d.val; omega)

theorem q_odd (Z : Fin 4 → FVec Ideal S1024x128 .f32) (h : Fin 8) (d : Fin 64) (r : Fin 1024) (j : Fin 4) (off : Fin 4 → ℕ) (ho : off = ![0, 2 * j.val + 1, 0, 0]) :
    View.TileAt (Val := Elt Ideal) (S := S1x8x64x1024) (e := .bf16) (ix4 0 h d r) off S1x1x64x1024.size (k0_pay11 (F := Ideal) (Z j))
      (Z ⟨h.val / 2, by omega⟩ (ix2 r ⟨64 * (h.val % 2) + d.val, by omega⟩) * scale) := by
  subst ho
  intro x hx
  have e0 : (0 : ℕ) = 0 + (x 0).val := hx 0
  have e1 : h.val = 2 * j.val + 1 + (x 1).val := hx 1
  have e2 : d.val = 0 + (x 2).val := hx 2
  have e3 : r.val = 0 + (x 3).val := hx 3
  have x1 : (x 1).val < 1 := (x 1).isLt
  have hj : j = ⟨h.val / 2, by omega⟩ := Fin.ext (by show j.val = h.val / 2; omega)
  refine Eq.trans (congrArg (k0_pay11 (F := Ideal) (Z j)) (ix4_of x)) ((pay11_apply (Z j) _ _ _ _).trans ?_)
  rw [← hj]
  refine congrArg (fun i => Z j i * scale) ?_
  funext a
  match a with
  | ⟨0, _⟩ => exact Fin.ext (by show (x 3).val = r.val; omega)
  | ⟨1, _⟩ => exact Fin.ext (by show 64 + (x 2).val = 64 * (h.val % 2) + d.val; omega)

theorem k_0 (v1 v3 : FVec Ideal S1024x128 .f32) (v5 : FVec Ideal S128x128 .bf16) (x' : Vec Ideal S1x1024x128 .bf16) (g : Vec Ideal S1x128 .f32)
    (h : Fin 2) (r : Fin 1024) (d : Fin 64) :
    View.TileAt (Val := Elt Ideal) (S := S1x2x1024x64) (e := .bf16) (ix4 0 h r d) ![0, 0, 0, 0] S1x1x1024x64.size
      (k0_pay31 (F := Ideal) v1 v3 k0_pay7 (k0_pay29 v5 x' g))
      (tile v1 v3 v5 x' g (ix2 r ⟨64 * h.val + d.val, by omega⟩)) := by
  intro x hx
  have e0 : (0 : ℕ) = 0 + (x 0).val := hx 0
  have e1 : h.val = 0 + (x 1).val := hx 1
  have e2 : r.val = 0 + (x 2).val := hx 2
  have e3 : d.val = 0 + (x 3).val := hx 3
  have x1 : (x 1).val < 1 := (x 1).isLt
  refine Eq.trans (congrArg (k0_pay31 (F := Ideal) v1 v3 k0_pay7 (k0_pay29 v5 x' g)) (ix4_of x)) ((pay31_apply v1 v3 _ _ _ _ _ _).trans ?_)
  refine congrArg (tile v1 v3 v5 x' g) ?_
  funext a
  match a with
  | ⟨0, _⟩ => exact Fin.ext (by show (x 2).val = r.val; omega)
  | ⟨1, _⟩ => exact Fin.ext (by show (x 3).val = 64 * h.val + d.val; omega)

theorem v_body0 (x' : Vec Ideal S1x1024x128 .bf16) (h : Fin 2) (a : Fin 80) (r : Fin 1024) :
    View.TileAt (Val := Elt Ideal) (S := S1x2x80x1024) (e := .bf16) (ix4 0 h a r) ![0, 0, 0, 0] S1x1x64x1024.size
      (k0_pay35 (F := Ideal) x') (vrow x' h a r) := by
  intro x hx
  have e0 : (0 : ℕ) = 0 + (x 0).val := hx 0
  have e1 : h.val = 0 + (x 1).val := hx 1
  have e2 : a.val = 0 + (x 2).val := hx 2
  have e3 : r.val = 0 + (x 3).val := hx 3
  have x1 : (x 1).val < 1 := (x 1).isLt
  have x2 : (x 2).val < 64 := (x 2).isLt
  refine Eq.trans (congrArg (k0_pay35 (F := Ideal) x') (ix4_of x)) ((pay35_apply x' _ _ _ _).trans ?_)
  unfold vrow
  rw [dif_pos (by omega)]
  refine congrArg x' ?_
  funext b
  match b with
  | ⟨0, _⟩ => rfl
  | ⟨1, _⟩ => exact Fin.ext (by show (x 3).val = r.val; omega)
  | ⟨2, _⟩ => exact Fin.ext (by show (x 2).val = 64 * h.val + a.val; omega)

theorem v_tail0 (x' : Vec Ideal S1x1024x128 .bf16) (h : Fin 2) (a : Fin 80) (r : Fin 1024) :
    View.TileAt (Val := Elt Ideal) (S := S1x2x80x1024) (e := .bf16) (ix4 0 h a r) ![0, 0, 64, 0] S1x1x16x1024.size
      (k0_pay1 (F := Ideal) k0_pay34) (vrow x' h a r) := by
  intro x hx
  have e0 : (0 : ℕ) = 0 + (x 0).val := hx 0
  have e1 : h.val = 0 + (x 1).val := hx 1
  have e2 : a.val = 64 + (x 2).val := hx 2
  have e3 : r.val = 0 + (x 3).val := hx 3
  have x1 : (x 1).val < 1 := (x 1).isLt
  have x2 : (x 2).val < 16 := (x 2).isLt
  refine Eq.trans (congrArg (k0_pay1 (F := Ideal) k0_pay34) (ix4_of x)) ((pay1_apply _ _ _ _ _).trans ((pay34_apply _ _).trans ?_))
  unfold vrow
  rw [dif_neg (by omega)]
  refine if_congr ?_ rfl rfl
  show (x 2).val = 0 ↔ a.val = 64
  omega

theorem k_1 (v1 v3 : FVec Ideal S1024x128 .f32) (v5 : FVec Ideal S128x128 .bf16) (x' : Vec Ideal S1x1024x128 .bf16) (g : Vec Ideal S1x128 .f32)
    (h : Fin 2) (r : Fin 1024) (d : Fin 64) :
    View.TileAt (Val := Elt Ideal) (S := S1x2x1024x64) (e := .bf16) (ix4 0 h r d) ![0, 1, 0, 0] S1x1x1024x64.size
      (k0_pay32 (F := Ideal) v1 v3 k0_pay7 (k0_pay29 v5 x' g))
      (tile v1 v3 v5 x' g (ix2 r ⟨64 * h.val + d.val, by omega⟩)) := by
  intro x hx
  have e0 : (0 : ℕ) = 0 + (x 0).val := hx 0
  have e1 : h.val = 1 + (x 1).val := hx 1
  have e2 : r.val = 0 + (x 2).val := hx 2
  have e3 : d.val = 0 + (x 3).val := hx 3
  have x1 : (x 1).val < 1 := (x 1).isLt
  refine Eq.trans (congrArg (k0_pay32 (F := Ideal) v1 v3 k0_pay7 (k0_pay29 v5 x' g)) (ix4_of x)) ((pay32_apply v1 v3 _ _ _ _ _ _).trans ?_)
  refine congrArg (tile v1 v3 v5 x' g) ?_
  funext a
  match a with
  | ⟨0, _⟩ => exact Fin.ext (by show (x 2).val = r.val; omega)
  | ⟨1, _⟩ => exact Fin.ext (by show 64 + (x 3).val = 64 * h.val + d.val; omega)

theorem v_body1 (x' : Vec Ideal S1x1024x128 .bf16) (h : Fin 2) (a : Fin 80) (r : Fin 1024) :
    View.TileAt (Val := Elt Ideal) (S := S1x2x80x1024) (e := .bf16) (ix4 0 h a r) ![0, 1, 0, 0] S1x1x64x1024.size
      (k0_pay2 (F := Ideal) (k0_pay33 x')) (vrow x' h a r) := by
  intro x hx
  have e0 : (0 : ℕ) = 0 + (x 0).val := hx 0
  have e1 : h.val = 1 + (x 1).val := hx 1
  have e2 : a.val = 0 + (x 2).val := hx 2
  have e3 : r.val = 0 + (x 3).val := hx 3
  have x1 : (x 1).val < 1 := (x 1).isLt
  have x2 : (x 2).val < 64 := (x 2).isLt
  refine Eq.trans (congrArg (k0_pay2 (F := Ideal) (k0_pay33 x')) (ix4_of x)) ((pay2_apply x' _ _ _ _).trans ?_)
  unfold vrow
  rw [dif_pos (by omega)]
  refine congrArg x' ?_
  funext b
  match b with
  | ⟨0, _⟩ => rfl
  | ⟨1, _⟩ => exact Fin.ext (by show (x 3).val = r.val; omega)
  | ⟨2, _⟩ => exact Fin.ext (by show 64 + (x 2).val = 64 * h.val + a.val; omega)

theorem v_tail1 (x' : Vec Ideal S1x1024x128 .bf16) (h : Fin 2) (a : Fin 80) (r : Fin 1024) :
    View.TileAt (Val := Elt Ideal) (S := S1x2x80x1024) (e := .bf16) (ix4 0 h a r) ![0, 1, 64, 0] S1x1x16x1024.size
      (k0_pay3 (F := Ideal) k0_pay34) (vrow x' h a r) := by
  intro x hx
  have e0 : (0 : ℕ) = 0 + (x 0).val := hx 0
  have e1 : h.val = 1 + (x 1).val := hx 1
  have e2 : a.val = 64 + (x 2).val := hx 2
  have e3 : r.val = 0 + (x 3).val := hx 3
  have x1 : (x 1).val < 1 := (x 1).isLt
  have x2 : (x 2).val < 16 := (x 2).isLt
  refine Eq.trans (congrArg (k0_pay3 (F := Ideal) k0_pay34) (ix4_of x)) ((pay3_apply _ _ _ _ _).trans ((pay34_apply _ _).trans ?_))
  unfold vrow
  rw [dif_neg (by omega)]
  refine if_congr ?_ rfl rfl
  show (x 2).val = 0 ↔ a.val = 64
  omega

theorem pair0 (v0 v2 : Vec Ideal S1024x128 .f32) (v4 : Vec Ideal S128x128 .bf16) (x : Vec Ideal S1x1024x128 .bf16) (g : Vec Ideal S1x128 .f32) :
    k0_pay8 v0 v2 v4 x g = tile v0 v2 v4 x g := by
  refine Eq.trans (show k0_pay8 v0 v2 v4 x g = tile (k0_pay4 v0) (k0_pay5 v2) (k0_pay6 v4) x g from rfl) ?_
  rw [pay4_eq, pay5_eq, pay6_eq]

section
variable (v1 v3 : FVec Ideal S1024x128 .f32) (v5 : FVec Ideal S128x128 .bf16) (x : Vec Ideal S1x1024x128 .bf16) (g : Vec Ideal S1x128 .f32)

theorem pair1_lo : k0_pay16 v3 (k0_pay13 v5 k0_pay7 x g) (k0_pay14 v1 v5 x g) = k0_pay10 (tile v1 v3 v5 x g) := rfl
theorem pair1_hi : k0_pay17 v3 (k0_pay13 v5 k0_pay7 x g) (k0_pay14 v1 v5 x g) = k0_pay11 (tile v1 v3 v5 x g) := rfl
theorem pair2_lo : k0_pay22 v1 v3 k0_pay7 (k0_pay18 v5 x g) (k0_pay19 v5 x g) (k0_pay20 v5 x g) = k0_pay10 (tile v1 v3 v5 x g) := rfl
theorem pair2_hi : k0_pay23 v1 v3 k0_pay7 (k0_pay18 v5 x g) (k0_pay19 v5 x g) (k0_pay20 v5 x g) = k0_pay11 (tile v1 v3 v5 x g) := rfl
theorem pair3_lo : k0_pay27 v1 v3 k0_pay7 (k0_pay24 v5 x g) (k0_pay25 v5 x g) = k0_pay10 (tile v1 v3 v5 x g) := rfl
theorem pair3_hi : k0_pay28 v1 v3 k0_pay7 (k0_pay24 v5 x g) (k0_pay25 v5 x g) = k0_pay11 (tile v1 v3 v5 x g) := rfl
end

theorem out8_apply (c : Dev nD) (i : grid0.Coords) (arg2 : Memref sig .tc .vmem S1x1024x512 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x8x64x1024 .bf16) (harg10 : arg10.IsWhole) (arg11 : Memref sig .tc .vmem S1x2x1024x64 .bf16) (harg11 : arg11.IsWhole) (arg12 : Memref sig .tc .vmem S1x2x80x1024 .bf16) (harg12 : arg12.IsWhole)
    (x0 : Vec Ideal S1x1024x512 .bf16) (x1 : Vec Ideal S1x1024x128 .bf16) (x2 : Vec Ideal S1x1024x128 .bf16) (x3 : Vec Ideal S1024x128 .f32) (x4 : Vec Ideal S1024x128 .f32) (x5 : Vec Ideal S1x128 .f32) (x6 : Vec Ideal S1x128 .f32) (x7 : Vec Ideal S128x128 .bf16)
    (h : Fin 8) (d : Fin 64) (r : Fin 1024) :
    out0_A_8 c i arg2 harg2 arg3 harg3 arg4 harg4 arg5 harg5 arg6 harg6 arg7 harg7 arg8 harg8 arg9 harg9 arg10 harg10 arg11 harg11 arg12 harg12 x0 x1 x2 x3 x4 x5 x6 x7 (ix4 0 h d r)
      = tile x3 x4 x7 (cols x0 ⟨h.val / 2, by omega⟩) x5 (ix2 r ⟨64 * (h.val % 2) + d.val, by omega⟩) * scale := by
  unfold out0_A_8
  rw [View.read_writes_apply_eq_canon _ _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6 x7 _)]
  refine View.canon_eq_of_allAt _ _ _ (cover0_A_8 c i arg2 harg2 arg3 harg3 arg4 harg4 arg5 harg5 arg6 harg6 arg7 harg7 arg8 harg8 arg9 harg9 arg10 harg10 arg11 harg11 arg12 harg12 x0 x1 x2 x3 x4 x5 x6 x7 _) ?_
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x1024x128) hz3, View.ld_unit_zero (S := S1024x128) hz2, View.ld_unit_zero (S := S1x128) hz2,
    View.ld_unit_zero (S := S128x128) hz2]
  simp only [pay4_eq, pay5_eq, pay6_eq, pair0, pair1_lo, pair1_hi, pair2_lo, pair2_hi, pair3_lo, pair3_hi]
  rw [show View.ld x0 (Rect.unit ![0, 0, 0] ![1, 1024, 128] inb_S1x1024x512_S1x1024x128_0_0_0) = cols x0 0 from ld_cols x0 0 ![0, 0, 0] rfl _,
    show View.ld x0 (Rect.unit ![0, 0, 128] ![1, 1024, 128] inb_S1x1024x512_S1x1024x128_0_0_128) = cols x0 1 from ld_cols x0 1 ![0, 0, 128] rfl _,
    show View.ld x0 (Rect.unit ![0, 0, 256] ![1, 1024, 128] inb_S1x1024x512_S1x1024x128_0_0_256) = cols x0 2 from ld_cols x0 2 ![0, 0, 256] rfl _,
    show View.ld x0 (Rect.unit ![0, 0, 384] ![1, 1024, 128] inb_S1x1024x512_S1x1024x128_0_0_384) = cols x0 3 from ld_cols x0 3 ![0, 0, 384] rfl _]
  refine View.allAt_cons_unit _ _ _ _ _ (q_odd (fun j => tile x3 x4 x7 (cols x0 j) x5) h d r 3 ![0, 7, 0, 0] rfl) ?_
  refine View.allAt_cons_unit _ _ _ _ _ (q_even (fun j => tile x3 x4 x7 (cols x0 j) x5) h d r 3 ![0, 6, 0, 0] rfl) ?_
  refine View.allAt_cons_unit _ _ _ _ _ (q_odd (fun j => tile x3 x4 x7 (cols x0 j) x5) h d r 2 ![0, 5, 0, 0] rfl) ?_
  refine View.allAt_cons_unit _ _ _ _ _ (q_even (fun j => tile x3 x4 x7 (cols x0 j) x5) h d r 2 ![0, 4, 0, 0] rfl) ?_
  refine View.allAt_cons_unit _ _ _ _ _ (q_odd (fun j => tile x3 x4 x7 (cols x0 j) x5) h d r 1 ![0, 3, 0, 0] rfl) ?_
  refine View.allAt_cons_unit _ _ _ _ _ (q_even (fun j => tile x3 x4 x7 (cols x0 j) x5) h d r 1 ![0, 2, 0, 0] rfl) ?_
  refine View.allAt_cons_unit _ _ _ _ _ (q_odd (fun j => tile x3 x4 x7 (cols x0 j) x5) h d r 0 ![0, 1, 0, 0] rfl) ?_
  refine View.allAt_cons_unit _ _ _ _ _ (q_even (fun j => tile x3 x4 x7 (cols x0 j) x5) h d r 0 ![0, 0, 0, 0] rfl) ?_
  exact View.allAt_nil _ _

theorem out9_apply (c : Dev nD) (i : grid0.Coords) (arg2 : Memref sig .tc .vmem S1x1024x512 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x8x64x1024 .bf16) (harg10 : arg10.IsWhole) (arg11 : Memref sig .tc .vmem S1x2x1024x64 .bf16) (harg11 : arg11.IsWhole) (arg12 : Memref sig .tc .vmem S1x2x80x1024 .bf16) (harg12 : arg12.IsWhole)
    (x0 : Vec Ideal S1x1024x512 .bf16) (x1 : Vec Ideal S1x1024x128 .bf16) (x2 : Vec Ideal S1x1024x128 .bf16) (x3 : Vec Ideal S1024x128 .f32) (x4 : Vec Ideal S1024x128 .f32) (x5 : Vec Ideal S1x128 .f32) (x6 : Vec Ideal S1x128 .f32) (x7 : Vec Ideal S128x128 .bf16)
    (h : Fin 2) (r : Fin 1024) (d : Fin 64) :
    out0_A_9 c i arg2 harg2 arg3 harg3 arg4 harg4 arg5 harg5 arg6 harg6 arg7 harg7 arg8 harg8 arg9 harg9 arg10 harg10 arg11 harg11 arg12 harg12 x0 x1 x2 x3 x4 x5 x6 x7 (ix4 0 h r d)
      = tile x3 x4 x7 x1 x6 (ix2 r ⟨64 * h.val + d.val, by omega⟩) := by
  unfold out0_A_9
  rw [View.read_writes_apply_eq_canon _ _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 _)]
  refine View.canon_eq_of_allAt _ _ _ (cover0_A_9 c i arg2 harg2 arg3 harg3 arg4 harg4 arg5 harg5 arg6 harg6 arg7 harg7 arg8 harg8 arg9 harg9 arg10 harg10 arg11 harg11 arg12 harg12 x0 x1 x2 x3 x4 x5 x6 x7 _) ?_
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x1024x128) hz3, View.ld_unit_zero (S := S1024x128) hz2, View.ld_unit_zero (S := S1x128) hz2,
    View.ld_unit_zero (S := S128x128) hz2]
  simp only [pay4_eq, pay5_eq, pay6_eq]
  refine View.allAt_cons_unit _ _ _ _ _ (k_1 x3 x4 x7 x1 x6 h r d) ?_
  refine View.allAt_cons_unit _ _ _ _ _ (k_0 x3 x4 x7 x1 x6 h r d) ?_
  exact View.allAt_nil _ _

theorem out10_apply (c : Dev nD) (i : grid0.Coords) (arg2 : Memref sig .tc .vmem S1x1024x512 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x8x64x1024 .bf16) (harg10 : arg10.IsWhole) (arg11 : Memref sig .tc .vmem S1x2x1024x64 .bf16) (harg11 : arg11.IsWhole) (arg12 : Memref sig .tc .vmem S1x2x80x1024 .bf16) (harg12 : arg12.IsWhole)
    (x0 : Vec Ideal S1x1024x512 .bf16) (x1 : Vec Ideal S1x1024x128 .bf16) (x2 : Vec Ideal S1x1024x128 .bf16) (x3 : Vec Ideal S1024x128 .f32) (x4 : Vec Ideal S1024x128 .f32) (x5 : Vec Ideal S1x128 .f32) (x6 : Vec Ideal S1x128 .f32) (x7 : Vec Ideal S128x128 .bf16)
    (h : Fin 2) (a : Fin 80) (r : Fin 1024) :
    out0_A_10 c i arg2 harg2 arg3 harg3 arg4 harg4 arg5 harg5 arg6 harg6 arg7 harg7 arg8 harg8 arg9 harg9 arg10 harg10 arg11 harg11 arg12 harg12 x0 x1 x2 x3 x4 x5 x6 x7 (ix4 0 h a r)
      = vrow x2 h a r := by
  unfold out0_A_10
  rw [View.read_writes_apply_eq_canon _ _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 x7 _)]
  refine View.canon_eq_of_allAt _ _ _ (cover0_A_10 c i arg2 harg2 arg3 harg3 arg4 harg4 arg5 harg5 arg6 harg6 arg7 harg7 arg8 harg8 arg9 harg9 arg10 harg10 arg11 harg11 arg12 harg12 x0 x1 x2 x3 x4 x5 x6 x7 _) ?_
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S1x1024x128) hz3, View.ld_unit_zero (S := S1024x128) hz2, View.ld_unit_zero (S := S1x128) hz2,
    View.ld_unit_zero (S := S128x128) hz2]
  refine View.allAt_cons_unit _ _ _ _ _ (v_tail1 x2 h a r) ?_
  refine View.allAt_cons_unit _ _ _ _ _ (v_body1 x2 h a r) ?_
  refine View.allAt_cons_unit _ _ _ _ _ (v_tail0 x2 h a r) ?_
  refine View.allAt_cons_unit _ _ _ _ _ (v_body0 x2 h a r) ?_
  exact View.allAt_nil _ _

end Cert.PrepValue
end
end
-- ==== Proof.PrepBlocks.lean ====
/-
  The preparation call's input blocks read at one element, and the tables the host lays out for it.
-/
module

public import proofs.«01_k».proof.Proof.PrepCases
public import Idealize.ShloMosaic.Lib.Claim
public import Idealize.ShloMosaic.Lib.StableHlo.RunRead

@[expose] public section

set_option maxRecDepth 16384

noncomputable section

namespace Cert.PrepValue

open Cert.PrepIdeal Cert.PrepIdeal.Gen Idealize.ShloMosaic Idealize.ShloMosaic.TcCoe Idealize.SL.Sem Idealize.ShloMosaic.StableHlo

/-- Four tables of 16 columns side by side. -/
def cat4 (a b c d : FVec Ideal S8192x16 .f32) : FVec Ideal S8192x64 .f32 :=
  concatenate S8192x64 1 [⟨S8192x16, a⟩, ⟨S8192x16, b⟩, ⟨S8192x16, c⟩, ⟨S8192x16, d⟩] concatenates_S8192x16_S8192x16_S8192x16_S8192x16_S8192x64_d1

/-- 64 columns repeated twice. -/
def twice (x : FVec Ideal S8192x64 .f32) : FVec Ideal S8192x128 .f32 :=
  shapeCast S8192x128 (broadcastInDim S1x8192x2x64 ![0, 1, 2, 3] bcast_S1x8192x1x64_S1x8192x2x64_0_1_2_3
    (shapeCast S1x8192x1x64 x shapeCasts_S8192x64_S1x8192x1x64)) shapeCasts_S1x8192x2x64_S8192x128

/-- A gain repeated twice. -/
def gain (g : FVec Ideal S64 .f32) : FVec Ideal S1x128 .f32 :=
  broadcastInDim S1x128 ![1] bcast_S128_S1x128_1 (shapeCast S128 (broadcastInDim S2x64 ![0, 1] bcast_S1x64_S2x64_0_1
    (shapeCast S1x64 g shapeCasts_S64_S1x64)) shapeCasts_S2x64_S128)

/-- The averaging matrix: 1/64 inside each head's 64 lanes. -/
def means : FVec Ideal S128x128 .bf16 :=
  truncf (F := Ideal) .bf16 (select (cmpi .eq (andi (iotaInDim S128x128 32 0) (broadcastInDim S128x128 ![] bcast_S_S128x128 (constantI S_ 32 64#32)))
    (andi (iotaInDim S128x128 32 1) (broadcastInDim S128x128 ![] bcast_S_S128x128 (constantI S_ 32 64#32))))
    (broadcastInDim S128x128 ![] bcast_S_S128x128 (constant (F := Ideal) S_ .f32 0x3C800000#32))
    (broadcastInDim S128x128 ![] bcast_S_S128x128 (constant (F := Ideal) S_ .f32 0x00000000#32))) bitsLt_bf16_f32

theorem twice_apply (x : FVec Ideal S8192x64 .f32) (s : Fin 8192) (l : Fin 128) : twice x (ix2 s l) = x (ix2 s ⟨l.val % 64, by omega⟩) := by
  unfold twice
  refine (shapeCast_apply _ _ _ (ix4 (0 : Fin 1) s (⟨l.val / 64, by omega⟩ : Fin 2) (⟨l.val % 64, by omega⟩ : Fin 64)) ?_).trans ?_
  · rw [Shape.rowMajor_val_four, Shape.rowMajor_val_two]
    show ((0 * 8192 + s.val) * 2 + l.val / 64) * 64 + l.val % 64 = s.val * 128 + l.val
    omega
  pointwise []

theorem gain_apply (g : FVec Ideal S64 .f32) (u : Fin 1) (l : Fin 128) : gain g (ix2 u l) = g (ix1 ⟨l.val % 64, by omega⟩) := by
  have h : gain g (ix2 u l) = shapeCast S128 (broadcastInDim S2x64 ![0, 1] bcast_S1x64_S2x64_0_1
    (shapeCast S1x64 g shapeCasts_S64_S1x64)) shapeCasts_S2x64_S128 (ix1 l) := by
    unfold gain
    generalize shapeCast S128 _ _ = y
    pointwise []
  rw [h]
  refine (shapeCast_apply _ _ _ (ix2 (⟨l.val / 64, by omega⟩ : Fin 2) (⟨l.val % 64, by omega⟩ : Fin 64)) ?_).trans ?_
  · rw [Shape.rowMajor_val_two, Shape.rowMajor_val_one]
    show l.val / 64 * 64 + l.val % 64 = l.val
    omega
  pointwise []

theorem bits_facts : ∀ a b : Fin 128, IntOp.cmpi .eq (IntOp.andi (BitVec.ofNat 32 a.val) 64#32) (IntOp.andi (BitVec.ofNat 32 b.val) 64#32)
    = if a.val / 64 = b.val / 64 then 1#1 else 0#1 := by decide +kernel

theorem means_apply (a b : Fin 128) :
    means (ix2 a b) = if a.val / 64 = b.val / 64 then Ideal.ofBits .f32 0x3C800000#32 else Ideal.ofBits .f32 0x00000000#32 := by
  have h : means (ix2 a b) = if IntOp.cmpi .eq (IntOp.andi (BitVec.ofNat 32 a.val) 64#32) (IntOp.andi (BitVec.ofNat 32 b.val) 64#32) = 1#1
      then Ideal.ofBits .f32 0x3C800000#32 else Ideal.ofBits .f32 0x00000000#32 := by
    rfl
  rw [h, bits_facts]
  split_ifs <;> first | rfl | simp_all

section
variable (a b c d : FVec Ideal S8192x16 .f32) (s : Fin 8192) (l : Fin 64)

theorem cat4_0 (h : 0 ≤ l.val) (h' : l.val < 16) : cat4 a b c d (ix2 s l) = a (ix2 s ⟨l.val % 16, by omega⟩) :=
  (concatenate_apply_piece (t := S8192x64) 1 [⟨S8192x16, a⟩, ⟨S8192x16, b⟩, ⟨S8192x16, c⟩, ⟨S8192x16, d⟩]
    concatenates_S8192x16_S8192x16_S8192x16_S8192x16_S8192x64_d1 (ix2 s l) 0 (by show 0 < 4; decide) S8192x16 a rfl rfl 0 rfl
    (ix2 s ⟨l.val % 16, by omega⟩) (fun b hb => match b, hb with | ⟨0, _⟩, _ => rfl | ⟨1, _⟩, hb => absurd rfl hb)
    (by show 0 + l.val % 16 = l.val; omega))

theorem cat4_1 (h : 16 ≤ l.val) (h' : l.val < 32) : cat4 a b c d (ix2 s l) = b (ix2 s ⟨l.val % 16, by omega⟩) :=
  (concatenate_apply_piece (t := S8192x64) 1 [⟨S8192x16, a⟩, ⟨S8192x16, b⟩, ⟨S8192x16, c⟩, ⟨S8192x16, d⟩]
    concatenates_S8192x16_S8192x16_S8192x16_S8192x16_S8192x64_d1 (ix2 s l) 1 (by show 1 < 4; decide) S8192x16 b rfl rfl 16 rfl
    (ix2 s ⟨l.val % 16, by omega⟩) (fun b hb => match b, hb with | ⟨0, _⟩, _ => rfl | ⟨1, _⟩, hb => absurd rfl hb)
    (by show 16 + l.val % 16 = l.val; omega))

theorem cat4_2 (h : 32 ≤ l.val) (h' : l.val < 48) : cat4 a b c d (ix2 s l) = c (ix2 s ⟨l.val % 16, by omega⟩) :=
  (concatenate_apply_piece (t := S8192x64) 1 [⟨S8192x16, a⟩, ⟨S8192x16, b⟩, ⟨S8192x16, c⟩, ⟨S8192x16, d⟩]
    concatenates_S8192x16_S8192x16_S8192x16_S8192x16_S8192x64_d1 (ix2 s l) 2 (by show 2 < 4; decide) S8192x16 c rfl rfl 32 rfl
    (ix2 s ⟨l.val % 16, by omega⟩) (fun b hb => match b, hb with | ⟨0, _⟩, _ => rfl | ⟨1, _⟩, hb => absurd rfl hb)
    (by show 32 + l.val % 16 = l.val; omega))

theorem cat4_3 (h : 48 ≤ l.val) (h' : l.val < 64) : cat4 a b c d (ix2 s l) = d (ix2 s ⟨l.val % 16, by omega⟩) :=
  (concatenate_apply_piece (t := S8192x64) 1 [⟨S8192x16, a⟩, ⟨S8192x16, b⟩, ⟨S8192x16, c⟩, ⟨S8192x16, d⟩]
    concatenates_S8192x16_S8192x16_S8192x16_S8192x16_S8192x64_d1 (ix2 s l) 3 (by show 3 < 4; decide) S8192x16 d rfl rfl 48 rfl
    (ix2 s ⟨l.val % 16, by omega⟩) (fun b hb => match b, hb with | ⟨0, _⟩, _ => rfl | ⟨1, _⟩, hb => absurd rfl hb)
    (by show 48 + l.val % 16 = l.val; omega))
end

variable (m : (ℓ : Loc nD τ sig) → Buf (Elt Ideal) ℓ) (c : Dev nD)

/-- The launch's arguments, as the arrays of numbers that they are. -/
abbrev a0 : FVec Ideal S2x8192x4096 .bf16 := m ((c : Thread nD τ).loc main_arg0)
abbrev a1 : FVec Ideal S8192x16 .f32 := m ((c : Thread nD τ).loc main_arg1)
abbrev a2 : FVec Ideal S8192x16 .f32 := m ((c : Thread nD τ).loc main_arg2)
abbrev a3 : FVec Ideal S8192x16 .f32 := m ((c : Thread nD τ).loc main_arg3)
abbrev a4 : FVec Ideal S8192x16 .f32 := m ((c : Thread nD τ).loc main_arg4)
abbrev a5 : FVec Ideal S64 .f32 := m ((c : Thread nD τ).loc main_arg5)
abbrev a6 : FVec Ideal S64 .f32 := m ((c : Thread nD τ).loc main_arg6)

theorem V_v3 : V m c main_v3 = twice (cat4 (a1 m c) (a1 m c) (a3 m c) (a3 m c)) := by
  show StableHlo.after (hostOps0 ++ (hostOps0_1 ++ (hostOps0_2 ++ []))) _ _ = _
  after_reads_simp
  rfl

theorem V_v9 : V m c main_v9 = twice (cat4 (Host.negf (a2 m c)) (a2 m c) (Host.negf (a4 m c)) (a4 m c)) := by
  show StableHlo.after (hostOps0 ++ (hostOps0_1 ++ (hostOps0_2 ++ []))) _ _ = _
  after_reads_simp
  rfl

theorem V_v22 : V m c main_v22 = gain (a5 m c) := by
  show StableHlo.after (hostOps0 ++ (hostOps0_1 ++ (hostOps0_2 ++ []))) _ _ = _
  after_reads_simp
  rfl

theorem V_v26 : V m c main_v26 = gain (a6 m c) := by
  show StableHlo.after (hostOps0 ++ (hostOps0_1 ++ (hostOps0_2 ++ []))) _ _ = _
  after_reads_simp
  rfl

theorem V_v18 : V m c main_v18 = means := by
  show StableHlo.after (hostOps0 ++ (hostOps0_1 ++ (hostOps0_2 ++ []))) _ _ = _
  after_reads_simp
  rfl

theorem index_facts : ∀ t : Fin cfg0.N,
    (win0_0.index t (0 : Fin 3) = t.val / 8 ∧ win0_0.index t (1 : Fin 3) = t.val % 8 ∧ win0_0.index t (2 : Fin 3) = 3)
    ∧ (win0_1.index t (0 : Fin 3) = t.val / 8 ∧ win0_1.index t (1 : Fin 3) = t.val % 8 ∧ win0_1.index t (2 : Fin 3) = 28)
    ∧ (win0_2.index t (0 : Fin 3) = t.val / 8 ∧ win0_2.index t (1 : Fin 3) = t.val % 8 ∧ win0_2.index t (2 : Fin 3) = 29)
    ∧ (win0_3.index t (0 : Fin 2) = t.val % 8 ∧ win0_3.index t (1 : Fin 2) = 0)
    ∧ (win0_4.index t (0 : Fin 2) = t.val % 8 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

theorem out_facts : ∀ t : Fin cfg0.N,
    (win0_8.index t (0 : Fin 4) = t.val / 8 ∧ win0_8.index t (1 : Fin 4) = 0 ∧ win0_8.index t (2 : Fin 4) = 0 ∧ win0_8.index t (3 : Fin 4) = t.val % 8)
    ∧ (win0_9.index t (0 : Fin 4) = t.val / 8 ∧ win0_9.index t (1 : Fin 4) = 0 ∧ win0_9.index t (2 : Fin 4) = t.val % 8 ∧ win0_9.index t (3 : Fin 4) = 0)
    ∧ (win0_10.index t (0 : Fin 4) = t.val / 8 ∧ win0_10.index t (1 : Fin 4) = 0 ∧ win0_10.index t (2 : Fin 4) = 0 ∧ win0_10.index t (3 : Fin 4) = t.val % 8)
    ∧ (cfg0.win 8).flush t = true ∧ (cfg0.win 9).flush t = true ∧ (cfg0.win 10).flush t = true :=
  (by decide +kernel : ∀ t : Fin grid0.N, _)

theorem lt_N (t : Fin cfg0.N) : t.val < 16 := lt_of_lt_of_eq t.isLt (show cfg0.N = 16 from N_0)

/-- The batch of grid point `t`. -/
def bOf (t : Fin cfg0.N) : Fin 2 := ⟨t.val / 8, by have := lt_N t; omega⟩
/-- The position of row `r` of grid point `t`'s block. -/
def sOf (t : Fin cfg0.N) (r : Fin 1024) : Fin 8192 := ⟨1024 * (t.val % 8) + r.val, by omega⟩

theorem blk0 (t : Fin cfg0.N) (r : Fin 1024) (d : Fin 512) :
    (iblk m c 0 t : Vec Ideal S1x1024x512 .bf16) (ix3 0 r d) = a0 m c (ix3 (bOf t) (sOf t r) ⟨1536 + d.val, by omega⟩) := by
  obtain ⟨⟨e0, e1, e2⟩, -⟩ := index_facts t
  refine (congrFun (V_main_arg0 m c) _).trans (congrArg (a0 m c) (funext fun a => Fin.ext ?_))
  match a with
  | ⟨0, _⟩ => show win0_0.index t (0 : Fin 3) * 1 + 1 * 0 = t.val / 8; omega
  | ⟨1, _⟩ => show win0_0.index t (1 : Fin 3) * 1024 + 1 * r.val = 1024 * (t.val % 8) + r.val; omega
  | ⟨2, _⟩ => show win0_0.index t (2 : Fin 3) * 512 + 1 * d.val = 1536 + d.val; omega

theorem blk1 (t : Fin cfg0.N) (r : Fin 1024) (d : Fin 128) :
    (iblk m c 1 t : Vec Ideal S1x1024x128 .bf16) (ix3 0 r d) = a0 m c (ix3 (bOf t) (sOf t r) ⟨3584 + d.val, by omega⟩) := by
  obtain ⟨-, ⟨e0, e1, e2⟩, -⟩ := index_facts t
  refine (congrFun (V_main_arg0 m c) _).trans (congrArg (a0 m c) (funext fun a => Fin.ext ?_))
  match a with
  | ⟨0, _⟩ => show win0_1.index t (0 : Fin 3) * 1 + 1 * 0 = t.val / 8; omega
  | ⟨1, _⟩ => show win0_1.index t (1 : Fin 3) * 1024 + 1 * r.val = 1024 * (t.val % 8) + r.val; omega
  | ⟨2, _⟩ => show win0_1.index t (2 : Fin 3) * 128 + 1 * d.val = 3584 + d.val; omega

theorem blk2 (t : Fin cfg0.N) (r : Fin 1024) (d : Fin 128) :
    (iblk m c 2 t : Vec Ideal S1x1024x128 .bf16) (ix3 0 r d) = a0 m c (ix3 (bOf t) (sOf t r) ⟨3712 + d.val, by omega⟩) := by
  obtain ⟨-, -, ⟨e0, e1, e2⟩, -⟩ := index_facts t
  refine (congrFun (V_main_arg0 m c) _).trans (congrArg (a0 m c) (funext fun a => Fin.ext ?_))
  match a with
  | ⟨0, _⟩ => show win0_2.index t (0 : Fin 3) * 1 + 1 * 0 = t.val / 8; omega
  | ⟨1, _⟩ => show win0_2.index t (1 : Fin 3) * 1024 + 1 * r.val = 1024 * (t.val % 8) + r.val; omega
  | ⟨2, _⟩ => show win0_2.index t (2 : Fin 3) * 128 + 1 * d.val = 3712 + d.val; omega

theorem blk3 (t : Fin cfg0.N) (r : Fin 1024) (l : Fin 128) :
    (iblk m c 3 t : Vec Ideal S1024x128 .f32) (ix2 r l) = twice (cat4 (a1 m c) (a1 m c) (a3 m c) (a3 m c)) (ix2 (sOf t r) l) := by
  obtain ⟨-, -, -, ⟨e0, e1⟩, -⟩ := index_facts t
  refine (congrFun (V_v3 m c) _).trans (congrArg (twice (cat4 (a1 m c) (a1 m c) (a3 m c) (a3 m c))) (funext fun a => Fin.ext ?_))
  match a with
  | ⟨0, _⟩ => show win0_3.index t (0 : Fin 2) * 1024 + 1 * r.val = 1024 * (t.val % 8) + r.val; omega
  | ⟨1, _⟩ => show win0_3.index t (1 : Fin 2) * 128 + 1 * l.val = l.val; omega

theorem blk4 (t : Fin cfg0.N) (r : Fin 1024) (l : Fin 128) :
    (iblk m c 4 t : Vec Ideal S1024x128 .f32) (ix2 r l) = twice (cat4 (Host.negf (a2 m c)) (a2 m c) (Host.negf (a4 m c)) (a4 m c)) (ix2 (sOf t r) l) := by
  obtain ⟨-, -, -, -, ⟨e0, e1⟩, -⟩ := index_facts t
  refine (congrFun (V_v9 m c) _).trans (congrArg (twice (cat4 (Host.negf (a2 m c)) (a2 m c) (Host.negf (a4 m c)) (a4 m c))) (funext fun a => Fin.ext ?_))
  match a with
  | ⟨0, _⟩ => show win0_4.index t (0 : Fin 2) * 1024 + 1 * r.val = 1024 * (t.val % 8) + r.val; omega
  | ⟨1, _⟩ => show win0_4.index t (1 : Fin 2) * 128 + 1 * l.val = l.val; omega

theorem blk5 (t : Fin cfg0.N) (r : Fin 1) (l : Fin 128) :
    (iblk m c 5 t : Vec Ideal S1x128 .f32) (ix2 r l) = gain (a5 m c) (ix2 (r) l) := by
  obtain ⟨-, -, -, -, -, ⟨e0, e1⟩, -⟩ := index_facts t
  refine (congrFun (V_v22 m c) _).trans (congrArg (gain (a5 m c)) (funext fun a => Fin.ext ?_))
  match a with
  | ⟨0, _⟩ => show win0_5.index t (0 : Fin 2) * 1 + 1 * r.val = r.val; omega
  | ⟨1, _⟩ => show win0_5.index t (1 : Fin 2) * 128 + 1 * l.val = l.val; omega

theorem blk6 (t : Fin cfg0.N) (r : Fin 1) (l : Fin 128) :
    (iblk m c 6 t : Vec Ideal S1x128 .f32) (ix2 r l) = gain (a6 m c) (ix2 (r) l) := by
  obtain ⟨-, -, -, -, -, -, ⟨e0, e1⟩, -⟩ := index_facts t
  refine (congrFun (V_v26 m c) _).trans (congrArg (gain (a6 m c)) (funext fun a => Fin.ext ?_))
  match a with
  | ⟨0, _⟩ => show win0_6.index t (0 : Fin 2) * 1 + 1 * r.val = r.val; omega
  | ⟨1, _⟩ => show win0_6.index t (1 : Fin 2) * 128 + 1 * l.val = l.val; omega

theorem blk7 (t : Fin cfg0.N) (r : Fin 128) (l : Fin 128) :
    (iblk m c 7 t : Vec Ideal S128x128 .bf16) (ix2 r l) = means (ix2 (r) l) := by
  obtain ⟨-, -, -, -, -, -, -, ⟨e0, e1⟩⟩ := index_facts t
  refine (congrFun (V_v18 m c) _).trans (congrArg (means) (funext fun a => Fin.ext ?_))
  match a with
  | ⟨0, _⟩ => show win0_7.index t (0 : Fin 2) * 128 + 1 * r.val = r.val; omega
  | ⟨1, _⟩ => show win0_7.index t (1 : Fin 2) * 128 + 1 * l.val = l.val; omega

end Cert.PrepValue
end
end
-- ==== Proof.PrepRef.lean ====
/-
  The preparation reference, element by element: heads normalised and rotated by their tokens' positions, values with a
  row of ones.
-/
module

public import proofs.«01_k».proof.Proof.Gen.PrepReferenceIdeal.Read
public import Idealize.ShloMosaic.Lib.KernelVsHost
public import Idealize.ShloMosaic.Lib.Pointwise

@[expose] public section

set_option maxRecDepth 16384

noncomputable section

namespace Cert.PrepRef

open Cert.PrepReferenceIdeal Cert.PrepReferenceIdeal.Gen Cert.PrepReferenceIdeal.Read Idealize.ShloMosaic Idealize.ShloMosaic.TcCoe Idealize.SL.Sem

/-- A head divided by its root mean square and scaled by the gain. -/
def rnorm (x g : Fin 64 → EReal) (d : Fin 64) : EReal :=
  x d * Ideal.rsqrt (Ideal.div (∑ k : Fin 64, x k * x k) (Ideal.ofBits .f32 0x42800000#32) + Ideal.ofBits .f32 0x358637BD#32) * g d

/-- The first or second half of a half of a head, rotated. -/
def rlow (co si a b : EReal) : EReal := a * co - b * si
def rhigh (co si a b : EReal) : EReal := b * co + a * si

/-- A head's two halves rotated, the first by the row, the second by the column of its token. -/
def rrope (cr sr cc sc : Fin 16 → EReal) (y : Fin 64 → EReal) (d : Fin 64) : EReal :=
  if h0 : d.val < 16 then rlow (cr ⟨d.val, h0⟩) (sr ⟨d.val, h0⟩) (y d) (y ⟨16 + d.val, by omega⟩)
  else if h1 : d.val < 32 then rhigh (cr ⟨d.val - 16, by omega⟩) (sr ⟨d.val - 16, by omega⟩) (y ⟨d.val - 16, by omega⟩) (y d)
  else if h2 : d.val < 48 then rlow (cc ⟨d.val - 32, by omega⟩) (sc ⟨d.val - 32, by omega⟩) (y d) (y ⟨16 + d.val, by omega⟩)
  else rhigh (cc ⟨d.val - 48, by omega⟩) (sc ⟨d.val - 48, by omega⟩) (y ⟨d.val - 16, by omega⟩) (y d)

section
variable (x0 : FVec Ideal S2x8192x4096 .bf16) (x1 x2 x3 x4 : FVec Ideal S8192x16 .f32) (g : FVec Ideal S64 .f32)

theorem q_x_apply (b : Fin 2) (s : Fin 8192) (h : Fin 8) (d : Fin 64) :
    val_main_v2 (F := Ideal) x0 (ix4 b s h d) = x0 (ix3 b s ⟨1536 + 64 * h.val + d.val, by omega⟩) := by
  unfold val_main_v2
  refine (shapeCast_apply _ _ _ (ix3 b s (⟨64 * h.val + d.val, by omega⟩ : Fin 512)) ?_).trans ?_
  · rw [Shape.rowMajor_val_four, Shape.rowMajor_val_three]
    show (b.val * 8192 + s.val) * 512 + (64 * h.val + d.val) = ((b.val * 8192 + s.val) * 8 + h.val) * 64 + d.val
    omega
  pointwise [val_main_v1, val_main_v0]
  exact congrArg x0 (congrArg (ix3 b s) (Fin.ext (by show 1536 + (64 * h.val + d.val) = 1536 + 64 * h.val + d.val; omega)))

theorem q_norm_apply (b : Fin 2) (s : Fin 8192) (h : Fin 8) (d : Fin 64) :
    val_main_v15 (F := Ideal) x0 g (ix4 b s h d)
      = rnorm (fun k => x0 (ix3 b s ⟨1536 + 64 * h.val + k.val, by omega⟩)) (fun k => g (ix1 k)) d := by
  have hx := q_x_apply x0 b s h
  unfold val_main_v15 val_main_v14 val_main_v13 val_main_v12 val_main_v11 val_main_v10 val_main_v9 val_main_v8 val_main_cst_1 val_main_v7 val_main_v6 val_main_cst_0 val_main_v5 val_main_v4 val_main_cst val_main_v3
  generalize val_main_v2 (F := Ideal) x0 = y at hx ⊢
  simp only [rnorm, ← hx]
  pointwise [val_main_cst, val_main_cst_0, val_main_cst_1]

theorem q_row_lo_apply (b : Fin 2) (s : Fin 8192) (h : Fin 8) (d : Fin 16) :
    val_main_v43 (F := Ideal) x0 x1 x2 g (ix4 b s h d)
      = rlow (x1 (ix2 s d)) (x2 (ix2 s d)) (val_main_v15 (F := Ideal) x0 g (ix4 b s h ⟨0 + d.val, by omega⟩))
          (val_main_v15 (F := Ideal) x0 g (ix4 b s h ⟨16 + d.val, by omega⟩)) := by
  unfold val_main_v43 val_main_v42 val_main_v41 val_main_v40 val_main_v39 val_main_v38 val_main_v37 val_main_v36 val_main_v35 val_main_v34 val_main_v33 val_main_v31
  generalize val_main_v15 (F := Ideal) x0 g = y
  pointwise [rlow]

theorem q_row_hi_apply (b : Fin 2) (s : Fin 8192) (h : Fin 8) (d : Fin 16) :
    val_main_v50 (F := Ideal) x0 x1 x2 g (ix4 b s h d)
      = rhigh (x1 (ix2 s d)) (x2 (ix2 s d)) (val_main_v15 (F := Ideal) x0 g (ix4 b s h ⟨0 + d.val, by omega⟩))
          (val_main_v15 (F := Ideal) x0 g (ix4 b s h ⟨16 + d.val, by omega⟩)) := by
  unfold val_main_v50 val_main_v49 val_main_v48 val_main_v47 val_main_v46 val_main_v45 val_main_v44 val_main_v36 val_main_v35 val_main_v34 val_main_v33 val_main_v31
  generalize val_main_v15 (F := Ideal) x0 g = y
  pointwise [rhigh]

theorem q_col_lo_apply (b : Fin 2) (s : Fin 8192) (h : Fin 8) (d : Fin 16) :
    val_main_v62 (F := Ideal) x0 x3 x4 g (ix4 b s h d)
      = rlow (x3 (ix2 s d)) (x4 (ix2 s d)) (val_main_v15 (F := Ideal) x0 g (ix4 b s h ⟨32 + d.val, by omega⟩))
          (val_main_v15 (F := Ideal) x0 g (ix4 b s h ⟨32 + (16 + d.val), by omega⟩)) := by
  unfold val_main_v62 val_main_v61 val_main_v60 val_main_v59 val_main_v58 val_main_v57 val_main_v56 val_main_v55 val_main_v54 val_main_v53 val_main_v52 val_main_v32
  generalize val_main_v15 (F := Ideal) x0 g = y
  pointwise [rlow]

theorem q_col_hi_apply (b : Fin 2) (s : Fin 8192) (h : Fin 8) (d : Fin 16) :
    val_main_v69 (F := Ideal) x0 x3 x4 g (ix4 b s h d)
      = rhigh (x3 (ix2 s d)) (x4 (ix2 s d)) (val_main_v15 (F := Ideal) x0 g (ix4 b s h ⟨32 + d.val, by omega⟩))
          (val_main_v15 (F := Ideal) x0 g (ix4 b s h ⟨32 + (16 + d.val), by omega⟩)) := by
  unfold val_main_v69 val_main_v68 val_main_v67 val_main_v66 val_main_v65 val_main_v64 val_main_v63 val_main_v55 val_main_v54 val_main_v53 val_main_v52 val_main_v32
  generalize val_main_v15 (F := Ideal) x0 g = y
  pointwise [rhigh]

theorem q_row_apply (b : Fin 2) (s : Fin 8192) (h : Fin 8) (d : Fin 32) :
    val_main_v51 (F := Ideal) x0 x1 x2 g (ix4 b s h d)
      = if h0 : d.val < 16 then val_main_v43 (F := Ideal) x0 x1 x2 g (ix4 b s h ⟨d.val, h0⟩)
        else val_main_v50 (F := Ideal) x0 x1 x2 g (ix4 b s h ⟨d.val - 16, by omega⟩) := by
  unfold val_main_v51
  split_ifs with h0
  · exact (concatenate_apply_piece (t := S2x8192x8x32) 3 _ _ (ix4 b s h d) 0 (by show 0 < 2; decide) S2x8192x8x16
      (val_main_v43 (F := Ideal) x0 x1 x2 g) rfl rfl 0 rfl (ix4 b s h ⟨d.val, h0⟩)
      (fun a ha => match a, ha with | ⟨0, _⟩, _ => rfl | ⟨1, _⟩, _ => rfl | ⟨2, _⟩, _ => rfl | ⟨3, _⟩, ha => absurd rfl ha)
      (by show 0 + d.val = d.val; omega))
  · exact (concatenate_apply_piece (t := S2x8192x8x32) 3 _ _ (ix4 b s h d) 1 (by show 1 < 2; decide) S2x8192x8x16
      (val_main_v50 (F := Ideal) x0 x1 x2 g) rfl rfl 16 rfl (ix4 b s h ⟨d.val - 16, by omega⟩)
      (fun a ha => match a, ha with | ⟨0, _⟩, _ => rfl | ⟨1, _⟩, _ => rfl | ⟨2, _⟩, _ => rfl | ⟨3, _⟩, ha => absurd rfl ha)
      (by show 16 + (d.val - 16) = d.val; omega))

theorem q_col_apply (b : Fin 2) (s : Fin 8192) (h : Fin 8) (d : Fin 32) :
    val_main_v70 (F := Ideal) x0 x3 x4 g (ix4 b s h d)
      = if h0 : d.val < 16 then val_main_v62 (F := Ideal) x0 x3 x4 g (ix4 b s h ⟨d.val, h0⟩)
        else val_main_v69 (F := Ideal) x0 x3 x4 g (ix4 b s h ⟨d.val - 16, by omega⟩) := by
  unfold val_main_v70
  split_ifs with h0
  · exact (concatenate_apply_piece (t := S2x8192x8x32) 3 _ _ (ix4 b s h d) 0 (by show 0 < 2; decide) S2x8192x8x16
      (val_main_v62 (F := Ideal) x0 x3 x4 g) rfl rfl 0 rfl (ix4 b s h ⟨d.val, h0⟩)
      (fun a ha => match a, ha with | ⟨0, _⟩, _ => rfl | ⟨1, _⟩, _ => rfl | ⟨2, _⟩, _ => rfl | ⟨3, _⟩, ha => absurd rfl ha)
      (by show 0 + d.val = d.val; omega))
  · exact (concatenate_apply_piece (t := S2x8192x8x32) 3 _ _ (ix4 b s h d) 1 (by show 1 < 2; decide) S2x8192x8x16
      (val_main_v69 (F := Ideal) x0 x3 x4 g) rfl rfl 16 rfl (ix4 b s h ⟨d.val - 16, by omega⟩)
      (fun a ha => match a, ha with | ⟨0, _⟩, _ => rfl | ⟨1, _⟩, _ => rfl | ⟨2, _⟩, _ => rfl | ⟨3, _⟩, ha => absurd rfl ha)
      (by show 16 + (d.val - 16) = d.val; omega))

theorem q_both_apply (b : Fin 2) (s : Fin 8192) (h : Fin 8) (d : Fin 64) :
    val_main_v71 (F := Ideal) x0 x1 x2 x3 x4 g (ix4 b s h d)
      = if h0 : d.val < 32 then val_main_v51 (F := Ideal) x0 x1 x2 g (ix4 b s h ⟨d.val, h0⟩)
        else val_main_v70 (F := Ideal) x0 x3 x4 g (ix4 b s h ⟨d.val - 32, by omega⟩) := by
  unfold val_main_v71
  split_ifs with h0
  · exact (concatenate_apply_piece (t := S2x8192x8x64) 3 _ _ (ix4 b s h d) 0 (by show 0 < 2; decide) S2x8192x8x32
      (val_main_v51 (F := Ideal) x0 x1 x2 g) rfl rfl 0 rfl (ix4 b s h ⟨d.val, h0⟩)
      (fun a ha => match a, ha with | ⟨0, _⟩, _ => rfl | ⟨1, _⟩, _ => rfl | ⟨2, _⟩, _ => rfl | ⟨3, _⟩, ha => absurd rfl ha)
      (by show 0 + d.val = d.val; omega))
  · exact (concatenate_apply_piece (t := S2x8192x8x64) 3 _ _ (ix4 b s h d) 1 (by show 1 < 2; decide) S2x8192x8x32
      (val_main_v70 (F := Ideal) x0 x3 x4 g) rfl rfl 32 rfl (ix4 b s h ⟨d.val - 32, by omega⟩)
      (fun a ha => match a, ha with | ⟨0, _⟩, _ => rfl | ⟨1, _⟩, _ => rfl | ⟨2, _⟩, _ => rfl | ⟨3, _⟩, ha => absurd rfl ha)
      (by show 32 + (d.val - 32) = d.val; omega))

theorem q_rope_apply (b : Fin 2) (s : Fin 8192) (h : Fin 8) (d : Fin 64) :
    val_main_v71 (F := Ideal) x0 x1 x2 x3 x4 g (ix4 b s h d)
      = rrope (fun e => x1 (ix2 s e)) (fun e => x2 (ix2 s e)) (fun e => x3 (ix2 s e)) (fun e => x4 (ix2 s e))
          (rnorm (fun k => x0 (ix3 b s ⟨1536 + 64 * h.val + k.val, by omega⟩)) (fun k => g (ix1 k))) d := by
  have hn : (fun d => val_main_v15 (F := Ideal) x0 g (ix4 b s h d)) = _ := funext fun d => q_norm_apply x0 g b s h d
  rw [← hn, q_both_apply]
  unfold rrope
  by_cases h0 : d.val < 16
  · rw [dif_pos h0, dif_pos (by omega), q_row_apply, dif_pos h0, q_row_lo_apply]
    simp only [Nat.zero_add]
  by_cases h1 : d.val < 32
  · rw [dif_neg h0, dif_pos h1, dif_pos h1, q_row_apply, dif_neg h0, q_row_hi_apply]
    simp only [Nat.zero_add, show 16 + (d.val - 16) = d.val by omega]
  by_cases h2 : d.val < 48
  · rw [dif_neg h0, dif_neg h1, dif_neg h1, dif_pos h2, q_col_apply, dif_pos (by show d.val - 32 < 16; omega), q_col_lo_apply]
    simp only [show 32 + (d.val - 32) = d.val by omega, show 32 + (16 + (d.val - 32)) = 16 + d.val by omega]
  · rw [dif_neg h0, dif_neg h1, dif_neg h1, dif_neg h2, q_col_apply, dif_neg (by show ¬ d.val - 32 < 16; omega), q_col_hi_apply]
    simp only [show d.val - 32 - 16 = d.val - 48 by omega, show 32 + (d.val - 48) = d.val - 16 by omega, show 32 + (16 + (d.val - 48)) = d.val by omega]

theorem k_x_apply (b : Fin 2) (s : Fin 8192) (h : Fin 2) (d : Fin 64) :
    val_main_v17 (F := Ideal) x0 (ix4 b s h d) = x0 (ix3 b s ⟨3584 + 64 * h.val + d.val, by omega⟩) := by
  unfold val_main_v17
  refine (shapeCast_apply _ _ _ (ix3 b s (⟨64 * h.val + d.val, by omega⟩ : Fin 128)) ?_).trans ?_
  · rw [Shape.rowMajor_val_four, Shape.rowMajor_val_three]
    show (b.val * 8192 + s.val) * 128 + (64 * h.val + d.val) = ((b.val * 8192 + s.val) * 2 + h.val) * 64 + d.val
    omega
  pointwise [val_main_v16, val_main_v0]
  exact congrArg x0 (congrArg (ix3 b s) (Fin.ext (by show 3584 + (64 * h.val + d.val) = 3584 + 64 * h.val + d.val; omega)))

theorem k_norm_apply (b : Fin 2) (s : Fin 8192) (h : Fin 2) (d : Fin 64) :
    val_main_v30 (F := Ideal) x0 g (ix4 b s h d)
      = rnorm (fun k => x0 (ix3 b s ⟨3584 + 64 * h.val + k.val, by omega⟩)) (fun k => g (ix1 k)) d := by
  have hx := k_x_apply x0 b s h
  unfold val_main_v30 val_main_v29 val_main_v28 val_main_v27 val_main_v26 val_main_v25 val_main_v24 val_main_v23 val_main_cst_4 val_main_v22 val_main_v21 val_main_cst_3 val_main_v20 val_main_v19 val_main_cst_2 val_main_v18
  generalize val_main_v17 (F := Ideal) x0 = y at hx ⊢
  simp only [rnorm, ← hx]
  pointwise [val_main_cst_2, val_main_cst_3, val_main_cst_4]

theorem k_row_lo_apply (b : Fin 2) (s : Fin 8192) (h : Fin 2) (d : Fin 16) :
    val_main_v88 (F := Ideal) x0 x1 x2 g (ix4 b s h d)
      = rlow (x1 (ix2 s d)) (x2 (ix2 s d)) (val_main_v30 (F := Ideal) x0 g (ix4 b s h ⟨0 + d.val, by omega⟩))
          (val_main_v30 (F := Ideal) x0 g (ix4 b s h ⟨16 + d.val, by omega⟩)) := by
  unfold val_main_v88 val_main_v87 val_main_v86 val_main_v85 val_main_v84 val_main_v83 val_main_v82 val_main_v81 val_main_v80 val_main_v79 val_main_v78 val_main_v76
  generalize val_main_v30 (F := Ideal) x0 g = y
  pointwise [rlow]

theorem k_row_hi_apply (b : Fin 2) (s : Fin 8192) (h : Fin 2) (d : Fin 16) :
    val_main_v95 (F := Ideal) x0 x1 x2 g (ix4 b s h d)
      = rhigh (x1 (ix2 s d)) (x2 (ix2 s d)) (val_main_v30 (F := Ideal) x0 g (ix4 b s h ⟨0 + d.val, by omega⟩))
          (val_main_v30 (F := Ideal) x0 g (ix4 b s h ⟨16 + d.val, by omega⟩)) := by
  unfold val_main_v95 val_main_v94 val_main_v93 val_main_v92 val_main_v91 val_main_v90 val_main_v89 val_main_v81 val_main_v80 val_main_v79 val_main_v78 val_main_v76
  generalize val_main_v30 (F := Ideal) x0 g = y
  pointwise [rhigh]

theorem k_col_lo_apply (b : Fin 2) (s : Fin 8192) (h : Fin 2) (d : Fin 16) :
    val_main_v107 (F := Ideal) x0 x3 x4 g (ix4 b s h d)
      = rlow (x3 (ix2 s d)) (x4 (ix2 s d)) (val_main_v30 (F := Ideal) x0 g (ix4 b s h ⟨32 + d.val, by omega⟩))
          (val_main_v30 (F := Ideal) x0 g (ix4 b s h ⟨32 + (16 + d.val), by omega⟩)) := by
  unfold val_main_v107 val_main_v106 val_main_v105 val_main_v104 val_main_v103 val_main_v102 val_main_v101 val_main_v100 val_main_v99 val_main_v98 val_main_v97 val_main_v77
  generalize val_main_v30 (F := Ideal) x0 g = y
  pointwise [rlow]

theorem k_col_hi_apply (b : Fin 2) (s : Fin 8192) (h : Fin 2) (d : Fin 16) :
    val_main_v114 (F := Ideal) x0 x3 x4 g (ix4 b s h d)
      = rhigh (x3 (ix2 s d)) (x4 (ix2 s d)) (val_main_v30 (F := Ideal) x0 g (ix4 b s h ⟨32 + d.val, by omega⟩))
          (val_main_v30 (F := Ideal) x0 g (ix4 b s h ⟨32 + (16 + d.val), by omega⟩)) := by
  unfold val_main_v114 val_main_v113 val_main_v112 val_main_v111 val_main_v110 val_main_v109 val_main_v108 val_main_v100 val_main_v99 val_main_v98 val_main_v97 val_main_v77
  generalize val_main_v30 (F := Ideal) x0 g = y
  pointwise [rhigh]

theorem k_row_apply (b : Fin 2) (s : Fin 8192) (h : Fin 2) (d : Fin 32) :
    val_main_v96 (F := Ideal) x0 x1 x2 g (ix4 b s h d)
      = if h0 : d.val < 16 then val_main_v88 (F := Ideal) x0 x1 x2 g (ix4 b s h ⟨d.val, h0⟩)
        else val_main_v95 (F := Ideal) x0 x1 x2 g (ix4 b s h ⟨d.val - 16, by omega⟩) := by
  unfold val_main_v96
  split_ifs with h0
  · exact (concatenate_apply_piece (t := S2x8192x2x32) 3 _ _ (ix4 b s h d) 0 (by show 0 < 2; decide) S2x8192x2x16
      (val_main_v88 (F := Ideal) x0 x1 x2 g) rfl rfl 0 rfl (ix4 b s h ⟨d.val, h0⟩)
      (fun a ha => match a, ha with | ⟨0, _⟩, _ => rfl | ⟨1, _⟩, _ => rfl | ⟨2, _⟩, _ => rfl | ⟨3, _⟩, ha => absurd rfl ha)
      (by show 0 + d.val = d.val; omega))
  · exact (concatenate_apply_piece (t := S2x8192x2x32) 3 _ _ (ix4 b s h d) 1 (by show 1 < 2; decide) S2x8192x2x16
      (val_main_v95 (F := Ideal) x0 x1 x2 g) rfl rfl 16 rfl (ix4 b s h ⟨d.val - 16, by omega⟩)
      (fun a ha => match a, ha with | ⟨0, _⟩, _ => rfl | ⟨1, _⟩, _ => rfl | ⟨2, _⟩, _ => rfl | ⟨3, _⟩, ha => absurd rfl ha)
      (by show 16 + (d.val - 16) = d.val; omega))

theorem k_col_apply (b : Fin 2) (s : Fin 8192) (h : Fin 2) (d : Fin 32) :
    val_main_v115 (F := Ideal) x0 x3 x4 g (ix4 b s h d)
      = if h0 : d.val < 16 then val_main_v107 (F := Ideal) x0 x3 x4 g (ix4 b s h ⟨d.val, h0⟩)
        else val_main_v114 (F := Ideal) x0 x3 x4 g (ix4 b s h ⟨d.val - 16, by omega⟩) := by
  unfold val_main_v115
  split_ifs with h0
  · exact (concatenate_apply_piece (t := S2x8192x2x32) 3 _ _ (ix4 b s h d) 0 (by show 0 < 2; decide) S2x8192x2x16
      (val_main_v107 (F := Ideal) x0 x3 x4 g) rfl rfl 0 rfl (ix4 b s h ⟨d.val, h0⟩)
      (fun a ha => match a, ha with | ⟨0, _⟩, _ => rfl | ⟨1, _⟩, _ => rfl | ⟨2, _⟩, _ => rfl | ⟨3, _⟩, ha => absurd rfl ha)
      (by show 0 + d.val = d.val; omega))
  · exact (concatenate_apply_piece (t := S2x8192x2x32) 3 _ _ (ix4 b s h d) 1 (by show 1 < 2; decide) S2x8192x2x16
      (val_main_v114 (F := Ideal) x0 x3 x4 g) rfl rfl 16 rfl (ix4 b s h ⟨d.val - 16, by omega⟩)
      (fun a ha => match a, ha with | ⟨0, _⟩, _ => rfl | ⟨1, _⟩, _ => rfl | ⟨2, _⟩, _ => rfl | ⟨3, _⟩, ha => absurd rfl ha)
      (by show 16 + (d.val - 16) = d.val; omega))

theorem k_both_apply (b : Fin 2) (s : Fin 8192) (h : Fin 2) (d : Fin 64) :
    val_main_v116 (F := Ideal) x0 x1 x2 x3 x4 g (ix4 b s h d)
      = if h0 : d.val < 32 then val_main_v96 (F := Ideal) x0 x1 x2 g (ix4 b s h ⟨d.val, h0⟩)
        else val_main_v115 (F := Ideal) x0 x3 x4 g (ix4 b s h ⟨d.val - 32, by omega⟩) := by
  unfold val_main_v116
  split_ifs with h0
  · exact (concatenate_apply_piece (t := S2x8192x2x64) 3 _ _ (ix4 b s h d) 0 (by show 0 < 2; decide) S2x8192x2x32
      (val_main_v96 (F := Ideal) x0 x1 x2 g) rfl rfl 0 rfl (ix4 b s h ⟨d.val, h0⟩)
      (fun a ha => match a, ha with | ⟨0, _⟩, _ => rfl | ⟨1, _⟩, _ => rfl | ⟨2, _⟩, _ => rfl | ⟨3, _⟩, ha => absurd rfl ha)
      (by show 0 + d.val = d.val; omega))
  · exact (concatenate_apply_piece (t := S2x8192x2x64) 3 _ _ (ix4 b s h d) 1 (by show 1 < 2; decide) S2x8192x2x32
      (val_main_v115 (F := Ideal) x0 x3 x4 g) rfl rfl 32 rfl (ix4 b s h ⟨d.val - 32, by omega⟩)
      (fun a ha => match a, ha with | ⟨0, _⟩, _ => rfl | ⟨1, _⟩, _ => rfl | ⟨2, _⟩, _ => rfl | ⟨3, _⟩, ha => absurd rfl ha)
      (by show 32 + (d.val - 32) = d.val; omega))

theorem k_rope_apply (b : Fin 2) (s : Fin 8192) (h : Fin 2) (d : Fin 64) :
    val_main_v116 (F := Ideal) x0 x1 x2 x3 x4 g (ix4 b s h d)
      = rrope (fun e => x1 (ix2 s e)) (fun e => x2 (ix2 s e)) (fun e => x3 (ix2 s e)) (fun e => x4 (ix2 s e))
          (rnorm (fun k => x0 (ix3 b s ⟨3584 + 64 * h.val + k.val, by omega⟩)) (fun k => g (ix1 k))) d := by
  have hn : (fun d => val_main_v30 (F := Ideal) x0 g (ix4 b s h d)) = _ := funext fun d => k_norm_apply x0 g b s h d
  rw [← hn, k_both_apply]
  unfold rrope
  by_cases h0 : d.val < 16
  · rw [dif_pos h0, dif_pos (by omega), k_row_apply, dif_pos h0, k_row_lo_apply]
    simp only [Nat.zero_add]
  by_cases h1 : d.val < 32
  · rw [dif_neg h0, dif_pos h1, dif_pos h1, k_row_apply, dif_neg h0, k_row_hi_apply]
    simp only [Nat.zero_add, show 16 + (d.val - 16) = d.val by omega]
  by_cases h2 : d.val < 48
  · rw [dif_neg h0, dif_neg h1, dif_neg h1, dif_pos h2, k_col_apply, dif_pos (by show d.val - 32 < 16; omega), k_col_lo_apply]
    simp only [show 32 + (d.val - 32) = d.val by omega, show 32 + (16 + (d.val - 32)) = 16 + d.val by omega]
  · rw [dif_neg h0, dif_neg h1, dif_neg h1, dif_neg h2, k_col_apply, dif_neg (by show ¬ d.val - 32 < 16; omega), k_col_hi_apply]
    simp only [show d.val - 32 - 16 = d.val - 48 by omega, show 32 + (d.val - 48) = d.val - 16 by omega, show 32 + (16 + (d.val - 48)) = d.val by omega]

/-- The reference's queries, head-major and transposed. -/
theorem q_apply (b : Fin 2) (h : Fin 8) (d : Fin 64) (s : Fin 8192) :
    val_main_v122 (F := Ideal) x0 x1 x2 x3 x4 g (ix4 b h d s)
      = rrope (fun e => x1 (ix2 s e)) (fun e => x2 (ix2 s e)) (fun e => x3 (ix2 s e)) (fun e => x4 (ix2 s e))
          (rnorm (fun k => x0 (ix3 b s ⟨1536 + 64 * h.val + k.val, by omega⟩)) (fun k => g (ix1 k))) d
        * Ideal.ofBits .f32 0x3E000000#32 * Ideal.ofBits .f32 0x3FB8AA3B#32 := by
  rw [← q_rope_apply x0 x1 x2 x3 x4 g b s h d]
  have hc : ∀ y, truncf (F := Ideal) (s := S2x8x64x8192) (φ := .f32) .bf16 y bitsLt_bf16_f32 = y := fun y => rfl
  unfold val_main_v122
  rw [hc]
  unfold val_main_v121 val_main_v75 val_main_v74 val_main_v73 val_main_v72 val_main_cst_5 val_main_cst_6
  generalize val_main_v71 (F := Ideal) x0 x1 x2 x3 x4 g = y
  refine (transpose_apply _ _ _ _ (k := ix4 b s h d) ?_).trans ?_
  · intro a; fin_cases a <;> rfl
  pointwise []

/-- The reference's keys, head-major. -/
theorem k_apply (b h : Fin 2) (s : Fin 8192) (d : Fin 64) :
    val_main_v124 (F := Ideal) x0 x1 x2 x3 x4 g (ix4 b h s d)
      = rrope (fun e => x1 (ix2 s e)) (fun e => x2 (ix2 s e)) (fun e => x3 (ix2 s e)) (fun e => x4 (ix2 s e))
          (rnorm (fun k => x0 (ix3 b s ⟨3584 + 64 * h.val + k.val, by omega⟩)) (fun k => g (ix1 k))) d := by
  rw [← k_rope_apply x0 x1 x2 x3 x4 g b s h d]
  have hc : ∀ y, truncf (F := Ideal) (s := S2x2x8192x64) (φ := .f32) .bf16 y bitsLt_bf16_f32 = y := fun y => rfl
  unfold val_main_v124
  rw [hc]
  unfold val_main_v123
  generalize val_main_v116 (F := Ideal) x0 x1 x2 x3 x4 g = y
  refine (transpose_apply _ _ _ _ (k := ix4 b s h d) ?_).trans rfl
  intro a; fin_cases a <;> rfl

theorem v_x_apply (b : Fin 2) (s : Fin 8192) (h : Fin 2) (d : Fin 64) :
    val_main_v118 (F := Ideal) x0 (ix4 b s h d) = x0 (ix3 b s ⟨3712 + 64 * h.val + d.val, by omega⟩) := by
  unfold val_main_v118
  refine (shapeCast_apply _ _ _ (ix3 b s (⟨64 * h.val + d.val, by omega⟩ : Fin 128)) ?_).trans ?_
  · rw [Shape.rowMajor_val_four, Shape.rowMajor_val_three]
    show (b.val * 8192 + s.val) * 128 + (64 * h.val + d.val) = ((b.val * 8192 + s.val) * 2 + h.val) * 64 + d.val
    omega
  pointwise [val_main_v117, val_main_v0]
  exact congrArg x0 (congrArg (ix3 b s) (Fin.ext (by show 3712 + (64 * h.val + d.val) = 3712 + 64 * h.val + d.val; omega)))

/-- The reference's values, head-major and transposed, with a row of ones and rows of zeros below. -/
theorem v_apply (b h : Fin 2) (a : Fin 80) (s : Fin 8192) :
    val_main_v127 (F := Ideal) x0 (ix4 b h a s)
      = if ha : a.val < 64 then x0 (ix3 b s ⟨3712 + 64 * h.val + a.val, by omega⟩)
        else if a.val = 64 then Ideal.ofBits .f32 0x3F800000#32 else Ideal.ofBits .f32 0x00000000#32 := by
  have hc : ∀ y, truncf (F := Ideal) (s := S2x2x80x8192) (φ := .f32) .bf16 y bitsLt_bf16_f32 = y := fun y => rfl
  unfold val_main_v127
  rw [hc]
  unfold val_main_v126
  split_ifs with h0 h1
  · refine (concatenate_apply_piece (t := S2x2x80x8192) 2 _ _ (ix4 b h a s) 0 (by show 0 < 3; decide) S2x2x64x8192
      (val_main_v125 (F := Ideal) x0) rfl rfl 0 rfl (ix4 b h ⟨a.val, h0⟩ s)
      (fun a ha => match a, ha with | ⟨0, _⟩, _ => rfl | ⟨1, _⟩, _ => rfl | ⟨2, _⟩, ha => absurd rfl ha | ⟨3, _⟩, _ => rfl)
      (by show 0 + a.val = a.val; omega)).trans ?_
    unfold val_main_v125
    refine (transpose_apply _ _ _ _ (k := ix4 b s h (⟨a.val, h0⟩ : Fin 64)) ?_).trans (v_x_apply x0 b s h _)
    intro a; fin_cases a <;> rfl
  · exact (concatenate_apply_piece (t := S2x2x80x8192) 2 _ _ (ix4 b h a s) 1 (by show 1 < 3; decide) S2x2x1x8192
      (val_main_v119 (F := Ideal)) rfl rfl 64 rfl (ix4 b h (0 : Fin 1) s)
      (fun a ha => match a, ha with | ⟨0, _⟩, _ => rfl | ⟨1, _⟩, _ => rfl | ⟨2, _⟩, ha => absurd rfl ha | ⟨3, _⟩, _ => rfl)
      (by show 64 + 0 = a.val; omega)).trans rfl
  · exact (concatenate_apply_piece (t := S2x2x80x8192) 2 _ _ (ix4 b h a s) 2 (by show 2 < 3; decide) S2x2x15x8192
      (val_main_v120 (F := Ideal)) rfl rfl 65 rfl (ix4 b h (⟨a.val - 65, by omega⟩ : Fin 15) s)
      (fun a ha => match a, ha with | ⟨0, _⟩, _ => rfl | ⟨1, _⟩, _ => rfl | ⟨2, _⟩, ha => absurd rfl ha | ⟨3, _⟩, _ => rfl)
      (by show 65 + (a.val - 65) = a.val; omega)).trans rfl

end
end Cert.PrepRef
end
end
-- ==== Proof.PrepMath.lean ====
/-
  The preparation call's arithmetic against the reference's: the mean of squares taken by a matrix in two parts, and the
  rotation written with paired lanes and signed sines.
-/
module

public import proofs.«01_k».proof.Proof.PrepBlocks
public import proofs.«01_k».proof.Proof.PrepRef
public import proofs.«01_k».proof.Proof.FlashMath

@[expose] public section

set_option maxRecDepth 16384

noncomputable section

namespace Cert.PrepValue

open Cert.PrepIdeal Cert.PrepIdeal.Gen Idealize.ShloMosaic Idealize.ShloMosaic.TcCoe Idealize.SL.Sem Cert.PrepRef

theorem mean_bits : Ideal.ofBits .f32 0x3C800000#32 = (((64 : ℝ)⁻¹ : ℝ) : EReal) := by
  simp [Ideal.ofBits, Ideal.ieee]
  rw [← EReal.coe_mul]
  norm_num

theorem heads_bits : Ideal.ofBits .f32 0x42800000#32 = ((64 : ℝ) : EReal) := by
  simp [Ideal.ofBits, Ideal.ieee]
  rw [← EReal.coe_mul]
  norm_num

theorem scale_bits : scale = Ideal.ofBits .f32 0x3E000000#32 * Ideal.ofBits .f32 0x3FB8AA3B#32 := by
  simp [scale, Ideal.ofBits, Ideal.ieee]
  simp only [← EReal.coe_mul]
  norm_num

/-- The sum over one head's lanes is the sum over all lanes with the other head's counted zero. -/
theorem head_sum (w : Fin 128 → ℝ) (p : Fin 2) (d : Fin 64) :
    ∑ k : Fin 128, w k * (if k.val / 64 = (64 * p.val + d.val) / 64 then (64 : ℝ)⁻¹ else 0)
      = (∑ k : Fin 64, w ⟨64 * p.val + k.val, by omega⟩) * (64 : ℝ)⁻¹ := by
  rw [Finset.sum_mul]
  refine (Fin.sum_univ_add (a := 64) (b := 64) (fun k : Fin 128 => w k * (if k.val / 64 = (64 * p.val + d.val) / 64 then (64 : ℝ)⁻¹ else 0))).trans ?_
  have lo : ∀ k : Fin 64, (Fin.castAdd 64 k : Fin 128).val = k.val := fun k => rfl
  have hi : ∀ k : Fin 64, (Fin.natAdd 64 k : Fin 128).val = 64 + k.val := fun k => rfl
  have hp : p.val = 0 ∨ p.val = 1 := by omega
  rcases hp with hp | hp
  · have z : ∀ k : Fin 64, w (Fin.natAdd 64 k : Fin 128) * (if (Fin.natAdd 64 k : Fin 128).val / 64 = (64 * p.val + d.val) / 64 then (64 : ℝ)⁻¹ else 0) = 0 := fun k => by
      rw [if_neg (by rw [hi]; omega), mul_zero]
    rw [Finset.sum_congr rfl (fun k _ => z k), Finset.sum_const_zero, add_zero]
    refine Finset.sum_congr rfl (fun k _ => ?_)
    rw [if_pos (by rw [lo]; omega)]
    exact congrArg (fun i => w i * (64 : ℝ)⁻¹) (Fin.ext (by show k.val = 64 * p.val + k.val; omega))
  · have z : ∀ k : Fin 64, w (Fin.castAdd 64 k : Fin 128) * (if (Fin.castAdd 64 k : Fin 128).val / 64 = (64 * p.val + d.val) / 64 then (64 : ℝ)⁻¹ else 0) = 0 := fun k => by
      rw [if_neg (by rw [lo]; omega), mul_zero]
    rw [Finset.sum_congr rfl (fun k _ => z k), Finset.sum_const_zero, zero_add]
    refine Finset.sum_congr rfl (fun k _ => ?_)
    rw [if_pos (by rw [hi]; omega)]
    exact congrArg (fun i => w i * (64 : ℝ)⁻¹) (Fin.ext (by show 64 + k.val = 64 * p.val + k.val; omega))

/-- For a row of reals, the two parts of the squares times the averaging matrix are the mean over the head. -/
theorem normed_eq (x : Fin 128 → EReal) (hx : ∀ k, ∃ z : ℝ, x k = (z : EReal)) (g : FVec Ideal S64 .f32) (p : Fin 2) (d : Fin 64) :
    normed (fun k j => means (ix2 k j)) x (fun k => gain g (ix2 0 k)) ⟨64 * p.val + d.val, by omega⟩
      = rnorm (fun k => x ⟨64 * p.val + k.val, by omega⟩) (fun k => g (ix1 k)) d := by
  choose z hz using hx
  have hm : ∀ k : Fin 128, means (ix2 k (⟨64 * p.val + d.val, by omega⟩ : Fin 128))
      = ((if k.val / 64 = (64 * p.val + d.val) / 64 then (64 : ℝ)⁻¹ else 0 : ℝ) : EReal) := fun k => by
    rw [means_apply, mean_bits, Ideal.ofBits_zero_f32]
    split_ifs <;> simp
  have h1 : ∑ k : Fin 128, x k * x k * means (ix2 k (⟨64 * p.val + d.val, by omega⟩ : Fin 128))
      = Ideal.div (∑ k : Fin 64, x ⟨64 * p.val + k.val, by omega⟩ * x ⟨64 * p.val + k.val, by omega⟩) (Ideal.ofBits .f32 0x42800000#32) := by
    rw [heads_bits, Cert.FlashMath.div_coe _ _ (by norm_num)]
    simp only [hz, hm, ← EReal.coe_mul, Cert.FlashMath.coe_sum]
    exact congrArg _ (head_sum (fun k => z k * z k) p d)
  have h2 : ∑ k : Fin 128, (x k * x k - x k * x k) * means (ix2 k (⟨64 * p.val + d.val, by omega⟩ : Fin 128)) = 0 := by
    refine Finset.sum_eq_zero (fun k _ => ?_)
    rw [hz, ← EReal.coe_mul, ← EReal.coe_sub, sub_self, EReal.coe_zero, zero_mul]
  unfold normed rnorm
  rw [h1, h2, add_zero]
  dsimp only
  rw [gain_apply]
  exact congrArg (fun i => _ * g (ix1 i)) (Fin.ext (by show (64 * p.val + d.val) % 64 = d.val; omega))

/-- The rotation of paired lanes is the reference's rotation of each half's halves. -/
theorem roped_eq (a1 a2 a3 a4 : FVec Ideal S8192x16 .f32) (s : Fin 8192) (y : Fin 128 → EReal) (p : Fin 2) (d : Fin 64) :
    roped (fun k => twice (cat4 a1 a1 a3 a3) (ix2 s k)) (fun k => twice (cat4 (Host.negf a2) a2 (Host.negf a4) a4) (ix2 s k)) y ⟨64 * p.val + d.val, by omega⟩
      = rrope (fun e => a1 (ix2 s e)) (fun e => a2 (ix2 s e)) (fun e => a3 (ix2 s e)) (fun e => a4 (ix2 s e))
          (fun k => y ⟨64 * p.val + k.val, by omega⟩) d := by
  have hd : (⟨(64 * p.val + d.val) % 64, by omega⟩ : Fin 64) = d := Fin.ext (by show (64 * p.val + d.val) % 64 = d.val; omega)
  have neg : ∀ (v : FVec Ideal S8192x16 .f32) i, Host.negf v i = -(v i) := fun v i => rfl
  unfold roped
  simp only [twice_apply, hd]
  unfold rrope rlow rhigh
  split_ifs with h0 h1 h2
  · rw [cat4_0 _ _ _ _ s d (by omega) h0, cat4_0 _ _ _ _ s d (by omega) h0, neg, mul_neg, ← sub_eq_add_neg]
    simp only [show (⟨d.val % 16, by omega⟩ : Fin 16) = ⟨d.val, h0⟩ from Fin.ext (by show d.val % 16 = d.val; omega)]
    rw [show partner ⟨64 * p.val + d.val, by omega⟩ = ⟨64 * p.val + (16 + d.val), by omega⟩ from Fin.ext (by
      show (if (64 * p.val + d.val) % 32 < 16 then (64 * p.val + d.val + 16) % 128 else (64 * p.val + d.val + 112) % 128) = _
      rw [if_pos (by omega)]; dsimp only; omega)]
  · rw [cat4_1 _ _ _ _ s d (by omega) h1, cat4_1 _ _ _ _ s d (by omega) h1]
    simp only [show (⟨d.val % 16, by omega⟩ : Fin 16) = ⟨d.val - 16, by omega⟩ from Fin.ext (by show d.val % 16 = d.val - 16; omega)]
    rw [show partner ⟨64 * p.val + d.val, by omega⟩ = ⟨64 * p.val + (d.val - 16), by omega⟩ from Fin.ext (by
      show (if (64 * p.val + d.val) % 32 < 16 then (64 * p.val + d.val + 16) % 128 else (64 * p.val + d.val + 112) % 128) = _
      rw [if_neg (by omega)]; dsimp only; omega)]
  · rw [cat4_2 _ _ _ _ s d (by omega) h2, cat4_2 _ _ _ _ s d (by omega) h2, neg, mul_neg, ← sub_eq_add_neg]
    simp only [show (⟨d.val % 16, by omega⟩ : Fin 16) = ⟨d.val - 32, by omega⟩ from Fin.ext (by show d.val % 16 = d.val - 32; omega)]
    rw [show partner ⟨64 * p.val + d.val, by omega⟩ = ⟨64 * p.val + (16 + d.val), by omega⟩ from Fin.ext (by
      show (if (64 * p.val + d.val) % 32 < 16 then (64 * p.val + d.val + 16) % 128 else (64 * p.val + d.val + 112) % 128) = _
      rw [if_pos (by omega)]; dsimp only; omega)]
  · rw [cat4_3 _ _ _ _ s d (by omega) d.isLt, cat4_3 _ _ _ _ s d (by omega) d.isLt]
    simp only [show (⟨d.val % 16, by omega⟩ : Fin 16) = ⟨d.val - 48, by omega⟩ from Fin.ext (by show d.val % 16 = d.val - 48; omega)]
    rw [show partner ⟨64 * p.val + d.val, by omega⟩ = ⟨64 * p.val + (d.val - 16), by omega⟩ from Fin.ext (by
      show (if (64 * p.val + d.val) % 32 < 16 then (64 * p.val + d.val + 16) % 128 else (64 * p.val + d.val + 112) % 128) = _
      rw [if_neg (by omega)]; dsimp only; omega)]

end Cert.PrepValue
end
end
-- ==== Proof.PrepValue.lean ====
/-
  The preparation call's three results: every block of queries, keys and values written is the reference's.
-/
module

public import proofs.«01_k».proof.Proof.PrepMath
public import proofs.«01_k».proof.Proof.Gen.PrepIdeal.Value

@[expose] public section

set_option maxRecDepth 16384

noncomputable section

namespace Cert.PrepValue

open Cert.PrepIdeal Cert.PrepIdeal.Gen Idealize.ShloMosaic Idealize.ShloMosaic.TcCoe Idealize.SL.Sem Idealize.ShloMosaic.StableHlo Cert.PrepRef

variable (m : (ℓ : Loc nD τ sig) → Buf (Elt Ideal) ℓ) (c : Dev nD)

/-- The reference's queries of the launch's arguments. -/
def want8 : Vec Ideal S2x8x64x8192 .bf16 :=
  Cert.PrepReferenceIdeal.Read.val_main_v122 (F := Ideal) (a0 m c) (a1 m c) (a2 m c) (a3 m c) (a4 m c) (a5 m c)

/-- The reference's keys of the launch's arguments. -/
def want9 : Vec Ideal S2x2x8192x64 .bf16 :=
  Cert.PrepReferenceIdeal.Read.val_main_v124 (F := Ideal) (a0 m c) (a1 m c) (a2 m c) (a3 m c) (a4 m c) (a6 m c)

/-- The reference's values of the launch's arguments. -/
def want10 : Vec Ideal S2x2x80x8192 .bf16 :=
  Cert.PrepReferenceIdeal.Read.val_main_v127 (F := Ideal) (a0 m c)

/-- The projection's columns of queries and keys are reals. -/
def Reals : Prop :=
  (∀ (b : Fin 2) (s : Fin 8192) (k : Fin 512), ∃ z : ℝ, a0 m c (ix3 b s ⟨1536 + k.val, by omega⟩) = (z : EReal))
  ∧ ∀ (b : Fin 2) (s : Fin 8192) (k : Fin 128), ∃ z : ℝ, a0 m c (ix3 b s ⟨3584 + k.val, by omega⟩) = (z : EReal)

/-- One element of a row of two heads, normalised and rotated, is the reference's of its head. -/
theorem tile_eq (t : Fin cfg0.N) (x : Vec Ideal S1x1024x128 .bf16) (w : Vec Ideal S1x128 .f32) (g : FVec Ideal S64 .f32)
    (hw : ∀ k : Fin 128, w (ix2 0 k) = gain g (ix2 0 k)) (r : Fin 1024) (hx : ∀ k : Fin 128, ∃ z : ℝ, x (ix3 0 r k) = (z : EReal)) (p : Fin 2) (d : Fin 64) :
    tile (iblk m c 3 t) (iblk m c 4 t) (iblk m c 7 t) x w (ix2 r ⟨64 * p.val + d.val, by omega⟩)
      = rrope (fun e => a1 m c (ix2 (sOf t r) e)) (fun e => a2 m c (ix2 (sOf t r) e)) (fun e => a3 m c (ix2 (sOf t r) e)) (fun e => a4 m c (ix2 (sOf t r) e))
          (rnorm (fun k => x (ix3 0 r ⟨64 * p.val + k.val, by omega⟩)) (fun k => g (ix1 k))) d := by
  rw [tile_apply]
  simp only [blk3 m c t, blk4 m c t, blk7 m c t, hw]
  rw [roped_eq]
  exact congrArg (fun y => rrope _ _ _ _ y d) (funext fun k => normed_eq (fun k => x (ix3 0 r k)) hx g p k)

theorem point8 (hr : Reals m c) (t : Fin cfg0.N) (h : Fin 8) (d : Fin 64) (r : Fin 1024) :
    tile (iblk m c 3 t) (iblk m c 4 t) (iblk m c 7 t) (cols (iblk m c 0 t) ⟨h.val / 2, by omega⟩) (iblk m c 5 t) (ix2 r ⟨64 * (h.val % 2) + d.val, by omega⟩) * scale
      = want8 m c (ix4 (bOf t) h d (sOf t r)) := by
  have hc : ∀ k : Fin 128, cols (iblk m c 0 t) ⟨h.val / 2, by omega⟩ (ix3 0 r k)
      = a0 m c (ix3 (bOf t) (sOf t r) ⟨1536 + (128 * (h.val / 2) + k.val), by omega⟩) := fun k =>
    blk0 m c t r ⟨128 * (h.val / 2) + k.val, by omega⟩
  have e := tile_eq m c t (cols (iblk m c 0 t) ⟨h.val / 2, by omega⟩) (iblk m c 5 t) (a5 m c) (blk5 m c t 0) r
    (fun k => by rw [hc k]; exact hr.1 _ _ ⟨128 * (h.val / 2) + k.val, by omega⟩) ⟨h.val % 2, by omega⟩ d
  rw [e]
  unfold want8
  rw [q_apply, scale_bits, mul_assoc]
  refine congrArg (fun y => rrope _ _ _ _ (rnorm y _) d * _) (funext fun k => ?_)
  rw [hc]
  exact congrArg (fun i => a0 m c (ix3 (bOf t) (sOf t r) i)) (Fin.ext (by show 1536 + (128 * (h.val / 2) + (64 * (h.val % 2) + k.val)) = 1536 + 64 * h.val + k.val; omega))

theorem point9 (hr : Reals m c) (t : Fin cfg0.N) (h : Fin 2) (r : Fin 1024) (d : Fin 64) :
    tile (iblk m c 3 t) (iblk m c 4 t) (iblk m c 7 t) (iblk m c 1 t) (iblk m c 6 t) (ix2 r ⟨64 * h.val + d.val, by omega⟩)
      = want9 m c (ix4 (bOf t) h (sOf t r) d) := by
  have e := tile_eq m c t (iblk m c 1 t) (iblk m c 6 t) (a6 m c) (blk6 m c t 0) r
    (fun k => by rw [blk1 m c t r k]; exact hr.2 _ _ k) h d
  rw [e]
  unfold want9
  rw [k_apply]
  refine congrArg (fun y => rrope _ _ _ _ (rnorm y _) d) (funext fun k => ?_)
  rw [blk1 m c t r]
  exact congrArg (fun i => a0 m c (ix3 (bOf t) (sOf t r) i)) (Fin.ext (by show 3584 + (64 * h.val + k.val) = 3584 + 64 * h.val + k.val; omega))

theorem point10 (t : Fin cfg0.N) (h : Fin 2) (a : Fin 80) (r : Fin 1024) :
    vrow (iblk m c 2 t) h a r = want10 m c (ix4 (bOf t) h a (sOf t r)) := by
  unfold want10 vrow
  rw [v_apply]
  split_ifs with h0 h1
  · rw [blk2 m c t r]
    exact congrArg (fun i => a0 m c (ix3 (bOf t) (sOf t r) i)) (Fin.ext (by show 3712 + (64 * h.val + a.val) = 3712 + 64 * h.val + a.val; omega))
  · rfl
  · rfl

theorem flushed8_want (hr : Reals m c) (t : Fin cfg0.N) :
    (dats m 0 c).flushed 8 t = ((cfg0.win 8).blk t).view.read (Elt Ideal) (want8 m c) := by
  rw [Value.flushed8_A]
  obtain ⟨⟨e0, e1, e2, e3⟩, -⟩ := out_facts t
  funext y
  have y0 : (y 0).val < 1 := (y 0).isLt
  have y1 : (y 1).val < 8 := (y 1).isLt
  have y2 : (y 2).val < 64 := (y 2).isLt
  have y3 : (y 3).val < 1024 := (y 3).isLt
  have key := (out8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t)
    ⟨(y 1).val, y1⟩ ⟨(y 2).val, y2⟩ ⟨(y 3).val, y3⟩).trans (point8 m c hr t ⟨(y 1).val, y1⟩ ⟨(y 2).val, y2⟩ ⟨(y 3).val, y3⟩)
  refine Eq.trans ?_ (key.trans ?_)
  · refine congrArg (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t)) (funext fun a => Fin.ext ?_)
    match a with
    | ⟨0, _⟩ => show (y 0).val = 0; omega
    | ⟨1, _⟩ => rfl
    | ⟨2, _⟩ => rfl
    | ⟨3, _⟩ => rfl
  · refine congrArg (want8 m c) (funext fun a => Fin.ext ?_)
    match a with
    | ⟨0, _⟩ => show t.val / 8 = win0_8.index t (0 : Fin 4) * 1 + 1 * (y 0).val; omega
    | ⟨1, _⟩ => show (y 1).val = win0_8.index t (1 : Fin 4) * 8 + 1 * (y 1).val; omega
    | ⟨2, _⟩ => show (y 2).val = win0_8.index t (2 : Fin 4) * 64 + 1 * (y 2).val; omega
    | ⟨3, _⟩ => show 1024 * (t.val % 8) + (y 3).val = win0_8.index t (3 : Fin 4) * 1024 + 1 * (y 3).val; omega

theorem mem_out8 (t : Fin cfg0.N) (i : S2x8x64x8192.Idx) :
    i ∈ ((cfg0.win 8).blk t).view.set ↔ ∀ a : Fin 4, win0_8.index t a * S1x8x64x1024.size a ≤ (i a).val ∧ (i a).val < win0_8.index t a * S1x8x64x1024.size a + S1x8x64x1024.size a := by
  show i ∈ ((View.whole main_v27_0).slice (win0_8.rect t)).set ↔ _
  rw [View.set_slice_whole, Rect.mem_set_unit]
  exact Iff.rfl

theorem covered8 (i : S2x8x64x8192.Idx) : ∃ t : Fin cfg0.N, (cfg0.win 8).flush t = true ∧ i ∈ ((cfg0.win 8).blk t).view.set := by
  have i0 : (i 0).val < 2 := (i 0).isLt
  have i1 : (i 1).val < 8 := (i 1).isLt
  have i2 : (i 2).val < 64 := (i 2).isLt
  have i3 : (i 3).val < 8192 := (i 3).isLt
  let t : Fin cfg0.N := ⟨8 * (i 0).val + (i 3).val / 1024, lt_of_lt_of_eq (by omega) N_0.symm⟩
  obtain ⟨⟨e0, e1, e2, e3⟩, -, -, hf, -⟩ := out_facts t
  have ht : t.val = 8 * (i 0).val + (i 3).val / 1024 := rfl
  refine ⟨t, hf, ?_⟩
  rw [mem_out8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 8 ≤ (i 1).val ∧ (i 1).val < win0_8.index t (1 : Fin 4) * 8 + 8; omega
  | ⟨2, _⟩ => show win0_8.index t (2 : Fin 4) * 64 ≤ (i 2).val ∧ (i 2).val < win0_8.index t (2 : Fin 4) * 64 + 64; omega
  | ⟨3, _⟩ => show win0_8.index t (3 : Fin 4) * 1024 ≤ (i 3).val ∧ (i 3).val < win0_8.index t (3 : Fin 4) * 1024 + 1024; omega

theorem final8 (hr : Reals m c) : (dats m 0 c).arrAt 8 cfg0.N = want8 m c :=
  (dats m 0 c).arrAt_eq_of_cover 8 _ (fun t _ => flushed8_want m c hr t) covered8

theorem flushed9_want (hr : Reals m c) (t : Fin cfg0.N) :
    (dats m 0 c).flushed 9 t = ((cfg0.win 9).blk t).view.read (Elt Ideal) (want9 m c) := by
  rw [Value.flushed9_A]
  obtain ⟨-, ⟨e0, e1, e2, e3⟩, -⟩ := out_facts t
  funext y
  have y0 : (y 0).val < 1 := (y 0).isLt
  have y1 : (y 1).val < 2 := (y 1).isLt
  have y2 : (y 2).val < 1024 := (y 2).isLt
  have y3 : (y 3).val < 64 := (y 3).isLt
  have key := (out9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t)
    ⟨(y 1).val, y1⟩ ⟨(y 2).val, y2⟩ ⟨(y 3).val, y3⟩).trans (point9 m c hr t ⟨(y 1).val, y1⟩ ⟨(y 2).val, y2⟩ ⟨(y 3).val, y3⟩)
  refine Eq.trans ?_ (key.trans ?_)
  · refine congrArg (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t)) (funext fun a => Fin.ext ?_)
    match a with
    | ⟨0, _⟩ => show (y 0).val = 0; omega
    | ⟨1, _⟩ => rfl
    | ⟨2, _⟩ => rfl
    | ⟨3, _⟩ => rfl
  · refine congrArg (want9 m c) (funext fun a => Fin.ext ?_)
    match a with
    | ⟨0, _⟩ => show t.val / 8 = win0_9.index t (0 : Fin 4) * 1 + 1 * (y 0).val; omega
    | ⟨1, _⟩ => show (y 1).val = win0_9.index t (1 : Fin 4) * 2 + 1 * (y 1).val; omega
    | ⟨2, _⟩ => show 1024 * (t.val % 8) + (y 2).val = win0_9.index t (2 : Fin 4) * 1024 + 1 * (y 2).val; omega
    | ⟨3, _⟩ => show (y 3).val = win0_9.index t (3 : Fin 4) * 64 + 1 * (y 3).val; omega

theorem mem_out9 (t : Fin cfg0.N) (i : S2x2x8192x64.Idx) :
    i ∈ ((cfg0.win 9).blk t).view.set ↔ ∀ a : Fin 4, win0_9.index t a * S1x2x1024x64.size a ≤ (i a).val ∧ (i a).val < win0_9.index t a * S1x2x1024x64.size a + S1x2x1024x64.size a := by
  show i ∈ ((View.whole main_v27_1).slice (win0_9.rect t)).set ↔ _
  rw [View.set_slice_whole, Rect.mem_set_unit]
  exact Iff.rfl

theorem covered9 (i : S2x2x8192x64.Idx) : ∃ t : Fin cfg0.N, (cfg0.win 9).flush t = true ∧ i ∈ ((cfg0.win 9).blk t).view.set := by
  have i0 : (i 0).val < 2 := (i 0).isLt
  have i1 : (i 1).val < 2 := (i 1).isLt
  have i2 : (i 2).val < 8192 := (i 2).isLt
  have i3 : (i 3).val < 64 := (i 3).isLt
  let t : Fin cfg0.N := ⟨8 * (i 0).val + (i 2).val / 1024, lt_of_lt_of_eq (by omega) N_0.symm⟩
  obtain ⟨-, ⟨e0, e1, e2, e3⟩, -, -, hf, -⟩ := out_facts t
  have ht : t.val = 8 * (i 0).val + (i 2).val / 1024 := rfl
  refine ⟨t, hf, ?_⟩
  rw [mem_out9]
  intro a
  match a with
  | ⟨0, _⟩ => show win0_9.index t (0 : Fin 4) * 1 ≤ (i 0).val ∧ (i 0).val < win0_9.index t (0 : Fin 4) * 1 + 1; omega
  | ⟨1, _⟩ => show win0_9.index t (1 : Fin 4) * 2 ≤ (i 1).val ∧ (i 1).val < win0_9.index t (1 : Fin 4) * 2 + 2; omega
  | ⟨2, _⟩ => show win0_9.index t (2 : Fin 4) * 1024 ≤ (i 2).val ∧ (i 2).val < win0_9.index t (2 : Fin 4) * 1024 + 1024; omega
  | ⟨3, _⟩ => show win0_9.index t (3 : Fin 4) * 64 ≤ (i 3).val ∧ (i 3).val < win0_9.index t (3 : Fin 4) * 64 + 64; omega

theorem final9 (hr : Reals m c) : (dats m 0 c).arrAt 9 cfg0.N = want9 m c :=
  (dats m 0 c).arrAt_eq_of_cover 9 _ (fun t _ => flushed9_want m c hr t) covered9

theorem flushed10_want (t : Fin cfg0.N) :
    (dats m 0 c).flushed 10 t = ((cfg0.win 10).blk t).view.read (Elt Ideal) (want10 m c) := by
  rw [Value.flushed10_A]
  obtain ⟨-, -, ⟨e0, e1, e2, e3⟩, -⟩ := out_facts t
  funext y
  have y0 : (y 0).val < 1 := (y 0).isLt
  have y1 : (y 1).val < 2 := (y 1).isLt
  have y2 : (y 2).val < 80 := (y 2).isLt
  have y3 : (y 3).val < 1024 := (y 3).isLt
  have key := (out10_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t)
    ⟨(y 1).val, y1⟩ ⟨(y 2).val, y2⟩ ⟨(y 3).val, y3⟩).trans (point10 m c t ⟨(y 1).val, y1⟩ ⟨(y 2).val, y2⟩ ⟨(y 3).val, y3⟩)
  refine Eq.trans ?_ (key.trans ?_)
  · refine congrArg (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t)) (funext fun a => Fin.ext ?_)
    match a with
    | ⟨0, _⟩ => show (y 0).val = 0; omega
    | ⟨1, _⟩ => rfl
    | ⟨2, _⟩ => rfl
    | ⟨3, _⟩ => rfl
  · refine congrArg (want10 m c) (funext fun a => Fin.ext ?_)
    match a with
    | ⟨0, _⟩ => show t.val / 8 = win0_10.index t (0 : Fin 4) * 1 + 1 * (y 0).val; omega
    | ⟨1, _⟩ => show (y 1).val = win0_10.index t (1 : Fin 4) * 2 + 1 * (y 1).val; omega
    | ⟨2, _⟩ => show (y 2).val = win0_10.index t (2 : Fin 4) * 80 + 1 * (y 2).val; omega
    | ⟨3, _⟩ => show 1024 * (t.val % 8) + (y 3).val = win0_10.index t (3 : Fin 4) * 1024 + 1 * (y 3).val; omega

theorem mem_out10 (t : Fin cfg0.N) (i : S2x2x80x8192.Idx) :
    i ∈ ((cfg0.win 10).blk t).view.set ↔ ∀ a : Fin 4, win0_10.index t a * S1x2x80x1024.size a ≤ (i a).val ∧ (i a).val < win0_10.index t a * S1x2x80x1024.size a + S1x2x80x1024.size a := by
  show i ∈ ((View.whole main_v27_2).slice (win0_10.rect t)).set ↔ _
  rw [View.set_slice_whole, Rect.mem_set_unit]
  exact Iff.rfl

theorem covered10 (i : S2x2x80x8192.Idx) : ∃ t : Fin cfg0.N, (cfg0.win 10).flush t = true ∧ i ∈ ((cfg0.win 10).blk t).view.set := by
  have i0 : (i 0).val < 2 := (i 0).isLt
  have i1 : (i 1).val < 2 := (i 1).isLt
  have i2 : (i 2).val < 80 := (i 2).isLt
  have i3 : (i 3).val < 8192 := (i 3).isLt
  let t : Fin cfg0.N := ⟨8 * (i 0).val + (i 3).val / 1024, lt_of_lt_of_eq (by omega) N_0.symm⟩
  obtain ⟨-, -, ⟨e0, e1, e2, e3⟩, -, -, hf⟩ := out_facts t
  have ht : t.val = 8 * (i 0).val + (i 3).val / 1024 := rfl
  refine ⟨t, hf, ?_⟩
  rw [mem_out10]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 2 ≤ (i 1).val ∧ (i 1).val < win0_10.index t (1 : Fin 4) * 2 + 2; omega
  | ⟨2, _⟩ => show win0_10.index t (2 : Fin 4) * 80 ≤ (i 2).val ∧ (i 2).val < win0_10.index t (2 : Fin 4) * 80 + 80; omega
  | ⟨3, _⟩ => show win0_10.index t (3 : Fin 4) * 1024 ≤ (i 3).val ∧ (i 3).val < win0_10.index t (3 : Fin 4) * 1024 + 1024; omega

theorem final10 : (dats m 0 c).arrAt 10 cfg0.N = want10 m c :=
  (dats m 0 c).arrAt_eq_of_cover 10 _ (fun t _ => flushed10_want m c t) covered10

end Cert.PrepValue
end
end
-- ==== Proof.PrepClaim.lean ====
/-
  The claims about the preparation call: the three programs run and leave their arguments alone, the idealization rewrites
  nothing, and kernel and reference return the same three arrays when the columns of queries and keys are finite.
-/
module

public import proofs.«01_k».proof.Defs
public import proofs.«01_k».proof.Proof.Gen.Prep.Frame
public import proofs.«01_k».proof.Proof.Gen.PrepIdeal.Value
public import proofs.«01_k».proof.Proof.PrepValue
public import proofs.«01_k».proof.Proof.FlashClaim
public import proofs.«01_k».proof.Proof.Gen.PrepReferenceIdeal.Run
public import Idealize.ShloMosaic.Lib.ReduceAll

@[expose] public section

noncomputable section

namespace Cert.PrepValue

open Idealize.ShloMosaic Idealize.ShloMosaic.TcCoe Idealize.SL.Sem

/-- The shape relations of the precondition's operations. -/
theorem facts : Cert.Pre_finite_projection.Facts where
  slices_S2x8192x4096_S2x8192x512_0_0_1536 := by decide
  bitsLt_bf16_f32 := by decide
  bcast_S_S2x8192x512 := by decide
  reducesTo_S2x8192x512_S_d0_1_2 := by decide
  h_S_ := by decide
  slices_S2x8192x4096_S2x8192x128_0_0_3584 := by decide
  bcast_S_S2x8192x128 := by decide
  reducesTo_S2x8192x128_S_d0_1_2 := by decide

instance : Subsingleton Cert.Pre_finite_projection.S_.Idx := ⟨fun a b => funext fun x => x.elim0⟩

theorem finite_real [Cert.Pre_finite_projection.Facts] (x0 : FVec Ideal Cert.Pre_finite_projection.S2x8192x4096 .bf16)
    (x1 x2 x3 x4 : FVec Ideal Cert.Pre_finite_projection.S8192x16 .f32) (x5 x6 : FVec Ideal Cert.Pre_finite_projection.S64 .f32)
    (h : Cert.Pre_finite_projection.fn (F := Ideal) x0 x1 x2 x3 x4 x5 x6 = fun _ => 1#1) :
    (∀ (b : Fin 2) (s : Fin 8192) (k : Fin 512), ∃ z : ℝ, x0 (ix3 b s ⟨1536 + k.val, by omega⟩) = (z : EReal))
    ∧ ∀ (b : Fin 2) (s : Fin 8192) (k : Fin 128), ∃ z : ℝ, x0 (ix3 b s ⟨3584 + k.val, by omega⟩) = (z : EReal) := by
  have e := congrFun h (fun a => a.elim0)
  unfold Cert.Pre_finite_projection.fn at e
  obtain ⟨e0, e1⟩ := IntOp.andi_eq_one.1 e
  refine ⟨fun b s k => ?_, fun b s k => ?_⟩
  · obtain ⟨z, hz⟩ := Cert.FlashClaim.real_of_lt _ (Host.reduce_andi_all _ _ _ _ _ e0 (ix3 b s k))
    refine ⟨z, Eq.trans (congrArg x0 (funext fun a => Fin.ext ?_)) hz⟩
    match a with
    | ⟨0, _⟩ => show b.val = 0 + b.val; omega
    | ⟨1, _⟩ => show s.val = 0 + s.val; omega
    | ⟨2, _⟩ => rfl
  · obtain ⟨z, hz⟩ := Cert.FlashClaim.real_of_lt _ (Host.reduce_andi_all _ _ _ _ _ e1 (ix3 b s k))
    refine ⟨z, Eq.trans (congrArg x0 (funext fun a => Fin.ext ?_)) hz⟩
    match a with
    | ⟨0, _⟩ => show b.val = 0 + b.val; omega
    | ⟨1, _⟩ => show s.val = 0 + s.val; omega
    | ⟨2, _⟩ => rfl

theorem frame_prep : Cert.quiescent_Prep := fun m ρ _ => Cert.Prep.Gen.frame m ρ

theorem frame_prepIdeal : Cert.quiescent_PrepIdeal := fun m ρ _ => Cert.PrepIdeal.Gen.frame m ρ

theorem frame_prepIdeal_finite [Cert.Pre_finite_projection.Facts] : Cert.quiescent_PrepIdeal_pre_finite_projection :=
  fun m ρ _ => Cert.PrepIdeal.Gen.frame m ρ

theorem frame_prepReference : Cert.quiescent_PrepReferenceIdeal := fun m ρ _ =>
  (θ_run Cert.PrepReferenceIdeal.defs _ _).mono (fun r h => ⟨fun c => (h c).2.2.2, sem_eq_zero_of_no_sems (by decide) r.2⟩)
    (Cert.PrepReferenceIdeal.Value.run (F := Ideal) m ρ)

theorem frame_prepReference_finite [Cert.Pre_finite_projection.Facts] : Cert.quiescent_PrepReferenceIdeal_pre_finite_projection :=
  fun m ρ _ => frame_prepReference m ρ trivial

theorem preserves_prep : Cert.preserves_Prep_PrepIdeal := trivial

/-- Kernel and reference, started on the same arguments with finite columns of queries and keys, return the same three arrays. -/
theorem algebraic_prep [Cert.Pre_finite_projection.Facts] : Cert.algebraic_PrepIdeal_PrepReferenceIdeal_pre_finite_projection := fun m g m' g' hpre hagree => by
  have hr : ∀ c, Reals m c := fun c => finite_real _ _ _ _ _ _ _ (hpre c)
  refine ⟨fun c => want8 m c, fun c => want9 m c, fun c => want10 m c,
    (θ_run Cert.PrepIdeal.defs _ _).mono (fun r h c => ⟨(h c).1.trans (final8 m c (hr c)), (h c).2.1.trans (final9 m c (hr c)),
      (h c).2.2.1.trans (final10 m c), (h c).2.2.2⟩)
      (Cert.PrepIdeal.Value.run_blocks (F := Ideal) m g), ?_⟩
  refine (θ_run Cert.PrepReferenceIdeal.defs _ _).mono (fun r h c => ⟨(h c).1.trans ?_, (h c).2.1.trans ?_, (h c).2.2.1.trans ?_, (h c).2.2.2⟩)
    (Cert.PrepReferenceIdeal.Value.run (F := Ideal) m' g')
  · obtain ⟨h0, h1, h2, h3, h4, h5, h6⟩ := hagree c
    rw [Cert.PrepReferenceIdeal.Read.val_main_v122_eq, h0, h1, h2, h3, h4, h5]
    rfl
  · obtain ⟨h0, h1, h2, h3, h4, h5, h6⟩ := hagree c
    rw [Cert.PrepReferenceIdeal.Read.val_main_v124_eq, h0, h1, h2, h3, h4, h6]
    rfl
  · obtain ⟨h0, h1, h2, h3, h4, h5, h6⟩ := hagree c
    rw [Cert.PrepReferenceIdeal.Read.val_main_v127_eq, h0]
    rfl

end Cert.PrepValue
end
end
-- ==== Proof.ModValue.lean ====
/-
  The modulation call: a block of 1024 columns of its product read at one element, the reference's result read at the
  same element, and the six blocks put together.
-/
module

public import proofs.«01_k».proof.Proof.Gen.ModIdeal.Value
public import proofs.«01_k».proof.Proof.Gen.ModReferenceIdeal.Read
public import Idealize.ShloMosaic.Lib.Pointwise
public import Idealize.ShloMosaic.Lib.Claim
public import Idealize.ShloMosaic.Lib.StableHlo.RunRead

@[expose] public section

set_option maxRecDepth 16384

noncomputable section

namespace Cert.ModValue

open Idealize.ShloMosaic Idealize.ShloMosaic.TcCoe Idealize.SL.Sem Idealize.ShloMosaic.StableHlo

/-- The nonlinearity. -/
def silu (z : EReal) : EReal :=
  z * Ideal.div (Ideal.ofBits .f32 0x3F800000#32) (Ideal.ofBits .f32 0x3F800000#32 + Ideal.exp (-z))

section Reference

open Cert.ModReferenceIdeal Cert.ModReferenceIdeal.Gen Cert.ModReferenceIdeal.Read

theorem v7_apply (x0 : (⟨S2x1024, .f32⟩ : BufTy).Contents (Elt Ideal)) (x1 : (⟨S1024, .f32⟩ : BufTy).Contents (Elt Ideal))
    (x2 : (⟨S1024x6144, .f32⟩ : BufTy).Contents (Elt Ideal)) (x3 : (⟨S6144, .f32⟩ : BufTy).Contents (Elt Ideal))
    (r : Fin 8) (d : Fin 6144) :
    val_main_v7 (F := Ideal) x0 x1 x2 x3 (ix2 r d)
      = (∑ k : Fin 1024, silu (val_main_v2 (F := Ideal) x0 x1 (ix2 r k)) * x2 (ix2 k d)) + x3 (ix1 d) := by
  unfold val_main_v7 val_main_v6 val_main_v5 val_main_v4 val_main_v3 val_main_call0_v5 val_main_call0_v4 val_main_call0_v3 val_main_call0_v2 val_main_call0_v1 val_main_call0_v0 val_main_call0_cst val_main_call0_cst_0
  generalize val_main_v2 (F := Ideal) x0 x1 = y
  pointwise [silu]

end Reference

open Cert.ModIdeal Cert.ModIdeal.Gen

theorem hz2 : (![0, 0] : Fin 2 → Nat) = fun _ => 0 := funext fun a => by fin_cases a <;> rfl

theorem pay1_apply (x : Vec Ideal S8x1024 .f32) (w : Vec Ideal S1024x1024 .f32) (b : Vec Ideal S1x1024 .f32)
    (r : Fin 8) (d : Fin 1024) :
    k0_pay1 (F := Ideal) x w b (ix2 r d)
      = (∑ k : Fin 1024, silu (x (ix2 r k)) * w (ix2 k d)) + b (ix2 0 d) := by
  pointwise [k0_pay1, silu]
  simp only [zero_sub]

theorem out_apply (x0 : Vec Ideal S8x1024 .f32) (x1 : Vec Ideal S1024x1024 .f32) (x2 : Vec Ideal S1x1024 .f32)
    (r : Fin 8) (d : Fin 1024) :
    out0_3 x0 x1 x2 (ix2 r d)
      = (∑ k : Fin 1024, silu (x0 (ix2 r k)) * x1 (ix2 k d)) + x2 (ix2 0 d) := by
  unfold out0_3
  rw [View.canon_unit_zero hz2]
  rw [show View.ld x0 r0_0 = x0 from View.ld_unit_zero (S := S8x1024) hz2 _ _,
    show View.ld x1 r0_1 = x1 from View.ld_unit_zero (S := S1024x1024) hz2 _ _,
    show View.ld x2 r0_2 = x2 from View.ld_unit_zero (S := S1x1024) hz2 _ _]
  exact pay1_apply x0 x1 x2 r d

variable (m : (ℓ : Loc nD τ sig) → Buf (Elt Ideal) ℓ) (c : Dev nD)

/-- The launch's arguments, as the arrays of numbers that they are. -/
abbrev a0 : Vec Ideal S2x1024 .f32 := m ((c : Thread nD τ).loc main_arg0)
abbrev a1 : Vec Ideal S1024 .f32 := m ((c : Thread nD τ).loc main_arg1)
abbrev a2 : Vec Ideal S1024x6144 .f32 := m ((c : Thread nD τ).loc main_arg2)
abbrev a3 : Vec Ideal S6144 .f32 := m ((c : Thread nD τ).loc main_arg3)

/-- The rows the launch reads: the batches' rows, the context's row, and rows of zeros. -/
def crows : Vec Ideal S8x1024 .f32 := Cert.ModReferenceIdeal.Read.val_main_v2 (F := Ideal) (a0 m c) (a1 m c)

theorem V_v2 : V m c main_v2 = crows m c := by
  show StableHlo.after hostOps0 _ _ = _
  after_reads_simp
  rfl

theorem V_v3 : V m c main_v3 = broadcastInDim S1x6144 ![1] bcast_S6144_S1x6144_1 (m ((c : Thread nD τ).loc main_arg3)) := by
  show StableHlo.after hostOps0 _ _ = _
  after_reads_simp

theorem index_facts : ∀ t : Fin cfg0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 2) = 0 ∧ win0_2.index t (1 : Fin 2) = t.val)
    ∧ (win0_3.index t (0 : Fin 2) = 0 ∧ win0_3.index t (1 : Fin 2) = t.val)
    ∧ (cfg0.win 3).flush t = true :=
  (by decide +kernel : ∀ t : Fin grid0.N, _)

theorem lt_N (t : Fin cfg0.N) : t.val < 6 := lt_of_lt_of_eq t.isLt (show cfg0.N = 6 from N_0)

/-- Column `d` of grid point `t`'s block. -/
def cOf (t : Fin cfg0.N) (d : Fin 1024) : Fin 6144 := ⟨1024 * t.val + d.val, by have := lt_N t; omega⟩

theorem blk0 (t : Fin cfg0.N) (r : Fin 8) (d : Fin 1024) :
    (iblk m c 0 t : Vec Ideal S8x1024 .f32) (ix2 r d) = crows m c (ix2 r d) := by
  obtain ⟨⟨e0, e1⟩, -⟩ := index_facts t
  refine (congrFun (V_v2 m c) _).trans (congrArg (crows m c) (funext fun a => Fin.ext ?_))
  match a with
  | ⟨0, _⟩ => show win0_0.index t (0 : Fin 2) * 8 + 1 * r.val = r.val; omega
  | ⟨1, _⟩ => show win0_0.index t (1 : Fin 2) * 1024 + 1 * d.val = d.val; omega

theorem blk1 (t : Fin cfg0.N) (k d : Fin 1024) :
    (iblk m c 1 t : Vec Ideal S1024x1024 .f32) (ix2 k d) = a2 m c (ix2 k (cOf t d)) := by
  obtain ⟨-, ⟨e0, e1⟩, -⟩ := index_facts t
  refine (congrFun (V_main_arg2 m c) _).trans (congrArg (a2 m c) (funext fun a => Fin.ext ?_))
  match a with
  | ⟨0, _⟩ => show win0_1.index t (0 : Fin 2) * 1024 + 1 * k.val = k.val; omega
  | ⟨1, _⟩ => show win0_1.index t (1 : Fin 2) * 1024 + 1 * d.val = 1024 * t.val + d.val; omega

theorem bias_apply (x : Vec Ideal S6144 .f32) (u : Fin 1) (d : Fin 6144) :
    broadcastInDim S1x6144 ![1] bcast_S6144_S1x6144_1 x (ix2 u d) = x (ix1 d) := by
  pointwise []

theorem blk2 (t : Fin cfg0.N) (d : Fin 1024) :
    (iblk m c 2 t : Vec Ideal S1x1024 .f32) (ix2 0 d) = a3 m c (ix1 (cOf t d)) := by
  obtain ⟨-, -, ⟨e0, e1⟩, -⟩ := index_facts t
  refine (congrFun (V_v3 m c) _).trans (Eq.trans ?_ (bias_apply (a3 m c) 0 (cOf t d)))
  refine congrArg (broadcastInDim S1x6144 ![1] bcast_S6144_S1x6144_1 (a3 m c)) (funext fun a => Fin.ext ?_)
  match a with
  | ⟨0, _⟩ => show win0_2.index t (0 : Fin 2) * 1 + 1 * 0 = 0; omega
  | ⟨1, _⟩ => show win0_2.index t (1 : Fin 2) * 1024 + 1 * d.val = 1024 * t.val + d.val; omega

/-- The reference's result of the launch's arguments. -/
def want : Vec Ideal S8x6144 .f32 :=
  Cert.ModReferenceIdeal.Read.val_main_v7 (F := Ideal) (a0 m c) (a1 m c) (a2 m c) (a3 m c)

theorem point (t : Fin cfg0.N) (r : Fin 8) (d : Fin 1024) :
    out0_3 (iblk m c 0 t) (iblk m c 1 t) (iblk m c 2 t) (ix2 r d) = want m c (ix2 r (cOf t d)) := by
  rw [out_apply]
  unfold want
  rw [v7_apply]
  simp only [blk0 m c t, blk1 m c t, blk2 m c t]
  rfl

theorem flushed_want (t : Fin cfg0.N) :
    (dats m 0 c).flushed 3 t = ((cfg0.win 3).blk t).view.read (Elt Ideal) (want m c) := by
  rw [Value.flushed3]
  obtain ⟨-, -, -, ⟨e0, e1⟩, -⟩ := index_facts t
  funext y
  have y0 : (y 0).val < 8 := (y 0).isLt
  have y1 : (y 1).val < 1024 := (y 1).isLt
  have key := point m c t ⟨(y 0).val, y0⟩ ⟨(y 1).val, y1⟩
  refine Eq.trans ?_ (key.trans ?_)
  · refine congrArg (out0_3 (iblk m c 0 t) (iblk m c 1 t) (iblk m c 2 t)) (funext fun a => Fin.ext ?_)
    match a with
    | ⟨0, _⟩ => rfl
    | ⟨1, _⟩ => rfl
  · refine congrArg (want m c) (funext fun a => Fin.ext ?_)
    match a with
    | ⟨0, _⟩ => show (y 0).val = win0_3.index t (0 : Fin 2) * 8 + 1 * (y 0).val; omega
    | ⟨1, _⟩ => show 1024 * t.val + (y 1).val = win0_3.index t (1 : Fin 2) * 1024 + 1 * (y 1).val; omega

theorem mem_out (t : Fin cfg0.N) (i : S8x6144.Idx) :
    i ∈ ((cfg0.win 3).blk t).view.set ↔ ∀ a : Fin 2, win0_3.index t a * S8x1024.size a ≤ (i a).val ∧ (i a).val < win0_3.index t a * S8x1024.size a + S8x1024.size a := by
  show i ∈ ((View.whole main_v4).slice (win0_3.rect t)).set ↔ _
  rw [View.set_slice_whole, Rect.mem_set_unit]
  exact Iff.rfl

theorem covered (i : S8x6144.Idx) : ∃ t : Fin cfg0.N, (cfg0.win 3).flush t = true ∧ i ∈ ((cfg0.win 3).blk t).view.set := by
  have i0 : (i 0).val < 8 := (i 0).isLt
  have i1 : (i 1).val < 6144 := (i 1).isLt
  let t : Fin cfg0.N := ⟨(i 1).val / 1024, lt_of_lt_of_eq (by omega) N_0.symm⟩
  obtain ⟨-, -, -, ⟨e0, e1⟩, hf⟩ := index_facts t
  have ht : t.val = (i 1).val / 1024 := rfl
  refine ⟨t, hf, ?_⟩
  rw [mem_out]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 1024 ≤ (i 1).val ∧ (i 1).val < win0_3.index t (1 : Fin 2) * 1024 + 1024; omega

theorem final : (dats m 0 c).arrAt 3 cfg0.N = want m c :=
  (dats m 0 c).arrAt_eq_of_cover 3 _ (fun t _ => flushed_want m c t) covered

end Cert.ModValue
end
end
-- ==== Proof.ModClaim.lean ====
/-
  The claims about the modulation call: the three programs run and leave their arguments alone, the idealization rewrites
  nothing, and kernel and reference return the same array.
-/
module

public import proofs.«01_k».proof.Defs
public import proofs.«01_k».proof.Proof.Gen.Mod.Frame
public import proofs.«01_k».proof.Proof.Gen.ModIdeal.Value
public import proofs.«01_k».proof.Proof.ModValue
public import proofs.«01_k».proof.Proof.Gen.ModReferenceIdeal.Run

@[expose] public section

noncomputable section

namespace Cert.ModValue

open Idealize.ShloMosaic Idealize.ShloMosaic.TcCoe Idealize.SL.Sem

theorem frame_mod : Cert.quiescent_Mod := fun m ρ _ => Cert.Mod.Gen.frame m ρ

theorem frame_modIdeal : Cert.quiescent_ModIdeal := fun m ρ _ => Cert.ModIdeal.Gen.frame m ρ

theorem frame_modReference : Cert.quiescent_ModReferenceIdeal := fun m ρ _ =>
  (θ_run Cert.ModReferenceIdeal.defs _ _).mono (fun r h => ⟨fun c => (h c).2, sem_eq_zero_of_no_sems (by decide) r.2⟩)
    (Cert.ModReferenceIdeal.Value.run (F := Ideal) m ρ)

theorem preserves_mod : Cert.preserves_Mod_ModIdeal := trivial

/-- Kernel and reference, started on the same arguments, return the same array. -/
theorem algebraic_mod : Cert.algebraic_ModIdeal_ModReferenceIdeal := fun m g m' g' _ hagree => by
  refine ⟨fun c => want m c,
    (θ_run Cert.ModIdeal.defs _ _).mono (fun r h c => ⟨(h c).1.trans (final m c), (h c).2⟩)
      (Cert.ModIdeal.Value.run_blocks (F := Ideal) m g), ?_⟩
  refine (θ_run Cert.ModReferenceIdeal.defs _ _).mono (fun r h c => ⟨(h c).1.trans ?_, (h c).2⟩)
    (Cert.ModReferenceIdeal.Value.run (F := Ideal) m' g')
  obtain ⟨h0, h1, h2, h3⟩ := hagree c
  rw [Cert.ModReferenceIdeal.Read.val_main_v7_eq, h0, h1, h2, h3]
  rfl

end Cert.ModValue
end
end
-- ==== Proof.ConvPay.lean ====
/-
  The short convolution's body, element by element: three neighbouring tokens weighted, and the tokens put in the groups'
  order.
-/
module

public import proofs.«01_k».proof.Proof.Gen.ConvIdeal.Value
public import Idealize.ShloMosaic.Lib.KernelVsHost
public import Idealize.ShloMosaic.Lib.Pointwise

@[expose] public section

set_option maxRecDepth 16384

noncomputable section

namespace Cert.ConvValue

open Cert.ConvIdeal Cert.ConvIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-- Three neighbours weighted. -/
def short (before here after w0 w1 w2 b : EReal) : EReal := before * w0 + here * w1 + after * w2 + b

/-- The short convolution of one block of tokens, with the tokens before and after it. -/
def conv (a : BitVec 32) (u : Vec Ideal S1x1024x512 .bf16) (p n : Vec Ideal S1x16x512 .bf16) (w : Vec Ideal S8x512 .f32)
    (b : Vec Ideal S1x512 .f32) : FVec Ideal S1024x512 .f32 :=
  k0_pay15 (F := Ideal) (k0_pay9 a n) (k0_pay10 u) (k0_pay11 w) (k0_pay12 b) (k0_pay13 a p u) k0_pay14

theorem first_apply (r : Fin 1024) (d : Fin 512) :
    cmpi .eq (iota .tc S1024x512 32 [0] iota_S1024x512_d0_w32) (broadcast S1024x512 0#32) (ix2 r d) = if r.val = 0 then 1#1 else 0#1 := by
  have h : cmpi .eq (iota .tc S1024x512 32 [0] iota_S1024x512_d0_w32) (broadcast S1024x512 0#32) (ix2 r d)
      = IntOp.cmpi .eq (BitVec.ofNat 32 r.val) 0#32 := by
    pointwise []
  rw [h]
  exact (by decide +kernel : ∀ r : Fin 1024, IntOp.cmpi .eq (BitVec.ofNat 32 r.val) 0#32 = if r.val = 0 then 1#1 else 0#1) r

theorem last_apply (r : Fin 1024) (d : Fin 512) : k0_pay14 (ix2 r d) = if r.val = 1023 then 1#1 else 0#1 := by
  have h : k0_pay14 (ix2 r d) = IntOp.cmpi .eq (BitVec.ofNat 32 r.val) 1023#32 := by
    pointwise [k0_pay14]
  rw [h]
  exact (by decide +kernel : ∀ r : Fin 1024, IntOp.cmpi .eq (BitVec.ofNat 32 r.val) 1023#32 = if r.val = 1023 then 1#1 else 0#1) r

theorem back_apply (x : FVec Ideal S1024x512 .f32) (r : Fin 1024) (d : Fin 512) :
    dynamicRotate 0 1#32 none x rotates_S1024x512_d0 (ix2 r d) = x (ix2 ⟨(r.val + 1023) % 1024, by omega⟩ d) :=
  dynamicRotate_apply 0 1#32 x rotates_S1024x512_d0 (ix2 r d) _ fun b => by
    match b with
    | ⟨0, _⟩ => show (r.val + 1023) % 1024 = (r.val + 1024 - 1 % 1024) % 1024; omega
    | ⟨1, _⟩ => rfl

theorem forth_apply (x : FVec Ideal S1024x512 .f32) (r : Fin 1024) (d : Fin 512) :
    dynamicRotate 0 1023#32 none x rotates_S1024x512_d0 (ix2 r d) = x (ix2 ⟨(r.val + 1) % 1024, by omega⟩ d) :=
  dynamicRotate_apply 0 1023#32 x rotates_S1024x512_d0 (ix2 r d) _ fun b => by
    match b with
    | ⟨0, _⟩ => show (r.val + 1) % 1024 = (r.val + 1024 - 1023 % 1024) % 1024; omega
    | ⟨1, _⟩ => rfl

/-- The token before a block's first. -/
theorem prev_apply (a : BitVec 32) (p : Vec Ideal S1x16x512 .bf16) (d : Fin 512) :
    k0_pay16 (F := Ideal) a p (ix2 0 d) = if Scalar.cmpi .sgt a 0#32 = 1#1 then p (ix3 0 15 d) else 0 := by
  unfold k0_pay16
  generalize Scalar.cmpi .sgt a 0#32 = s
  unfold Scalar.select
  by_cases h : s = 1#1
  · have h' : s = 1 := h
    rw [if_pos h, if_pos h']
    pointwise []
  · have h' : ¬ s = 1 := h
    rw [if_neg h, if_neg h']
    pointwise []

/-- The token after a block's last. -/
theorem next_apply (a : BitVec 32) (n : Vec Ideal S1x16x512 .bf16) (d : Fin 512) :
    k0_pay9 (F := Ideal) a n (ix2 0 d) = if Scalar.cmpi .slt a 7#32 = 1#1 then n (ix3 0 0 d) else 0 := by
  unfold k0_pay9
  generalize Scalar.cmpi .slt a 7#32 = s
  unfold Scalar.select
  by_cases h : s = 1#1
  · have h' : s = 1 := h
    rw [if_pos h, if_pos h']
    pointwise []
  · have h' : ¬ s = 1 := h
    rw [if_neg h, if_neg h']
    pointwise []

theorem pay10_apply (u : Vec Ideal S1x1024x512 .bf16) (r : Fin 1024) (d : Fin 512) : k0_pay10 (F := Ideal) u (ix2 r d) = u (ix3 0 r d) := by
  pointwise [k0_pay10]

theorem row_apply (x : FVec Ideal S1x512 .f32) (r : Fin 1024) (d : Fin 512) :
    broadcastTo S1024x512 (shapeCast S1x512 x shapeCasts_S1x512_S1x512) broadcasts_S1x512_S1024x512 (ix2 r d) = x (ix2 0 d) := by
  pointwise []

theorem before_apply (a : BitVec 32) (p : Vec Ideal S1x16x512 .bf16) (u : Vec Ideal S1x1024x512 .bf16) (r : Fin 1024) (d : Fin 512) :
    k0_pay13 (F := Ideal) a p u (ix2 r d)
      = if r.val = 0 then (if Scalar.cmpi .sgt a 0#32 = 1#1 then p (ix3 0 15 d) else 0) else u (ix3 0 ⟨(r.val + 1023) % 1024, by omega⟩ d) := by
  show (if cmpi .eq (iota .tc S1024x512 32 [0] iota_S1024x512_d0_w32) (broadcast S1024x512 0#32) (ix2 r d) = 1#1
    then broadcastTo S1024x512 (shapeCast S1x512 (k0_pay16 (F := Ideal) a p) shapeCasts_S1x512_S1x512) broadcasts_S1x512_S1024x512 (ix2 r d)
    else dynamicRotate 0 1#32 none (k0_pay10 (F := Ideal) u) rotates_S1024x512_d0 (ix2 r d)) = _
  rw [first_apply, back_apply, row_apply, prev_apply, pay10_apply]
  by_cases h : r.val = 0
  · rw [if_pos h, if_pos h, if_pos rfl]
  · rw [if_neg h, if_neg h, if_neg (by decide)]

theorem after_apply (v60 : FVec Ideal S1x512 .f32) (v63 : FVec Ideal S1024x512 .f32) (r : Fin 1024) (d : Fin 512) :
    select k0_pay14 (broadcastTo S1024x512 (shapeCast S1x512 v60 shapeCasts_S1x512_S1x512) broadcasts_S1x512_S1024x512)
        (dynamicRotate 0 1023#32 none v63 rotates_S1024x512_d0) (ix2 r d)
      = if r.val = 1023 then v60 (ix2 0 d) else v63 (ix2 ⟨(r.val + 1) % 1024, by omega⟩ d) := by
  show (if k0_pay14 (ix2 r d) = 1#1
    then broadcastTo S1024x512 (shapeCast S1x512 v60 shapeCasts_S1x512_S1x512) broadcasts_S1x512_S1024x512 (ix2 r d)
    else dynamicRotate 0 1023#32 none v63 rotates_S1024x512_d0 (ix2 r d)) = _
  rw [last_apply, forth_apply, row_apply]
  by_cases h : r.val = 1023
  · rw [if_pos h, if_pos h, if_pos rfl]
  · rw [if_neg h, if_neg h, if_neg (by decide)]

theorem conv_apply (a : BitVec 32) (u : Vec Ideal S1x1024x512 .bf16) (p n : Vec Ideal S1x16x512 .bf16) (w : Vec Ideal S8x512 .f32)
    (b : Vec Ideal S1x512 .f32) (r : Fin 1024) (d : Fin 512) :
    conv a u p n w b (ix2 r d)
      = short (if r.val = 0 then (if Scalar.cmpi .sgt a 0#32 = 1#1 then p (ix3 0 15 d) else 0) else u (ix3 0 ⟨(r.val + 1023) % 1024, by omega⟩ d))
          (u (ix3 0 r d))
          (if r.val = 1023 then (if Scalar.cmpi .slt a 7#32 = 1#1 then n (ix3 0 0 d) else 0) else u (ix3 0 ⟨(r.val + 1) % 1024, by omega⟩ d))
          (w (ix2 0 d)) (w (ix2 1 d)) (w (ix2 2 d)) (b (ix2 0 d)) := by
  rw [← before_apply, ← next_apply, ← pay10_apply u r d, ← pay10_apply u _ d, ← after_apply]
  unfold conv k0_pay15
  dsimp only
  generalize select k0_pay14 _ _ = y3
  generalize k0_pay13 (F := Ideal) a p u = y1
  generalize k0_pay10 (F := Ideal) u = y2
  pointwise [k0_pay11, k0_pay12, short]

/-- Tokens put in the groups' order. -/
def regroup (z : FVec Ideal S1024x512 .f32) : FVec Ideal S1x16x4x16x512 .bf16 :=
  shapeCast S1x16x4x16x512 (truncf .bf16 (shapeCast S16x4x16x512 (transpose S16x8x8x512 [1, 0, 2, 3]
    (shapeCast S8x16x8x512 z shapeCasts_S1024x512_S8x16x8x512) transposes_S8x16x8x512_p1_0_2_3_S16x8x8x512)
    shapeCasts_S16x8x8x512_S16x4x16x512) bitsLt_bf16_f32) shapeCasts_S16x4x16x512_S1x16x4x16x512

theorem regroup_apply (z : FVec Ideal S1024x512 .f32) (v : Fin 1) (g : Fin 16) (p : Fin 4) (q : Fin 16) (d : Fin 512) :
    regroup z (ix5 v g p q d) = z (ix2 ⟨128 * (2 * p.val + q.val / 8) + 8 * g.val + q.val % 8, by omega⟩ d) := by
  have hv : v.val = 0 := by omega
  have e1 : shapeCast S8x16x8x512 z shapeCasts_S1024x512_S8x16x8x512
        (ix4 (⟨2 * p.val + q.val / 8, by omega⟩ : Fin 8) g (⟨q.val % 8, by omega⟩ : Fin 8) d)
      = z (ix2 ⟨128 * (2 * p.val + q.val / 8) + 8 * g.val + q.val % 8, by omega⟩ d) :=
    shapeCast_apply z shapeCasts_S1024x512_S8x16x8x512 _ _ (by
      rewrite [Shape.rowMajor_val_four, Shape.rowMajor_val_two]
      show (128 * (2 * p.val + q.val / 8) + 8 * g.val + q.val % 8) * 512 + d.val
        = (((2 * p.val + q.val / 8) * 16 + g.val) * 8 + q.val % 8) * 512 + d.val
      omega)
  rw [← e1]
  unfold regroup
  generalize shapeCast S8x16x8x512 z shapeCasts_S1024x512_S8x16x8x512 = y
  have e2 : transpose S16x8x8x512 [1, 0, 2, 3] y transposes_S8x16x8x512_p1_0_2_3_S16x8x8x512
        (ix4 g (⟨2 * p.val + q.val / 8, by omega⟩ : Fin 8) (⟨q.val % 8, by omega⟩ : Fin 8) d)
      = y (ix4 (⟨2 * p.val + q.val / 8, by omega⟩ : Fin 8) g (⟨q.val % 8, by omega⟩ : Fin 8) d) := by
    pointwise []
  rw [← e2]
  generalize transpose S16x8x8x512 [1, 0, 2, 3] y transposes_S8x16x8x512_p1_0_2_3_S16x8x8x512 = y'
  have e3 : shapeCast S16x4x16x512 y' shapeCasts_S16x8x8x512_S16x4x16x512 (ix4 g p q d)
      = y' (ix4 g (⟨2 * p.val + q.val / 8, by omega⟩ : Fin 8) (⟨q.val % 8, by omega⟩ : Fin 8) d) :=
    shapeCast_apply y' shapeCasts_S16x8x8x512_S16x4x16x512 _ _ (by
      rewrite [Shape.rowMajor_val_four, Shape.rowMajor_val_four]
      show ((g.val * 8 + (2 * p.val + q.val / 8)) * 8 + q.val % 8) * 512 + d.val
        = ((g.val * 4 + p.val) * 16 + q.val) * 512 + d.val
      omega)
  rw [← e3]
  generalize shapeCast S16x4x16x512 y' shapeCasts_S16x8x8x512_S16x4x16x512 = y''
  exact shapeCast_apply (truncf (F := Ideal) .bf16 y'' bitsLt_bf16_f32) shapeCasts_S16x4x16x512_S1x16x4x16x512 _ (ix4 g p q d) (by
      rewrite [Shape.rowMajor_val_five, Shape.rowMajor_val_four]
      show ((g.val * 4 + p.val) * 16 + q.val) * 512 + d.val
        = (((v.val * 16 + g.val) * 4 + p.val) * 16 + q.val) * 512 + d.val
      omega)

variable (i : grid0.Coords) (x0 : Vec Ideal S1x1024x512 .bf16) (x1 x2 : Vec Ideal S1x16x512 .bf16) (x3 : Vec Ideal S8x512 .f32)
  (x4 : Vec Ideal S1x512 .f32) (x5 : Vec Ideal S1x1024x512 .bf16) (x6 x7 : Vec Ideal S1x16x512 .bf16) (x8 : Vec Ideal S8x512 .f32)
  (x9 : Vec Ideal S1x512 .f32) (x10 : Vec Ideal S1x1024x512 .bf16) (x11 x12 : Vec Ideal S1x16x512 .bf16) (x13 : Vec Ideal S8x512 .f32)
  (x14 : Vec Ideal S1x512 .f32)

/-- What the body leaves in the block of the first result. -/
theorem out15_eq : out0_15 i x0 x1 x2 x3 x4 x5 x6 x7 x8 x9 x10 x11 x12 x13 x14
    = regroup (mulf (conv (BitVec.ofNat 32 (i 1).val) x0 x1 x2 x3 x4) (conv (BitVec.ofNat 32 (i 1).val) x5 x6 x7 x8 x9)) := by
  unfold out0_15
  rw [View.canon_unit_zero hz5]
  rw [show View.ld x0 r0_1 = x0 from View.ld_unit_zero (S := S1x1024x512) hz3 _ _, show View.ld x1 r0_0 = x1 from View.ld_unit_zero (S := S1x16x512) hz3 _ _,
    show View.ld x2 r0_0 = x2 from View.ld_unit_zero (S := S1x16x512) hz3 _ _, show View.ld x3 r0_2 = x3 from View.ld_unit_zero (S := S8x512) hz2 _ _,
    show View.ld x4 r0_3 = x4 from View.ld_unit_zero (S := S1x512) hz2 _ _,
    show View.ld x5 r0_1 = x5 from View.ld_unit_zero (S := S1x1024x512) hz3 _ _, show View.ld x6 r0_0 = x6 from View.ld_unit_zero (S := S1x16x512) hz3 _ _,
    show View.ld x7 r0_0 = x7 from View.ld_unit_zero (S := S1x16x512) hz3 _ _, show View.ld x8 r0_2 = x8 from View.ld_unit_zero (S := S8x512) hz2 _ _,
    show View.ld x9 r0_3 = x9 from View.ld_unit_zero (S := S1x512) hz2 _ _]
  rfl

/-- What the body leaves in the block of the second result. -/
theorem out16_eq : out0_16 i x0 x1 x2 x3 x4 x5 x6 x7 x8 x9 x10 x11 x12 x13 x14
    = regroup (conv (BitVec.ofNat 32 (i 1).val) x10 x11 x12 x13 x14) := by
  unfold out0_16
  rw [View.canon_unit_zero hz5]
  rw [show View.ld x10 r0_1 = x10 from View.ld_unit_zero (S := S1x1024x512) hz3 _ _, show View.ld x11 r0_0 = x11 from View.ld_unit_zero (S := S1x16x512) hz3 _ _,
    show View.ld x12 r0_0 = x12 from View.ld_unit_zero (S := S1x16x512) hz3 _ _, show View.ld x13 r0_2 = x13 from View.ld_unit_zero (S := S8x512) hz2 _ _,
    show View.ld x14 r0_3 = x14 from View.ld_unit_zero (S := S1x512) hz2 _ _]
  rfl

end Cert.ConvValue
end
end
-- ==== Proof.ConvRef.lean ====
/-
  The short convolution's reference, element by element.
-/
module

public import proofs.«01_k».proof.Proof.ConvPay
public import proofs.«01_k».proof.Proof.Gen.ConvReferenceIdeal.Read

@[expose] public section

set_option maxRecDepth 16384

noncomputable section

namespace Cert.ConvValue

open Cert.ConvReferenceIdeal Cert.ConvReferenceIdeal.Gen Cert.ConvReferenceIdeal.Read Idealize.ShloMosaic Idealize.ShloMosaic.TcCoe Idealize.SL.Sem

variable (x0 : (⟨S2x8192x4096, .bf16⟩ : BufTy).Contents (Elt Ideal)) (x1 : (⟨S3x1536, .f32⟩ : BufTy).Contents (Elt Ideal))
  (x2 : (⟨S1536, .f32⟩ : BufTy).Contents (Elt Ideal))

theorem v1_apply (b : Fin 2) (s : Fin 8192) (e : Fin 1536) :
    val_main_v1 (F := Ideal) x0 (ix3 b s e) = x0 (ix3 b s ⟨e.val, by omega⟩) := by
  pointwise [val_main_v1, val_main_v0]

theorem v2_apply (b : Fin 2) (e : Fin 1536) : val_main_v2 (F := Ideal) (ix3 b 0 e) = 0 := by
  pointwise [val_main_v2, val_main_cst]

theorem v3_apply (b : Fin 2) (s : Fin 8191) (e : Fin 1536) :
    val_main_v3 (F := Ideal) x0 (ix3 b s e) = val_main_v1 (F := Ideal) x0 (ix3 b ⟨s.val, by omega⟩ e) := by
  unfold val_main_v3
  generalize val_main_v1 (F := Ideal) x0 = y
  pointwise []

theorem v5_apply (b : Fin 2) (s : Fin 8191) (e : Fin 1536) :
    val_main_v5 (F := Ideal) x0 (ix3 b s e) = val_main_v1 (F := Ideal) x0 (ix3 b ⟨1 + s.val, by omega⟩ e) := by
  unfold val_main_v5
  generalize val_main_v1 (F := Ideal) x0 = y
  pointwise []

/-- The token before. -/
theorem v4_apply (b : Fin 2) (s : Fin 8192) (e : Fin 1536) :
    val_main_v4 (F := Ideal) x0 (ix3 b s e) = if h : s.val = 0 then 0 else x0 (ix3 b ⟨s.val - 1, by omega⟩ ⟨e.val, by omega⟩) := by
  unfold val_main_v4
  split_ifs with h
  · refine Eq.trans ?_ (v2_apply b e)
    generalize val_main_v2 (F := Ideal) = y
    generalize val_main_v3 (F := Ideal) x0 = z
    exact concatenate_apply_piece (t := S2x8192x1536) 1 [⟨S2x1x1536, y⟩, ⟨S2x8191x1536, z⟩] concatenates_S2x1x1536_S2x8191x1536_S2x8192x1536_d1
      (ix3 b s e) 0 (by show 0 < 2; decide) S2x1x1536 y rfl rfl 0 rfl (ix3 b 0 e)
      (fun b hb => match b, hb with | ⟨0, _⟩, _ => rfl | ⟨1, _⟩, hb => absurd rfl hb | ⟨2, _⟩, _ => rfl) (by show 0 + 0 = s.val; omega)
  · refine Eq.trans ?_ ((v3_apply x0 b ⟨s.val - 1, by omega⟩ e).trans (v1_apply x0 b _ e))
    generalize val_main_v2 (F := Ideal) = y
    generalize val_main_v3 (F := Ideal) x0 = z
    exact concatenate_apply_piece (t := S2x8192x1536) 1 [⟨S2x1x1536, y⟩, ⟨S2x8191x1536, z⟩] concatenates_S2x1x1536_S2x8191x1536_S2x8192x1536_d1
      (ix3 b s e) 1 (by show 1 < 2; decide) S2x8191x1536 z rfl rfl 1 rfl (ix3 b ⟨s.val - 1, by omega⟩ e)
      (fun b hb => match b, hb with | ⟨0, _⟩, _ => rfl | ⟨1, _⟩, hb => absurd rfl hb | ⟨2, _⟩, _ => rfl) (by show 1 + (s.val - 1) = s.val; omega)

/-- The token after. -/
theorem v6_apply (b : Fin 2) (s : Fin 8192) (e : Fin 1536) :
    val_main_v6 (F := Ideal) x0 (ix3 b s e) = if h : s.val = 8191 then 0 else x0 (ix3 b ⟨1 + s.val, by omega⟩ ⟨e.val, by omega⟩) := by
  unfold val_main_v6
  split_ifs with h
  · refine Eq.trans ?_ (v2_apply b e)
    generalize val_main_v2 (F := Ideal) = y
    generalize val_main_v5 (F := Ideal) x0 = z
    exact concatenate_apply_piece (t := S2x8192x1536) 1 [⟨S2x8191x1536, z⟩, ⟨S2x1x1536, y⟩] concatenates_S2x8191x1536_S2x1x1536_S2x8192x1536_d1
      (ix3 b s e) 1 (by show 1 < 2; decide) S2x1x1536 y rfl rfl 8191 rfl (ix3 b 0 e)
      (fun b hb => match b, hb with | ⟨0, _⟩, _ => rfl | ⟨1, _⟩, hb => absurd rfl hb | ⟨2, _⟩, _ => rfl) (by show 8191 + 0 = s.val; omega)
  · refine Eq.trans ?_ ((v5_apply x0 b ⟨s.val, by omega⟩ e).trans (v1_apply x0 b _ e))
    generalize val_main_v2 (F := Ideal) = y
    generalize val_main_v5 (F := Ideal) x0 = z
    exact concatenate_apply_piece (t := S2x8192x1536) 1 [⟨S2x8191x1536, z⟩, ⟨S2x1x1536, y⟩] concatenates_S2x8191x1536_S2x1x1536_S2x8192x1536_d1
      (ix3 b s e) 0 (by show 0 < 2; decide) S2x8191x1536 z rfl rfl 0 rfl (ix3 b ⟨s.val, by omega⟩ e)
      (fun b hb => match b, hb with | ⟨0, _⟩, _ => rfl | ⟨1, _⟩, hb => absurd rfl hb | ⟨2, _⟩, _ => rfl) (by show 0 + s.val = s.val; omega)

/-- The short convolution at one token and column. -/
def shortRow (b : Fin 2) (s : Fin 8192) (e : Fin 1536) : EReal :=
  short (if h : s.val = 0 then 0 else x0 (ix3 b ⟨s.val - 1, by omega⟩ ⟨e.val, by omega⟩)) (x0 (ix3 b s ⟨e.val, by omega⟩))
    (if h : s.val = 8191 then 0 else x0 (ix3 b ⟨1 + s.val, by omega⟩ ⟨e.val, by omega⟩))
    (x1 (ix2 0 e)) (x1 (ix2 1 e)) (x1 (ix2 2 e)) (x2 (ix1 e))

theorem v26_apply (b : Fin 2) (s : Fin 8192) (e : Fin 1536) :
    val_main_v26 (F := Ideal) x0 x1 x2 (ix3 b s e) = shortRow x0 x1 x2 b s e := by
  unfold shortRow
  rw [← v4_apply, ← v6_apply, ← v1_apply x0 b s e]
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7
  generalize val_main_v4 (F := Ideal) x0 = y4
  generalize val_main_v6 (F := Ideal) x0 = y6
  generalize val_main_v1 (F := Ideal) x0 = y1
  pointwise [short]

/-- The token at a place of the groups' order. -/
def tokenOf (g : Fin 16) (p : Fin 32) (q : Fin 16) : Fin 8192 := ⟨128 * (2 * p.val + q.val / 8) + 8 * g.val + q.val % 8, by omega⟩

theorem grouped_apply (z : (⟨S2x8192x512, .f32⟩ : BufTy).Contents (Elt Ideal)) (b : Fin 2) (g : Fin 16) (p : Fin 32) (q : Fin 16) (d : Fin 512) :
    (truncf (F := Ideal) .bf16 (shapeCast S2x16x32x16x512 (transpose S2x16x64x8x512 [0, 2, 1, 3, 4]
      (shapeCast S2x64x16x8x512 z shapeCasts_S2x8192x512_S2x64x16x8x512) transposes_S2x64x16x8x512_S2x16x64x8x512_0_2_1_3_4)
      shapeCasts_S2x16x64x8x512_S2x16x32x16x512) bitsLt_bf16_f32 : (⟨S2x16x32x16x512, .bf16⟩ : BufTy).Contents (Elt Ideal)) (ix5 b g p q d)
      = z (ix3 b (tokenOf g p q) d) := by
  have e1 : shapeCast S2x64x16x8x512 z shapeCasts_S2x8192x512_S2x64x16x8x512
        (ix5 b (⟨2 * p.val + q.val / 8, by omega⟩ : Fin 64) g (⟨q.val % 8, by omega⟩ : Fin 8) d)
      = z (ix3 b (tokenOf g p q) d) :=
    shapeCast_apply z shapeCasts_S2x8192x512_S2x64x16x8x512 _ _ (by
      rewrite [Shape.rowMajor_val_five, Shape.rowMajor_val_three]
      show (b.val * 8192 + (128 * (2 * p.val + q.val / 8) + 8 * g.val + q.val % 8)) * 512 + d.val
        = (((b.val * 64 + (2 * p.val + q.val / 8)) * 16 + g.val) * 8 + q.val % 8) * 512 + d.val
      omega)
  rw [← e1]
  generalize shapeCast S2x64x16x8x512 z shapeCasts_S2x8192x512_S2x64x16x8x512 = y
  have e2 : transpose S2x16x64x8x512 [0, 2, 1, 3, 4] y transposes_S2x64x16x8x512_S2x16x64x8x512_0_2_1_3_4
        (ix5 b g (⟨2 * p.val + q.val / 8, by omega⟩ : Fin 64) (⟨q.val % 8, by omega⟩ : Fin 8) d)
      = y (ix5 b (⟨2 * p.val + q.val / 8, by omega⟩ : Fin 64) g (⟨q.val % 8, by omega⟩ : Fin 8) d) := by
    pointwise []
  rw [← e2]
  generalize transpose S2x16x64x8x512 [0, 2, 1, 3, 4] y transposes_S2x64x16x8x512_S2x16x64x8x512_0_2_1_3_4 = y'
  exact shapeCast_apply y' shapeCasts_S2x16x64x8x512_S2x16x32x16x512 (ix5 b g p q d)
    (ix5 b g (⟨2 * p.val + q.val / 8, by omega⟩ : Fin 64) (⟨q.val % 8, by omega⟩ : Fin 8) d) (by
      rewrite [Shape.rowMajor_val_five, Shape.rowMajor_val_five]
      show (((b.val * 16 + g.val) * 64 + (2 * p.val + q.val / 8)) * 8 + q.val % 8) * 512 + d.val
        = (((b.val * 16 + g.val) * 32 + p.val) * 16 + q.val) * 512 + d.val
      omega)

theorem v30_apply (b : Fin 2) (s : Fin 8192) (d : Fin 512) :
    val_main_v30 (F := Ideal) x0 x1 x2 (ix3 b s d)
      = shortRow x0 x1 x2 b s ⟨d.val, by omega⟩ * shortRow x0 x1 x2 b s ⟨512 + d.val, by omega⟩ := by
  unfold val_main_v30 val_main_v28 val_main_v27
  have h := v26_apply x0 x1 x2
  generalize val_main_v26 (F := Ideal) x0 x1 x2 = y at h ⊢
  rw [← h, ← h]
  pointwise []

theorem v29_apply (b : Fin 2) (s : Fin 8192) (d : Fin 512) :
    val_main_v29 (F := Ideal) x0 x1 x2 (ix3 b s d) = shortRow x0 x1 x2 b s ⟨1024 + d.val, by omega⟩ := by
  unfold val_main_v29
  have h := v26_apply x0 x1 x2
  generalize val_main_v26 (F := Ideal) x0 x1 x2 = y at h ⊢
  rw [← h]
  pointwise []

theorem v34_apply (b : Fin 2) (g : Fin 16) (p : Fin 32) (q : Fin 16) (d : Fin 512) :
    val_main_v34 (F := Ideal) x0 x1 x2 (ix5 b g p q d)
      = shortRow x0 x1 x2 b (tokenOf g p q) ⟨d.val, by omega⟩ * shortRow x0 x1 x2 b (tokenOf g p q) ⟨512 + d.val, by omega⟩ := by
  unfold val_main_v34 val_main_v33 val_main_v32 val_main_v31
  exact (grouped_apply _ b g p q d).trans (v30_apply x0 x1 x2 b _ d)

theorem v38_apply (b : Fin 2) (g : Fin 16) (p : Fin 32) (q : Fin 16) (d : Fin 512) :
    val_main_v38 (F := Ideal) x0 x1 x2 (ix5 b g p q d) = shortRow x0 x1 x2 b (tokenOf g p q) ⟨1024 + d.val, by omega⟩ := by
  unfold val_main_v38 val_main_v37 val_main_v36 val_main_v35
  exact (grouped_apply _ b g p q d).trans (v29_apply x0 x1 x2 b _ d)

end Cert.ConvValue
end
end
-- ==== Proof.ConvBlocks.lean ====
/-
  The short-convolution call: its blocks of tokens, neighbours, weights and biases read at one element, and each
  group's convolution of them.
-/
module

public import proofs.«01_k».proof.Proof.ConvRef
public import Idealize.ShloMosaic.Lib.Claim
public import Idealize.ShloMosaic.Lib.StableHlo.RunRead

@[expose] public section

set_option maxRecDepth 16384

noncomputable section

namespace Cert.ConvValue

open Cert.ConvIdeal Cert.ConvIdeal.Gen Idealize.ShloMosaic Idealize.ShloMosaic.TcCoe Idealize.SL.Sem Idealize.ShloMosaic.StableHlo

variable (m : (ℓ : Loc nD τ sig) → Buf (Elt Ideal) ℓ) (c : Dev nD)

/-- The launch's arguments, as the arrays of numbers that they are. -/
abbrev a0 : Vec Ideal S2x8192x4096 .bf16 := m ((c : Thread nD τ).loc main_arg0)
abbrev a1 : Vec Ideal S3x1536 .f32 := m ((c : Thread nD τ).loc main_arg1)
abbrev a2 : Vec Ideal S1536 .f32 := m ((c : Thread nD τ).loc main_arg2)

/-- The weights the launch reads: the three rows, and rows of zeros. -/
def taps : Vec Ideal S8x1536 .f32 :=
  pad S8x1536 ![0, 0] ![5, 0] ![0, 0] (a1 m c) (sitofp (F := Ideal) .f32 (constantI S_ 32 0#32)) pads_S3x1536_S8x1536_050_000 h_S_

theorem V_v0 : V m c main_v0 = taps m c := by
  show StableHlo.after (hostOps0 ++ (hostOps0_1 ++ (hostOps0_2 ++ []))) _ _ = _
  after_reads_simp
  rfl

theorem V_v1 : V m c main_v1 = broadcastInDim S1x1536 ![1] bcast_S1536_S1x1536_1 (m ((c : Thread nD τ).loc main_arg2)) := by
  show StableHlo.after (hostOps0 ++ (hostOps0_1 ++ (hostOps0_2 ++ []))) _ _ = _
  after_reads_simp

theorem taps_apply (k : Fin 3) (e : Fin 1536) : taps m c (ix2 ⟨k.val, by omega⟩ e) = a1 m c (ix2 k e) := by
  unfold taps
  refine pad_apply_of_inside _ _ _ (a1 m c) _ pads_S3x1536_S8x1536_050_000 h_S_ _ (ix2 k e) fun a => ?_
  match a with
  | ⟨0, _⟩ => show k.val = 0 + k.val * (0 + 1); omega
  | ⟨1, _⟩ => show e.val = 0 + e.val * (0 + 1); omega

theorem bias_apply (x : Vec Ideal S1536 .f32) (u : Fin 1) (e : Fin 1536) :
    broadcastInDim S1x1536 ![1] bcast_S1536_S1x1536_1 x (ix2 u e) = x (ix1 e) := by
  pointwise []

theorem lt_N (t : Fin cfg0.N) : t.val < 16 := lt_of_lt_of_eq t.isLt (show cfg0.N = 16 from N_0)

/-- Grid point `t`'s batch. -/
def bOf (t : Fin cfg0.N) : Fin 2 := ⟨t.val / 8, by have := lt_N t; omega⟩

/-- Token `r` of grid point `t`'s block. -/
def sOf (t : Fin cfg0.N) (r : Fin 1024) : Fin 8192 := ⟨1024 * (t.val % 8) + r.val, by omega⟩

theorem scalar_facts : ∀ t : Fin cfg0.N,
    (Scalar.cmpi .sgt (BitVec.ofNat 32 ((grid0.coords t) 1).val) 0#32 = 1#1 ↔ t.val % 8 ≠ 0)
    ∧ (Scalar.cmpi .slt (BitVec.ofNat 32 ((grid0.coords t) 1).val) 7#32 = 1#1 ↔ t.val % 8 ≠ 7) :=
  (by decide +kernel : ∀ t : Fin grid0.N, _)

theorem index_facts0 : ∀ t : Fin cfg0.N,
    (win0_0.index t (0 : Fin 3) = t.val / 8 ∧ win0_0.index t (1 : Fin 3) = t.val % 8 ∧ win0_0.index t (2 : Fin 3) = 0)
    ∧ (win0_1.index t (0 : Fin 3) = t.val / 8 ∧ win0_1.index t (1 : Fin 3) = t.val % 8 * 64 - 1 ∧ win0_1.index t (2 : Fin 3) = 0)
    ∧ (win0_2.index t (0 : Fin 3) = t.val / 8 ∧ win0_2.index t (1 : Fin 3) = min ((t.val % 8 + 1) * 64) 511 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

theorem index_facts1 : ∀ t : Fin cfg0.N,
    (win0_5.index t (0 : Fin 3) = t.val / 8 ∧ win0_5.index t (1 : Fin 3) = t.val % 8 ∧ win0_5.index t (2 : Fin 3) = 1)
    ∧ (win0_6.index t (0 : Fin 3) = t.val / 8 ∧ win0_6.index t (1 : Fin 3) = t.val % 8 * 64 - 1 ∧ win0_6.index t (2 : Fin 3) = 1)
    ∧ (win0_7.index t (0 : Fin 3) = t.val / 8 ∧ win0_7.index t (1 : Fin 3) = min ((t.val % 8 + 1) * 64) 511 ∧ win0_7.index t (2 : Fin 3) = 1)
    ∧ (win0_8.index t (0 : Fin 2) = 0 ∧ win0_8.index t (1 : Fin 2) = 1)
    ∧ (win0_9.index t (0 : Fin 2) = 0 ∧ win0_9.index t (1 : Fin 2) = 1) :=
  (by decide +kernel : ∀ t : Fin grid0.N, _)

theorem index_facts2 : ∀ t : Fin cfg0.N,
    (win0_10.index t (0 : Fin 3) = t.val / 8 ∧ win0_10.index t (1 : Fin 3) = t.val % 8 ∧ win0_10.index t (2 : Fin 3) = 2)
    ∧ (win0_11.index t (0 : Fin 3) = t.val / 8 ∧ win0_11.index t (1 : Fin 3) = t.val % 8 * 64 - 1 ∧ win0_11.index t (2 : Fin 3) = 2)
    ∧ (win0_12.index t (0 : Fin 3) = t.val / 8 ∧ win0_12.index t (1 : Fin 3) = min ((t.val % 8 + 1) * 64) 511 ∧ win0_12.index t (2 : Fin 3) = 2)
    ∧ (win0_13.index t (0 : Fin 2) = 0 ∧ win0_13.index t (1 : Fin 2) = 2)
    ∧ (win0_14.index t (0 : Fin 2) = 0 ∧ win0_14.index t (1 : Fin 2) = 2) :=
  (by decide +kernel : ∀ t : Fin grid0.N, _)

theorem index_facts15 : ∀ t : Fin cfg0.N,
    (win0_15.index t (0 : Fin 5) = t.val / 8 ∧ win0_15.index t (1 : Fin 5) = 0 ∧ win0_15.index t (2 : Fin 5) = t.val % 8
      ∧ win0_15.index t (3 : Fin 5) = 0 ∧ win0_15.index t (4 : Fin 5) = 0)
    ∧ (cfg0.win 15).flush t = true :=
  (by decide +kernel : ∀ t : Fin grid0.N, _)

theorem index_facts16 : ∀ t : Fin cfg0.N,
    (win0_16.index t (0 : Fin 5) = t.val / 8 ∧ win0_16.index t (1 : Fin 5) = 0 ∧ win0_16.index t (2 : Fin 5) = t.val % 8
      ∧ win0_16.index t (3 : Fin 5) = 0 ∧ win0_16.index t (4 : Fin 5) = 0)
    ∧ (cfg0.win 16).flush t = true :=
  (by decide +kernel : ∀ t : Fin grid0.N, _)

/-- One group's short convolution at one element, from what its blocks hold. -/
theorem conv_short (t : Fin cfg0.N) (u : Vec Ideal S1x1024x512 .bf16) (p n : Vec Ideal S1x16x512 .bf16) (w : Vec Ideal S8x512 .f32)
    (b : Vec Ideal S1x512 .f32) (d : Fin 512) (e : Fin 1536)
    (hu : ∀ r : Fin 1024, u (ix3 0 r d) = a0 m c (ix3 (bOf t) (sOf t r) ⟨e.val, by omega⟩))
    (hp : t.val % 8 ≠ 0 → p (ix3 0 15 d) = a0 m c (ix3 (bOf t) ⟨1024 * (t.val % 8) - 1, by omega⟩ ⟨e.val, by omega⟩))
    (hn : ∀ h : t.val % 8 ≠ 7, n (ix3 0 0 d) = a0 m c (ix3 (bOf t) ⟨1024 * (t.val % 8) + 1024, by omega⟩ ⟨e.val, by omega⟩))
    (hw : ∀ k : Fin 3, w (ix2 ⟨k.val, by omega⟩ d) = a1 m c (ix2 k e)) (hb : b (ix2 0 d) = a2 m c (ix1 e)) (r : Fin 1024) :
    conv (BitVec.ofNat 32 ((grid0.coords t) 1).val) u p n w b (ix2 r d) = shortRow (a0 m c) (a1 m c) (a2 m c) (bOf t) (sOf t r) e := by
  obtain ⟨f1, f2⟩ := scalar_facts t
  rw [conv_apply]
  unfold shortRow
  rw [hu r, hb, show w (ix2 0 d) = a1 m c (ix2 0 e) from hw 0, show w (ix2 1 d) = a1 m c (ix2 1 e) from hw 1,
    show w (ix2 2 d) = a1 m c (ix2 2 e) from hw 2]
  have hs : (sOf t r).val = 1024 * (t.val % 8) + r.val := rfl
  have e1 : (if r.val = 0 then (if Scalar.cmpi .sgt (BitVec.ofNat 32 ((grid0.coords t) 1).val) 0#32 = 1#1 then p (ix3 0 15 d) else (0 : EReal))
        else u (ix3 0 ⟨(r.val + 1023) % 1024, by omega⟩ d))
      = if h : (sOf t r).val = 0 then (0 : EReal) else a0 m c (ix3 (bOf t) ⟨(sOf t r).val - 1, by omega⟩ ⟨e.val, by omega⟩) := by
    by_cases h0 : r.val = 0
    · rw [if_pos h0]
      by_cases hi : t.val % 8 = 0
      · rw [if_neg (fun h => f1.mp h hi), dif_pos (by omega)]
      · rw [if_pos (f1.mpr hi), dif_neg (by omega), hp hi]
        exact congrArg (fun s => a0 m c (ix3 (bOf t) s ⟨e.val, by omega⟩)) (Fin.ext (by show 1024 * (t.val % 8) - 1 = (sOf t r).val - 1; omega))
    · rw [if_neg h0, dif_neg (by omega), hu]
      exact congrArg (fun s => a0 m c (ix3 (bOf t) s ⟨e.val, by omega⟩))
        (Fin.ext (by show 1024 * (t.val % 8) + (r.val + 1023) % 1024 = (sOf t r).val - 1; omega))
  have e2 : (if r.val = 1023 then (if Scalar.cmpi .slt (BitVec.ofNat 32 ((grid0.coords t) 1).val) 7#32 = 1#1 then n (ix3 0 0 d) else (0 : EReal))
        else u (ix3 0 ⟨(r.val + 1) % 1024, by omega⟩ d))
      = if h : (sOf t r).val = 8191 then (0 : EReal) else a0 m c (ix3 (bOf t) ⟨1 + (sOf t r).val, by omega⟩ ⟨e.val, by omega⟩) := by
    by_cases h0 : r.val = 1023
    · rw [if_pos h0]
      by_cases hi : t.val % 8 = 7
      · rw [if_neg (fun h => f2.mp h hi), dif_pos (by omega)]
      · rw [if_pos (f2.mpr hi), dif_neg (by omega), hn hi]
        exact congrArg (fun s => a0 m c (ix3 (bOf t) s ⟨e.val, by omega⟩)) (Fin.ext (by show 1024 * (t.val % 8) + 1024 = 1 + (sOf t r).val; omega))
    · rw [if_neg h0, dif_neg (by omega), hu]
      exact congrArg (fun s => a0 m c (ix3 (bOf t) s ⟨e.val, by omega⟩))
        (Fin.ext (by show 1024 * (t.val % 8) + (r.val + 1) % 1024 = 1 + (sOf t r).val; omega))
  rw [e1, e2]

theorem group0 (t : Fin cfg0.N) (r : Fin 1024) (d : Fin 512) :
    conv (BitVec.ofNat 32 ((grid0.coords t) 1).val) (iblk m c 0 t) (iblk m c 1 t) (iblk m c 2 t) (iblk m c 3 t) (iblk m c 4 t) (ix2 r d)
      = shortRow (a0 m c) (a1 m c) (a2 m c) (bOf t) (sOf t r) ⟨d.val, by omega⟩ := by
  obtain ⟨⟨u0, u1, u2⟩, ⟨p0, p1, p2⟩, ⟨n0, n1, n2⟩, ⟨w0, w1⟩, ⟨b0, b1⟩⟩ := index_facts0 t
  refine conv_short m c t _ _ _ _ _ d ⟨d.val, by omega⟩ (fun r => ?_) (fun h => ?_) (fun h => ?_) (fun k => ?_) ?_ r
  · refine (congrFun (V_main_arg0 m c) _).trans (congrArg (a0 m c) (funext fun a => Fin.ext ?_))
    match a with
    | ⟨0, _⟩ => show win0_0.index t (0 : Fin 3) * 1 + 1 * 0 = t.val / 8; omega
    | ⟨1, _⟩ => show win0_0.index t (1 : Fin 3) * 1024 + 1 * r.val = 1024 * (t.val % 8) + r.val; omega
    | ⟨2, _⟩ => show win0_0.index t (2 : Fin 3) * 512 + 1 * d.val = d.val; omega
  · refine (congrFun (V_main_arg0 m c) _).trans (congrArg (a0 m c) (funext fun a => Fin.ext ?_))
    match a with
    | ⟨0, _⟩ => show win0_1.index t (0 : Fin 3) * 1 + 1 * 0 = t.val / 8; omega
    | ⟨1, _⟩ => show win0_1.index t (1 : Fin 3) * 16 + 1 * 15 = 1024 * (t.val % 8) - 1; omega
    | ⟨2, _⟩ => show win0_1.index t (2 : Fin 3) * 512 + 1 * d.val = d.val; omega
  · refine (congrFun (V_main_arg0 m c) _).trans (congrArg (a0 m c) (funext fun a => Fin.ext ?_))
    match a with
    | ⟨0, _⟩ => show win0_2.index t (0 : Fin 3) * 1 + 1 * 0 = t.val / 8; omega
    | ⟨1, _⟩ => show win0_2.index t (1 : Fin 3) * 16 + 1 * 0 = 1024 * (t.val % 8) + 1024; omega
    | ⟨2, _⟩ => show win0_2.index t (2 : Fin 3) * 512 + 1 * d.val = d.val; omega
  · refine (congrFun (V_v0 m c) _).trans (Eq.trans ?_ (taps_apply m c k ⟨d.val, by omega⟩))
    refine congrArg (taps m c) (funext fun a => Fin.ext ?_)
    match a with
    | ⟨0, _⟩ => show win0_3.index t (0 : Fin 2) * 8 + 1 * k.val = k.val; omega
    | ⟨1, _⟩ => show win0_3.index t (1 : Fin 2) * 512 + 1 * d.val = d.val; omega
  · refine (congrFun (V_v1 m c) _).trans (Eq.trans ?_ (bias_apply (a2 m c) 0 ⟨d.val, by omega⟩))
    refine congrArg (broadcastInDim S1x1536 ![1] bcast_S1536_S1x1536_1 (a2 m c)) (funext fun a => Fin.ext ?_)
    match a with
    | ⟨0, _⟩ => show win0_4.index t (0 : Fin 2) * 1 + 1 * 0 = 0; omega
    | ⟨1, _⟩ => show win0_4.index t (1 : Fin 2) * 512 + 1 * d.val = d.val; omega

theorem group1 (t : Fin cfg0.N) (r : Fin 1024) (d : Fin 512) :
    conv (BitVec.ofNat 32 ((grid0.coords t) 1).val) (iblk m c 5 t) (iblk m c 6 t) (iblk m c 7 t) (iblk m c 8 t) (iblk m c 9 t) (ix2 r d)
      = shortRow (a0 m c) (a1 m c) (a2 m c) (bOf t) (sOf t r) ⟨512 + d.val, by omega⟩ := by
  obtain ⟨⟨u0, u1, u2⟩, ⟨p0, p1, p2⟩, ⟨n0, n1, n2⟩, ⟨w0, w1⟩, ⟨b0, b1⟩⟩ := index_facts1 t
  refine conv_short m c t _ _ _ _ _ d ⟨512 + d.val, by omega⟩ (fun r => ?_) (fun h => ?_) (fun h => ?_) (fun k => ?_) ?_ r
  · refine (congrFun (V_main_arg0 m c) _).trans (congrArg (a0 m c) (funext fun a => Fin.ext ?_))
    match a with
    | ⟨0, _⟩ => show win0_5.index t (0 : Fin 3) * 1 + 1 * 0 = t.val / 8; omega
    | ⟨1, _⟩ => show win0_5.index t (1 : Fin 3) * 1024 + 1 * r.val = 1024 * (t.val % 8) + r.val; omega
    | ⟨2, _⟩ => show win0_5.index t (2 : Fin 3) * 512 + 1 * d.val = 512 + d.val; omega
  · refine (congrFun (V_main_arg0 m c) _).trans (congrArg (a0 m c) (funext fun a => Fin.ext ?_))
    match a with
    | ⟨0, _⟩ => show win0_6.index t (0 : Fin 3) * 1 + 1 * 0 = t.val / 8; omega
    | ⟨1, _⟩ => show win0_6.index t (1 : Fin 3) * 16 + 1 * 15 = 1024 * (t.val % 8) - 1; omega
    | ⟨2, _⟩ => show win0_6.index t (2 : Fin 3) * 512 + 1 * d.val = 512 + d.val; omega
  · refine (congrFun (V_main_arg0 m c) _).trans (congrArg (a0 m c) (funext fun a => Fin.ext ?_))
    match a with
    | ⟨0, _⟩ => show win0_7.index t (0 : Fin 3) * 1 + 1 * 0 = t.val / 8; omega
    | ⟨1, _⟩ => show win0_7.index t (1 : Fin 3) * 16 + 1 * 0 = 1024 * (t.val % 8) + 1024; omega
    | ⟨2, _⟩ => show win0_7.index t (2 : Fin 3) * 512 + 1 * d.val = 512 + d.val; omega
  · refine (congrFun (V_v0 m c) _).trans (Eq.trans ?_ (taps_apply m c k ⟨512 + d.val, by omega⟩))
    refine congrArg (taps m c) (funext fun a => Fin.ext ?_)
    match a with
    | ⟨0, _⟩ => show win0_8.index t (0 : Fin 2) * 8 + 1 * k.val = k.val; omega
    | ⟨1, _⟩ => show win0_8.index t (1 : Fin 2) * 512 + 1 * d.val = 512 + d.val; omega
  · refine (congrFun (V_v1 m c) _).trans (Eq.trans ?_ (bias_apply (a2 m c) 0 ⟨512 + d.val, by omega⟩))
    refine congrArg (broadcastInDim S1x1536 ![1] bcast_S1536_S1x1536_1 (a2 m c)) (funext fun a => Fin.ext ?_)
    match a with
    | ⟨0, _⟩ => show win0_9.index t (0 : Fin 2) * 1 + 1 * 0 = 0; omega
    | ⟨1, _⟩ => show win0_9.index t (1 : Fin 2) * 512 + 1 * d.val = 512 + d.val; omega

theorem group2 (t : Fin cfg0.N) (r : Fin 1024) (d : Fin 512) :
    conv (BitVec.ofNat 32 ((grid0.coords t) 1).val) (iblk m c 10 t) (iblk m c 11 t) (iblk m c 12 t) (iblk m c 13 t) (iblk m c 14 t) (ix2 r d)
      = shortRow (a0 m c) (a1 m c) (a2 m c) (bOf t) (sOf t r) ⟨1024 + d.val, by omega⟩ := by
  obtain ⟨⟨u0, u1, u2⟩, ⟨p0, p1, p2⟩, ⟨n0, n1, n2⟩, ⟨w0, w1⟩, ⟨b0, b1⟩⟩ := index_facts2 t
  refine conv_short m c t _ _ _ _ _ d ⟨1024 + d.val, by omega⟩ (fun r => ?_) (fun h => ?_) (fun h => ?_) (fun k => ?_) ?_ r
  · refine (congrFun (V_main_arg0 m c) _).trans (congrArg (a0 m c) (funext fun a => Fin.ext ?_))
    match a with
    | ⟨0, _⟩ => show win0_10.index t (0 : Fin 3) * 1 + 1 * 0 = t.val / 8; omega
    | ⟨1, _⟩ => show win0_10.index t (1 : Fin 3) * 1024 + 1 * r.val = 1024 * (t.val % 8) + r.val; omega
    | ⟨2, _⟩ => show win0_10.index t (2 : Fin 3) * 512 + 1 * d.val = 1024 + d.val; omega
  · refine (congrFun (V_main_arg0 m c) _).trans (congrArg (a0 m c) (funext fun a => Fin.ext ?_))
    match a with
    | ⟨0, _⟩ => show win0_11.index t (0 : Fin 3) * 1 + 1 * 0 = t.val / 8; omega
    | ⟨1, _⟩ => show win0_11.index t (1 : Fin 3) * 16 + 1 * 15 = 1024 * (t.val % 8) - 1; omega
    | ⟨2, _⟩ => show win0_11.index t (2 : Fin 3) * 512 + 1 * d.val = 1024 + d.val; omega
  · refine (congrFun (V_main_arg0 m c) _).trans (congrArg (a0 m c) (funext fun a => Fin.ext ?_))
    match a with
    | ⟨0, _⟩ => show win0_12.index t (0 : Fin 3) * 1 + 1 * 0 = t.val / 8; omega
    | ⟨1, _⟩ => show win0_12.index t (1 : Fin 3) * 16 + 1 * 0 = 1024 * (t.val % 8) + 1024; omega
    | ⟨2, _⟩ => show win0_12.index t (2 : Fin 3) * 512 + 1 * d.val = 1024 + d.val; omega
  · refine (congrFun (V_v0 m c) _).trans (Eq.trans ?_ (taps_apply m c k ⟨1024 + d.val, by omega⟩))
    refine congrArg (taps m c) (funext fun a => Fin.ext ?_)
    match a with
    | ⟨0, _⟩ => show win0_13.index t (0 : Fin 2) * 8 + 1 * k.val = k.val; omega
    | ⟨1, _⟩ => show win0_13.index t (1 : Fin 2) * 512 + 1 * d.val = 1024 + d.val; omega
  · refine (congrFun (V_v1 m c) _).trans (Eq.trans ?_ (bias_apply (a2 m c) 0 ⟨1024 + d.val, by omega⟩))
    refine congrArg (broadcastInDim S1x1536 ![1] bcast_S1536_S1x1536_1 (a2 m c)) (funext fun a => Fin.ext ?_)
    match a with
    | ⟨0, _⟩ => show win0_14.index t (0 : Fin 2) * 1 + 1 * 0 = 0; omega
    | ⟨1, _⟩ => show win0_14.index t (1 : Fin 2) * 512 + 1 * d.val = 1024 + d.val; omega

end Cert.ConvValue
end
end
-- ==== Proof.ConvValue.lean ====
/-
  The short-convolution call: the sixteen blocks of either result put together.
-/
module

public import proofs.«01_k».proof.Proof.ConvBlocks

@[expose] public section

set_option maxRecDepth 16384

noncomputable section

namespace Cert.ConvValue

open Cert.ConvIdeal Cert.ConvIdeal.Gen Idealize.ShloMosaic Idealize.ShloMosaic.TcCoe Idealize.SL.Sem Idealize.ShloMosaic.StableHlo

variable (m : (ℓ : Loc nD τ sig) → Buf (Elt Ideal) ℓ) (c : Dev nD)

/-- Place `p` of grid point `t`'s block of groups. -/
def pOf (t : Fin cfg0.N) (p : Fin 4) : Fin 32 := ⟨4 * (t.val % 8) + p.val, by omega⟩

/-- A place of a block of groups holds the token that the whole array has there. -/
theorem sOf_eq (t : Fin cfg0.N) (g : Fin 16) (p : Fin 4) (q : Fin 16) :
    sOf t ⟨128 * (2 * p.val + q.val / 8) + 8 * g.val + q.val % 8, by omega⟩ = tokenOf g (pOf t p) q :=
  Fin.ext (by
    show 1024 * (t.val % 8) + (128 * (2 * p.val + q.val / 8) + 8 * g.val + q.val % 8)
      = 128 * (2 * (4 * (t.val % 8) + p.val) + q.val / 8) + 8 * g.val + q.val % 8
    omega)

/-- The reference's two results of the launch's arguments. -/
def want15 : Vec Ideal S2x16x32x16x512 .bf16 := Cert.ConvReferenceIdeal.Read.val_main_v34 (F := Ideal) (a0 m c) (a1 m c) (a2 m c)
def want16 : Vec Ideal S2x16x32x16x512 .bf16 := Cert.ConvReferenceIdeal.Read.val_main_v38 (F := Ideal) (a0 m c) (a1 m c) (a2 m c)

/-- What grid point `t` writes back of the first result. -/
def out15 (t : Fin cfg0.N) : Vec Ideal S1x16x4x16x512 .bf16 := out0_15 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
def out16 (t : Fin cfg0.N) : Vec Ideal S1x16x4x16x512 .bf16 := out0_16 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

theorem point15 (t : Fin cfg0.N) (v : Fin 1) (g : Fin 16) (p : Fin 4) (q : Fin 16) (d : Fin 512) :
    out15 m c t (ix5 v g p q d) = want15 m c (ix5 (bOf t) g (pOf t p) q d) := by
  unfold out15 want15
  rw [out15_eq, regroup_apply, v34_apply, ← sOf_eq, ← group0, ← group1]
  rfl

theorem point16 (t : Fin cfg0.N) (v : Fin 1) (g : Fin 16) (p : Fin 4) (q : Fin 16) (d : Fin 512) :
    out16 m c t (ix5 v g p q d) = want16 m c (ix5 (bOf t) g (pOf t p) q d) := by
  unfold out16 want16
  rw [out16_eq, regroup_apply, v38_apply, ← sOf_eq, ← group2]

theorem cut15 (t : Fin cfg0.N) (z : Vec Ideal S1x16x4x16x512 .bf16) (x : Vec Ideal S2x16x32x16x512 .bf16)
    (h : ∀ (v : Fin 1) (g : Fin 16) (p : Fin 4) (q : Fin 16) (d : Fin 512), z (ix5 v g p q d) = x (ix5 (bOf t) g (pOf t p) q d)) :
    (cfg0.win 15).cut (grid0.coords t) z = ((cfg0.win 15).blk t).view.read (Elt Ideal) x := by
  obtain ⟨⟨e0, e1, e2, e3, e4⟩, -⟩ := index_facts15 t
  funext y
  have y0 : (y 0).val < 1 := (y 0).isLt
  have y1 : (y 1).val < 16 := (y 1).isLt
  have y2 : (y 2).val < 4 := (y 2).isLt
  have y3 : (y 3).val < 16 := (y 3).isLt
  have y4 : (y 4).val < 512 := (y 4).isLt
  have key := h ⟨(y 0).val, y0⟩ ⟨(y 1).val, y1⟩ ⟨(y 2).val, y2⟩ ⟨(y 3).val, y3⟩ ⟨(y 4).val, y4⟩
  refine Eq.trans ?_ (key.trans ?_)
  · refine congrArg z (funext fun a => Fin.ext ?_)
    match a with
    | ⟨0, _⟩ => rfl
    | ⟨1, _⟩ => rfl
    | ⟨2, _⟩ => rfl
    | ⟨3, _⟩ => rfl
    | ⟨4, _⟩ => rfl
  · refine congrArg x (funext fun a => Fin.ext ?_)
    match a with
    | ⟨0, _⟩ => show t.val / 8 = win0_15.index t (0 : Fin 5) * 1 + 1 * (y 0).val; omega
    | ⟨1, _⟩ => show (y 1).val = win0_15.index t (1 : Fin 5) * 16 + 1 * (y 1).val; omega
    | ⟨2, _⟩ => show 4 * (t.val % 8) + (y 2).val = win0_15.index t (2 : Fin 5) * 4 + 1 * (y 2).val; omega
    | ⟨3, _⟩ => show (y 3).val = win0_15.index t (3 : Fin 5) * 16 + 1 * (y 3).val; omega
    | ⟨4, _⟩ => show (y 4).val = win0_15.index t (4 : Fin 5) * 512 + 1 * (y 4).val; omega

theorem flushed_want15 (t : Fin cfg0.N) :
    (dats m 0 c).flushed 15 t = ((cfg0.win 15).blk t).view.read (Elt Ideal) (want15 m c) :=
  (Value.flushed15 m c t).trans (cut15 t (out15 m c t) (want15 m c) (point15 m c t))

theorem mem_out15 (t : Fin cfg0.N) (i : S2x16x32x16x512.Idx) :
    i ∈ ((cfg0.win 15).blk t).view.set ↔ ∀ a : Fin 5, win0_15.index t a * S1x16x4x16x512.size a ≤ (i a).val ∧ (i a).val < win0_15.index t a * S1x16x4x16x512.size a + S1x16x4x16x512.size a := by
  show i ∈ ((View.whole main_v2_0).slice (win0_15.rect t)).set ↔ _
  rw [View.set_slice_whole, Rect.mem_set_unit]
  exact Iff.rfl

theorem covered15 (i : S2x16x32x16x512.Idx) : ∃ t : Fin cfg0.N, (cfg0.win 15).flush t = true ∧ i ∈ ((cfg0.win 15).blk t).view.set := by
  have i0 : (i 0).val < 2 := (i 0).isLt
  have i1 : (i 1).val < 16 := (i 1).isLt
  have i2 : (i 2).val < 32 := (i 2).isLt
  have i3 : (i 3).val < 16 := (i 3).isLt
  have i4 : (i 4).val < 512 := (i 4).isLt
  let t : Fin cfg0.N := ⟨8 * (i 0).val + (i 2).val / 4, lt_of_lt_of_eq (by omega) N_0.symm⟩
  obtain ⟨⟨e0, e1, e2, e3, e4⟩, hf⟩ := index_facts15 t
  have ht : t.val = 8 * (i 0).val + (i 2).val / 4 := rfl
  refine ⟨t, hf, ?_⟩
  rw [mem_out15]
  intro a
  match a with
  | ⟨0, _⟩ => show win0_15.index t (0 : Fin 5) * 1 ≤ (i 0).val ∧ (i 0).val < win0_15.index t (0 : Fin 5) * 1 + 1; omega
  | ⟨1, _⟩ => show win0_15.index t (1 : Fin 5) * 16 ≤ (i 1).val ∧ (i 1).val < win0_15.index t (1 : Fin 5) * 16 + 16; omega
  | ⟨2, _⟩ => show win0_15.index t (2 : Fin 5) * 4 ≤ (i 2).val ∧ (i 2).val < win0_15.index t (2 : Fin 5) * 4 + 4; omega
  | ⟨3, _⟩ => show win0_15.index t (3 : Fin 5) * 16 ≤ (i 3).val ∧ (i 3).val < win0_15.index t (3 : Fin 5) * 16 + 16; omega
  | ⟨4, _⟩ => show win0_15.index t (4 : Fin 5) * 512 ≤ (i 4).val ∧ (i 4).val < win0_15.index t (4 : Fin 5) * 512 + 512; omega

theorem final15 : (dats m 0 c).arrAt 15 cfg0.N = want15 m c :=
  (dats m 0 c).arrAt_eq_of_cover 15 _ (fun t _ => flushed_want15 m c t) covered15

theorem cut16 (t : Fin cfg0.N) (z : Vec Ideal S1x16x4x16x512 .bf16) (x : Vec Ideal S2x16x32x16x512 .bf16)
    (h : ∀ (v : Fin 1) (g : Fin 16) (p : Fin 4) (q : Fin 16) (d : Fin 512), z (ix5 v g p q d) = x (ix5 (bOf t) g (pOf t p) q d)) :
    (cfg0.win 16).cut (grid0.coords t) z = ((cfg0.win 16).blk t).view.read (Elt Ideal) x := by
  obtain ⟨⟨e0, e1, e2, e3, e4⟩, -⟩ := index_facts16 t
  funext y
  have y0 : (y 0).val < 1 := (y 0).isLt
  have y1 : (y 1).val < 16 := (y 1).isLt
  have y2 : (y 2).val < 4 := (y 2).isLt
  have y3 : (y 3).val < 16 := (y 3).isLt
  have y4 : (y 4).val < 512 := (y 4).isLt
  have key := h ⟨(y 0).val, y0⟩ ⟨(y 1).val, y1⟩ ⟨(y 2).val, y2⟩ ⟨(y 3).val, y3⟩ ⟨(y 4).val, y4⟩
  refine Eq.trans ?_ (key.trans ?_)
  · refine congrArg z (funext fun a => Fin.ext ?_)
    match a with
    | ⟨0, _⟩ => rfl
    | ⟨1, _⟩ => rfl
    | ⟨2, _⟩ => rfl
    | ⟨3, _⟩ => rfl
    | ⟨4, _⟩ => rfl
  · refine congrArg x (funext fun a => Fin.ext ?_)
    match a with
    | ⟨0, _⟩ => show t.val / 8 = win0_16.index t (0 : Fin 5) * 1 + 1 * (y 0).val; omega
    | ⟨1, _⟩ => show (y 1).val = win0_16.index t (1 : Fin 5) * 16 + 1 * (y 1).val; omega
    | ⟨2, _⟩ => show 4 * (t.val % 8) + (y 2).val = win0_16.index t (2 : Fin 5) * 4 + 1 * (y 2).val; omega
    | ⟨3, _⟩ => show (y 3).val = win0_16.index t (3 : Fin 5) * 16 + 1 * (y 3).val; omega
    | ⟨4, _⟩ => show (y 4).val = win0_16.index t (4 : Fin 5) * 512 + 1 * (y 4).val; omega

theorem flushed_want16 (t : Fin cfg0.N) :
    (dats m 0 c).flushed 16 t = ((cfg0.win 16).blk t).view.read (Elt Ideal) (want16 m c) :=
  (Value.flushed16 m c t).trans (cut16 t (out16 m c t) (want16 m c) (point16 m c t))

theorem mem_out16 (t : Fin cfg0.N) (i : S2x16x32x16x512.Idx) :
    i ∈ ((cfg0.win 16).blk t).view.set ↔ ∀ a : Fin 5, win0_16.index t a * S1x16x4x16x512.size a ≤ (i a).val ∧ (i a).val < win0_16.index t a * S1x16x4x16x512.size a + S1x16x4x16x512.size a := by
  show i ∈ ((View.whole main_v2_1).slice (win0_16.rect t)).set ↔ _
  rw [View.set_slice_whole, Rect.mem_set_unit]
  exact Iff.rfl

theorem covered16 (i : S2x16x32x16x512.Idx) : ∃ t : Fin cfg0.N, (cfg0.win 16).flush t = true ∧ i ∈ ((cfg0.win 16).blk t).view.set := by
  have i0 : (i 0).val < 2 := (i 0).isLt
  have i1 : (i 1).val < 16 := (i 1).isLt
  have i2 : (i 2).val < 32 := (i 2).isLt
  have i3 : (i 3).val < 16 := (i 3).isLt
  have i4 : (i 4).val < 512 := (i 4).isLt
  let t : Fin cfg0.N := ⟨8 * (i 0).val + (i 2).val / 4, lt_of_lt_of_eq (by omega) N_0.symm⟩
  obtain ⟨⟨e0, e1, e2, e3, e4⟩, hf⟩ := index_facts16 t
  have ht : t.val = 8 * (i 0).val + (i 2).val / 4 := rfl
  refine ⟨t, hf, ?_⟩
  rw [mem_out16]
  intro a
  match a with
  | ⟨0, _⟩ => show win0_16.index t (0 : Fin 5) * 1 ≤ (i 0).val ∧ (i 0).val < win0_16.index t (0 : Fin 5) * 1 + 1; omega
  | ⟨1, _⟩ => show win0_16.index t (1 : Fin 5) * 16 ≤ (i 1).val ∧ (i 1).val < win0_16.index t (1 : Fin 5) * 16 + 16; omega
  | ⟨2, _⟩ => show win0_16.index t (2 : Fin 5) * 4 ≤ (i 2).val ∧ (i 2).val < win0_16.index t (2 : Fin 5) * 4 + 4; omega
  | ⟨3, _⟩ => show win0_16.index t (3 : Fin 5) * 16 ≤ (i 3).val ∧ (i 3).val < win0_16.index t (3 : Fin 5) * 16 + 16; omega
  | ⟨4, _⟩ => show win0_16.index t (4 : Fin 5) * 512 ≤ (i 4).val ∧ (i 4).val < win0_16.index t (4 : Fin 5) * 512 + 512; omega

theorem final16 : (dats m 0 c).arrAt 16 cfg0.N = want16 m c :=
  (dats m 0 c).arrAt_eq_of_cover 16 _ (fun t _ => flushed_want16 m c t) covered16

end Cert.ConvValue
end
end
-- ==== Proof.ConvClaim.lean ====
/-
  The claims about the short-convolution call: the three programs run and leave their arguments alone, the idealization rewrites
  nothing, and kernel and reference return the same two arrays.
-/
module

public import proofs.«01_k».proof.Defs
public import proofs.«01_k».proof.Proof.Gen.Conv.Frame
public import proofs.«01_k».proof.Proof.Gen.ConvIdeal.Value
public import proofs.«01_k».proof.Proof.ConvValue
public import proofs.«01_k».proof.Proof.Gen.ConvReferenceIdeal.Run

@[expose] public section

noncomputable section

namespace Cert.ConvValue

open Idealize.ShloMosaic Idealize.ShloMosaic.TcCoe Idealize.SL.Sem

theorem frame_conv : Cert.quiescent_Conv := fun m ρ _ => Cert.Conv.Gen.frame m ρ

theorem frame_convIdeal : Cert.quiescent_ConvIdeal := fun m ρ _ => Cert.ConvIdeal.Gen.frame m ρ

theorem frame_convReference : Cert.quiescent_ConvReferenceIdeal := fun m ρ _ =>
  (θ_run Cert.ConvReferenceIdeal.defs _ _).mono (fun r h => ⟨fun c => (h c).2.2, sem_eq_zero_of_no_sems (by decide) r.2⟩)
    (Cert.ConvReferenceIdeal.Value.run (F := Ideal) m ρ)

theorem preserves_conv : Cert.preserves_Conv_ConvIdeal := trivial

/-- Kernel and reference, started on the same arguments, return the same two arrays. -/
theorem algebraic_conv : Cert.algebraic_ConvIdeal_ConvReferenceIdeal := fun m g m' g' _ hagree => by
  refine ⟨fun c => want15 m c, fun c => want16 m c,
    (θ_run Cert.ConvIdeal.defs _ _).mono (fun r h c => ⟨(h c).1.trans (final15 m c), (h c).2.1.trans (final16 m c), (h c).2.2⟩)
      (Cert.ConvIdeal.Value.run_blocks (F := Ideal) m g), ?_⟩
  refine (θ_run Cert.ConvReferenceIdeal.defs _ _).mono (fun r h c => ⟨(h c).1.trans ?_, (h c).2.1.trans ?_, (h c).2.2⟩)
    (Cert.ConvReferenceIdeal.Value.run (F := Ideal) m' g')
  · obtain ⟨h0, h1, h2⟩ := hagree c
    rw [Cert.ConvReferenceIdeal.Read.val_main_v34_eq, h0, h1, h2]
    rfl
  · obtain ⟨h0, h1, h2⟩ := hagree c
    rw [Cert.ConvReferenceIdeal.Read.val_main_v38_eq, h0, h1, h2]
    rfl

end Cert.ConvValue
end
end
-- ==== Proof.TapsPay.lean ====
/-
  The call that builds the long convolution's taps, its body element by element: two layers of sines over a token's
  features, a product, a decay, and the tokens put in the groups' order.
-/
module

public import proofs.«01_k».proof.Proof.Gen.TapsIdeal.Value
public import Idealize.ShloMosaic.Lib.KernelVsHost
public import Idealize.ShloMosaic.Lib.Pointwise
public import Idealize.ShloMosaic.Lib.Pipeline.ValueKit.Tiles

@[expose] public section

set_option maxRecDepth 16384

noncomputable section

namespace Cert.TapsValue

open Cert.TapsIdeal Cert.TapsIdeal.Gen Idealize.ShloMosaic Idealize.ShloMosaic.TcCoe Idealize.SL.Sem

theorem hz2 : (![0, 0] : Fin 2 → Nat) = fun _ => 0 := funext fun a => by fin_cases a <;> rfl

/-- One token's filter at one column: two layers of sines and a product; `z` is the first layer's product. -/
def row (fr z b1 : Fin 64 → EReal) (w2 : Fin 64 → Fin 64 → EReal) (b2 w3 : Fin 64 → EReal) : EReal :=
  ∑ k : Fin 64, Ideal.sin (fr k * ((∑ j : Fin 64, Ideal.sin (fr j * (z j + b1 j)) * w2 j k) + b2 k)) * w3 k

/-- The decay at a position and a rate. -/
def decay (t d : EReal) : EReal := Ideal.exp (-t * d)

theorem pay3_apply (fr : Vec Ideal S64x1 .f32) (w1 : Vec Ideal S64x128 .f32) (f : Vec Ideal S128x1024 .f32) (b1 : Vec Ideal S64x1 .f32)
    (w2 : Vec Ideal S64x64 .f32) (b2 : Vec Ideal S64x1 .f32) (w3 : Vec Ideal S64x1024 .f32) (r e : Fin 1024) :
    k0_pay3 (F := Ideal) fr w1 f b1 w2 b2 w3 (ix2 r e)
      = row (fun k => fr (ix2 k 0)) (fun j => ∑ i : Fin 128, w1 (ix2 j i) * f (ix2 i r)) (fun j => b1 (ix2 j 0))
          (fun j k => w2 (ix2 k j)) (fun k => b2 (ix2 k 0)) (fun k => w3 (ix2 k e)) := by
  have h : k0_pay3 (F := Ideal) fr w1 f b1 w2 b2 w3 (ix2 r e)
      = ∑ k : Fin 64, Ideal.sin (fr (ix2 k 0) * ((∑ j : Fin 64, w2 (ix2 k j) * Ideal.sin (fr (ix2 j 0) * ((∑ i : Fin 128, w1 (ix2 j i) * f (ix2 i r)) + b1 (ix2 j 0)))) + b2 (ix2 k 0)))
          * w3 (ix2 k e) := by
    pointwise [k0_pay3]
  rw [h]
  unfold row
  refine Finset.sum_congr rfl fun k _ => ?_
  refine congrArg (fun s => Ideal.sin (fr (ix2 k 0) * (s + b2 (ix2 k 0))) * w3 (ix2 k e)) ?_
  exact Finset.sum_congr rfl fun j _ => mul_comm _ _

theorem pay4_apply (t : Vec Ideal S1024x1 .f32) (d : Vec Ideal S1x512 .f32) (r : Fin 1024) (e : Fin 512) :
    k0_pay4 (F := Ideal) t d (ix2 r e) = decay (t (ix2 r 0)) (d (ix2 0 e)) := by
  pointwise [k0_pay4, decay]
  simp only [zero_sub]

/-- Tokens put in the groups' order. -/
def regroup (z : FVec Ideal S1024x512 .f32) : FVec Ideal S1x16x8x8x512 .f32 :=
  shapeCast S1x16x8x8x512 (transpose S16x8x8x512 [1, 0, 2, 3]
    (shapeCast S8x16x8x512 z shapeCasts_S1024x512_S8x16x8x512) transposes_S8x16x8x512_p1_0_2_3_S16x8x8x512)
    shapeCasts_S16x8x8x512_S1x16x8x8x512

theorem regroup_apply (z : FVec Ideal S1024x512 .f32) (v : Fin 1) (g : Fin 16) (p q : Fin 8) (d : Fin 512) :
    regroup z (ix5 v g p q d) = z (ix2 ⟨128 * p.val + 8 * g.val + q.val, by omega⟩ d) := by
  have hv : v.val = 0 := by omega
  have e1 : shapeCast S8x16x8x512 z shapeCasts_S1024x512_S8x16x8x512 (ix4 p g q d)
      = z (ix2 ⟨128 * p.val + 8 * g.val + q.val, by omega⟩ d) :=
    shapeCast_apply z shapeCasts_S1024x512_S8x16x8x512 _ _ (by
      rewrite [Shape.rowMajor_val_four, Shape.rowMajor_val_two]
      show (128 * p.val + 8 * g.val + q.val) * 512 + d.val = ((p.val * 16 + g.val) * 8 + q.val) * 512 + d.val
      omega)
  rw [← e1]
  unfold regroup
  generalize shapeCast S8x16x8x512 z shapeCasts_S1024x512_S8x16x8x512 = y
  have e2 : transpose S16x8x8x512 [1, 0, 2, 3] y transposes_S8x16x8x512_p1_0_2_3_S16x8x8x512 (ix4 g p q d) = y (ix4 p g q d) := by
    pointwise []
  rw [← e2]
  generalize transpose S16x8x8x512 [1, 0, 2, 3] y transposes_S8x16x8x512_p1_0_2_3_S16x8x8x512 = y'
  exact shapeCast_apply y' shapeCasts_S16x8x8x512_S1x16x8x8x512 _ (ix4 g p q d) (by
      rewrite [Shape.rowMajor_val_five, Shape.rowMajor_val_four]
      show ((g.val * 8 + p.val) * 8 + q.val) * 512 + d.val = (((v.val * 16 + g.val) * 8 + p.val) * 8 + q.val) * 512 + d.val
      omega)

/-- The forward filter's block before it is put in order. -/
def forth (v26 : FVec Ideal S1024x1024 .f32) (v35 : FVec Ideal S1024x512 .f32) : FVec Ideal S1024x512 .f32 :=
  mulf (extractStridedSlice S1024x512 ![0, 0] v26 slices_S1024x1024_o0_0_S1024x512) v35

/-- The backward filter's block before it is put in order. -/
def back (a : BitVec 32) (v26 : FVec Ideal S1024x1024 .f32) (v35 : FVec Ideal S1024x512 .f32) : FVec Ideal S1024x512 .f32 :=
  select (cmpi .eq (addi (broadcast S1024x512 (Scalar.muli a 1024#32)) (iota .tc S1024x512 32 [0] iota_S1024x512_d0_w32)) (broadcast S1024x512 0#32))
    (broadcast S1024x512 (Scalar.ofBits (F := Ideal) .f32 0x00000000#32))
    (mulf (extractStridedSlice S1024x512 ![0, 512] v26 slices_S1024x1024_o0_512_S1024x512) v35)

theorem forth_apply (v26 : FVec Ideal S1024x1024 .f32) (v35 : FVec Ideal S1024x512 .f32) (r : Fin 1024) (d : Fin 512) :
    forth v26 v35 (ix2 r d) = v26 (ix2 r ⟨d.val, by omega⟩) * v35 (ix2 r d) := by
  pointwise [forth]

theorem first_apply (i : Fin 8) (r : Fin 1024) (d : Fin 512) :
    cmpi .eq (addi (broadcast S1024x512 (Scalar.muli (BitVec.ofNat 32 i.val) 1024#32)) (iota .tc S1024x512 32 [0] iota_S1024x512_d0_w32)) (broadcast S1024x512 0#32) (ix2 r d)
      = if 1024 * i.val + r.val = 0 then 1#1 else 0#1 := by
  have h : cmpi .eq (addi (broadcast S1024x512 (Scalar.muli (BitVec.ofNat 32 i.val) 1024#32)) (iota .tc S1024x512 32 [0] iota_S1024x512_d0_w32)) (broadcast S1024x512 0#32) (ix2 r d)
      = IntOp.cmpi .eq (BitVec.ofNat 32 i.val * 1024#32 + BitVec.ofNat 32 r.val) 0#32 := by
    pointwise []
    rfl
  rw [h]
  exact (by decide +kernel : ∀ (i : Fin 8) (r : Fin 1024), IntOp.cmpi .eq (BitVec.ofNat 32 i.val * 1024#32 + BitVec.ofNat 32 r.val) 0#32
    = if 1024 * i.val + r.val = 0 then 1#1 else 0#1) i r

theorem back_apply (i : Fin 8) (v26 : FVec Ideal S1024x1024 .f32) (v35 : FVec Ideal S1024x512 .f32) (r : Fin 1024) (d : Fin 512) :
    back (BitVec.ofNat 32 i.val) v26 v35 (ix2 r d)
      = if 1024 * i.val + r.val = 0 then 0 else v26 (ix2 r ⟨512 + d.val, by omega⟩) * v35 (ix2 r d) := by
  have e0 : broadcast S1024x512 (Scalar.ofBits (F := Ideal) .f32 0x00000000#32) (ix2 r d) = (0 : EReal) := by
    pointwise []
  have e1 : mulf (extractStridedSlice S1024x512 ![0, 512] v26 slices_S1024x1024_o0_512_S1024x512) v35 (ix2 r d)
      = v26 (ix2 r ⟨512 + d.val, by omega⟩) * v35 (ix2 r d) := by
    pointwise []
  show (if cmpi .eq (addi (broadcast S1024x512 (Scalar.muli (BitVec.ofNat 32 i.val) 1024#32)) (iota .tc S1024x512 32 [0] iota_S1024x512_d0_w32)) (broadcast S1024x512 0#32) (ix2 r d) = 1#1
    then broadcast S1024x512 (Scalar.ofBits (F := Ideal) .f32 0x00000000#32) (ix2 r d)
    else mulf (extractStridedSlice S1024x512 ![0, 512] v26 slices_S1024x1024_o0_512_S1024x512) v35 (ix2 r d)) = _
  rw [first_apply, e0, e1]
  by_cases h : 1024 * i.val + r.val = 0
  · rw [if_pos h, if_pos h, if_pos rfl]
  · rw [if_neg h, if_neg h, if_neg (by decide)]

theorem at_place (z : FVec Ideal S1024x512 .f32) (s : Fin 2) (g : Fin 16) (p q : Fin 8) (d : Fin 512) (off : Fin 5 → ℕ) (ho : off = ![s.val, 0, 0, 0, 0]) :
    View.TileAt (Val := Elt Ideal) (S := S2x16x8x8x512) (e := .f32) (ix5 s g p q d) off S1x16x8x8x512.size (regroup z)
      (z (ix2 ⟨128 * p.val + 8 * g.val + q.val, by omega⟩ d)) := by
  subst ho
  intro x hx
  have e1 : g.val = 0 + (x 1).val := hx 1
  have e2 : p.val = 0 + (x 2).val := hx 2
  have e3 : q.val = 0 + (x 3).val := hx 3
  have e4 : d.val = 0 + (x 4).val := hx 4
  have x0 : (x 0).val < 1 := (x 0).isLt
  have hxe : x = ix5 (0 : Fin 1) g p q d := by
    funext a
    match a with
    | ⟨0, _⟩ => exact Fin.ext (by show (x 0).val = 0; omega)
    | ⟨1, _⟩ => exact Fin.ext (by show (x 1).val = g.val; omega)
    | ⟨2, _⟩ => exact Fin.ext (by show (x 2).val = p.val; omega)
    | ⟨3, _⟩ => exact Fin.ext (by show (x 3).val = q.val; omega)
    | ⟨4, _⟩ => exact Fin.ext (by show (x 4).val = d.val; omega)
  exact (congrArg (regroup z) hxe).trans (regroup_apply z 0 g p q d)

theorem elsewhere (z : FVec Ideal S1x16x8x8x512 .f32) (v : EReal) (s : Fin 2) (g : Fin 16) (p q : Fin 8) (d : Fin 512) (n : ℕ) (off : Fin 5 → ℕ)
    (ho : off = ![n, 0, 0, 0, 0]) (hn : n ≠ s.val) :
    View.TileAt (Val := Elt Ideal) (S := S2x16x8x8x512) (e := .f32) (ix5 s g p q d) off S1x16x8x8x512.size z v := by
  subst ho
  intro x hx
  have e0 : s.val = n + (x 0).val := hx 0
  have x0 : (x 0).val < 1 := (x 0).isLt
  omega

variable (i : grid0.Coords) (x0 : Vec Ideal S128x1024 .f32) (x1 : Vec Ideal S1024x1 .f32) (x2 : Vec Ideal S64x128 .f32) (x3 x4 : Vec Ideal S64x1 .f32)
  (x5 : Vec Ideal S64x64 .f32) (x6 : Vec Ideal S64x1 .f32) (x7 : Vec Ideal S64x1024 .f32) (x8 : Vec Ideal S1x512 .f32)

/-- What the body leaves, the two filters' blocks. -/
theorem out_eq : out0_9 i x0 x1 x2 x3 x4 x5 x6 x7 x8
    = View.canon (Val := Elt Ideal) (s := S2x16x8x8x512) (e := .f32)
        [⟨r0_8, regroup (back (BitVec.ofNat 32 (i 0).val) (k0_pay3 (F := Ideal) x4 x2 x0 x3 x5 x6 x7) (k0_pay4 (F := Ideal) x1 x8))⟩,
         ⟨r0_7, regroup (forth (k0_pay3 (F := Ideal) x4 x2 x0 x3 x5 x6 x7) (k0_pay4 (F := Ideal) x1 x8))⟩] := by
  unfold out0_9 k0_pay6 k0_pay5
  rw [show View.ld x0 r0_2 = x0 from View.ld_unit_zero (S := S128x1024) hz2 _ _, show View.ld x1 r0_5 = x1 from View.ld_unit_zero (S := S1024x1) hz2 _ _,
    show View.ld x2 r0_1 = x2 from View.ld_unit_zero (S := S64x128) hz2 _ _, show View.ld x3 r0_0 = x3 from View.ld_unit_zero (S := S64x1) hz2 _ _,
    show View.ld x4 r0_0 = x4 from View.ld_unit_zero (S := S64x1) hz2 _ _, show View.ld x5 r0_3 = x5 from View.ld_unit_zero (S := S64x64) hz2 _ _,
    show View.ld x6 r0_0 = x6 from View.ld_unit_zero (S := S64x1) hz2 _ _, show View.ld x7 r0_4 = x7 from View.ld_unit_zero (S := S64x1024) hz2 _ _,
    show View.ld x8 r0_6 = x8 from View.ld_unit_zero (S := S1x512) hz2 _ _]
  rfl

theorem out_forth (g : Fin 16) (p q : Fin 8) (d : Fin 512) :
    out0_9 i x0 x1 x2 x3 x4 x5 x6 x7 x8 (ix5 0 g p q d)
      = forth (k0_pay3 (F := Ideal) x4 x2 x0 x3 x5 x6 x7) (k0_pay4 (F := Ideal) x1 x8) (ix2 ⟨128 * p.val + 8 * g.val + q.val, by omega⟩ d) := by
  rw [out_eq]
  refine View.canon_eq_of_allAt _ _ _ (cover0_9 _ _ _) ?_
  refine View.allAt_cons_unit _ _ _ _ _ (elsewhere _ _ 0 g p q d 1 _ rfl (by decide)) ?_
  refine View.allAt_cons_unit _ _ _ _ _ (at_place _ 0 g p q d _ rfl) ?_
  exact View.allAt_nil _ _

theorem out_back (g : Fin 16) (p q : Fin 8) (d : Fin 512) :
    out0_9 i x0 x1 x2 x3 x4 x5 x6 x7 x8 (ix5 1 g p q d)
      = back (BitVec.ofNat 32 (i 0).val) (k0_pay3 (F := Ideal) x4 x2 x0 x3 x5 x6 x7) (k0_pay4 (F := Ideal) x1 x8) (ix2 ⟨128 * p.val + 8 * g.val + q.val, by omega⟩ d) := by
  rw [out_eq]
  refine View.canon_eq_of_allAt _ _ _ (cover0_9 _ _ _) ?_
  refine View.allAt_cons_unit _ _ _ _ _ (at_place _ 1 g p q d _ rfl) ?_
  refine View.allAt_cons_unit _ _ _ _ _ (elsewhere _ _ 1 g p q d 0 _ rfl (by decide)) ?_
  exact View.allAt_nil _ _

end Cert.TapsValue
end
end
-- ==== Proof.TapsRef.lean ====
/-
  The taps' reference, element by element.
-/
module

public import proofs.«01_k».proof.Proof.TapsPay
public import proofs.«01_k».proof.Proof.Gen.TapsReferenceIdeal.Read

@[expose] public section

set_option maxRecDepth 16384

noncomputable section

namespace Cert.TapsValue

open Cert.TapsReferenceIdeal Cert.TapsReferenceIdeal.Gen Cert.TapsReferenceIdeal.Read Idealize.ShloMosaic Idealize.ShloMosaic.TcCoe Idealize.SL.Sem

variable (x0 : (⟨S8192x33, .f32⟩ : BufTy).Contents (Elt Ideal)) (x1 : (⟨S8192x1, .f32⟩ : BufTy).Contents (Elt Ideal))
  (x2 : (⟨S33x64, .f32⟩ : BufTy).Contents (Elt Ideal)) (x3 x4 : (⟨S64, .f32⟩ : BufTy).Contents (Elt Ideal))
  (x5 : (⟨S64x64, .f32⟩ : BufTy).Contents (Elt Ideal)) (x6 : (⟨S64, .f32⟩ : BufTy).Contents (Elt Ideal))
  (x7 : (⟨S64x1024, .f32⟩ : BufTy).Contents (Elt Ideal)) (x8 : (⟨S512, .f32⟩ : BufTy).Contents (Elt Ideal))

/-- A token's filter at a column. -/
def filt (s : Fin 8192) (e : Fin 1024) : EReal :=
  row (fun k => x4 (ix1 k)) (fun j => ∑ i : Fin 33, x0 (ix2 s i) * x2 (ix2 i j)) (fun j => x3 (ix1 j))
    (fun j k => x5 (ix2 j k)) (fun k => x6 (ix1 k)) (fun k => x7 (ix2 k e))

/-- A token's decay at a column. -/
def fade (s : Fin 8192) (d : Fin 512) : EReal := decay (x1 (ix2 s 0)) (val_main_v17 (F := Ideal) x8 (ix1 d))

theorem v7_apply (s : Fin 8192) (j : Fin 64) :
    val_main_v7 (F := Ideal) x0 x2 x3 x4 (ix2 s j) = Ideal.sin (x4 (ix1 j) * ((∑ i : Fin 33, x0 (ix2 s i) * x2 (ix2 i j)) + x3 (ix1 j))) := by
  pointwise [val_main_v7, val_main_v6, val_main_v5, val_main_v4, val_main_v3, val_main_v2, val_main_v1, val_main_v0]

theorem v15_apply (s : Fin 8192) (k : Fin 64) :
    val_main_v15 (F := Ideal) x0 x2 x3 x4 x5 x6 (ix2 s k)
      = Ideal.sin (x4 (ix1 k) * ((∑ j : Fin 64, Ideal.sin (x4 (ix1 j) * ((∑ i : Fin 33, x0 (ix2 s i) * x2 (ix2 i j)) + x3 (ix1 j))) * x5 (ix2 j k)) + x6 (ix1 k))) := by
  have h := v7_apply x0 x2 x3 x4 s
  unfold val_main_v15 val_main_v14 val_main_v13 val_main_v12 val_main_v11 val_main_v10 val_main_v9 val_main_v8
  generalize val_main_v7 (F := Ideal) x0 x2 x3 x4 = y at h ⊢
  simp only [← h]
  pointwise []

theorem v23_apply (s : Fin 8192) (e : Fin 1024) :
    val_main_v23 (F := Ideal) x0 x2 x3 x4 x5 x6 x7 (ix2 s e) = filt x0 x2 x3 x4 x5 x6 x7 s e := by
  have h := v15_apply x0 x2 x3 x4 x5 x6 s
  unfold val_main_v23 filt row
  generalize val_main_v15 (F := Ideal) x0 x2 x3 x4 x5 x6 = y at h ⊢
  simp only [← h]
  pointwise []

theorem v22_apply (s : Fin 8192) (d : Fin 512) : val_main_v22 (F := Ideal) x1 x8 (ix2 s d) = fade x1 x8 s d := by
  unfold val_main_v22 val_main_v21 val_main_v20 val_main_v19 val_main_v18 val_main_v16 fade
  generalize val_main_v17 (F := Ideal) x8 = y
  pointwise [decay]

theorem v24_apply (s : Fin 8192) (q : Fin 2) (d : Fin 512) :
    val_main_v24 (F := Ideal) x0 x2 x3 x4 x5 x6 x7 (ix3 s q d) = filt x0 x2 x3 x4 x5 x6 x7 s ⟨512 * q.val + d.val, by omega⟩ := by
  rw [← v23_apply]
  unfold val_main_v24
  exact shapeCast_apply (val_main_v23 (F := Ideal) x0 x2 x3 x4 x5 x6 x7) shapeCasts_S8192x1024_S8192x2x512 (ix3 s q d) (ix2 s ⟨512 * q.val + d.val, by omega⟩) (by
    rewrite [Shape.rowMajor_val_three, Shape.rowMajor_val_two]
    show s.val * 1024 + (512 * q.val + d.val) = (s.val * 2 + q.val) * 512 + d.val
    omega)

theorem v26_apply (s : Fin 8192) (q : Fin 2) (d : Fin 512) : val_main_v26 (F := Ideal) x1 x8 (ix3 s q d) = fade x1 x8 s d := by
  rw [← v22_apply]
  unfold val_main_v26 val_main_v25
  generalize val_main_v22 (F := Ideal) x1 x8 = y
  pointwise []

theorem v27_apply (s : Fin 8192) (q : Fin 2) (d : Fin 512) :
    val_main_v27 (F := Ideal) x0 x1 x2 x3 x4 x5 x6 x7 x8 (ix3 s q d) = filt x0 x2 x3 x4 x5 x6 x7 s ⟨512 * q.val + d.val, by omega⟩ * fade x1 x8 s d := by
  rw [← v24_apply, ← v26_apply x1 x8 s q d]
  unfold val_main_v27
  generalize val_main_v24 (F := Ideal) x0 x2 x3 x4 x5 x6 x7 = y
  generalize val_main_v26 (F := Ideal) x1 x8 = z
  pointwise []

theorem v33_apply (s : Fin 8192) (d : Fin 512) :
    val_main_v33 (F := Ideal) x0 x1 x2 x3 x4 x5 x6 x7 x8 (ix2 s d) = filt x0 x2 x3 x4 x5 x6 x7 s ⟨d.val, by omega⟩ * fade x1 x8 s d := by
  have h := v27_apply x0 x1 x2 x3 x4 x5 x6 x7 x8 s 0 d
  have e : (⟨512 * (0 : Fin 2).val + d.val, by omega⟩ : Fin 1024) = ⟨d.val, by omega⟩ := Fin.ext (by show 512 * 0 + d.val = d.val; omega)
  rw [e] at h
  rw [← h]
  unfold val_main_v33 val_main_v32
  generalize val_main_v27 (F := Ideal) x0 x1 x2 x3 x4 x5 x6 x7 x8 = y
  pointwise []

theorem v30_apply (s : Fin 8191) (d : Fin 512) :
    val_main_v30 (F := Ideal) x0 x1 x2 x3 x4 x5 x6 x7 x8 (ix2 s d)
      = filt x0 x2 x3 x4 x5 x6 x7 ⟨1 + s.val, by omega⟩ ⟨512 + d.val, by omega⟩ * fade x1 x8 ⟨1 + s.val, by omega⟩ d := by
  have h := v27_apply x0 x1 x2 x3 x4 x5 x6 x7 x8 ⟨1 + s.val, by omega⟩ 1 d
  have e : (⟨512 * (1 : Fin 2).val + d.val, by omega⟩ : Fin 1024) = ⟨512 + d.val, by omega⟩ := Fin.ext (by show 512 * 1 + d.val = 512 + d.val; omega)
  rw [e] at h
  rw [← h]
  unfold val_main_v30 val_main_v29
  generalize val_main_v27 (F := Ideal) x0 x1 x2 x3 x4 x5 x6 x7 x8 = y
  pointwise []

theorem v28_apply (d : Fin 512) : val_main_v28 (F := Ideal) (ix2 0 d) = 0 := by
  pointwise [val_main_v28, val_main_cst]

/-- The backward filter: nothing at the first token. -/
theorem v31_apply (s : Fin 8192) (d : Fin 512) :
    val_main_v31 (F := Ideal) x0 x1 x2 x3 x4 x5 x6 x7 x8 (ix2 s d)
      = if s.val = 0 then 0 else filt x0 x2 x3 x4 x5 x6 x7 s ⟨512 + d.val, by omega⟩ * fade x1 x8 s d := by
  unfold val_main_v31
  by_cases h : s.val = 0
  · rw [if_pos h]
    refine Eq.trans ?_ (v28_apply d)
    generalize val_main_v28 (F := Ideal) = y
    generalize val_main_v30 (F := Ideal) x0 x1 x2 x3 x4 x5 x6 x7 x8 = z
    exact concatenate_apply_piece (t := S8192x512) 0 [⟨S1x512, y⟩, ⟨S8191x512, z⟩] concatenates_S1x512_S8191x512_S8192x512_d0
      (ix2 s d) 0 (by show 0 < 2; decide) S1x512 y rfl rfl 0 rfl (ix2 0 d)
      (fun b hb => match b, hb with | ⟨0, _⟩, hb => absurd rfl hb | ⟨1, _⟩, _ => rfl) (by show 0 + 0 = s.val; omega)
  · rw [if_neg h]
    have k := v30_apply x0 x1 x2 x3 x4 x5 x6 x7 x8 ⟨s.val - 1, by omega⟩ d
    have e : (⟨1 + (s.val - 1), by omega⟩ : Fin 8192) = s := Fin.ext (by show 1 + (s.val - 1) = s.val; omega)
    rw [show (⟨1 + (⟨s.val - 1, by omega⟩ : Fin 8191).val, by omega⟩ : Fin 8192) = s from e] at k
    refine Eq.trans ?_ k
    generalize val_main_v28 (F := Ideal) = y
    generalize val_main_v30 (F := Ideal) x0 x1 x2 x3 x4 x5 x6 x7 x8 = z
    exact concatenate_apply_piece (t := S8192x512) 0 [⟨S1x512, y⟩, ⟨S8191x512, z⟩] concatenates_S1x512_S8191x512_S8192x512_d0
      (ix2 s d) 1 (by show 1 < 2; decide) S8191x512 z rfl rfl 1 rfl (ix2 ⟨s.val - 1, by omega⟩ d)
      (fun b hb => match b, hb with | ⟨0, _⟩, hb => absurd rfl hb | ⟨1, _⟩, _ => rfl) (by show 1 + (s.val - 1) = s.val; omega)

theorem v36_forth (s : Fin 8192) (d : Fin 512) :
    val_main_v36 (F := Ideal) x0 x1 x2 x3 x4 x5 x6 x7 x8 (ix3 0 s d) = filt x0 x2 x3 x4 x5 x6 x7 s ⟨d.val, by omega⟩ * fade x1 x8 s d := by
  rw [← v33_apply]
  have k : val_main_v34 (F := Ideal) x0 x1 x2 x3 x4 x5 x6 x7 x8 (ix3 0 s d) = val_main_v33 (F := Ideal) x0 x1 x2 x3 x4 x5 x6 x7 x8 (ix2 s d) := by
    unfold val_main_v34
    generalize val_main_v33 (F := Ideal) x0 x1 x2 x3 x4 x5 x6 x7 x8 = y
    pointwise []
  rw [← k]
  unfold val_main_v36
  generalize val_main_v34 (F := Ideal) x0 x1 x2 x3 x4 x5 x6 x7 x8 = y
  generalize val_main_v35 (F := Ideal) x0 x1 x2 x3 x4 x5 x6 x7 x8 = z
  exact concatenate_apply_piece (t := S2x8192x512) 0 [⟨S1x8192x512, y⟩, ⟨S1x8192x512, z⟩] concatenates_S1x8192x512_S1x8192x512_S2x8192x512_d0
    (ix3 0 s d) 0 (by show 0 < 2; decide) S1x8192x512 y rfl rfl 0 rfl (ix3 0 s d)
    (fun b hb => match b, hb with | ⟨0, _⟩, hb => absurd rfl hb | ⟨1, _⟩, _ => rfl | ⟨2, _⟩, _ => rfl) (by show 0 + 0 = 0; omega)

theorem v36_back (s : Fin 8192) (d : Fin 512) :
    val_main_v36 (F := Ideal) x0 x1 x2 x3 x4 x5 x6 x7 x8 (ix3 1 s d)
      = if s.val = 0 then 0 else filt x0 x2 x3 x4 x5 x6 x7 s ⟨512 + d.val, by omega⟩ * fade x1 x8 s d := by
  rw [← v31_apply]
  have k : val_main_v35 (F := Ideal) x0 x1 x2 x3 x4 x5 x6 x7 x8 (ix3 0 s d) = val_main_v31 (F := Ideal) x0 x1 x2 x3 x4 x5 x6 x7 x8 (ix2 s d) := by
    unfold val_main_v35
    generalize val_main_v31 (F := Ideal) x0 x1 x2 x3 x4 x5 x6 x7 x8 = y
    pointwise []
  rw [← k]
  unfold val_main_v36
  generalize val_main_v34 (F := Ideal) x0 x1 x2 x3 x4 x5 x6 x7 x8 = y
  generalize val_main_v35 (F := Ideal) x0 x1 x2 x3 x4 x5 x6 x7 x8 = z
  exact concatenate_apply_piece (t := S2x8192x512) 0 [⟨S1x8192x512, y⟩, ⟨S1x8192x512, z⟩] concatenates_S1x8192x512_S1x8192x512_S2x8192x512_d0
    (ix3 1 s d) 1 (by show 1 < 2; decide) S1x8192x512 z rfl rfl 1 rfl (ix3 0 s d)
    (fun b hb => match b, hb with | ⟨0, _⟩, hb => absurd rfl hb | ⟨1, _⟩, _ => rfl | ⟨2, _⟩, _ => rfl) (by show 1 + 0 = 1; omega)

/-- The token at a place of the groups' order. -/
def tokenOf (g : Fin 16) (p : Fin 64) (q : Fin 8) : Fin 8192 := ⟨128 * p.val + 8 * g.val + q.val, by omega⟩

theorem grouped_apply (z : (⟨S2x8192x512, .f32⟩ : BufTy).Contents (Elt Ideal)) (s : Fin 2) (g : Fin 16) (p : Fin 64) (q : Fin 8) (d : Fin 512) :
    transpose S2x16x64x8x512 [0, 2, 1, 3, 4] (shapeCast S2x64x16x8x512 z shapeCasts_S2x8192x512_S2x64x16x8x512)
      transposes_S2x64x16x8x512_S2x16x64x8x512_0_2_1_3_4 (ix5 s g p q d) = z (ix3 s (tokenOf g p q) d) := by
  have e1 : shapeCast S2x64x16x8x512 z shapeCasts_S2x8192x512_S2x64x16x8x512 (ix5 s p g q d) = z (ix3 s (tokenOf g p q) d) :=
    shapeCast_apply z shapeCasts_S2x8192x512_S2x64x16x8x512 _ _ (by
      rewrite [Shape.rowMajor_val_five, Shape.rowMajor_val_three]
      show (s.val * 8192 + (128 * p.val + 8 * g.val + q.val)) * 512 + d.val
        = (((s.val * 64 + p.val) * 16 + g.val) * 8 + q.val) * 512 + d.val
      omega)
  rw [← e1]
  generalize shapeCast S2x64x16x8x512 z shapeCasts_S2x8192x512_S2x64x16x8x512 = y
  pointwise []

theorem v38_apply (s : Fin 2) (g : Fin 16) (p : Fin 64) (q : Fin 8) (d : Fin 512) :
    val_main_v38 (F := Ideal) x0 x1 x2 x3 x4 x5 x6 x7 x8 (ix5 s g p q d)
      = val_main_v36 (F := Ideal) x0 x1 x2 x3 x4 x5 x6 x7 x8 (ix3 s (tokenOf g p q) d) := by
  unfold val_main_v38 val_main_v37
  exact grouped_apply _ s g p q d

end Cert.TapsValue
end
end
-- ==== Proof.TapsBlocks.lean ====
/-
  The call that builds the long convolution's taps: its blocks read at one element, and the two filters of them.
-/
module

public import proofs.«01_k».proof.Proof.TapsRef
public import Idealize.ShloMosaic.Lib.Claim
public import Idealize.ShloMosaic.Lib.StableHlo.RunRead

@[expose] public section

set_option maxRecDepth 16384

noncomputable section

namespace Cert.TapsValue

open Cert.TapsIdeal Cert.TapsIdeal.Gen Idealize.ShloMosaic Idealize.ShloMosaic.TcCoe Idealize.SL.Sem Idealize.ShloMosaic.StableHlo

variable (m : (ℓ : Loc nD τ sig) → Buf (Elt Ideal) ℓ) (c : Dev nD)

/-- The launch's arguments, as the arrays of numbers that they are. -/
abbrev a0 : Vec Ideal S8192x33 .f32 := m ((c : Thread nD τ).loc main_arg0)
abbrev a1 : Vec Ideal S8192x1 .f32 := m ((c : Thread nD τ).loc main_arg1)
abbrev a2 : Vec Ideal S33x64 .f32 := m ((c : Thread nD τ).loc main_arg2)
abbrev a3 : Vec Ideal S64 .f32 := m ((c : Thread nD τ).loc main_arg3)
abbrev a4 : Vec Ideal S64 .f32 := m ((c : Thread nD τ).loc main_arg4)
abbrev a5 : Vec Ideal S64x64 .f32 := m ((c : Thread nD τ).loc main_arg5)
abbrev a6 : Vec Ideal S64 .f32 := m ((c : Thread nD τ).loc main_arg6)
abbrev a7 : Vec Ideal S64x1024 .f32 := m ((c : Thread nD τ).loc main_arg7)
abbrev a8 : Vec Ideal S512 .f32 := m ((c : Thread nD τ).loc main_arg8)

/-- The features the launch reads: a token's a column, zeros below. -/
def feats : Vec Ideal S128x8192 .f32 :=
  transpose S128x8192 [1, 0] (pad S8192x128 ![0, 0] ![0, 95] ![0, 0] (a0 m c) (sitofp (F := Ideal) .f32 (constantI S_ 32 0#32)) pads_S8192x33_S8192x128_000_0950 h_S_)
    transposes_S8192x128_S128x8192_1_0

/-- The first layer's weights the launch reads: an output's a row, zeros to the right. -/
def first : Vec Ideal S64x128 .f32 :=
  transpose S64x128 [1, 0] (pad S128x64 ![0, 0] ![95, 0] ![0, 0] (a2 m c) (sitofp (F := Ideal) .f32 (constantI S_ 32 0#32)) pads_S33x64_S128x64_0950_000 h_S_)
    transposes_S128x64_S64x128_1_0

def second : Vec Ideal S64x64 .f32 := transpose S64x64 [1, 0] (a5 m c) transposes_S64x64_S64x64_1_0

def column (x : Vec Ideal S64 .f32) : Vec Ideal S64x1 .f32 := broadcastInDim S64x1 ![0] bcast_S64_S64x1_0 x

def rates : Vec Ideal S1x512 .f32 := broadcastInDim S1x512 ![1] bcast_S512_S1x512_1 (Cert.TapsReferenceIdeal.Read.val_main_v17 (F := Ideal) (a8 m c))

theorem V_v2 : V m c main_v2 = feats m c := by
  show StableHlo.after (hostOps0 ++ (hostOps0_1 ++ (hostOps0_2 ++ (hostOps0_3 ++ (hostOps0_4 ++ []))))) _ _ = _
  after_reads_simp
  rfl

theorem V_v5 : V m c main_v5 = first m c := by
  show StableHlo.after (hostOps0 ++ (hostOps0_1 ++ (hostOps0_2 ++ (hostOps0_3 ++ (hostOps0_4 ++ []))))) _ _ = _
  after_reads_simp
  rfl

theorem V_v8 : V m c main_v8 = second m c := by
  show StableHlo.after (hostOps0 ++ (hostOps0_1 ++ (hostOps0_2 ++ (hostOps0_3 ++ (hostOps0_4 ++ []))))) _ _ = _
  after_reads_simp
  rfl

theorem V_v6 : V m c main_v6 = column (a3 m c) := by
  show StableHlo.after (hostOps0 ++ (hostOps0_1 ++ (hostOps0_2 ++ (hostOps0_3 ++ (hostOps0_4 ++ []))))) _ _ = _
  after_reads_simp
  rfl

theorem V_v7 : V m c main_v7 = column (a4 m c) := by
  show StableHlo.after (hostOps0 ++ (hostOps0_1 ++ (hostOps0_2 ++ (hostOps0_3 ++ (hostOps0_4 ++ []))))) _ _ = _
  after_reads_simp
  rfl

theorem V_v9 : V m c main_v9 = column (a6 m c) := by
  show StableHlo.after (hostOps0 ++ (hostOps0_1 ++ (hostOps0_2 ++ (hostOps0_3 ++ (hostOps0_4 ++ []))))) _ _ = _
  after_reads_simp
  rfl

theorem V_v4 : V m c main_v4 = rates m c := by
  show StableHlo.after (hostOps0 ++ (hostOps0_1 ++ (hostOps0_2 ++ (hostOps0_3 ++ (hostOps0_4 ++ []))))) _ _ = _
  after_reads_simp
  rfl

theorem feats_apply (i : Fin 33) (s : Fin 8192) : feats m c (ix2 ⟨i.val, by omega⟩ s) = a0 m c (ix2 s i) := by
  have h : pad S8192x128 ![0, 0] ![0, 95] ![0, 0] (a0 m c) (sitofp (F := Ideal) .f32 (constantI S_ 32 0#32)) pads_S8192x33_S8192x128_000_0950 h_S_
      (ix2 s (⟨i.val, by omega⟩ : Fin 128)) = a0 m c (ix2 s i) := by
    refine pad_apply_of_inside _ _ _ (a0 m c) _ pads_S8192x33_S8192x128_000_0950 h_S_ _ (ix2 s i) fun a => ?_
    match a with
    | ⟨0, _⟩ => show s.val = 0 + s.val * (0 + 1); omega
    | ⟨1, _⟩ => show i.val = 0 + i.val * (0 + 1); omega
  rw [← h]
  unfold feats
  generalize pad S8192x128 _ _ _ _ _ _ _ = y
  pointwise []

theorem first_in (j : Fin 64) (i : Fin 33) : first m c (ix2 j ⟨i.val, by omega⟩) = a2 m c (ix2 i j) := by
  have h : pad S128x64 ![0, 0] ![95, 0] ![0, 0] (a2 m c) (sitofp (F := Ideal) .f32 (constantI S_ 32 0#32)) pads_S33x64_S128x64_0950_000 h_S_
      (ix2 (⟨i.val, by omega⟩ : Fin 128) j) = a2 m c (ix2 i j) := by
    refine pad_apply_of_inside _ _ _ (a2 m c) _ pads_S33x64_S128x64_0950_000 h_S_ _ (ix2 i j) fun a => ?_
    match a with
    | ⟨0, _⟩ => show i.val = 0 + i.val * (0 + 1); omega
    | ⟨1, _⟩ => show j.val = 0 + j.val * (0 + 1); omega
  rw [← h]
  unfold first
  generalize pad S128x64 _ _ _ _ _ _ _ = y
  pointwise []

theorem first_out (j : Fin 64) (i : Fin 95) : first m c (ix2 j ⟨33 + i.val, by omega⟩) = 0 := by
  have z : (sitofp (F := Ideal) .f32 (constantI S_ 32 0#32)) (Shape.Idx.first h_S_) = (0 : EReal) := by
    show ((((0#32 : BitVec 32).toInt : ℤ) : ℝ) : EReal) = 0
    simp
  have h : pad S128x64 ![0, 0] ![95, 0] ![0, 0] (a2 m c) (sitofp (F := Ideal) .f32 (constantI S_ 32 0#32)) pads_S33x64_S128x64_0950_000 h_S_
      (ix2 (⟨33 + i.val, by omega⟩ : Fin 128) j) = 0 := by
    refine (pad_apply_of_not_inside _ _ _ (a2 m c) _ pads_S33x64_S128x64_0950_000 h_S_ _ (0 : Fin 2) fun hin => ?_).trans z
    have e : (33 + i.val - 0) / (0 + 1) < 33 := hin.2.2
    omega
  rw [← h]
  unfold first
  generalize pad S128x64 _ _ _ _ _ _ _ = y
  pointwise []

/-- The padded product is the product: the weights' padding is nothing. -/
theorem layer1 (j : Fin 64) (s : Fin 8192) :
    (∑ i : Fin 128, first m c (ix2 j i) * feats m c (ix2 i s)) = ∑ i : Fin 33, a0 m c (ix2 s i) * a2 m c (ix2 i j) := by
  refine (Fin.sum_univ_add (a := 33) (b := 95) (fun i : Fin 128 => first m c (ix2 j i) * feats m c (ix2 i s))).trans ?_
  have hi : (∑ i : Fin 95, first m c (ix2 j (Fin.natAdd 33 i : Fin 128)) * feats m c (ix2 (Fin.natAdd 33 i : Fin 128) s)) = 0 :=
    Finset.sum_eq_zero fun i _ => (congrArg (· * feats m c (ix2 (Fin.natAdd 33 i : Fin 128) s)) (first_out m c j i)).trans (zero_mul _)
  have lo : (∑ i : Fin 33, first m c (ix2 j (Fin.castAdd 95 i : Fin 128)) * feats m c (ix2 (Fin.castAdd 95 i : Fin 128) s))
      = ∑ i : Fin 33, a0 m c (ix2 s i) * a2 m c (ix2 i j) :=
    Finset.sum_congr rfl fun i _ => (congrArg₂ (· * ·) (first_in m c j i) (feats_apply m c i s)).trans (mul_comm _ _)
  exact (congrArg₂ (· + ·) lo hi).trans (add_zero _)

theorem second_apply (k j : Fin 64) : second m c (ix2 k j) = a5 m c (ix2 j k) := by
  unfold second
  generalize a5 m c = y
  pointwise []

theorem column_apply (x : Vec Ideal S64 .f32) (k : Fin 64) : column x (ix2 k 0) = x (ix1 k) := by
  pointwise [column]

theorem rates_apply (d : Fin 512) : rates m c (ix2 0 d) = Cert.TapsReferenceIdeal.Read.val_main_v17 (F := Ideal) (a8 m c) (ix1 d) := by
  unfold rates
  generalize Cert.TapsReferenceIdeal.Read.val_main_v17 (F := Ideal) (a8 m c) = y
  pointwise []

theorem lt_N (t : Fin cfg0.N) : t.val < 8 := lt_of_lt_of_eq t.isLt (show cfg0.N = 8 from N_0)

/-- Token `r` of grid point `t`'s block. -/
def sOf (t : Fin cfg0.N) (r : Fin 1024) : Fin 8192 := ⟨1024 * t.val + r.val, by have := lt_N t; omega⟩

theorem coord_fact : ∀ t : Fin cfg0.N, ((grid0.coords t) 0).val = t.val := (by decide +kernel : ∀ t : Fin grid0.N, _)

theorem index_facts : ∀ t : Fin cfg0.N,
    (win0_0.index t (0 : Fin 2) = 0 ∧ win0_0.index t (1 : Fin 2) = t.val)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem index_facts9 : ∀ t : Fin cfg0.N,
    (win0_9.index t (0 : Fin 5) = 0 ∧ win0_9.index t (1 : Fin 5) = 0 ∧ win0_9.index t (2 : Fin 5) = t.val
      ∧ win0_9.index t (3 : Fin 5) = 0 ∧ win0_9.index t (4 : Fin 5) = 0)
    ∧ (cfg0.win 9).flush t = true :=
  (by decide +kernel : ∀ t : Fin grid0.N, _)

theorem blk0 (t : Fin cfg0.N) (i : Fin 128) (r : Fin 1024) :
    (iblk m c 0 t : Vec Ideal S128x1024 .f32) (ix2 i r) = feats m c (ix2 i (sOf t r)) := by
  obtain ⟨⟨e0, e1⟩, -⟩ := index_facts t
  refine (congrFun (V_v2 m c) _).trans (congrArg (feats m c) (funext fun a => Fin.ext ?_))
  match a with
  | ⟨0, _⟩ => show win0_0.index t (0 : Fin 2) * 128 + 1 * i.val = i.val; omega
  | ⟨1, _⟩ => show win0_0.index t (1 : Fin 2) * 1024 + 1 * r.val = 1024 * t.val + r.val; omega

theorem blk1 (t : Fin cfg0.N) (r : Fin 1024) :
    (iblk m c 1 t : Vec Ideal S1024x1 .f32) (ix2 r 0) = a1 m c (ix2 (sOf t r) 0) := by
  obtain ⟨-, ⟨e0, e1⟩, -⟩ := index_facts t
  refine (congrFun (V_main_arg1 m c) _).trans (congrArg (a1 m c) (funext fun a => Fin.ext ?_))
  match a with
  | ⟨0, _⟩ => show win0_1.index t (0 : Fin 2) * 1024 + 1 * r.val = 1024 * t.val + r.val; omega
  | ⟨1, _⟩ => show win0_1.index t (1 : Fin 2) * 1 + 1 * 0 = 0; omega

theorem blk2 (t : Fin cfg0.N) (j : Fin 64) (i : Fin 128) :
    (iblk m c 2 t : Vec Ideal S64x128 .f32) (ix2 j i) = first m c (ix2 j i) := by
  obtain ⟨-, -, ⟨e0, e1⟩, -⟩ := index_facts t
  refine (congrFun (V_v5 m c) _).trans (congrArg (first m c) (funext fun a => Fin.ext ?_))
  match a with
  | ⟨0, _⟩ => show win0_2.index t (0 : Fin 2) * 64 + 1 * j.val = j.val; omega
  | ⟨1, _⟩ => show win0_2.index t (1 : Fin 2) * 128 + 1 * i.val = i.val; omega

theorem blk3 (t : Fin cfg0.N) (k : Fin 64) : (iblk m c 3 t : Vec Ideal S64x1 .f32) (ix2 k 0) = a3 m c (ix1 k) := by
  obtain ⟨-, -, -, ⟨e0, e1⟩, -⟩ := index_facts t
  refine (congrFun (V_v6 m c) _).trans (Eq.trans (congrArg (column (a3 m c)) (funext fun a => Fin.ext ?_)) (column_apply (a3 m c) k))
  match a with
  | ⟨0, _⟩ => show win0_3.index t (0 : Fin 2) * 64 + 1 * k.val = k.val; omega
  | ⟨1, _⟩ => show win0_3.index t (1 : Fin 2) * 1 + 1 * 0 = 0; omega

theorem blk4 (t : Fin cfg0.N) (k : Fin 64) : (iblk m c 4 t : Vec Ideal S64x1 .f32) (ix2 k 0) = a4 m c (ix1 k) := by
  obtain ⟨-, -, -, -, ⟨e0, e1⟩, -⟩ := index_facts t
  refine (congrFun (V_v7 m c) _).trans (Eq.trans (congrArg (column (a4 m c)) (funext fun a => Fin.ext ?_)) (column_apply (a4 m c) k))
  match a with
  | ⟨0, _⟩ => show win0_4.index t (0 : Fin 2) * 64 + 1 * k.val = k.val; omega
  | ⟨1, _⟩ => show win0_4.index t (1 : Fin 2) * 1 + 1 * 0 = 0; omega

theorem blk5 (t : Fin cfg0.N) (k j : Fin 64) : (iblk m c 5 t : Vec Ideal S64x64 .f32) (ix2 k j) = a5 m c (ix2 j k) := by
  obtain ⟨-, -, -, -, -, ⟨e0, e1⟩, -⟩ := index_facts t
  refine (congrFun (V_v8 m c) _).trans (Eq.trans (congrArg (second m c) (funext fun a => Fin.ext ?_)) (second_apply m c k j))
  match a with
  | ⟨0, _⟩ => show win0_5.index t (0 : Fin 2) * 64 + 1 * k.val = k.val; omega
  | ⟨1, _⟩ => show win0_5.index t (1 : Fin 2) * 64 + 1 * j.val = j.val; omega

theorem blk6 (t : Fin cfg0.N) (k : Fin 64) : (iblk m c 6 t : Vec Ideal S64x1 .f32) (ix2 k 0) = a6 m c (ix1 k) := by
  obtain ⟨-, -, -, -, -, -, ⟨e0, e1⟩, -⟩ := index_facts t
  refine (congrFun (V_v9 m c) _).trans (Eq.trans (congrArg (column (a6 m c)) (funext fun a => Fin.ext ?_)) (column_apply (a6 m c) k))
  match a with
  | ⟨0, _⟩ => show win0_6.index t (0 : Fin 2) * 64 + 1 * k.val = k.val; omega
  | ⟨1, _⟩ => show win0_6.index t (1 : Fin 2) * 1 + 1 * 0 = 0; omega

theorem blk7 (t : Fin cfg0.N) (k : Fin 64) (e : Fin 1024) : (iblk m c 7 t : Vec Ideal S64x1024 .f32) (ix2 k e) = a7 m c (ix2 k e) := by
  obtain ⟨-, -, -, -, -, -, -, ⟨e0, e1⟩, -⟩ := index_facts t
  refine (congrFun (V_main_arg7 m c) _).trans (congrArg (a7 m c) (funext fun a => Fin.ext ?_))
  match a with
  | ⟨0, _⟩ => show win0_7.index t (0 : Fin 2) * 64 + 1 * k.val = k.val; omega
  | ⟨1, _⟩ => show win0_7.index t (1 : Fin 2) * 1024 + 1 * e.val = e.val; omega

theorem blk8 (t : Fin cfg0.N) (d : Fin 512) :
    (iblk m c 8 t : Vec Ideal S1x512 .f32) (ix2 0 d) = Cert.TapsReferenceIdeal.Read.val_main_v17 (F := Ideal) (a8 m c) (ix1 d) := by
  obtain ⟨-, -, -, -, -, -, -, -, ⟨e0, e1⟩⟩ := index_facts t
  refine (congrFun (V_v4 m c) _).trans (Eq.trans (congrArg (rates m c) (funext fun a => Fin.ext ?_)) (rates_apply m c d))
  match a with
  | ⟨0, _⟩ => show win0_8.index t (0 : Fin 2) * 1 + 1 * 0 = 0; omega
  | ⟨1, _⟩ => show win0_8.index t (1 : Fin 2) * 512 + 1 * d.val = d.val; omega

theorem filt_of (s : Fin 8192) (r e : Fin 1024) (fr : Vec Ideal S64x1 .f32) (w1 : Vec Ideal S64x128 .f32) (f : Vec Ideal S128x1024 .f32)
    (b1 : Vec Ideal S64x1 .f32) (w2 : Vec Ideal S64x64 .f32) (b2 : Vec Ideal S64x1 .f32) (w3 : Vec Ideal S64x1024 .f32)
    (h4 : ∀ k, fr (ix2 k 0) = a4 m c (ix1 k)) (h2 : ∀ j i, w1 (ix2 j i) = first m c (ix2 j i)) (h0 : ∀ i, f (ix2 i r) = feats m c (ix2 i s))
    (h3 : ∀ k, b1 (ix2 k 0) = a3 m c (ix1 k)) (h5 : ∀ k j, w2 (ix2 k j) = a5 m c (ix2 j k)) (h6 : ∀ k, b2 (ix2 k 0) = a6 m c (ix1 k))
    (h7 : ∀ k, w3 (ix2 k e) = a7 m c (ix2 k e)) :
    k0_pay3 (F := Ideal) fr w1 f b1 w2 b2 w3 (ix2 r e) = filt (a0 m c) (a2 m c) (a3 m c) (a4 m c) (a5 m c) (a6 m c) (a7 m c) s e := by
  rw [pay3_apply]
  simp only [h4, h2, h0, h3, h5, h6, h7]
  exact congrArg (fun z : Fin 64 → EReal => row (fun k => a4 m c (ix1 k)) z (fun j => a3 m c (ix1 j)) (fun j k => a5 m c (ix2 j k))
    (fun k => a6 m c (ix1 k)) (fun k => a7 m c (ix2 k e))) (funext fun j => layer1 m c j s)

/-- The body's filter is the reference's. -/
theorem filt_eq (t : Fin cfg0.N) (r e : Fin 1024) :
    k0_pay3 (F := Ideal) (iblk m c 4 t) (iblk m c 2 t) (iblk m c 0 t) (iblk m c 3 t) (iblk m c 5 t) (iblk m c 6 t) (iblk m c 7 t) (ix2 r e)
      = filt (a0 m c) (a2 m c) (a3 m c) (a4 m c) (a5 m c) (a6 m c) (a7 m c) (sOf t r) e :=
  filt_of m c (sOf t r) r e _ _ _ _ _ _ _ (blk4 m c t) (blk2 m c t) (fun i => blk0 m c t i r) (blk3 m c t) (blk5 m c t) (blk6 m c t)
    (fun k => blk7 m c t k e)

/-- The body's decay is the reference's. -/
theorem fade_eq (t : Fin cfg0.N) (r : Fin 1024) (d : Fin 512) :
    k0_pay4 (F := Ideal) (iblk m c 1 t) (iblk m c 8 t) (ix2 r d) = fade (a1 m c) (a8 m c) (sOf t r) d :=
  (pay4_apply _ _ r d).trans (congrArg₂ decay (blk1 m c t r) (blk8 m c t d))

end Cert.TapsValue
end
end
-- ==== Proof.TapsValue.lean ====
/-
  The call that builds the long convolution's taps: the eight blocks of the result put together.
-/
module

public import proofs.«01_k».proof.Proof.TapsBlocks

@[expose] public section

set_option maxRecDepth 16384

noncomputable section

namespace Cert.TapsValue

open Cert.TapsIdeal Cert.TapsIdeal.Gen Idealize.ShloMosaic Idealize.ShloMosaic.TcCoe Idealize.SL.Sem Idealize.ShloMosaic.StableHlo

variable (m : (ℓ : Loc nD τ sig) → Buf (Elt Ideal) ℓ) (c : Dev nD)

/-- Place `p` of grid point `t`'s block of groups. -/
def pOf (t : Fin cfg0.N) (p : Fin 8) : Fin 64 := ⟨8 * t.val + p.val, by have := lt_N t; omega⟩

/-- A place of a block of groups holds the token that the whole array has there. -/
theorem sOf_eq (t : Fin cfg0.N) (g : Fin 16) (p q : Fin 8) :
    sOf t ⟨128 * p.val + 8 * g.val + q.val, by omega⟩ = tokenOf g (pOf t p) q :=
  Fin.ext (by
    show 1024 * t.val + (128 * p.val + 8 * g.val + q.val) = 128 * (8 * t.val + p.val) + 8 * g.val + q.val
    omega)

/-- The reference's result of the launch's arguments. -/
def want : Vec Ideal S2x16x64x8x512 .f32 := Cert.TapsReferenceIdeal.Read.val_main_v38 (F := Ideal) (a0 m c) (a1 m c) (a2 m c) (a3 m c) (a4 m c) (a5 m c) (a6 m c) (a7 m c) (a8 m c)

/-- What grid point `t` writes back. -/
def out (t : Fin cfg0.N) : Vec Ideal S2x16x8x8x512 .f32 := out0_9 (grid0.coords t) (iblk m c 0 t) (iblk m c 1 t) (iblk m c 2 t) (iblk m c 3 t) (iblk m c 4 t) (iblk m c 5 t) (iblk m c 6 t) (iblk m c 7 t) (iblk m c 8 t)

theorem point_forth (t : Fin cfg0.N) (g : Fin 16) (p q : Fin 8) (d : Fin 512) :
    out m c t (ix5 0 g p q d) = want m c (ix5 0 g (pOf t p) q d) := by
  unfold out want
  rw [out_forth, v38_apply, v36_forth, forth_apply, filt_eq, fade_eq, sOf_eq]

theorem point_back (t : Fin cfg0.N) (g : Fin 16) (p q : Fin 8) (d : Fin 512) :
    out m c t (ix5 1 g p q d) = want m c (ix5 1 g (pOf t p) q d) := by
  unfold out want
  rw [out_back, v38_apply, v36_back, coord_fact]
  refine (back_apply ⟨t.val, lt_N t⟩ _ _ _ d).trans ?_
  rw [filt_eq, fade_eq, sOf_eq]
  have e : (tokenOf g (pOf t p) q).val = 1024 * t.val + (128 * p.val + 8 * g.val + q.val) := congrArg Fin.val (sOf_eq t g p q).symm
  rw [e]

theorem point (t : Fin cfg0.N) (s : Fin 2) (g : Fin 16) (p q : Fin 8) (d : Fin 512) :
    out m c t (ix5 s g p q d) = want m c (ix5 s g (pOf t p) q d) := by
  match s with
  | ⟨0, _⟩ => exact point_forth m c t g p q d
  | ⟨1, _⟩ => exact point_back m c t g p q d

theorem cut (t : Fin cfg0.N) (z : Vec Ideal S2x16x8x8x512 .f32) (x : Vec Ideal S2x16x64x8x512 .f32)
    (h : ∀ (s : Fin 2) (g : Fin 16) (p q : Fin 8) (d : Fin 512), z (ix5 s g p q d) = x (ix5 s g (pOf t p) q d)) :
    (cfg0.win 9).cut (grid0.coords t) z = ((cfg0.win 9).blk t).view.read (Elt Ideal) x := by
  obtain ⟨⟨e0, e1, e2, e3, e4⟩, -⟩ := index_facts9 t
  funext y
  have y0 : (y 0).val < 2 := (y 0).isLt
  have y1 : (y 1).val < 16 := (y 1).isLt
  have y2 : (y 2).val < 8 := (y 2).isLt
  have y3 : (y 3).val < 8 := (y 3).isLt
  have y4 : (y 4).val < 512 := (y 4).isLt
  have key := h ⟨(y 0).val, y0⟩ ⟨(y 1).val, y1⟩ ⟨(y 2).val, y2⟩ ⟨(y 3).val, y3⟩ ⟨(y 4).val, y4⟩
  refine Eq.trans ?_ (key.trans ?_)
  · refine congrArg z (funext fun a => Fin.ext ?_)
    match a with
    | ⟨0, _⟩ => rfl
    | ⟨1, _⟩ => rfl
    | ⟨2, _⟩ => rfl
    | ⟨3, _⟩ => rfl
    | ⟨4, _⟩ => rfl
  · refine congrArg x (funext fun a => Fin.ext ?_)
    match a with
    | ⟨0, _⟩ => show (y 0).val = win0_9.index t (0 : Fin 5) * 2 + 1 * (y 0).val; omega
    | ⟨1, _⟩ => show (y 1).val = win0_9.index t (1 : Fin 5) * 16 + 1 * (y 1).val; omega
    | ⟨2, _⟩ => show 8 * t.val + (y 2).val = win0_9.index t (2 : Fin 5) * 8 + 1 * (y 2).val; omega
    | ⟨3, _⟩ => show (y 3).val = win0_9.index t (3 : Fin 5) * 8 + 1 * (y 3).val; omega
    | ⟨4, _⟩ => show (y 4).val = win0_9.index t (4 : Fin 5) * 512 + 1 * (y 4).val; omega

theorem flushed_want (t : Fin cfg0.N) :
    (dats m 0 c).flushed 9 t = ((cfg0.win 9).blk t).view.read (Elt Ideal) (want m c) :=
  (Value.flushed9 m c t).trans (cut t (out m c t) (want m c) (point m c t))

theorem mem_out (t : Fin cfg0.N) (i : S2x16x64x8x512.Idx) :
    i ∈ ((cfg0.win 9).blk t).view.set ↔ ∀ a : Fin 5, win0_9.index t a * S2x16x8x8x512.size a ≤ (i a).val ∧ (i a).val < win0_9.index t a * S2x16x8x8x512.size a + S2x16x8x8x512.size a := by
  show i ∈ ((View.whole main_v10).slice (win0_9.rect t)).set ↔ _
  rw [View.set_slice_whole, Rect.mem_set_unit]
  exact Iff.rfl

theorem covered (i : S2x16x64x8x512.Idx) : ∃ t : Fin cfg0.N, (cfg0.win 9).flush t = true ∧ i ∈ ((cfg0.win 9).blk t).view.set := by
  have i0 : (i 0).val < 2 := (i 0).isLt
  have i1 : (i 1).val < 16 := (i 1).isLt
  have i2 : (i 2).val < 64 := (i 2).isLt
  have i3 : (i 3).val < 8 := (i 3).isLt
  have i4 : (i 4).val < 512 := (i 4).isLt
  let t : Fin cfg0.N := ⟨(i 2).val / 8, lt_of_lt_of_eq (by omega) N_0.symm⟩
  obtain ⟨⟨e0, e1, e2, e3, e4⟩, hf⟩ := index_facts9 t
  have ht : t.val = (i 2).val / 8 := rfl
  refine ⟨t, hf, ?_⟩
  rw [mem_out]
  intro a
  match a with
  | ⟨0, _⟩ => show win0_9.index t (0 : Fin 5) * 2 ≤ (i 0).val ∧ (i 0).val < win0_9.index t (0 : Fin 5) * 2 + 2; omega
  | ⟨1, _⟩ => show win0_9.index t (1 : Fin 5) * 16 ≤ (i 1).val ∧ (i 1).val < win0_9.index t (1 : Fin 5) * 16 + 16; omega
  | ⟨2, _⟩ => show win0_9.index t (2 : Fin 5) * 8 ≤ (i 2).val ∧ (i 2).val < win0_9.index t (2 : Fin 5) * 8 + 8; omega
  | ⟨3, _⟩ => show win0_9.index t (3 : Fin 5) * 8 ≤ (i 3).val ∧ (i 3).val < win0_9.index t (3 : Fin 5) * 8 + 8; omega
  | ⟨4, _⟩ => show win0_9.index t (4 : Fin 5) * 512 ≤ (i 4).val ∧ (i 4).val < win0_9.index t (4 : Fin 5) * 512 + 512; omega

theorem final : (dats m 0 c).arrAt 9 cfg0.N = want m c :=
  (dats m 0 c).arrAt_eq_of_cover 9 _ (fun t _ => flushed_want m c t) covered

end Cert.TapsValue
end
end
-- ==== Proof.TapsClaim.lean ====
/-
  The claims about the call that builds the taps: the three programs run and leave their arguments alone, the idealization rewrites
  nothing, and kernel and reference return the same array.
-/
module

public import proofs.«01_k».proof.Defs
public import proofs.«01_k».proof.Proof.Gen.Taps.Frame
public import proofs.«01_k».proof.Proof.Gen.TapsIdeal.Value
public import proofs.«01_k».proof.Proof.TapsValue
public import proofs.«01_k».proof.Proof.Gen.TapsReferenceIdeal.Run

@[expose] public section

noncomputable section

namespace Cert.TapsValue

open Idealize.ShloMosaic Idealize.ShloMosaic.TcCoe Idealize.SL.Sem

theorem frame_taps : Cert.quiescent_Taps := fun m ρ _ => Cert.Taps.Gen.frame m ρ

theorem frame_tapsIdeal : Cert.quiescent_TapsIdeal := fun m ρ _ => Cert.TapsIdeal.Gen.frame m ρ

theorem frame_tapsReference : Cert.quiescent_TapsReferenceIdeal := fun m ρ _ =>
  (θ_run Cert.TapsReferenceIdeal.defs _ _).mono (fun r h => ⟨fun c => (h c).2, sem_eq_zero_of_no_sems (by decide) r.2⟩)
    (Cert.TapsReferenceIdeal.Value.run (F := Ideal) m ρ)

theorem preserves_taps : Cert.preserves_Taps_TapsIdeal := trivial

/-- Kernel and reference, started on the same arguments, return the same array. -/
theorem algebraic_taps : Cert.algebraic_TapsIdeal_TapsReferenceIdeal := fun m g m' g' _ hagree => by
  refine ⟨fun c => want m c,
    (θ_run Cert.TapsIdeal.defs _ _).mono (fun r h c => ⟨(h c).1.trans (final m c), (h c).2⟩)
      (Cert.TapsIdeal.Value.run_blocks (F := Ideal) m g), ?_⟩
  refine (θ_run Cert.TapsReferenceIdeal.defs _ _).mono (fun r h c => ⟨(h c).1.trans ?_, (h c).2⟩)
    (Cert.TapsReferenceIdeal.Value.run (F := Ideal) m' g')
  obtain ⟨h0, h1, h2, h3, h4, h5, h6, h7, h8⟩ := hagree c
  rw [Cert.TapsReferenceIdeal.Read.val_main_v38_eq, h0, h1, h2, h3, h4, h5, h6, h7, h8]
  rfl

end Cert.TapsValue
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.ReferenceIdeal.Run
public import proofs.«01_k».proof.Proof.Gen.ReferenceIdeal.Read
public import proofs.«01_k».proof.Proof.Gen.FfnFirst
public import proofs.«01_k».proof.Proof.Gen.FfnFirst.Skeleton
public import proofs.«01_k».proof.Proof.Gen.FfnFirst.Launch
public import proofs.«01_k».proof.Proof.Gen.FfnFirst.Points
public import proofs.«01_k».proof.Proof.Gen.FfnFirst.Frame
public import proofs.«01_k».proof.Proof.Gen.FfnFirstIdeal
public import proofs.«01_k».proof.Proof.Gen.FfnFirstIdeal.Skeleton
public import proofs.«01_k».proof.Proof.Gen.FfnFirstIdeal.Launch
public import proofs.«01_k».proof.Proof.Gen.FfnFirstIdeal.Points
public import proofs.«01_k».proof.Proof.Gen.FfnFirstIdeal.Frame
public import proofs.«01_k».proof.Proof.Gen.FfnFirstIdeal.Value
public import proofs.«01_k».proof.Proof.Gen.FfnFirstReferenceIdeal
public import proofs.«01_k».proof.Proof.Gen.FfnFirstReferenceIdeal.Run
public import proofs.«01_k».proof.Proof.Gen.FfnFirstReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModReferenceIdeal
public import proofs.«01_k».proof.Proof.Gen.ModReferenceIdeal.Run
public import proofs.«01_k».proof.Proof.Gen.ModReferenceIdeal.Read
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvReferenceIdeal
public import proofs.«01_k».proof.Proof.Gen.ConvReferenceIdeal.Run
public import proofs.«01_k».proof.Proof.Gen.ConvReferenceIdeal.Read
public import proofs.«01_k».proof.Proof.Gen.Taps
public import proofs.«01_k».proof.Proof.Gen.Taps.Skeleton
public import proofs.«01_k».proof.Proof.Gen.Taps.Launch
public import proofs.«01_k».proof.Proof.Gen.Taps.Points
public import proofs.«01_k».proof.Proof.Gen.Taps.Frame
public import proofs.«01_k».proof.Proof.Gen.TapsIdeal
public import proofs.«01_k».proof.Proof.Gen.TapsIdeal.Skeleton
public import proofs.«01_k».proof.Proof.Gen.TapsIdeal.Launch
public import proofs.«01_k».proof.Proof.Gen.TapsIdeal.Points
public import proofs.«01_k».proof.Proof.Gen.TapsIdeal.Frame
public import proofs.«01_k».proof.Proof.Gen.TapsIdeal.Value
public import proofs.«01_k».proof.Proof.Gen.TapsReferenceIdeal
public import proofs.«01_k».proof.Proof.Gen.TapsReferenceIdeal.Run
public import proofs.«01_k».proof.Proof.Gen.TapsReferenceIdeal.Read
public import proofs.«01_k».proof.Proof.FlashClaim
public import proofs.«01_k».proof.Proof.FfnClaim
public import proofs.«01_k».proof.Proof.FfnFirstClaim
public import proofs.«01_k».proof.Proof.ProjClaim
public import proofs.«01_k».proof.Proof.MixClaim
public import proofs.«01_k».proof.Proof.PrepClaim
public import proofs.«01_k».proof.Proof.ModClaim
public import proofs.«01_k».proof.Proof.ConvClaim
public import proofs.«01_k».proof.Proof.TapsClaim
public import Idealize.ShloMosaic.Adequacy
public import Idealize.ShloMosaic.Init

@[expose] public section

noncomputable section

namespace Cert.Proof

open Idealize.ShloMosaic Idealize.SL.Sem Cert.Kernel

theorem claim : Cert.Claim :=
  haveI := Cert.FlashClaim.facts
  haveI := Cert.PrepValue.facts
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.FfnFirst.Gen.facts, Cert.FfnFirstIdeal.Gen.facts, Cert.FfnFirstReferenceIdeal.Gen.facts,
    Cert.Proj.Gen.facts, Cert.ProjIdeal.Gen.facts, Cert.ProjReferenceIdeal.Gen.facts,
    Cert.Mix.Gen.facts, Cert.MixIdeal.Gen.facts, Cert.MixReferenceIdeal.Gen.facts,
    Cert.Prep.Gen.facts, Cert.PrepIdeal.Gen.facts, Cert.PrepReferenceIdeal.Gen.facts,
    Cert.Mod.Gen.facts, Cert.ModIdeal.Gen.facts, Cert.ModReferenceIdeal.Gen.facts,
    Cert.Conv.Gen.facts, Cert.ConvIdeal.Gen.facts, Cert.ConvReferenceIdeal.Gen.facts,
    Cert.Taps.Gen.facts, Cert.TapsIdeal.Gen.facts, Cert.TapsReferenceIdeal.Gen.facts, Cert.FlashClaim.facts, Cert.PrepValue.facts,
    Cert.FlashClaim.frame_kernel, Cert.FlashClaim.frame_ideal, Cert.FlashClaim.frame_ideal_finite, Cert.FlashClaim.frame_reference,
    Cert.FlashClaim.frame_reference_finite, Cert.FfnValue.frame_ffn, Cert.FfnValue.frame_ffnIdeal, Cert.FfnValue.frame_ffnReference,
    Cert.FfnFirstValue.frame_ffnFirst, Cert.FfnFirstValue.frame_ffnFirstIdeal, Cert.FfnFirstValue.frame_ffnFirstReference,
    Cert.ProjValue.frame_proj, Cert.ProjValue.frame_projIdeal, Cert.ProjValue.frame_projReference,
    Cert.MixValue.frame_mix, Cert.MixValue.frame_mixIdeal, Cert.MixValue.frame_mixReference,
    Cert.PrepValue.frame_prep, Cert.PrepValue.frame_prepIdeal, Cert.PrepValue.frame_prepIdeal_finite, Cert.PrepValue.frame_prepReference,
    Cert.PrepValue.frame_prepReference_finite, Cert.ModValue.frame_mod, Cert.ModValue.frame_modIdeal, Cert.ModValue.frame_modReference,
    Cert.ConvValue.frame_conv, Cert.ConvValue.frame_convIdeal, Cert.ConvValue.frame_convReference,
    Cert.TapsValue.frame_taps, Cert.TapsValue.frame_tapsIdeal, Cert.TapsValue.frame_tapsReference,
    Cert.FlashClaim.preserves, Cert.FlashClaim.algebraic, Cert.FfnValue.preserves_ffn, Cert.FfnValue.algebraic_ffn,
    Cert.FfnFirstValue.preserves_ffnFirst, Cert.FfnFirstValue.algebraic_ffnFirst, Cert.ProjValue.preserves_proj,
    Cert.ProjValue.algebraic_proj, Cert.MixValue.preserves_mix, Cert.MixValue.algebraic_mix,
    Cert.PrepValue.preserves_prep, Cert.PrepValue.algebraic_prep, Cert.ModValue.preserves_mod, Cert.ModValue.algebraic_mod,
    Cert.ConvValue.preserves_conv, Cert.ConvValue.algebraic_conv,
    Cert.TapsValue.preserves_taps, Cert.TapsValue.algebraic_taps⟩

end Cert.Proof

end
